-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S32768x81 : Shape := ⟨2, ![32768, 81]⟩
abbrev S32768x320 : Shape := ⟨2, ![32768, 320]⟩
abbrev S32768 : Shape := ⟨1, ![32768]⟩
abbrev S32768x4 : Shape := ⟨2, ![32768, 4]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel
  bcast_S_S32768x81 : S_.BroadcastsInDim S32768x81 (![] : Fin 0 → Fin S32768x81.rank)
  reducesTo_S32768x81_S_d0_1 : S32768x81.ReducesTo [0, 1] S_

variable [Facts]

def fn {F : FTy → Type} [FloatOps F] (main_arg0 : FVec F S32768x81 .f32) (main_arg1 : FVec F S32768x320 .f32) (main_arg2 : IVec S32768 32) (main_arg3 : FVec F S32768x4 .f32) : IVec S_ 1 :=
  let main_c : IVec S_ 32 := constantI S_ 32 0#32
  let main_v0 : IVec S32768 32 := broadcastInDim S32768 ![] bcast_S_S32768 main_c
  let main_v1 : IVec S32768 1 := cmpi .sge main_arg2 main_v0
  let main_c_0 : IVec S_ 1 := constantI S_ 1 1#1
  let main_v2 : IVec S_ 1 := (fun x v => Host.reduce IntOp.andi x v reducesTo_S32768_S_d0 h_S_) main_v1 main_c_0
  let main_c_1 : IVec S_ 32 := constantI S_ 32 80#32
  let main_v3 : IVec S32768 32 := broadcastInDim S32768 ![] bcast_S_S32768 main_c_1
  let main_v4 : IVec S32768 1 := cmpi .sle main_arg2 main_v3
  let main_c_2 : IVec S_ 1 := constantI S_ 1 1#1
  let main_v5 : IVec S_ 1 := (fun x v => Host.reduce IntOp.andi x v reducesTo_S32768_S_d0 h_S_) main_v4 main_c_2
  let main_v6 : IVec S_ 1 := andi main_v2 main_v5
  let main_v7 : FVec F S32768x81 .f32 := Host.absf main_arg0
  let main_cst : FVec F S_ .f32 := constant S_ .f32 0x7F800000#32
  let main_v8 : FVec F S32768x81 .f32 := broadcastInDim S32768x81 ![] bcast_S_S32768x81 main_cst
  let main_v9 : IVec S32768x81 1 := cmpf .olt main_v7 main_v8
  let main_c_3 : IVec S_ 1 := constantI S_ 1 1#1
  let main_v10 : IVec S_ 1 := (fun x v => Host.reduce IntOp.andi x v reducesTo_S32768x81_S_d0_1 h_S_) main_v9 main_c_3
  let main_v11 : IVec S_ 1 := andi main_v6 main_v10
  main_v11
-- ==== Kernel.lean ====
abbrev S32768x81 : Shape := ⟨2, ![32768, 81]⟩
abbrev S32768x320 : Shape := ⟨2, ![32768, 320]⟩
abbrev S32768 : Shape := ⟨1, ![32768]⟩
abbrev S32768x4 : Shape := ⟨2, ![32768, 4]⟩
abbrev S4x32768 : Shape := ⟨2, ![4, 32768]⟩
abbrev S131072 : Shape := ⟨1, ![131072]⟩
abbrev S32x16 : Shape := ⟨2, ![32, 16]⟩
abbrev S1024 : Shape := ⟨1, ![1024]⟩
abbrev S2x128x320 : Shape := ⟨3, ![2, 128, 320]⟩
abbrev S4096 : Shape := ⟨1, ![4096]⟩
abbrev S16 : Shape := ⟨1, ![16]⟩
abbrev S_ : Shape := ⟨0, ![]⟩
abbrev S1x128x320 : Shape := ⟨3, ![1, 128, 320]⟩
abbrev S128x320 : Shape := ⟨2, ![128, 320]⟩
abbrev S1 : Shape := ⟨1, ![1]⟩
abbrev S1x1x16 : Shape := ⟨3, ![1, 1, 16]⟩
abbrev S1x16 : Shape := ⟨2, ![1, 16]⟩
abbrev S32768x1 : Shape := ⟨2, ![32768, 1]⟩
abbrev S1x1 : Shape := ⟨2, ![1, 1]⟩
abbrev S2048x81 : Shape := ⟨2, ![2048, 81]⟩
abbrev S2048x1 : Shape := ⟨2, ![2048, 1]⟩
abbrev S2048 : Shape := ⟨1, ![2048]⟩
abbrev S1x2048x1 : Shape := ⟨3, ![1, 2048, 1]⟩
abbrev S1x1x1 : Shape := ⟨3, ![1, 1, 1]⟩
abbrev S1x2048x81 : Shape := ⟨3, ![1, 2048, 81]⟩

abbrev nBuf : Table → Nat
  | .hbm => 16
  | .local .tc .vmem => 5
  | .local .scVector .vmem => 4
  | _ => 0

abbrev bufTy : (tb : Table) → Fin (nBuf tb) → BufTy
  | .hbm, ⟨0, _⟩ => ⟨S32768x81, .f32⟩
  | .hbm, ⟨1, _⟩ => ⟨S32768x320, .f32⟩
  | .hbm, ⟨2, _⟩ => ⟨S32768, .i32⟩
  | .hbm, ⟨3, _⟩ => ⟨S32768x4, .f32⟩
  | .hbm, ⟨4, _⟩ => ⟨S4x32768, .f32⟩
  | .hbm, ⟨5, _⟩ => ⟨S131072, .f32⟩
  | .hbm, ⟨6, _⟩ => ⟨S32x16, .f32⟩
  | .hbm, ⟨7, _⟩ => ⟨S32768x1, .i32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local .tc .vmem, ⟨0, _⟩ => ⟨S2048x81, .f32⟩
  | .local .tc .vmem, ⟨1, _⟩ => ⟨S2048x81, .f32⟩
  | .local .tc .vmem, ⟨2, _⟩ => ⟨S2048x1, .i32⟩
  | .local .tc .vmem, ⟨3, _⟩ => ⟨S2048x1, .i32⟩
  | .local .tc .vmem, ⟨4, _⟩ => ⟨S1x1, .f32⟩
  | .local .scVector .vmem, ⟨0, _⟩ => ⟨S1024, .i32⟩
  | .local .scVector .vmem, ⟨1, _⟩ => ⟨S2x128x320, .f32⟩
  | .local .scVector .vmem, ⟨2, _⟩ => ⟨S4096, .f32⟩
  | .local .scVector .vmem, ⟨3, _⟩ => ⟨S16, .f32⟩
  | _, _ => ⟨S32768x81, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_arg1_scv : Ref sig .scVector := ⟨.hbm, 1, rfl⟩
abbrev main_arg2_scv : Ref sig .scVector := ⟨.hbm, 2, rfl⟩
abbrev main_v1_scv : Ref sig .scVector := ⟨.hbm, 5, rfl⟩
abbrev main_v2_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  ![v3.toNat]
def k0_off3 (i : grid0.Coords) (c0_i32_0 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v10 : BitVec 32 := Scalar.addi v2 c0_i32_0
  let c0_i32_4 : BitVec 32 := 0#32
  ![v10.toNat, 0]
@[reducible] def k0_t1_loop : Scf.Loop 32 :=
  let c0_i32_21 : BitVec 32 := 0#32
  let c8_i32 : BitVec 32 := 8#32
  let v30 : BitVec 32 := Scalar.addi c0_i32_21 c8_i32
  let c1_i32_22 : BitVec 32 := 1#32
  ⟨c0_i32_21, v30, c1_i32_22⟩
def k0_mult1 (k0_t1 : Fin k0_t1_loop.trips) : BitVec 32 :=
  let c0_i32_145 : BitVec 32 := 0#32
  let c0_i32_21 : BitVec 32 := 0#32
  let c1_i32_22 : BitVec 32 := 1#32
  let arg12 : BitVec 32 := Scf.iv c0_i32_21 c1_i32_22 k0_t1
  let c16_i32 : BitVec 32 := 16#32
  let v138 : BitVec 32 := Scalar.muli arg12 c16_i32
  let v139 : BitVec 32 := Scalar.addi c0_i32_145 v138
  v139
def k0_off4 (k0_t1 : Fin k0_t1_loop.trips) : Fin 1 → Nat :=
  let c0_i32_145 : BitVec 32 := 0#32
  let c0_i32_21 : BitVec 32 := 0#32
  let c1_i32_22 : BitVec 32 := 1#32
  let arg12 : BitVec 32 := Scf.iv c0_i32_21 c1_i32_22 k0_t1
  let c16_i32 : BitVec 32 := 16#32
  let v138 : BitVec 32 := Scalar.muli arg12 c16_i32
  let v139 : BitVec 32 := Scalar.addi c0_i32_145 v138
  let v140 : BitVec 32 := v139
  let v141 : Index := Scalar.indexCast v140
  ![v141.toNat]
def k0_off5 (k0_t1 : Fin k0_t1_loop.trips) (c0_i32_146 : BitVec 32) : Fin 1 → Nat :=
  let c0_i32_145 : BitVec 32 := 0#32
  let c0_i32_21 : BitVec 32 := 0#32
  let c1_i32_22 : BitVec 32 := 1#32
  let arg12 : BitVec 32 := Scf.iv c0_i32_21 c1_i32_22 k0_t1
  let c16_i32 : BitVec 32 := 16#32
  let v138 : BitVec 32 := Scalar.muli arg12 c16_i32
  let v139 : BitVec 32 := Scalar.addi c0_i32_145 v138
  let v140 : BitVec 32 := v139
  let v144 : BitVec 32 := Scalar.addi c0_i32_146 v140
  let v145 : Index := Scalar.indexCast v144
  ![v145.toNat]
def k0_mult2 (v161 : BitVec 32) : BitVec 32 :=
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  v165

def k0_off6 (k0_t1 : Fin k0_t1_loop.trips) (v161 : BitVec 32) : Fin 3 → Nat :=
  let c0_i32_151 : BitVec 32 := 0#32
  let c0_i32_21 : BitVec 32 := 0#32
  let c1_i32_22 : BitVec 32 := 1#32
  let arg12 : BitVec 32 := Scf.iv c0_i32_21 c1_i32_22 k0_t1
  let c16_i32_149 : BitVec 32 := 16#32
  let v167 : BitVec 32 := Scalar.muli arg12 c16_i32_149
  let c0_i32_150 : BitVec 32 := 0#32
  let v168 : BitVec 32 := Scalar.addi v167 c0_i32_150
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  let v166 : BitVec 32 := v165
  ![0, v168.toNat, v166.toNat]

def k0_chk1 (k0_t1 : Fin k0_t1_loop.trips) (v161 : BitVec 32) : Prop :=
  (16 ∣ (k0_mult2 v161).toNat) ∧
  (∀ a, (k0_off6 k0_t1 v161) a + S1x1x16.size a ≤ S2x128x320.size a)
theorem k0_mult2_dvd : ∀ (k0_t1 : Fin k0_t1_loop.trips) (v161 : BitVec 32) (k0_hw1 : k0_chk1 k0_t1 v161), 16 ∣ (k0_mult2 v161).toNat := fun k0_t1 v161 k0_hw1 => k0_hw1.1
theorem k0_off6_inb : ∀ (k0_t1 : Fin k0_t1_loop.trips) (v161 : BitVec 32) (k0_hw1 : k0_chk1 k0_t1 v161), ∀ a, (k0_off6 k0_t1 v161) a + S1x1x16.size a ≤ S2x128x320.size a := fun k0_t1 v161 k0_hw1 => k0_hw1.2

def k0_chk2 (v171 : IVec S16 32) : Prop :=
  (∀ a x, ((![v171] : Fin 1 → IVec S16 32) a x).toNat < S16.size a)
theorem k0_idx1_inb : ∀ (v171 : IVec S16 32) (k0_hw2 : k0_chk2 v171), ∀ a x, ((![v171] : Fin 1 → IVec S16 32) a x).toNat < S16.size a := fun v171 k0_hw2 => k0_hw2
def k0_mult3 (v206 : BitVec 32) : BitVec 32 :=
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  v210

def k0_off7 (k0_t1 : Fin k0_t1_loop.trips) (v206 : BitVec 32) : Fin 3 → Nat :=
  let c0_i32_159 : BitVec 32 := 0#32
  let c0_i32_21 : BitVec 32 := 0#32
  let c1_i32_22 : BitVec 32 := 1#32
  let arg12 : BitVec 32 := Scf.iv c0_i32_21 c1_i32_22 k0_t1
  let c16_i32_157 : BitVec 32 := 16#32
  let v212 : BitVec 32 := Scalar.muli arg12 c16_i32_157
  let c1_i32_158 : BitVec 32 := 1#32
  let v213 : BitVec 32 := Scalar.addi v212 c1_i32_158
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  let v211 : BitVec 32 := v210
  ![0, v213.toNat, v211.toNat]

def k0_chk3 (k0_t1 : Fin k0_t1_loop.trips) (v206 : BitVec 32) : Prop :=
  (16 ∣ (k0_mult3 v206).toNat) ∧
  (∀ a, (k0_off7 k0_t1 v206) a + S1x1x16.size a ≤ S2x128x320.size a)
theorem k0_mult3_dvd : ∀ (k0_t1 : Fin k0_t1_loop.trips) (v206 : BitVec 32) (k0_hw3 : k0_chk3 k0_t1 v206), 16 ∣ (k0_mult3 v206).toNat := fun k0_t1 v206 k0_hw3 => k0_hw3.1
theorem k0_off7_inb : ∀ (k0_t1 : Fin k0_t1_loop.trips) (v206 : BitVec 32) (k0_hw3 : k0_chk3 k0_t1 v206), ∀ a, (k0_off7 k0_t1 v206) a + S1x1x16.size a ≤ S2x128x320.size a := fun k0_t1 v206 k0_hw3 => k0_hw3.2

def k0_chk4 (v216 : IVec S16 32) : Prop :=
  (∀ a x, ((![v216] : Fin 1 → IVec S16 32) a x).toNat < S16.size a)
theorem k0_idx2_inb : ∀ (v216 : IVec S16 32) (k0_hw4 : k0_chk4 v216), ∀ a x, ((![v216] : Fin 1 → IVec S16 32) a x).toNat < S16.size a := fun v216 k0_hw4 => k0_hw4
def k0_mult4 (v251 : BitVec 32) : BitVec 32 :=
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  v255

def k0_off8 (k0_t1 : Fin k0_t1_loop.trips) (v251 : BitVec 32) : Fin 3 → Nat :=
  let c0_i32_168 : BitVec 32 := 0#32
  let c0_i32_21 : BitVec 32 := 0#32
  let c1_i32_22 : BitVec 32 := 1#32
  let arg12 : BitVec 32 := Scf.iv c0_i32_21 c1_i32_22 k0_t1
  let c16_i32_166 : BitVec 32 := 16#32
  let v257 : BitVec 32 := Scalar.muli arg12 c16_i32_166
  let c2_i32_167 : BitVec 32 := 2#32
  let v258 : BitVec 32 := Scalar.addi v257 c2_i32_167
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  let v256 : BitVec 32 := v255
  ![0, v258.toNat, v256.toNat]

def k0_chk5 (k0_t1 : Fin k0_t1_loop.trips) (v251 : BitVec 32) : Prop :=
  (16 ∣ (k0_mult4 v251).toNat) ∧
  (∀ a, (k0_off8 k0_t1 v251) a + S1x1x16.size a ≤ S2x128x320.size a)
theorem k0_mult4_dvd : ∀ (k0_t1 : Fin k0_t1_loop.trips) (v251 : BitVec 32) (k0_hw5 : k0_chk5 k0_t1 v251), 16 ∣ (k0_mult4 v251).toNat := fun k0_t1 v251 k0_hw5 => k0_hw5.1
theorem k0_off8_inb : ∀ (k0_t1 : Fin k0_t1_loop.trips) (v251 : BitVec 32) (k0_hw5 : k0_chk5 k0_t1 v251), ∀ a, (k0_off8 k0_t1 v251) a + S1x1x16.size a ≤ S2x128x320.size a := fun k0_t1 v251 k0_hw5 => k0_hw5.2

def k0_chk6 (v261 : IVec S16 32) : Prop :=
  (∀ a x, ((![v261] : Fin 1 → IVec S16 32) a x).toNat < S16.size a)
theorem k0_idx3_inb : ∀ (v261 : IVec S16 32) (k0_hw6 : k0_chk6 v261), ∀ a x, ((![v261] : Fin 1 → IVec S16 32) a x).toNat < S16.size a := fun v261 k0_hw6 => k0_hw6
def k0_mult5 (v296 : BitVec 32) : BitVec 32 :=
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  v300

def k0_off9 (k0_t1 : Fin k0_t1_loop.trips) (v296 : BitVec 32) : Fin 3 → Nat :=
  let c0_i32_177 : BitVec 32 := 0#32
  let c0_i32_21 : BitVec 32 := 0#32
  let c1_i32_22 : BitVec 32 := 1#32
  let arg12 : BitVec 32 := Scf.iv c0_i32_21 c1_i32_22 k0_t1
  let c16_i32_175 : BitVec 32 := 16#32
  let v302 : BitVec 32 := Scalar.muli arg12 c16_i32_175
  let c3_i32_176 : BitVec 32 := 3#32
  let v303 : BitVec 32 := Scalar.addi v302 c3_i32_176
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  let v301 : BitVec 32 := v300
  ![0, v303.toNat, v301.toNat]

def k0_chk7 (k0_t1 : Fin k0_t1_loop.trips) (v296 : BitVec 32) : Prop :=
  (16 ∣ (k0_mult5 v296).toNat) ∧
  (∀ a, (k0_off9 k0_t1 v296) a + S1x1x16.size a ≤ S2x128x320.size a)
theorem k0_mult5_dvd : ∀ (k0_t1 : Fin k0_t1_loop.trips) (v296 : BitVec 32) (k0_hw7 : k0_chk7 k0_t1 v296), 16 ∣ (k0_mult5 v296).toNat := fun k0_t1 v296 k0_hw7 => k0_hw7.1
theorem k0_off9_inb : ∀ (k0_t1 : Fin k0_t1_loop.trips) (v296 : BitVec 32) (k0_hw7 : k0_chk7 k0_t1 v296), ∀ a, (k0_off9 k0_t1 v296) a + S1x1x16.size a ≤ S2x128x320.size a := fun k0_t1 v296 k0_hw7 => k0_hw7.2

def k0_chk8 (v306 : IVec S16 32) : Prop :=
  (∀ a x, ((![v306] : Fin 1 → IVec S16 32) a x).toNat < S16.size a)
theorem k0_idx4_inb : ∀ (v306 : IVec S16 32) (k0_hw8 : k0_chk8 v306), ∀ a x, ((![v306] : Fin 1 → IVec S16 32) a x).toNat < S16.size a := fun v306 k0_hw8 => k0_hw8
def k0_mult6 (v341 : BitVec 32) : BitVec 32 :=
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  v345

def k0_off10 (k0_t1 : Fin k0_t1_loop.trips) (v341 : BitVec 32) : Fin 3 → Nat :=
  let c0_i32_186 : BitVec 32 := 0#32
  let c0_i32_21 : BitVec 32 := 0#32
  let c1_i32_22 : BitVec 32 := 1#32
  let arg12 : BitVec 32 := Scf.iv c0_i32_21 c1_i32_22 k0_t1
  let c16_i32_184 : BitVec 32 := 16#32
  let v347 : BitVec 32 := Scalar.muli arg12 c16_i32_184
  let c4_i32_185 : BitVec 32 := 4#32
  let v348 : BitVec 32 := Scalar.addi v347 c4_i32_185
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  let v346 : BitVec 32 := v345
  ![0, v348.toNat, v346.toNat]

def k0_chk9 (k0_t1 : Fin k0_t1_loop.trips) (v341 : BitVec 32) : Prop :=
  (16 ∣ (k0_mult6 v341).toNat) ∧
  (∀ a, (k0_off10 k0_t1 v341) a + S1x1x16.size a ≤ S2x128x320.size a)
theorem k0_mult6_dvd : ∀ (k0_t1 : Fin k0_t1_loop.trips) (v341 : BitVec 32) (k0_hw9 : k0_chk9 k0_t1 v341), 16 ∣ (k0_mult6 v341).toNat := fun k0_t1 v341 k0_hw9 => k0_hw9.1
theorem k0_off10_inb : ∀ (k0_t1 : Fin k0_t1_loop.trips) (v341 : BitVec 32) (k0_hw9 : k0_chk9 k0_t1 v341), ∀ a, (k0_off10 k0_t1 v341) a + S1x1x16.size a ≤ S2x128x320.size a := fun k0_t1 v341 k0_hw9 => k0_hw9.2

def k0_chk10 (v351 : IVec S16 32) : Prop :=
  (∀ a x, ((![v351] : Fin 1 → IVec S16 32) a x).toNat < S16.size a)
theorem k0_idx5_inb : ∀ (v351 : IVec S16 32) (k0_hw10 : k0_chk10 v351), ∀ a x, ((![v351] : Fin 1 → IVec S16 32) a x).toNat < S16.size a := fun v351 k0_hw10 => k0_hw10
def k0_mult7 (v386 : BitVec 32) : BitVec 32 :=
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  v390

def k0_off11 (k0_t1 : Fin k0_t1_loop.trips) (v386 : BitVec 32) : Fin 3 → Nat :=
  let c0_i32_194 : BitVec 32 := 0#32
  let c0_i32_21 : BitVec 32 := 0#32
  let c1_i32_22 : BitVec 32 := 1#32
  let arg12 : BitVec 32 := Scf.iv c0_i32_21 c1_i32_22 k0_t1
  let c16_i32_193 : BitVec 32 := 16#32
  let v392 : BitVec 32 := Scalar.muli arg12 c16_i32_193
  let c5_i32 : BitVec 32 := 5#32
  let v393 : BitVec 32 := Scalar.addi v392 c5_i32
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  let v391 : BitVec 32 := v390
  ![0, v393.toNat, v391.toNat]

def k0_chk11 (k0_t1 : Fin k0_t1_loop.trips) (v386 : BitVec 32) : Prop :=
  (16 ∣ (k0_mult7 v386).toNat) ∧
  (∀ a, (k0_off11 k0_t1 v386) a + S1x1x16.size a ≤ S2x128x320.size a)
theorem k0_mult7_dvd : ∀ (k0_t1 : Fin k0_t1_loop.trips) (v386 : BitVec 32) (k0_hw11 : k0_chk11 k0_t1 v386), 16 ∣ (k0_mult7 v386).toNat := fun k0_t1 v386 k0_hw11 => k0_hw11.1
theorem k0_off11_inb : ∀ (k0_t1 : Fin k0_t1_loop.trips) (v386 : BitVec 32) (k0_hw11 : k0_chk11 k0_t1 v386), ∀ a, (k0_off11 k0_t1 v386) a + S1x1x16.size a ≤ S2x128x320.size a := fun k0_t1 v386 k0_hw11 => k0_hw11.2

def k0_chk12 (v396 : IVec S16 32) : Prop :=
  (∀ a x, ((![v396] : Fin 1 → IVec S16 32) a x).toNat < S16.size a)
theorem k0_idx6_inb : ∀ (v396 : IVec S16 32) (k0_hw12 : k0_chk12 v396), ∀ a x, ((![v396] : Fin 1 → IVec S16 32) a x).toNat < S16.size a := fun v396 k0_hw12 => k0_hw12
def k0_mult8 (v431 : BitVec 32) : BitVec 32 :=
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  v435

def k0_off12 (k0_t1 : Fin k0_t1_loop.trips) (v431 : BitVec 32) : Fin 3 → Nat :=
  let c0_i32_202 : BitVec 32 := 0#32
  let c0_i32_21 : BitVec 32 := 0#32
  let c1_i32_22 : BitVec 32 := 1#32
  let arg12 : BitVec 32 := Scf.iv c0_i32_21 c1_i32_22 k0_t1
  let c16_i32_201 : BitVec 32 := 16#32
  let v437 : BitVec 32 := Scalar.muli arg12 c16_i32_201
  let c6_i32 : BitVec 32 := 6#32
  let v438 : BitVec 32 := Scalar.addi v437 c6_i32
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  let v436 : BitVec 32 := v435
  ![0, v438.toNat, v436.toNat]

def k0_chk13 (k0_t1 : Fin k0_t1_loop.trips) (v431 : BitVec 32) : Prop :=
  (16 ∣ (k0_mult8 v431).toNat) ∧
  (∀ a, (k0_off12 k0_t1 v431) a + S1x1x16.size a ≤ S2x128x320.size a)
theorem k0_mult8_dvd : ∀ (k0_t1 : Fin k0_t1_loop.trips) (v431 : BitVec 32) (k0_hw13 : k0_chk13 k0_t1 v431), 16 ∣ (k0_mult8 v431).toNat := fun k0_t1 v431 k0_hw13 => k0_hw13.1
theorem k0_off12_inb : ∀ (k0_t1 : Fin k0_t1_loop.trips) (v431 : BitVec 32) (k0_hw13 : k0_chk13 k0_t1 v431), ∀ a, (k0_off12 k0_t1 v431) a + S1x1x16.size a ≤ S2x128x320.size a := fun k0_t1 v431 k0_hw13 => k0_hw13.2

def k0_chk14 (v441 : IVec S16 32) : Prop :=
  (∀ a x, ((![v441] : Fin 1 → IVec S16 32) a x).toNat < S16.size a)
theorem k0_idx7_inb : ∀ (v441 : IVec S16 32) (k0_hw14 : k0_chk14 v441), ∀ a x, ((![v441] : Fin 1 → IVec S16 32) a x).toNat < S16.size a := fun v441 k0_hw14 => k0_hw14
def k0_mult9 (v476 : BitVec 32) : BitVec 32 :=
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  v480

def k0_off13 (k0_t1 : Fin k0_t1_loop.trips) (v476 : BitVec 32) : Fin 3 → Nat :=
  let c0_i32_210 : BitVec 32 := 0#32
  let c0_i32_21 : BitVec 32 := 0#32
  let c1_i32_22 : BitVec 32 := 1#32
  let arg12 : BitVec 32 := Scf.iv c0_i32_21 c1_i32_22 k0_t1
  let c16_i32_209 : BitVec 32 := 16#32
  let v482 : BitVec 32 := Scalar.muli arg12 c16_i32_209
  let c7_i32 : BitVec 32 := 7#32
  let v483 : BitVec 32 := Scalar.addi v482 c7_i32
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  let v481 : BitVec 32 := v480
  ![0, v483.toNat, v481.toNat]

def k0_chk15 (k0_t1 : Fin k0_t1_loop.trips) (v476 : BitVec 32) : Prop :=
  (16 ∣ (k0_mult9 v476).toNat) ∧
  (∀ a, (k0_off13 k0_t1 v476) a + S1x1x16.size a ≤ S2x128x320.size a)
theorem k0_mult9_dvd : ∀ (k0_t1 : Fin k0_t1_loop.trips) (v476 : BitVec 32) (k0_hw15 : k0_chk15 k0_t1 v476), 16 ∣ (k0_mult9 v476).toNat := fun k0_t1 v476 k0_hw15 => k0_hw15.1
theorem k0_off13_inb : ∀ (k0_t1 : Fin k0_t1_loop.trips) (v476 : BitVec 32) (k0_hw15 : k0_chk15 k0_t1 v476), ∀ a, (k0_off13 k0_t1 v476) a + S1x1x16.size a ≤ S2x128x320.size a := fun k0_t1 v476 k0_hw15 => k0_hw15.2

def k0_chk16 (v486 : IVec S16 32) : Prop :=
  (∀ a x, ((![v486] : Fin 1 → IVec S16 32) a x).toNat < S16.size a)
theorem k0_idx8_inb : ∀ (v486 : IVec S16 32) (k0_hw16 : k0_chk16 v486), ∀ a x, ((![v486] : Fin 1 → IVec S16 32) a x).toNat < S16.size a := fun v486 k0_hw16 => k0_hw16
def k0_mult10 (v521 : BitVec 32) : BitVec 32 :=
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  v525

def k0_off14 (k0_t1 : Fin k0_t1_loop.trips) (v521 : BitVec 32) : Fin 3 → Nat :=
  let c0_i32_219 : BitVec 32 := 0#32
  let c0_i32_21 : BitVec 32 := 0#32
  let c1_i32_22 : BitVec 32 := 1#32
  let arg12 : BitVec 32 := Scf.iv c0_i32_21 c1_i32_22 k0_t1
  let c16_i32_217 : BitVec 32 := 16#32
  let v527 : BitVec 32 := Scalar.muli arg12 c16_i32_217
  let c8_i32_218 : BitVec 32 := 8#32
  let v528 : BitVec 32 := Scalar.addi v527 c8_i32_218
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  let v526 : BitVec 32 := v525
  ![0, v528.toNat, v526.toNat]

def k0_chk17 (k0_t1 : Fin k0_t1_loop.trips) (v521 : BitVec 32) : Prop :=
  (16 ∣ (k0_mult10 v521).toNat) ∧
  (∀ a, (k0_off14 k0_t1 v521) a + S1x1x16.size a ≤ S2x128x320.size a)
theorem k0_mult10_dvd : ∀ (k0_t1 : Fin k0_t1_loop.trips) (v521 : BitVec 32) (k0_hw17 : k0_chk17 k0_t1 v521), 16 ∣ (k0_mult10 v521).toNat := fun k0_t1 v521 k0_hw17 => k0_hw17.1
theorem k0_off14_inb : ∀ (k0_t1 : Fin k0_t1_loop.trips) (v521 : BitVec 32) (k0_hw17 : k0_chk17 k0_t1 v521), ∀ a, (k0_off14 k0_t1 v521) a + S1x1x16.size a ≤ S2x128x320.size a := fun k0_t1 v521 k0_hw17 => k0_hw17.2

def k0_chk18 (v531 : IVec S16 32) : Prop :=
  (∀ a x, ((![v531] : Fin 1 → IVec S16 32) a x).toNat < S16.size a)
theorem k0_idx9_inb : ∀ (v531 : IVec S16 32) (k0_hw18 : k0_chk18 v531), ∀ a x, ((![v531] : Fin 1 → IVec S16 32) a x).toNat < S16.size a := fun v531 k0_hw18 => k0_hw18
def k0_mult11 (v566 : BitVec 32) : BitVec 32 :=
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  v570

def k0_off15 (k0_t1 : Fin k0_t1_loop.trips) (v566 : BitVec 32) : Fin 3 → Nat :=
  let c0_i32_227 : BitVec 32 := 0#32
  let c0_i32_21 : BitVec 32 := 0#32
  let c1_i32_22 : BitVec 32 := 1#32
  let arg12 : BitVec 32 := Scf.iv c0_i32_21 c1_i32_22 k0_t1
  let c16_i32_226 : BitVec 32 := 16#32
  let v572 : BitVec 32 := Scalar.muli arg12 c16_i32_226
  let c9_i32 : BitVec 32 := 9#32
  let v573 : BitVec 32 := Scalar.addi v572 c9_i32
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  let v571 : BitVec 32 := v570
  ![0, v573.toNat, v571.toNat]

def k0_chk19 (k0_t1 : Fin k0_t1_loop.trips) (v566 : BitVec 32) : Prop :=
  (16 ∣ (k0_mult11 v566).toNat) ∧
  (∀ a, (k0_off15 k0_t1 v566) a + S1x1x16.size a ≤ S2x128x320.size a)
theorem k0_mult11_dvd : ∀ (k0_t1 : Fin k0_t1_loop.trips) (v566 : BitVec 32) (k0_hw19 : k0_chk19 k0_t1 v566), 16 ∣ (k0_mult11 v566).toNat := fun k0_t1 v566 k0_hw19 => k0_hw19.1
theorem k0_off15_inb : ∀ (k0_t1 : Fin k0_t1_loop.trips) (v566 : BitVec 32) (k0_hw19 : k0_chk19 k0_t1 v566), ∀ a, (k0_off15 k0_t1 v566) a + S1x1x16.size a ≤ S2x128x320.size a := fun k0_t1 v566 k0_hw19 => k0_hw19.2

def k0_chk20 (v576 : IVec S16 32) : Prop :=
  (∀ a x, ((![v576] : Fin 1 → IVec S16 32) a x).toNat < S16.size a)
theorem k0_idx10_inb : ∀ (v576 : IVec S16 32) (k0_hw20 : k0_chk20 v576), ∀ a x, ((![v576] : Fin 1 → IVec S16 32) a x).toNat < S16.size a := fun v576 k0_hw20 => k0_hw20
def k0_mult12 (v611 : BitVec 32) : BitVec 32 :=
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  v615

def k0_off16 (k0_t1 : Fin k0_t1_loop.trips) (v611 : BitVec 32) : Fin 3 → Nat :=
  let c0_i32_235 : BitVec 32 := 0#32
  let c0_i32_21 : BitVec 32 := 0#32
  let c1_i32_22 : BitVec 32 := 1#32
  let arg12 : BitVec 32 := Scf.iv c0_i32_21 c1_i32_22 k0_t1
  let c16_i32_234 : BitVec 32 := 16#32
  let v617 : BitVec 32 := Scalar.muli arg12 c16_i32_234
  let c10_i32 : BitVec 32 := 10#32
  let v618 : BitVec 32 := Scalar.addi v617 c10_i32
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  let v616 : BitVec 32 := v615
  ![0, v618.toNat, v616.toNat]

def k0_chk21 (k0_t1 : Fin k0_t1_loop.trips) (v611 : BitVec 32) : Prop :=
  (16 ∣ (k0_mult12 v611).toNat) ∧
  (∀ a, (k0_off16 k0_t1 v611) a + S1x1x16.size a ≤ S2x128x320.size a)
theorem k0_mult12_dvd : ∀ (k0_t1 : Fin k0_t1_loop.trips) (v611 : BitVec 32) (k0_hw21 : k0_chk21 k0_t1 v611), 16 ∣ (k0_mult12 v611).toNat := fun k0_t1 v611 k0_hw21 => k0_hw21.1
theorem k0_off16_inb : ∀ (k0_t1 : Fin k0_t1_loop.trips) (v611 : BitVec 32) (k0_hw21 : k0_chk21 k0_t1 v611), ∀ a, (k0_off16 k0_t1 v611) a + S1x1x16.size a ≤ S2x128x320.size a := fun k0_t1 v611 k0_hw21 => k0_hw21.2

def k0_chk22 (v621 : IVec S16 32) : Prop :=
  (∀ a x, ((![v621] : Fin 1 → IVec S16 32) a x).toNat < S16.size a)
theorem k0_idx11_inb : ∀ (v621 : IVec S16 32) (k0_hw22 : k0_chk22 v621), ∀ a x, ((![v621] : Fin 1 → IVec S16 32) a x).toNat < S16.size a := fun v621 k0_hw22 => k0_hw22
def k0_mult13 (v656 : BitVec 32) : BitVec 32 :=
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  v660

def k0_off17 (k0_t1 : Fin k0_t1_loop.trips) (v656 : BitVec 32) : Fin 3 → Nat :=
  let c0_i32_243 : BitVec 32 := 0#32
  let c0_i32_21 : BitVec 32 := 0#32
  let c1_i32_22 : BitVec 32 := 1#32
  let arg12 : BitVec 32 := Scf.iv c0_i32_21 c1_i32_22 k0_t1
  let c16_i32_242 : BitVec 32 := 16#32
  let v662 : BitVec 32 := Scalar.muli arg12 c16_i32_242
  let c11_i32 : BitVec 32 := 11#32
  let v663 : BitVec 32 := Scalar.addi v662 c11_i32
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  let v661 : BitVec 32 := v660
  ![0, v663.toNat, v661.toNat]

def k0_chk23 (k0_t1 : Fin k0_t1_loop.trips) (v656 : BitVec 32) : Prop :=
  (16 ∣ (k0_mult13 v656).toNat) ∧
  (∀ a, (k0_off17 k0_t1 v656) a + S1x1x16.size a ≤ S2x128x320.size a)
theorem k0_mult13_dvd : ∀ (k0_t1 : Fin k0_t1_loop.trips) (v656 : BitVec 32) (k0_hw23 : k0_chk23 k0_t1 v656), 16 ∣ (k0_mult13 v656).toNat := fun k0_t1 v656 k0_hw23 => k0_hw23.1
theorem k0_off17_inb : ∀ (k0_t1 : Fin k0_t1_loop.trips) (v656 : BitVec 32) (k0_hw23 : k0_chk23 k0_t1 v656), ∀ a, (k0_off17 k0_t1 v656) a + S1x1x16.size a ≤ S2x128x320.size a := fun k0_t1 v656 k0_hw23 => k0_hw23.2

def k0_chk24 (v666 : IVec S16 32) : Prop :=
  (∀ a x, ((![v666] : Fin 1 → IVec S16 32) a x).toNat < S16.size a)
theorem k0_idx12_inb : ∀ (v666 : IVec S16 32) (k0_hw24 : k0_chk24 v666), ∀ a x, ((![v666] : Fin 1 → IVec S16 32) a x).toNat < S16.size a := fun v666 k0_hw24 => k0_hw24
def k0_mult14 (v701 : BitVec 32) : BitVec 32 :=
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  v705

def k0_off18 (k0_t1 : Fin k0_t1_loop.trips) (v701 : BitVec 32) : Fin 3 → Nat :=
  let c0_i32_251 : BitVec 32 := 0#32
  let c0_i32_21 : BitVec 32 := 0#32
  let c1_i32_22 : BitVec 32 := 1#32
  let arg12 : BitVec 32 := Scf.iv c0_i32_21 c1_i32_22 k0_t1
  let c16_i32_250 : BitVec 32 := 16#32
  let v707 : BitVec 32 := Scalar.muli arg12 c16_i32_250
  let c12_i32 : BitVec 32 := 12#32
  let v708 : BitVec 32 := Scalar.addi v707 c12_i32
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  let v706 : BitVec 32 := v705
  ![0, v708.toNat, v706.toNat]

def k0_chk25 (k0_t1 : Fin k0_t1_loop.trips) (v701 : BitVec 32) : Prop :=
  (16 ∣ (k0_mult14 v701).toNat) ∧
  (∀ a, (k0_off18 k0_t1 v701) a + S1x1x16.size a ≤ S2x128x320.size a)
theorem k0_mult14_dvd : ∀ (k0_t1 : Fin k0_t1_loop.trips) (v701 : BitVec 32) (k0_hw25 : k0_chk25 k0_t1 v701), 16 ∣ (k0_mult14 v701).toNat := fun k0_t1 v701 k0_hw25 => k0_hw25.1
theorem k0_off18_inb : ∀ (k0_t1 : Fin k0_t1_loop.trips) (v701 : BitVec 32) (k0_hw25 : k0_chk25 k0_t1 v701), ∀ a, (k0_off18 k0_t1 v701) a + S1x1x16.size a ≤ S2x128x320.size a := fun k0_t1 v701 k0_hw25 => k0_hw25.2

def k0_chk26 (v711 : IVec S16 32) : Prop :=
  (∀ a x, ((![v711] : Fin 1 → IVec S16 32) a x).toNat < S16.size a)
theorem k0_idx13_inb : ∀ (v711 : IVec S16 32) (k0_hw26 : k0_chk26 v711), ∀ a x, ((![v711] : Fin 1 → IVec S16 32) a x).toNat < S16.size a := fun v711 k0_hw26 => k0_hw26
def k0_mult15 (v746 : BitVec 32) : BitVec 32 :=
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  v750

def k0_off19 (k0_t1 : Fin k0_t1_loop.trips) (v746 : BitVec 32) : Fin 3 → Nat :=
  let c0_i32_259 : BitVec 32 := 0#32
  let c0_i32_21 : BitVec 32 := 0#32
  let c1_i32_22 : BitVec 32 := 1#32
  let arg12 : BitVec 32 := Scf.iv c0_i32_21 c1_i32_22 k0_t1
  let c16_i32_258 : BitVec 32 := 16#32
  let v752 : BitVec 32 := Scalar.muli arg12 c16_i32_258
  let c13_i32 : BitVec 32 := 13#32
  let v753 : BitVec 32 := Scalar.addi v752 c13_i32
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  let v751 : BitVec 32 := v750
  ![0, v753.toNat, v751.toNat]

def k0_chk27 (k0_t1 : Fin k0_t1_loop.trips) (v746 : BitVec 32) : Prop :=
  (16 ∣ (k0_mult15 v746).toNat) ∧
  (∀ a, (k0_off19 k0_t1 v746) a + S1x1x16.size a ≤ S2x128x320.size a)
theorem k0_mult15_dvd : ∀ (k0_t1 : Fin k0_t1_loop.trips) (v746 : BitVec 32) (k0_hw27 : k0_chk27 k0_t1 v746), 16 ∣ (k0_mult15 v746).toNat := fun k0_t1 v746 k0_hw27 => k0_hw27.1
theorem k0_off19_inb : ∀ (k0_t1 : Fin k0_t1_loop.trips) (v746 : BitVec 32) (k0_hw27 : k0_chk27 k0_t1 v746), ∀ a, (k0_off19 k0_t1 v746) a + S1x1x16.size a ≤ S2x128x320.size a := fun k0_t1 v746 k0_hw27 => k0_hw27.2

def k0_chk28 (v756 : IVec S16 32) : Prop :=
  (∀ a x, ((![v756] : Fin 1 → IVec S16 32) a x).toNat < S16.size a)
theorem k0_idx14_inb : ∀ (v756 : IVec S16 32) (k0_hw28 : k0_chk28 v756), ∀ a x, ((![v756] : Fin 1 → IVec S16 32) a x).toNat < S16.size a := fun v756 k0_hw28 => k0_hw28
def k0_mult16 (v791 : BitVec 32) : BitVec 32 :=
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  v795

def k0_off20 (k0_t1 : Fin k0_t1_loop.trips) (v791 : BitVec 32) : Fin 3 → Nat :=
  let c0_i32_267 : BitVec 32 := 0#32
  let c0_i32_21 : BitVec 32 := 0#32
  let c1_i32_22 : BitVec 32 := 1#32
  let arg12 : BitVec 32 := Scf.iv c0_i32_21 c1_i32_22 k0_t1
  let c16_i32_266 : BitVec 32 := 16#32
  let v797 : BitVec 32 := Scalar.muli arg12 c16_i32_266
  let c14_i32 : BitVec 32 := 14#32
  let v798 : BitVec 32 := Scalar.addi v797 c14_i32
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  let v796 : BitVec 32 := v795
  ![0, v798.toNat, v796.toNat]

def k0_chk29 (k0_t1 : Fin k0_t1_loop.trips) (v791 : BitVec 32) : Prop :=
  (16 ∣ (k0_mult16 v791).toNat) ∧
  (∀ a, (k0_off20 k0_t1 v791) a + S1x1x16.size a ≤ S2x128x320.size a)
theorem k0_mult16_dvd : ∀ (k0_t1 : Fin k0_t1_loop.trips) (v791 : BitVec 32) (k0_hw29 : k0_chk29 k0_t1 v791), 16 ∣ (k0_mult16 v791).toNat := fun k0_t1 v791 k0_hw29 => k0_hw29.1
theorem k0_off20_inb : ∀ (k0_t1 : Fin k0_t1_loop.trips) (v791 : BitVec 32) (k0_hw29 : k0_chk29 k0_t1 v791), ∀ a, (k0_off20 k0_t1 v791) a + S1x1x16.size a ≤ S2x128x320.size a := fun k0_t1 v791 k0_hw29 => k0_hw29.2

def k0_chk30 (v801 : IVec S16 32) : Prop :=
  (∀ a x, ((![v801] : Fin 1 → IVec S16 32) a x).toNat < S16.size a)
theorem k0_idx15_inb : ∀ (v801 : IVec S16 32) (k0_hw30 : k0_chk30 v801), ∀ a x, ((![v801] : Fin 1 → IVec S16 32) a x).toNat < S16.size a := fun v801 k0_hw30 => k0_hw30
def k0_mult17 (v836 : BitVec 32) : BitVec 32 :=
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  v840

def k0_off21 (k0_t1 : Fin k0_t1_loop.trips) (v836 : BitVec 32) : Fin 3 → Nat :=
  let c0_i32_275 : BitVec 32 := 0#32
  let c0_i32_21 : BitVec 32 := 0#32
  let c1_i32_22 : BitVec 32 := 1#32
  let arg12 : BitVec 32 := Scf.iv c0_i32_21 c1_i32_22 k0_t1
  let c16_i32_274 : BitVec 32 := 16#32
  let v842 : BitVec 32 := Scalar.muli arg12 c16_i32_274
  let c15_i32 : BitVec 32 := 15#32
  let v843 : BitVec 32 := Scalar.addi v842 c15_i32
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  let v841 : BitVec 32 := v840
  ![0, v843.toNat, v841.toNat]

def k0_chk31 (k0_t1 : Fin k0_t1_loop.trips) (v836 : BitVec 32) : Prop :=
  (16 ∣ (k0_mult17 v836).toNat) ∧
  (∀ a, (k0_off21 k0_t1 v836) a + S1x1x16.size a ≤ S2x128x320.size a)
theorem k0_mult17_dvd : ∀ (k0_t1 : Fin k0_t1_loop.trips) (v836 : BitVec 32) (k0_hw31 : k0_chk31 k0_t1 v836), 16 ∣ (k0_mult17 v836).toNat := fun k0_t1 v836 k0_hw31 => k0_hw31.1
theorem k0_off21_inb : ∀ (k0_t1 : Fin k0_t1_loop.trips) (v836 : BitVec 32) (k0_hw31 : k0_chk31 k0_t1 v836), ∀ a, (k0_off21 k0_t1 v836) a + S1x1x16.size a ≤ S2x128x320.size a := fun k0_t1 v836 k0_hw31 => k0_hw31.2

def k0_chk32 (v846 : IVec S16 32) : Prop :=
  (∀ a x, ((![v846] : Fin 1 → IVec S16 32) a x).toNat < S16.size a)
theorem k0_idx16_inb : ∀ (v846 : IVec S16 32) (k0_hw32 : k0_chk32 v846), ∀ a x, ((![v846] : Fin 1 → IVec S16 32) a x).toNat < S16.size a := fun v846 k0_hw32 => k0_hw32
@[reducible] def k0_t2_loop : Scf.Loop 32 :=
  let c0_i32_38 : BitVec 32 := 0#32
  let c8_i32_39 : BitVec 32 := 8#32
  let v45 : BitVec 32 := Scalar.addi c0_i32_38 c8_i32_39
  let c1_i32_40 : BitVec 32 := 1#32
  ⟨c0_i32_38, v45, c1_i32_40⟩
def k0_mult18 (k0_t2 : Fin k0_t2_loop.trips) : BitVec 32 :=
  let c128_i32_145 : BitVec 32 := 128#32
  let c0_i32_38 : BitVec 32 := 0#32
  let c1_i32_40 : BitVec 32 := 1#32
  let arg12 : BitVec 32 := Scf.iv c0_i32_38 c1_i32_40 k0_t2
  let c16_i32 : BitVec 32 := 16#32
  let v138 : BitVec 32 := Scalar.muli arg12 c16_i32
  let v139 : BitVec 32 := Scalar.addi c128_i32_145 v138
  v139
def k0_off22 (k0_t2 : Fin k0_t2_loop.trips) : Fin 1 → Nat :=
  let c128_i32_145 : BitVec 32 := 128#32
  let c0_i32_38 : BitVec 32 := 0#32
  let c1_i32_40 : BitVec 32 := 1#32
  let arg12 : BitVec 32 := Scf.iv c0_i32_38 c1_i32_40 k0_t2
  let c16_i32 : BitVec 32 := 16#32
  let v138 : BitVec 32 := Scalar.muli arg12 c16_i32
  let v139 : BitVec 32 := Scalar.addi c128_i32_145 v138
  let v140 : BitVec 32 := v139
  let v141 : Index := Scalar.indexCast v140
  ![v141.toNat]
def k0_off23 (k0_t2 : Fin k0_t2_loop.trips) (c0_i32_146 : BitVec 32) : Fin 1 → Nat :=
  let c128_i32_145 : BitVec 32 := 128#32
  let c0_i32_38 : BitVec 32 := 0#32
  let c1_i32_40 : BitVec 32 := 1#32
  let arg12 : BitVec 32 := Scf.iv c0_i32_38 c1_i32_40 k0_t2
  let c16_i32 : BitVec 32 := 16#32
  let v138 : BitVec 32 := Scalar.muli arg12 c16_i32
  let v139 : BitVec 32 := Scalar.addi c128_i32_145 v138
  let v140 : BitVec 32 := v139
  let v144 : BitVec 32 := Scalar.addi c0_i32_146 v140
  let v145 : Index := Scalar.indexCast v144
  ![v145.toNat]
def k0_mult19 (v161 : BitVec 32) : BitVec 32 :=
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  v165

def k0_off24 (k0_t2 : Fin k0_t2_loop.trips) (v161 : BitVec 32) : Fin 3 → Nat :=
  let c1_i32_151 : BitVec 32 := 1#32
  let c0_i32_38 : BitVec 32 := 0#32
  let c1_i32_40 : BitVec 32 := 1#32
  let arg12 : BitVec 32 := Scf.iv c0_i32_38 c1_i32_40 k0_t2
  let c16_i32_149 : BitVec 32 := 16#32
  let v167 : BitVec 32 := Scalar.muli arg12 c16_i32_149
  let c0_i32_150 : BitVec 32 := 0#32
  let v168 : BitVec 32 := Scalar.addi v167 c0_i32_150
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  let v166 : BitVec 32 := v165
  ![1, v168.toNat, v166.toNat]

def k0_chk33 (k0_t2 : Fin k0_t2_loop.trips) (v161 : BitVec 32) : Prop :=
  (16 ∣ (k0_mult19 v161).toNat) ∧
  (∀ a, (k0_off24 k0_t2 v161) a + S1x1x16.size a ≤ S2x128x320.size a)
theorem k0_mult19_dvd : ∀ (k0_t2 : Fin k0_t2_loop.trips) (v161 : BitVec 32) (k0_hw33 : k0_chk33 k0_t2 v161), 16 ∣ (k0_mult19 v161).toNat := fun k0_t2 v161 k0_hw33 => k0_hw33.1
theorem k0_off24_inb : ∀ (k0_t2 : Fin k0_t2_loop.trips) (v161 : BitVec 32) (k0_hw33 : k0_chk33 k0_t2 v161), ∀ a, (k0_off24 k0_t2 v161) a + S1x1x16.size a ≤ S2x128x320.size a := fun k0_t2 v161 k0_hw33 => k0_hw33.2

def k0_chk34 (v171 : IVec S16 32) : Prop :=
  (∀ a x, ((![v171] : Fin 1 → IVec S16 32) a x).toNat < S16.size a)
theorem k0_idx17_inb : ∀ (v171 : IVec S16 32) (k0_hw34 : k0_chk34 v171), ∀ a x, ((![v171] : Fin 1 → IVec S16 32) a x).toNat < S16.size a := fun v171 k0_hw34 => k0_hw34
def k0_mult20 (v206 : BitVec 32) : BitVec 32 :=
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  v210

def k0_off25 (k0_t2 : Fin k0_t2_loop.trips) (v206 : BitVec 32) : Fin 3 → Nat :=
  let c1_i32_159 : BitVec 32 := 1#32
  let c0_i32_38 : BitVec 32 := 0#32
  let c1_i32_40 : BitVec 32 := 1#32
  let arg12 : BitVec 32 := Scf.iv c0_i32_38 c1_i32_40 k0_t2
  let c16_i32_157 : BitVec 32 := 16#32
  let v212 : BitVec 32 := Scalar.muli arg12 c16_i32_157
  let c1_i32_158 : BitVec 32 := 1#32
  let v213 : BitVec 32 := Scalar.addi v212 c1_i32_158
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  let v211 : BitVec 32 := v210
  ![1, v213.toNat, v211.toNat]

def k0_chk35 (k0_t2 : Fin k0_t2_loop.trips) (v206 : BitVec 32) : Prop :=
  (16 ∣ (k0_mult20 v206).toNat) ∧
  (∀ a, (k0_off25 k0_t2 v206) a + S1x1x16.size a ≤ S2x128x320.size a)
theorem k0_mult20_dvd : ∀ (k0_t2 : Fin k0_t2_loop.trips) (v206 : BitVec 32) (k0_hw35 : k0_chk35 k0_t2 v206), 16 ∣ (k0_mult20 v206).toNat := fun k0_t2 v206 k0_hw35 => k0_hw35.1
theorem k0_off25_inb : ∀ (k0_t2 : Fin k0_t2_loop.trips) (v206 : BitVec 32) (k0_hw35 : k0_chk35 k0_t2 v206), ∀ a, (k0_off25 k0_t2 v206) a + S1x1x16.size a ≤ S2x128x320.size a := fun k0_t2 v206 k0_hw35 => k0_hw35.2

def k0_chk36 (v216 : IVec S16 32) : Prop :=
  (∀ a x, ((![v216] : Fin 1 → IVec S16 32) a x).toNat < S16.size a)
theorem k0_idx18_inb : ∀ (v216 : IVec S16 32) (k0_hw36 : k0_chk36 v216), ∀ a x, ((![v216] : Fin 1 → IVec S16 32) a x).toNat < S16.size a := fun v216 k0_hw36 => k0_hw36
def k0_mult21 (v251 : BitVec 32) : BitVec 32 :=
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  v255

def k0_off26 (k0_t2 : Fin k0_t2_loop.trips) (v251 : BitVec 32) : Fin 3 → Nat :=
  let c1_i32_168 : BitVec 32 := 1#32
  let c0_i32_38 : BitVec 32 := 0#32
  let c1_i32_40 : BitVec 32 := 1#32
  let arg12 : BitVec 32 := Scf.iv c0_i32_38 c1_i32_40 k0_t2
  let c16_i32_166 : BitVec 32 := 16#32
  let v257 : BitVec 32 := Scalar.muli arg12 c16_i32_166
  let c2_i32_167 : BitVec 32 := 2#32
  let v258 : BitVec 32 := Scalar.addi v257 c2_i32_167
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  let v256 : BitVec 32 := v255
  ![1, v258.toNat, v256.toNat]

def k0_chk37 (k0_t2 : Fin k0_t2_loop.trips) (v251 : BitVec 32) : Prop :=
  (16 ∣ (k0_mult21 v251).toNat) ∧
  (∀ a, (k0_off26 k0_t2 v251) a + S1x1x16.size a ≤ S2x128x320.size a)
theorem k0_mult21_dvd : ∀ (k0_t2 : Fin k0_t2_loop.trips) (v251 : BitVec 32) (k0_hw37 : k0_chk37 k0_t2 v251), 16 ∣ (k0_mult21 v251).toNat := fun k0_t2 v251 k0_hw37 => k0_hw37.1
theorem k0_off26_inb : ∀ (k0_t2 : Fin k0_t2_loop.trips) (v251 : BitVec 32) (k0_hw37 : k0_chk37 k0_t2 v251), ∀ a, (k0_off26 k0_t2 v251) a + S1x1x16.size a ≤ S2x128x320.size a := fun k0_t2 v251 k0_hw37 => k0_hw37.2

def k0_chk38 (v261 : IVec S16 32) : Prop :=
  (∀ a x, ((![v261] : Fin 1 → IVec S16 32) a x).toNat < S16.size a)
theorem k0_idx19_inb : ∀ (v261 : IVec S16 32) (k0_hw38 : k0_chk38 v261), ∀ a x, ((![v261] : Fin 1 → IVec S16 32) a x).toNat < S16.size a := fun v261 k0_hw38 => k0_hw38
def k0_mult22 (v296 : BitVec 32) : BitVec 32 :=
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  v300

def k0_off27 (k0_t2 : Fin k0_t2_loop.trips) (v296 : BitVec 32) : Fin 3 → Nat :=
  let c1_i32_177 : BitVec 32 := 1#32
  let c0_i32_38 : BitVec 32 := 0#32
  let c1_i32_40 : BitVec 32 := 1#32
  let arg12 : BitVec 32 := Scf.iv c0_i32_38 c1_i32_40 k0_t2
  let c16_i32_175 : BitVec 32 := 16#32
  let v302 : BitVec 32 := Scalar.muli arg12 c16_i32_175
  let c3_i32_176 : BitVec 32 := 3#32
  let v303 : BitVec 32 := Scalar.addi v302 c3_i32_176
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  let v301 : BitVec 32 := v300
  ![1, v303.toNat, v301.toNat]

def k0_chk39 (k0_t2 : Fin k0_t2_loop.trips) (v296 : BitVec 32) : Prop :=
  (16 ∣ (k0_mult22 v296).toNat) ∧
  (∀ a, (k0_off27 k0_t2 v296) a + S1x1x16.size a ≤ S2x128x320.size a)
theorem k0_mult22_dvd : ∀ (k0_t2 : Fin k0_t2_loop.trips) (v296 : BitVec 32) (k0_hw39 : k0_chk39 k0_t2 v296), 16 ∣ (k0_mult22 v296).toNat := fun k0_t2 v296 k0_hw39 => k0_hw39.1
theorem k0_off27_inb : ∀ (k0_t2 : Fin k0_t2_loop.trips) (v296 : BitVec 32) (k0_hw39 : k0_chk39 k0_t2 v296), ∀ a, (k0_off27 k0_t2 v296) a + S1x1x16.size a ≤ S2x128x320.size a := fun k0_t2 v296 k0_hw39 => k0_hw39.2

def k0_chk40 (v306 : IVec S16 32) : Prop :=
  (∀ a x, ((![v306] : Fin 1 → IVec S16 32) a x).toNat < S16.size a)
theorem k0_idx20_inb : ∀ (v306 : IVec S16 32) (k0_hw40 : k0_chk40 v306), ∀ a x, ((![v306] : Fin 1 → IVec S16 32) a x).toNat < S16.size a := fun v306 k0_hw40 => k0_hw40
def k0_mult23 (v341 : BitVec 32) : BitVec 32 :=
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  v345

def k0_off28 (k0_t2 : Fin k0_t2_loop.trips) (v341 : BitVec 32) : Fin 3 → Nat :=
  let c1_i32_186 : BitVec 32 := 1#32
  let c0_i32_38 : BitVec 32 := 0#32
  let c1_i32_40 : BitVec 32 := 1#32
  let arg12 : BitVec 32 := Scf.iv c0_i32_38 c1_i32_40 k0_t2
  let c16_i32_184 : BitVec 32 := 16#32
  let v347 : BitVec 32 := Scalar.muli arg12 c16_i32_184
  let c4_i32_185 : BitVec 32 := 4#32
  let v348 : BitVec 32 := Scalar.addi v347 c4_i32_185
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  let v346 : BitVec 32 := v345
  ![1, v348.toNat, v346.toNat]

def k0_chk41 (k0_t2 : Fin k0_t2_loop.trips) (v341 : BitVec 32) : Prop :=
  (16 ∣ (k0_mult23 v341).toNat) ∧
  (∀ a, (k0_off28 k0_t2 v341) a + S1x1x16.size a ≤ S2x128x320.size a)
theorem k0_mult23_dvd : ∀ (k0_t2 : Fin k0_t2_loop.trips) (v341 : BitVec 32) (k0_hw41 : k0_chk41 k0_t2 v341), 16 ∣ (k0_mult23 v341).toNat := fun k0_t2 v341 k0_hw41 => k0_hw41.1
theorem k0_off28_inb : ∀ (k0_t2 : Fin k0_t2_loop.trips) (v341 : BitVec 32) (k0_hw41 : k0_chk41 k0_t2 v341), ∀ a, (k0_off28 k0_t2 v341) a + S1x1x16.size a ≤ S2x128x320.size a := fun k0_t2 v341 k0_hw41 => k0_hw41.2

def k0_chk42 (v351 : IVec S16 32) : Prop :=
  (∀ a x, ((![v351] : Fin 1 → IVec S16 32) a x).toNat < S16.size a)
theorem k0_idx21_inb : ∀ (v351 : IVec S16 32) (k0_hw42 : k0_chk42 v351), ∀ a x, ((![v351] : Fin 1 → IVec S16 32) a x).toNat < S16.size a := fun v351 k0_hw42 => k0_hw42
def k0_mult24 (v386 : BitVec 32) : BitVec 32 :=
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  v390

def k0_off29 (k0_t2 : Fin k0_t2_loop.trips) (v386 : BitVec 32) : Fin 3 → Nat :=
  let c1_i32_194 : BitVec 32 := 1#32
  let c0_i32_38 : BitVec 32 := 0#32
  let c1_i32_40 : BitVec 32 := 1#32
  let arg12 : BitVec 32 := Scf.iv c0_i32_38 c1_i32_40 k0_t2
  let c16_i32_193 : BitVec 32 := 16#32
  let v392 : BitVec 32 := Scalar.muli arg12 c16_i32_193
  let c5_i32 : BitVec 32 := 5#32
  let v393 : BitVec 32 := Scalar.addi v392 c5_i32
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  let v391 : BitVec 32 := v390
  ![1, v393.toNat, v391.toNat]

def k0_chk43 (k0_t2 : Fin k0_t2_loop.trips) (v386 : BitVec 32) : Prop :=
  (16 ∣ (k0_mult24 v386).toNat) ∧
  (∀ a, (k0_off29 k0_t2 v386) a + S1x1x16.size a ≤ S2x128x320.size a)
theorem k0_mult24_dvd : ∀ (k0_t2 : Fin k0_t2_loop.trips) (v386 : BitVec 32) (k0_hw43 : k0_chk43 k0_t2 v386), 16 ∣ (k0_mult24 v386).toNat := fun k0_t2 v386 k0_hw43 => k0_hw43.1
theorem k0_off29_inb : ∀ (k0_t2 : Fin k0_t2_loop.trips) (v386 : BitVec 32) (k0_hw43 : k0_chk43 k0_t2 v386), ∀ a, (k0_off29 k0_t2 v386) a + S1x1x16.size a ≤ S2x128x320.size a := fun k0_t2 v386 k0_hw43 => k0_hw43.2

def k0_chk44 (v396 : IVec S16 32) : Prop :=
  (∀ a x, ((![v396] : Fin 1 → IVec S16 32) a x).toNat < S16.size a)
theorem k0_idx22_inb : ∀ (v396 : IVec S16 32) (k0_hw44 : k0_chk44 v396), ∀ a x, ((![v396] : Fin 1 → IVec S16 32) a x).toNat < S16.size a := fun v396 k0_hw44 => k0_hw44
def k0_mult25 (v431 : BitVec 32) : BitVec 32 :=
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  v435

def k0_off30 (k0_t2 : Fin k0_t2_loop.trips) (v431 : BitVec 32) : Fin 3 → Nat :=
  let c1_i32_202 : BitVec 32 := 1#32
  let c0_i32_38 : BitVec 32 := 0#32
  let c1_i32_40 : BitVec 32 := 1#32
  let arg12 : BitVec 32 := Scf.iv c0_i32_38 c1_i32_40 k0_t2
  let c16_i32_201 : BitVec 32 := 16#32
  let v437 : BitVec 32 := Scalar.muli arg12 c16_i32_201
  let c6_i32 : BitVec 32 := 6#32
  let v438 : BitVec 32 := Scalar.addi v437 c6_i32
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  let v436 : BitVec 32 := v435
  ![1, v438.toNat, v436.toNat]

def k0_chk45 (k0_t2 : Fin k0_t2_loop.trips) (v431 : BitVec 32) : Prop :=
  (16 ∣ (k0_mult25 v431).toNat) ∧
  (∀ a, (k0_off30 k0_t2 v431) a + S1x1x16.size a ≤ S2x128x320.size a)
theorem k0_mult25_dvd : ∀ (k0_t2 : Fin k0_t2_loop.trips) (v431 : BitVec 32) (k0_hw45 : k0_chk45 k0_t2 v431), 16 ∣ (k0_mult25 v431).toNat := fun k0_t2 v431 k0_hw45 => k0_hw45.1
theorem k0_off30_inb : ∀ (k0_t2 : Fin k0_t2_loop.trips) (v431 : BitVec 32) (k0_hw45 : k0_chk45 k0_t2 v431), ∀ a, (k0_off30 k0_t2 v431) a + S1x1x16.size a ≤ S2x128x320.size a := fun k0_t2 v431 k0_hw45 => k0_hw45.2

def k0_chk46 (v441 : IVec S16 32) : Prop :=
  (∀ a x, ((![v441] : Fin 1 → IVec S16 32) a x).toNat < S16.size a)
theorem k0_idx23_inb : ∀ (v441 : IVec S16 32) (k0_hw46 : k0_chk46 v441), ∀ a x, ((![v441] : Fin 1 → IVec S16 32) a x).toNat < S16.size a := fun v441 k0_hw46 => k0_hw46
def k0_mult26 (v476 : BitVec 32) : BitVec 32 :=
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  v480

def k0_off31 (k0_t2 : Fin k0_t2_loop.trips) (v476 : BitVec 32) : Fin 3 → Nat :=
  let c1_i32_210 : BitVec 32 := 1#32
  let c0_i32_38 : BitVec 32 := 0#32
  let c1_i32_40 : BitVec 32 := 1#32
  let arg12 : BitVec 32 := Scf.iv c0_i32_38 c1_i32_40 k0_t2
  let c16_i32_209 : BitVec 32 := 16#32
  let v482 : BitVec 32 := Scalar.muli arg12 c16_i32_209
  let c7_i32 : BitVec 32 := 7#32
  let v483 : BitVec 32 := Scalar.addi v482 c7_i32
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  let v481 : BitVec 32 := v480
  ![1, v483.toNat, v481.toNat]

def k0_chk47 (k0_t2 : Fin k0_t2_loop.trips) (v476 : BitVec 32) : Prop :=
  (16 ∣ (k0_mult26 v476).toNat) ∧
  (∀ a, (k0_off31 k0_t2 v476) a + S1x1x16.size a ≤ S2x128x320.size a)
theorem k0_mult26_dvd : ∀ (k0_t2 : Fin k0_t2_loop.trips) (v476 : BitVec 32) (k0_hw47 : k0_chk47 k0_t2 v476), 16 ∣ (k0_mult26 v476).toNat := fun k0_t2 v476 k0_hw47 => k0_hw47.1
theorem k0_off31_inb : ∀ (k0_t2 : Fin k0_t2_loop.trips) (v476 : BitVec 32) (k0_hw47 : k0_chk47 k0_t2 v476), ∀ a, (k0_off31 k0_t2 v476) a + S1x1x16.size a ≤ S2x128x320.size a := fun k0_t2 v476 k0_hw47 => k0_hw47.2

def k0_chk48 (v486 : IVec S16 32) : Prop :=
  (∀ a x, ((![v486] : Fin 1 → IVec S16 32) a x).toNat < S16.size a)
theorem k0_idx24_inb : ∀ (v486 : IVec S16 32) (k0_hw48 : k0_chk48 v486), ∀ a x, ((![v486] : Fin 1 → IVec S16 32) a x).toNat < S16.size a := fun v486 k0_hw48 => k0_hw48
def k0_mult27 (v521 : BitVec 32) : BitVec 32 :=
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  v525

def k0_off32 (k0_t2 : Fin k0_t2_loop.trips) (v521 : BitVec 32) : Fin 3 → Nat :=
  let c1_i32_219 : BitVec 32 := 1#32
  let c0_i32_38 : BitVec 32 := 0#32
  let c1_i32_40 : BitVec 32 := 1#32
  let arg12 : BitVec 32 := Scf.iv c0_i32_38 c1_i32_40 k0_t2
  let c16_i32_217 : BitVec 32 := 16#32
  let v527 : BitVec 32 := Scalar.muli arg12 c16_i32_217
  let c8_i32_218 : BitVec 32 := 8#32
  let v528 : BitVec 32 := Scalar.addi v527 c8_i32_218
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  let v526 : BitVec 32 := v525
  ![1, v528.toNat, v526.toNat]

def k0_chk49 (k0_t2 : Fin k0_t2_loop.trips) (v521 : BitVec 32) : Prop :=
  (16 ∣ (k0_mult27 v521).toNat) ∧
  (∀ a, (k0_off32 k0_t2 v521) a + S1x1x16.size a ≤ S2x128x320.size a)
theorem k0_mult27_dvd : ∀ (k0_t2 : Fin k0_t2_loop.trips) (v521 : BitVec 32) (k0_hw49 : k0_chk49 k0_t2 v521), 16 ∣ (k0_mult27 v521).toNat := fun k0_t2 v521 k0_hw49 => k0_hw49.1
theorem k0_off32_inb : ∀ (k0_t2 : Fin k0_t2_loop.trips) (v521 : BitVec 32) (k0_hw49 : k0_chk49 k0_t2 v521), ∀ a, (k0_off32 k0_t2 v521) a + S1x1x16.size a ≤ S2x128x320.size a := fun k0_t2 v521 k0_hw49 => k0_hw49.2

def k0_chk50 (v531 : IVec S16 32) : Prop :=
  (∀ a x, ((![v531] : Fin 1 → IVec S16 32) a x).toNat < S16.size a)
theorem k0_idx25_inb : ∀ (v531 : IVec S16 32) (k0_hw50 : k0_chk50 v531), ∀ a x, ((![v531] : Fin 1 → IVec S16 32) a x).toNat < S16.size a := fun v531 k0_hw50 => k0_hw50
def k0_mult28 (v566 : BitVec 32) : BitVec 32 :=
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  v570

def k0_off33 (k0_t2 : Fin k0_t2_loop.trips) (v566 : BitVec 32) : Fin 3 → Nat :=
  let c1_i32_227 : BitVec 32 := 1#32
  let c0_i32_38 : BitVec 32 := 0#32
  let c1_i32_40 : BitVec 32 := 1#32
  let arg12 : BitVec 32 := Scf.iv c0_i32_38 c1_i32_40 k0_t2
  let c16_i32_226 : BitVec 32 := 16#32
  let v572 : BitVec 32 := Scalar.muli arg12 c16_i32_226
  let c9_i32 : BitVec 32 := 9#32
  let v573 : BitVec 32 := Scalar.addi v572 c9_i32
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  let v571 : BitVec 32 := v570
  ![1, v573.toNat, v571.toNat]

def k0_chk51 (k0_t2 : Fin k0_t2_loop.trips) (v566 : BitVec 32) : Prop :=
  (16 ∣ (k0_mult28 v566).toNat) ∧
  (∀ a, (k0_off33 k0_t2 v566) a + S1x1x16.size a ≤ S2x128x320.size a)
theorem k0_mult28_dvd : ∀ (k0_t2 : Fin k0_t2_loop.trips) (v566 : BitVec 32) (k0_hw51 : k0_chk51 k0_t2 v566), 16 ∣ (k0_mult28 v566).toNat := fun k0_t2 v566 k0_hw51 => k0_hw51.1
theorem k0_off33_inb : ∀ (k0_t2 : Fin k0_t2_loop.trips) (v566 : BitVec 32) (k0_hw51 : k0_chk51 k0_t2 v566), ∀ a, (k0_off33 k0_t2 v566) a + S1x1x16.size a ≤ S2x128x320.size a := fun k0_t2 v566 k0_hw51 => k0_hw51.2

def k0_chk52 (v576 : IVec S16 32) : Prop :=
  (∀ a x, ((![v576] : Fin 1 → IVec S16 32) a x).toNat < S16.size a)
theorem k0_idx26_inb : ∀ (v576 : IVec S16 32) (k0_hw52 : k0_chk52 v576), ∀ a x, ((![v576] : Fin 1 → IVec S16 32) a x).toNat < S16.size a := fun v576 k0_hw52 => k0_hw52
def k0_mult29 (v611 : BitVec 32) : BitVec 32 :=
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  v615

def k0_off34 (k0_t2 : Fin k0_t2_loop.trips) (v611 : BitVec 32) : Fin 3 → Nat :=
  let c1_i32_235 : BitVec 32 := 1#32
  let c0_i32_38 : BitVec 32 := 0#32
  let c1_i32_40 : BitVec 32 := 1#32
  let arg12 : BitVec 32 := Scf.iv c0_i32_38 c1_i32_40 k0_t2
  let c16_i32_234 : BitVec 32 := 16#32
  let v617 : BitVec 32 := Scalar.muli arg12 c16_i32_234
  let c10_i32 : BitVec 32 := 10#32
  let v618 : BitVec 32 := Scalar.addi v617 c10_i32
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  let v616 : BitVec 32 := v615
  ![1, v618.toNat, v616.toNat]

def k0_chk53 (k0_t2 : Fin k0_t2_loop.trips) (v611 : BitVec 32) : Prop :=
  (16 ∣ (k0_mult29 v611).toNat) ∧
  (∀ a, (k0_off34 k0_t2 v611) a + S1x1x16.size a ≤ S2x128x320.size a)
theorem k0_mult29_dvd : ∀ (k0_t2 : Fin k0_t2_loop.trips) (v611 : BitVec 32) (k0_hw53 : k0_chk53 k0_t2 v611), 16 ∣ (k0_mult29 v611).toNat := fun k0_t2 v611 k0_hw53 => k0_hw53.1
theorem k0_off34_inb : ∀ (k0_t2 : Fin k0_t2_loop.trips) (v611 : BitVec 32) (k0_hw53 : k0_chk53 k0_t2 v611), ∀ a, (k0_off34 k0_t2 v611) a + S1x1x16.size a ≤ S2x128x320.size a := fun k0_t2 v611 k0_hw53 => k0_hw53.2

def k0_chk54 (v621 : IVec S16 32) : Prop :=
  (∀ a x, ((![v621] : Fin 1 → IVec S16 32) a x).toNat < S16.size a)
theorem k0_idx27_inb : ∀ (v621 : IVec S16 32) (k0_hw54 : k0_chk54 v621), ∀ a x, ((![v621] : Fin 1 → IVec S16 32) a x).toNat < S16.size a := fun v621 k0_hw54 => k0_hw54
def k0_mult30 (v656 : BitVec 32) : BitVec 32 :=
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  v660

def k0_off35 (k0_t2 : Fin k0_t2_loop.trips) (v656 : BitVec 32) : Fin 3 → Nat :=
  let c1_i32_243 : BitVec 32 := 1#32
  let c0_i32_38 : BitVec 32 := 0#32
  let c1_i32_40 : BitVec 32 := 1#32
  let arg12 : BitVec 32 := Scf.iv c0_i32_38 c1_i32_40 k0_t2
  let c16_i32_242 : BitVec 32 := 16#32
  let v662 : BitVec 32 := Scalar.muli arg12 c16_i32_242
  let c11_i32 : BitVec 32 := 11#32
  let v663 : BitVec 32 := Scalar.addi v662 c11_i32
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  let v661 : BitVec 32 := v660
  ![1, v663.toNat, v661.toNat]

def k0_chk55 (k0_t2 : Fin k0_t2_loop.trips) (v656 : BitVec 32) : Prop :=
  (16 ∣ (k0_mult30 v656).toNat) ∧
  (∀ a, (k0_off35 k0_t2 v656) a + S1x1x16.size a ≤ S2x128x320.size a)
theorem k0_mult30_dvd : ∀ (k0_t2 : Fin k0_t2_loop.trips) (v656 : BitVec 32) (k0_hw55 : k0_chk55 k0_t2 v656), 16 ∣ (k0_mult30 v656).toNat := fun k0_t2 v656 k0_hw55 => k0_hw55.1
theorem k0_off35_inb : ∀ (k0_t2 : Fin k0_t2_loop.trips) (v656 : BitVec 32) (k0_hw55 : k0_chk55 k0_t2 v656), ∀ a, (k0_off35 k0_t2 v656) a + S1x1x16.size a ≤ S2x128x320.size a := fun k0_t2 v656 k0_hw55 => k0_hw55.2

def k0_chk56 (v666 : IVec S16 32) : Prop :=
  (∀ a x, ((![v666] : Fin 1 → IVec S16 32) a x).toNat < S16.size a)
theorem k0_idx28_inb : ∀ (v666 : IVec S16 32) (k0_hw56 : k0_chk56 v666), ∀ a x, ((![v666] : Fin 1 → IVec S16 32) a x).toNat < S16.size a := fun v666 k0_hw56 => k0_hw56
def k0_mult31 (v701 : BitVec 32) : BitVec 32 :=
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  v705

def k0_off36 (k0_t2 : Fin k0_t2_loop.trips) (v701 : BitVec 32) : Fin 3 → Nat :=
  let c1_i32_251 : BitVec 32 := 1#32
  let c0_i32_38 : BitVec 32 := 0#32
  let c1_i32_40 : BitVec 32 := 1#32
  let arg12 : BitVec 32 := Scf.iv c0_i32_38 c1_i32_40 k0_t2
  let c16_i32_250 : BitVec 32 := 16#32
  let v707 : BitVec 32 := Scalar.muli arg12 c16_i32_250
  let c12_i32 : BitVec 32 := 12#32
  let v708 : BitVec 32 := Scalar.addi v707 c12_i32
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  let v706 : BitVec 32 := v705
  ![1, v708.toNat, v706.toNat]

def k0_chk57 (k0_t2 : Fin k0_t2_loop.trips) (v701 : BitVec 32) : Prop :=
  (16 ∣ (k0_mult31 v701).toNat) ∧
  (∀ a, (k0_off36 k0_t2 v701) a + S1x1x16.size a ≤ S2x128x320.size a)
theorem k0_mult31_dvd : ∀ (k0_t2 : Fin k0_t2_loop.trips) (v701 : BitVec 32) (k0_hw57 : k0_chk57 k0_t2 v701), 16 ∣ (k0_mult31 v701).toNat := fun k0_t2 v701 k0_hw57 => k0_hw57.1
theorem k0_off36_inb : ∀ (k0_t2 : Fin k0_t2_loop.trips) (v701 : BitVec 32) (k0_hw57 : k0_chk57 k0_t2 v701), ∀ a, (k0_off36 k0_t2 v701) a + S1x1x16.size a ≤ S2x128x320.size a := fun k0_t2 v701 k0_hw57 => k0_hw57.2

def k0_chk58 (v711 : IVec S16 32) : Prop :=
  (∀ a x, ((![v711] : Fin 1 → IVec S16 32) a x).toNat < S16.size a)
theorem k0_idx29_inb : ∀ (v711 : IVec S16 32) (k0_hw58 : k0_chk58 v711), ∀ a x, ((![v711] : Fin 1 → IVec S16 32) a x).toNat < S16.size a := fun v711 k0_hw58 => k0_hw58
def k0_mult32 (v746 : BitVec 32) : BitVec 32 :=
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  v750

def k0_off37 (k0_t2 : Fin k0_t2_loop.trips) (v746 : BitVec 32) : Fin 3 → Nat :=
  let c1_i32_259 : BitVec 32 := 1#32
  let c0_i32_38 : BitVec 32 := 0#32
  let c1_i32_40 : BitVec 32 := 1#32
  let arg12 : BitVec 32 := Scf.iv c0_i32_38 c1_i32_40 k0_t2
  let c16_i32_258 : BitVec 32 := 16#32
  let v752 : BitVec 32 := Scalar.muli arg12 c16_i32_258
  let c13_i32 : BitVec 32 := 13#32
  let v753 : BitVec 32 := Scalar.addi v752 c13_i32
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  let v751 : BitVec 32 := v750
  ![1, v753.toNat, v751.toNat]

def k0_chk59 (k0_t2 : Fin k0_t2_loop.trips) (v746 : BitVec 32) : Prop :=
  (16 ∣ (k0_mult32 v746).toNat) ∧
  (∀ a, (k0_off37 k0_t2 v746) a + S1x1x16.size a ≤ S2x128x320.size a)
theorem k0_mult32_dvd : ∀ (k0_t2 : Fin k0_t2_loop.trips) (v746 : BitVec 32) (k0_hw59 : k0_chk59 k0_t2 v746), 16 ∣ (k0_mult32 v746).toNat := fun k0_t2 v746 k0_hw59 => k0_hw59.1
theorem k0_off37_inb : ∀ (k0_t2 : Fin k0_t2_loop.trips) (v746 : BitVec 32) (k0_hw59 : k0_chk59 k0_t2 v746), ∀ a, (k0_off37 k0_t2 v746) a + S1x1x16.size a ≤ S2x128x320.size a := fun k0_t2 v746 k0_hw59 => k0_hw59.2

def k0_chk60 (v756 : IVec S16 32) : Prop :=
  (∀ a x, ((![v756] : Fin 1 → IVec S16 32) a x).toNat < S16.size a)
theorem k0_idx30_inb : ∀ (v756 : IVec S16 32) (k0_hw60 : k0_chk60 v756), ∀ a x, ((![v756] : Fin 1 → IVec S16 32) a x).toNat < S16.size a := fun v756 k0_hw60 => k0_hw60
def k0_mult33 (v791 : BitVec 32) : BitVec 32 :=
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  v795

def k0_off38 (k0_t2 : Fin k0_t2_loop.trips) (v791 : BitVec 32) : Fin 3 → Nat :=
  let c1_i32_267 : BitVec 32 := 1#32
  let c0_i32_38 : BitVec 32 := 0#32
  let c1_i32_40 : BitVec 32 := 1#32
  let arg12 : BitVec 32 := Scf.iv c0_i32_38 c1_i32_40 k0_t2
  let c16_i32_266 : BitVec 32 := 16#32
  let v797 : BitVec 32 := Scalar.muli arg12 c16_i32_266
  let c14_i32 : BitVec 32 := 14#32
  let v798 : BitVec 32 := Scalar.addi v797 c14_i32
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  let v796 : BitVec 32 := v795
  ![1, v798.toNat, v796.toNat]

def k0_chk61 (k0_t2 : Fin k0_t2_loop.trips) (v791 : BitVec 32) : Prop :=
  (16 ∣ (k0_mult33 v791).toNat) ∧
  (∀ a, (k0_off38 k0_t2 v791) a + S1x1x16.size a ≤ S2x128x320.size a)
theorem k0_mult33_dvd : ∀ (k0_t2 : Fin k0_t2_loop.trips) (v791 : BitVec 32) (k0_hw61 : k0_chk61 k0_t2 v791), 16 ∣ (k0_mult33 v791).toNat := fun k0_t2 v791 k0_hw61 => k0_hw61.1
theorem k0_off38_inb : ∀ (k0_t2 : Fin k0_t2_loop.trips) (v791 : BitVec 32) (k0_hw61 : k0_chk61 k0_t2 v791), ∀ a, (k0_off38 k0_t2 v791) a + S1x1x16.size a ≤ S2x128x320.size a := fun k0_t2 v791 k0_hw61 => k0_hw61.2

def k0_chk62 (v801 : IVec S16 32) : Prop :=
  (∀ a x, ((![v801] : Fin 1 → IVec S16 32) a x).toNat < S16.size a)
theorem k0_idx31_inb : ∀ (v801 : IVec S16 32) (k0_hw62 : k0_chk62 v801), ∀ a x, ((![v801] : Fin 1 → IVec S16 32) a x).toNat < S16.size a := fun v801 k0_hw62 => k0_hw62
def k0_mult34 (v836 : BitVec 32) : BitVec 32 :=
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  v840

def k0_off39 (k0_t2 : Fin k0_t2_loop.trips) (v836 : BitVec 32) : Fin 3 → Nat :=
  let c1_i32_275 : BitVec 32 := 1#32
  let c0_i32_38 : BitVec 32 := 0#32
  let c1_i32_40 : BitVec 32 := 1#32
  let arg12 : BitVec 32 := Scf.iv c0_i32_38 c1_i32_40 k0_t2
  let c16_i32_274 : BitVec 32 := 16#32
  let v842 : BitVec 32 := Scalar.muli arg12 c16_i32_274
  let c15_i32 : BitVec 32 := 15#32
  let v843 : BitVec 32 := Scalar.addi v842 c15_i32
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  let v841 : BitVec 32 := v840
  ![1, v843.toNat, v841.toNat]

def k0_chk63 (k0_t2 : Fin k0_t2_loop.trips) (v836 : BitVec 32) : Prop :=
  (16 ∣ (k0_mult34 v836).toNat) ∧
  (∀ a, (k0_off39 k0_t2 v836) a + S1x1x16.size a ≤ S2x128x320.size a)
theorem k0_mult34_dvd : ∀ (k0_t2 : Fin k0_t2_loop.trips) (v836 : BitVec 32) (k0_hw63 : k0_chk63 k0_t2 v836), 16 ∣ (k0_mult34 v836).toNat := fun k0_t2 v836 k0_hw63 => k0_hw63.1
theorem k0_off39_inb : ∀ (k0_t2 : Fin k0_t2_loop.trips) (v836 : BitVec 32) (k0_hw63 : k0_chk63 k0_t2 v836), ∀ a, (k0_off39 k0_t2 v836) a + S1x1x16.size a ≤ S2x128x320.size a := fun k0_t2 v836 k0_hw63 => k0_hw63.2

def k0_chk64 (v846 : IVec S16 32) : Prop :=
  (∀ a x, ((![v846] : Fin 1 → IVec S16 32) a x).toNat < S16.size a)
theorem k0_idx32_inb : ∀ (v846 : IVec S16 32) (k0_hw64 : k0_chk64 v846), ∀ a x, ((![v846] : Fin 1 → IVec S16 32) a x).toNat < S16.size a := fun v846 k0_hw64 => k0_hw64
@[reducible] def k0_t3_loop : Scf.Loop 32 :=
  let c0_i32_56 : BitVec 32 := 0#32
  let c8_i32_57 : BitVec 32 := 8#32
  let v60 : BitVec 32 := Scalar.addi c0_i32_56 c8_i32_57
  let c1_i32_58 : BitVec 32 := 1#32
  ⟨c0_i32_56, v60, c1_i32_58⟩
def k0_mult35 (k0_t3 : Fin k0_t3_loop.trips) : BitVec 32 :=
  let c256_i32_145 : BitVec 32 := 256#32
  let c0_i32_56 : BitVec 32 := 0#32
  let c1_i32_58 : BitVec 32 := 1#32
  let arg12 : BitVec 32 := Scf.iv c0_i32_56 c1_i32_58 k0_t3
  let c16_i32 : BitVec 32 := 16#32
  let v138 : BitVec 32 := Scalar.muli arg12 c16_i32
  let v139 : BitVec 32 := Scalar.addi c256_i32_145 v138
  v139
def k0_off40 (k0_t3 : Fin k0_t3_loop.trips) : Fin 1 → Nat :=
  let c256_i32_145 : BitVec 32 := 256#32
  let c0_i32_56 : BitVec 32 := 0#32
  let c1_i32_58 : BitVec 32 := 1#32
  let arg12 : BitVec 32 := Scf.iv c0_i32_56 c1_i32_58 k0_t3
  let c16_i32 : BitVec 32 := 16#32
  let v138 : BitVec 32 := Scalar.muli arg12 c16_i32
  let v139 : BitVec 32 := Scalar.addi c256_i32_145 v138
  let v140 : BitVec 32 := v139
  let v141 : Index := Scalar.indexCast v140
  ![v141.toNat]
def k0_off41 (k0_t3 : Fin k0_t3_loop.trips) (c0_i32_146 : BitVec 32) : Fin 1 → Nat :=
  let c256_i32_145 : BitVec 32 := 256#32
  let c0_i32_56 : BitVec 32 := 0#32
  let c1_i32_58 : BitVec 32 := 1#32
  let arg12 : BitVec 32 := Scf.iv c0_i32_56 c1_i32_58 k0_t3
  let c16_i32 : BitVec 32 := 16#32
  let v138 : BitVec 32 := Scalar.muli arg12 c16_i32
  let v139 : BitVec 32 := Scalar.addi c256_i32_145 v138
  let v140 : BitVec 32 := v139
  let v144 : BitVec 32 := Scalar.addi c0_i32_146 v140
  let v145 : Index := Scalar.indexCast v144
  ![v145.toNat]
def k0_mult36 (v161 : BitVec 32) : BitVec 32 :=
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  v165

def k0_off42 (k0_t3 : Fin k0_t3_loop.trips) (v161 : BitVec 32) : Fin 3 → Nat :=
  let c0_i32_151 : BitVec 32 := 0#32
  let c0_i32_56 : BitVec 32 := 0#32
  let c1_i32_58 : BitVec 32 := 1#32
  let arg12 : BitVec 32 := Scf.iv c0_i32_56 c1_i32_58 k0_t3
  let c16_i32_149 : BitVec 32 := 16#32
  let v167 : BitVec 32 := Scalar.muli arg12 c16_i32_149
  let c0_i32_150 : BitVec 32 := 0#32
  let v168 : BitVec 32 := Scalar.addi v167 c0_i32_150
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  let v166 : BitVec 32 := v165
  ![0, v168.toNat, v166.toNat]

def k0_chk65 (k0_t3 : Fin k0_t3_loop.trips) (v161 : BitVec 32) : Prop :=
  (16 ∣ (k0_mult36 v161).toNat) ∧
  (∀ a, (k0_off42 k0_t3 v161) a + S1x1x16.size a ≤ S2x128x320.size a)
theorem k0_mult36_dvd : ∀ (k0_t3 : Fin k0_t3_loop.trips) (v161 : BitVec 32) (k0_hw65 : k0_chk65 k0_t3 v161), 16 ∣ (k0_mult36 v161).toNat := fun k0_t3 v161 k0_hw65 => k0_hw65.1
theorem k0_off42_inb : ∀ (k0_t3 : Fin k0_t3_loop.trips) (v161 : BitVec 32) (k0_hw65 : k0_chk65 k0_t3 v161), ∀ a, (k0_off42 k0_t3 v161) a + S1x1x16.size a ≤ S2x128x320.size a := fun k0_t3 v161 k0_hw65 => k0_hw65.2

def k0_chk66 (v171 : IVec S16 32) : Prop :=
  (∀ a x, ((![v171] : Fin 1 → IVec S16 32) a x).toNat < S16.size a)
theorem k0_idx33_inb : ∀ (v171 : IVec S16 32) (k0_hw66 : k0_chk66 v171), ∀ a x, ((![v171] : Fin 1 → IVec S16 32) a x).toNat < S16.size a := fun v171 k0_hw66 => k0_hw66
def k0_mult37 (v206 : BitVec 32) : BitVec 32 :=
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  v210

def k0_off43 (k0_t3 : Fin k0_t3_loop.trips) (v206 : BitVec 32) : Fin 3 → Nat :=
  let c0_i32_159 : BitVec 32 := 0#32
  let c0_i32_56 : BitVec 32 := 0#32
  let c1_i32_58 : BitVec 32 := 1#32
  let arg12 : BitVec 32 := Scf.iv c0_i32_56 c1_i32_58 k0_t3
  let c16_i32_157 : BitVec 32 := 16#32
  let v212 : BitVec 32 := Scalar.muli arg12 c16_i32_157
  let c1_i32_158 : BitVec 32 := 1#32
  let v213 : BitVec 32 := Scalar.addi v212 c1_i32_158
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  let v211 : BitVec 32 := v210
  ![0, v213.toNat, v211.toNat]

def k0_chk67 (k0_t3 : Fin k0_t3_loop.trips) (v206 : BitVec 32) : Prop :=
  (16 ∣ (k0_mult37 v206).toNat) ∧
  (∀ a, (k0_off43 k0_t3 v206) a + S1x1x16.size a ≤ S2x128x320.size a)
theorem k0_mult37_dvd : ∀ (k0_t3 : Fin k0_t3_loop.trips) (v206 : BitVec 32) (k0_hw67 : k0_chk67 k0_t3 v206), 16 ∣ (k0_mult37 v206).toNat := fun k0_t3 v206 k0_hw67 => k0_hw67.1
theorem k0_off43_inb : ∀ (k0_t3 : Fin k0_t3_loop.trips) (v206 : BitVec 32) (k0_hw67 : k0_chk67 k0_t3 v206), ∀ a, (k0_off43 k0_t3 v206) a + S1x1x16.size a ≤ S2x128x320.size a := fun k0_t3 v206 k0_hw67 => k0_hw67.2

def k0_chk68 (v216 : IVec S16 32) : Prop :=
  (∀ a x, ((![v216] : Fin 1 → IVec S16 32) a x).toNat < S16.size a)
theorem k0_idx34_inb : ∀ (v216 : IVec S16 32) (k0_hw68 : k0_chk68 v216), ∀ a x, ((![v216] : Fin 1 → IVec S16 32) a x).toNat < S16.size a := fun v216 k0_hw68 => k0_hw68
def k0_mult38 (v251 : BitVec 32) : BitVec 32 :=
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  v255

def k0_off44 (k0_t3 : Fin k0_t3_loop.trips) (v251 : BitVec 32) : Fin 3 → Nat :=
  let c0_i32_168 : BitVec 32 := 0#32
  let c0_i32_56 : BitVec 32 := 0#32
  let c1_i32_58 : BitVec 32 := 1#32
  let arg12 : BitVec 32 := Scf.iv c0_i32_56 c1_i32_58 k0_t3
  let c16_i32_166 : BitVec 32 := 16#32
  let v257 : BitVec 32 := Scalar.muli arg12 c16_i32_166
  let c2_i32_167 : BitVec 32 := 2#32
  let v258 : BitVec 32 := Scalar.addi v257 c2_i32_167
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  let v256 : BitVec 32 := v255
  ![0, v258.toNat, v256.toNat]

def k0_chk69 (k0_t3 : Fin k0_t3_loop.trips) (v251 : BitVec 32) : Prop :=
  (16 ∣ (k0_mult38 v251).toNat) ∧
  (∀ a, (k0_off44 k0_t3 v251) a + S1x1x16.size a ≤ S2x128x320.size a)
theorem k0_mult38_dvd : ∀ (k0_t3 : Fin k0_t3_loop.trips) (v251 : BitVec 32) (k0_hw69 : k0_chk69 k0_t3 v251), 16 ∣ (k0_mult38 v251).toNat := fun k0_t3 v251 k0_hw69 => k0_hw69.1
theorem k0_off44_inb : ∀ (k0_t3 : Fin k0_t3_loop.trips) (v251 : BitVec 32) (k0_hw69 : k0_chk69 k0_t3 v251), ∀ a, (k0_off44 k0_t3 v251) a + S1x1x16.size a ≤ S2x128x320.size a := fun k0_t3 v251 k0_hw69 => k0_hw69.2

def k0_chk70 (v261 : IVec S16 32) : Prop :=
  (∀ a x, ((![v261] : Fin 1 → IVec S16 32) a x).toNat < S16.size a)
theorem k0_idx35_inb : ∀ (v261 : IVec S16 32) (k0_hw70 : k0_chk70 v261), ∀ a x, ((![v261] : Fin 1 → IVec S16 32) a x).toNat < S16.size a := fun v261 k0_hw70 => k0_hw70
def k0_mult39 (v296 : BitVec 32) : BitVec 32 :=
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  v300

def k0_off45 (k0_t3 : Fin k0_t3_loop.trips) (v296 : BitVec 32) : Fin 3 → Nat :=
  let c0_i32_177 : BitVec 32 := 0#32
  let c0_i32_56 : BitVec 32 := 0#32
  let c1_i32_58 : BitVec 32 := 1#32
  let arg12 : BitVec 32 := Scf.iv c0_i32_56 c1_i32_58 k0_t3
  let c16_i32_175 : BitVec 32 := 16#32
  let v302 : BitVec 32 := Scalar.muli arg12 c16_i32_175
  let c3_i32_176 : BitVec 32 := 3#32
  let v303 : BitVec 32 := Scalar.addi v302 c3_i32_176
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  let v301 : BitVec 32 := v300
  ![0, v303.toNat, v301.toNat]

def k0_chk71 (k0_t3 : Fin k0_t3_loop.trips) (v296 : BitVec 32) : Prop :=
  (16 ∣ (k0_mult39 v296).toNat) ∧
  (∀ a, (k0_off45 k0_t3 v296) a + S1x1x16.size a ≤ S2x128x320.size a)
theorem k0_mult39_dvd : ∀ (k0_t3 : Fin k0_t3_loop.trips) (v296 : BitVec 32) (k0_hw71 : k0_chk71 k0_t3 v296), 16 ∣ (k0_mult39 v296).toNat := fun k0_t3 v296 k0_hw71 => k0_hw71.1
theorem k0_off45_inb : ∀ (k0_t3 : Fin k0_t3_loop.trips) (v296 : BitVec 32) (k0_hw71 : k0_chk71 k0_t3 v296), ∀ a, (k0_off45 k0_t3 v296) a + S1x1x16.size a ≤ S2x128x320.size a := fun k0_t3 v296 k0_hw71 => k0_hw71.2

def k0_chk72 (v306 : IVec S16 32) : Prop :=
  (∀ a x, ((![v306] : Fin 1 → IVec S16 32) a x).toNat < S16.size a)
theorem k0_idx36_inb : ∀ (v306 : IVec S16 32) (k0_hw72 : k0_chk72 v306), ∀ a x, ((![v306] : Fin 1 → IVec S16 32) a x).toNat < S16.size a := fun v306 k0_hw72 => k0_hw72
def k0_mult40 (v341 : BitVec 32) : BitVec 32 :=
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  v345

def k0_off46 (k0_t3 : Fin k0_t3_loop.trips) (v341 : BitVec 32) : Fin 3 → Nat :=
  let c0_i32_186 : BitVec 32 := 0#32
  let c0_i32_56 : BitVec 32 := 0#32
  let c1_i32_58 : BitVec 32 := 1#32
  let arg12 : BitVec 32 := Scf.iv c0_i32_56 c1_i32_58 k0_t3
  let c16_i32_184 : BitVec 32 := 16#32
  let v347 : BitVec 32 := Scalar.muli arg12 c16_i32_184
  let c4_i32_185 : BitVec 32 := 4#32
  let v348 : BitVec 32 := Scalar.addi v347 c4_i32_185
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  let v346 : BitVec 32 := v345
  ![0, v348.toNat, v346.toNat]

def k0_chk73 (k0_t3 : Fin k0_t3_loop.trips) (v341 : BitVec 32) : Prop :=
  (16 ∣ (k0_mult40 v341).toNat) ∧
  (∀ a, (k0_off46 k0_t3 v341) a + S1x1x16.size a ≤ S2x128x320.size a)
theorem k0_mult40_dvd : ∀ (k0_t3 : Fin k0_t3_loop.trips) (v341 : BitVec 32) (k0_hw73 : k0_chk73 k0_t3 v341), 16 ∣ (k0_mult40 v341).toNat := fun k0_t3 v341 k0_hw73 => k0_hw73.1
theorem k0_off46_inb : ∀ (k0_t3 : Fin k0_t3_loop.trips) (v341 : BitVec 32) (k0_hw73 : k0_chk73 k0_t3 v341), ∀ a, (k0_off46 k0_t3 v341) a + S1x1x16.size a ≤ S2x128x320.size a := fun k0_t3 v341 k0_hw73 => k0_hw73.2

def k0_chk74 (v351 : IVec S16 32) : Prop :=
  (∀ a x, ((![v351] : Fin 1 → IVec S16 32) a x).toNat < S16.size a)
theorem k0_idx37_inb : ∀ (v351 : IVec S16 32) (k0_hw74 : k0_chk74 v351), ∀ a x, ((![v351] : Fin 1 → IVec S16 32) a x).toNat < S16.size a := fun v351 k0_hw74 => k0_hw74
def k0_mult41 (v386 : BitVec 32) : BitVec 32 :=
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  v390

def k0_off47 (k0_t3 : Fin k0_t3_loop.trips) (v386 : BitVec 32) : Fin 3 → Nat :=
  let c0_i32_194 : BitVec 32 := 0#32
  let c0_i32_56 : BitVec 32 := 0#32
  let c1_i32_58 : BitVec 32 := 1#32
  let arg12 : BitVec 32 := Scf.iv c0_i32_56 c1_i32_58 k0_t3
  let c16_i32_193 : BitVec 32 := 16#32
  let v392 : BitVec 32 := Scalar.muli arg12 c16_i32_193
  let c5_i32 : BitVec 32 := 5#32
  let v393 : BitVec 32 := Scalar.addi v392 c5_i32
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  let v391 : BitVec 32 := v390
  ![0, v393.toNat, v391.toNat]

def k0_chk75 (k0_t3 : Fin k0_t3_loop.trips) (v386 : BitVec 32) : Prop :=
  (16 ∣ (k0_mult41 v386).toNat) ∧
  (∀ a, (k0_off47 k0_t3 v386) a + S1x1x16.size a ≤ S2x128x320.size a)
theorem k0_mult41_dvd : ∀ (k0_t3 : Fin k0_t3_loop.trips) (v386 : BitVec 32) (k0_hw75 : k0_chk75 k0_t3 v386), 16 ∣ (k0_mult41 v386).toNat := fun k0_t3 v386 k0_hw75 => k0_hw75.1
theorem k0_off47_inb : ∀ (k0_t3 : Fin k0_t3_loop.trips) (v386 : BitVec 32) (k0_hw75 : k0_chk75 k0_t3 v386), ∀ a, (k0_off47 k0_t3 v386) a + S1x1x16.size a ≤ S2x128x320.size a := fun k0_t3 v386 k0_hw75 => k0_hw75.2

def k0_chk76 (v396 : IVec S16 32) : Prop :=
  (∀ a x, ((![v396] : Fin 1 → IVec S16 32) a x).toNat < S16.size a)
theorem k0_idx38_inb : ∀ (v396 : IVec S16 32) (k0_hw76 : k0_chk76 v396), ∀ a x, ((![v396] : Fin 1 → IVec S16 32) a x).toNat < S16.size a := fun v396 k0_hw76 => k0_hw76
def k0_mult42 (v431 : BitVec 32) : BitVec 32 :=
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  v435

def k0_off48 (k0_t3 : Fin k0_t3_loop.trips) (v431 : BitVec 32) : Fin 3 → Nat :=
  let c0_i32_202 : BitVec 32 := 0#32
  let c0_i32_56 : BitVec 32 := 0#32
  let c1_i32_58 : BitVec 32 := 1#32
  let arg12 : BitVec 32 := Scf.iv c0_i32_56 c1_i32_58 k0_t3
  let c16_i32_201 : BitVec 32 := 16#32
  let v437 : BitVec 32 := Scalar.muli arg12 c16_i32_201
  let c6_i32 : BitVec 32 := 6#32
  let v438 : BitVec 32 := Scalar.addi v437 c6_i32
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  let v436 : BitVec 32 := v435
  ![0, v438.toNat, v436.toNat]

def k0_chk77 (k0_t3 : Fin k0_t3_loop.trips) (v431 : BitVec 32) : Prop :=
  (16 ∣ (k0_mult42 v431).toNat) ∧
  (∀ a, (k0_off48 k0_t3 v431) a + S1x1x16.size a ≤ S2x128x320.size a)
theorem k0_mult42_dvd : ∀ (k0_t3 : Fin k0_t3_loop.trips) (v431 : BitVec 32) (k0_hw77 : k0_chk77 k0_t3 v431), 16 ∣ (k0_mult42 v431).toNat := fun k0_t3 v431 k0_hw77 => k0_hw77.1
theorem k0_off48_inb : ∀ (k0_t3 : Fin k0_t3_loop.trips) (v431 : BitVec 32) (k0_hw77 : k0_chk77 k0_t3 v431), ∀ a, (k0_off48 k0_t3 v431) a + S1x1x16.size a ≤ S2x128x320.size a := fun k0_t3 v431 k0_hw77 => k0_hw77.2

def k0_chk78 (v441 : IVec S16 32) : Prop :=
  (∀ a x, ((![v441] : Fin 1 → IVec S16 32) a x).toNat < S16.size a)
theorem k0_idx39_inb : ∀ (v441 : IVec S16 32) (k0_hw78 : k0_chk78 v441), ∀ a x, ((![v441] : Fin 1 → IVec S16 32) a x).toNat < S16.size a := fun v441 k0_hw78 => k0_hw78
def k0_mult43 (v476 : BitVec 32) : BitVec 32 :=
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  v480

def k0_off49 (k0_t3 : Fin k0_t3_loop.trips) (v476 : BitVec 32) : Fin 3 → Nat :=
  let c0_i32_210 : BitVec 32 := 0#32
  let c0_i32_56 : BitVec 32 := 0#32
  let c1_i32_58 : BitVec 32 := 1#32
  let arg12 : BitVec 32 := Scf.iv c0_i32_56 c1_i32_58 k0_t3
  let c16_i32_209 : BitVec 32 := 16#32
  let v482 : BitVec 32 := Scalar.muli arg12 c16_i32_209
  let c7_i32 : BitVec 32 := 7#32
  let v483 : BitVec 32 := Scalar.addi v482 c7_i32
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  let v481 : BitVec 32 := v480
  ![0, v483.toNat, v481.toNat]

def k0_chk79 (k0_t3 : Fin k0_t3_loop.trips) (v476 : BitVec 32) : Prop :=
  (16 ∣ (k0_mult43 v476).toNat) ∧
  (∀ a, (k0_off49 k0_t3 v476) a + S1x1x16.size a ≤ S2x128x320.size a)
theorem k0_mult43_dvd : ∀ (k0_t3 : Fin k0_t3_loop.trips) (v476 : BitVec 32) (k0_hw79 : k0_chk79 k0_t3 v476), 16 ∣ (k0_mult43 v476).toNat := fun k0_t3 v476 k0_hw79 => k0_hw79.1
theorem k0_off49_inb : ∀ (k0_t3 : Fin k0_t3_loop.trips) (v476 : BitVec 32) (k0_hw79 : k0_chk79 k0_t3 v476), ∀ a, (k0_off49 k0_t3 v476) a + S1x1x16.size a ≤ S2x128x320.size a := fun k0_t3 v476 k0_hw79 => k0_hw79.2

def k0_chk80 (v486 : IVec S16 32) : Prop :=
  (∀ a x, ((![v486] : Fin 1 → IVec S16 32) a x).toNat < S16.size a)
theorem k0_idx40_inb : ∀ (v486 : IVec S16 32) (k0_hw80 : k0_chk80 v486), ∀ a x, ((![v486] : Fin 1 → IVec S16 32) a x).toNat < S16.size a := fun v486 k0_hw80 => k0_hw80
def k0_mult44 (v521 : BitVec 32) : BitVec 32 :=
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  v525

def k0_off50 (k0_t3 : Fin k0_t3_loop.trips) (v521 : BitVec 32) : Fin 3 → Nat :=
  let c0_i32_219 : BitVec 32 := 0#32
  let c0_i32_56 : BitVec 32 := 0#32
  let c1_i32_58 : BitVec 32 := 1#32
  let arg12 : BitVec 32 := Scf.iv c0_i32_56 c1_i32_58 k0_t3
  let c16_i32_217 : BitVec 32 := 16#32
  let v527 : BitVec 32 := Scalar.muli arg12 c16_i32_217
  let c8_i32_218 : BitVec 32 := 8#32
  let v528 : BitVec 32 := Scalar.addi v527 c8_i32_218
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  let v526 : BitVec 32 := v525
  ![0, v528.toNat, v526.toNat]

def k0_chk81 (k0_t3 : Fin k0_t3_loop.trips) (v521 : BitVec 32) : Prop :=
  (16 ∣ (k0_mult44 v521).toNat) ∧
  (∀ a, (k0_off50 k0_t3 v521) a + S1x1x16.size a ≤ S2x128x320.size a)
theorem k0_mult44_dvd : ∀ (k0_t3 : Fin k0_t3_loop.trips) (v521 : BitVec 32) (k0_hw81 : k0_chk81 k0_t3 v521), 16 ∣ (k0_mult44 v521).toNat := fun k0_t3 v521 k0_hw81 => k0_hw81.1
theorem k0_off50_inb : ∀ (k0_t3 : Fin k0_t3_loop.trips) (v521 : BitVec 32) (k0_hw81 : k0_chk81 k0_t3 v521), ∀ a, (k0_off50 k0_t3 v521) a + S1x1x16.size a ≤ S2x128x320.size a := fun k0_t3 v521 k0_hw81 => k0_hw81.2

def k0_chk82 (v531 : IVec S16 32) : Prop :=
  (∀ a x, ((![v531] : Fin 1 → IVec S16 32) a x).toNat < S16.size a)
theorem k0_idx41_inb : ∀ (v531 : IVec S16 32) (k0_hw82 : k0_chk82 v531), ∀ a x, ((![v531] : Fin 1 → IVec S16 32) a x).toNat < S16.size a := fun v531 k0_hw82 => k0_hw82
def k0_mult45 (v566 : BitVec 32) : BitVec 32 :=
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  v570

def k0_off51 (k0_t3 : Fin k0_t3_loop.trips) (v566 : BitVec 32) : Fin 3 → Nat :=
  let c0_i32_227 : BitVec 32 := 0#32
  let c0_i32_56 : BitVec 32 := 0#32
  let c1_i32_58 : BitVec 32 := 1#32
  let arg12 : BitVec 32 := Scf.iv c0_i32_56 c1_i32_58 k0_t3
  let c16_i32_226 : BitVec 32 := 16#32
  let v572 : BitVec 32 := Scalar.muli arg12 c16_i32_226
  let c9_i32 : BitVec 32 := 9#32
  let v573 : BitVec 32 := Scalar.addi v572 c9_i32
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  let v571 : BitVec 32 := v570
  ![0, v573.toNat, v571.toNat]

def k0_chk83 (k0_t3 : Fin k0_t3_loop.trips) (v566 : BitVec 32) : Prop :=
  (16 ∣ (k0_mult45 v566).toNat) ∧
  (∀ a, (k0_off51 k0_t3 v566) a + S1x1x16.size a ≤ S2x128x320.size a)
theorem k0_mult45_dvd : ∀ (k0_t3 : Fin k0_t3_loop.trips) (v566 : BitVec 32) (k0_hw83 : k0_chk83 k0_t3 v566), 16 ∣ (k0_mult45 v566).toNat := fun k0_t3 v566 k0_hw83 => k0_hw83.1
theorem k0_off51_inb : ∀ (k0_t3 : Fin k0_t3_loop.trips) (v566 : BitVec 32) (k0_hw83 : k0_chk83 k0_t3 v566), ∀ a, (k0_off51 k0_t3 v566) a + S1x1x16.size a ≤ S2x128x320.size a := fun k0_t3 v566 k0_hw83 => k0_hw83.2

def k0_chk84 (v576 : IVec S16 32) : Prop :=
  (∀ a x, ((![v576] : Fin 1 → IVec S16 32) a x).toNat < S16.size a)
theorem k0_idx42_inb : ∀ (v576 : IVec S16 32) (k0_hw84 : k0_chk84 v576), ∀ a x, ((![v576] : Fin 1 → IVec S16 32) a x).toNat < S16.size a := fun v576 k0_hw84 => k0_hw84
def k0_mult46 (v611 : BitVec 32) : BitVec 32 :=
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  v615

def k0_off52 (k0_t3 : Fin k0_t3_loop.trips) (v611 : BitVec 32) : Fin 3 → Nat :=
  let c0_i32_235 : BitVec 32 := 0#32
  let c0_i32_56 : BitVec 32 := 0#32
  let c1_i32_58 : BitVec 32 := 1#32
  let arg12 : BitVec 32 := Scf.iv c0_i32_56 c1_i32_58 k0_t3
  let c16_i32_234 : BitVec 32 := 16#32
  let v617 : BitVec 32 := Scalar.muli arg12 c16_i32_234
  let c10_i32 : BitVec 32 := 10#32
  let v618 : BitVec 32 := Scalar.addi v617 c10_i32
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  let v616 : BitVec 32 := v615
  ![0, v618.toNat, v616.toNat]

def k0_chk85 (k0_t3 : Fin k0_t3_loop.trips) (v611 : BitVec 32) : Prop :=
  (16 ∣ (k0_mult46 v611).toNat) ∧
  (∀ a, (k0_off52 k0_t3 v611) a + S1x1x16.size a ≤ S2x128x320.size a)
theorem k0_mult46_dvd : ∀ (k0_t3 : Fin k0_t3_loop.trips) (v611 : BitVec 32) (k0_hw85 : k0_chk85 k0_t3 v611), 16 ∣ (k0_mult46 v611).toNat := fun k0_t3 v611 k0_hw85 => k0_hw85.1
theorem k0_off52_inb : ∀ (k0_t3 : Fin k0_t3_loop.trips) (v611 : BitVec 32) (k0_hw85 : k0_chk85 k0_t3 v611), ∀ a, (k0_off52 k0_t3 v611) a + S1x1x16.size a ≤ S2x128x320.size a := fun k0_t3 v611 k0_hw85 => k0_hw85.2

def k0_chk86 (v621 : IVec S16 32) : Prop :=
  (∀ a x, ((![v621] : Fin 1 → IVec S16 32) a x).toNat < S16.size a)
theorem k0_idx43_inb : ∀ (v621 : IVec S16 32) (k0_hw86 : k0_chk86 v621), ∀ a x, ((![v621] : Fin 1 → IVec S16 32) a x).toNat < S16.size a := fun v621 k0_hw86 => k0_hw86
def k0_mult47 (v656 : BitVec 32) : BitVec 32 :=
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  v660

def k0_off53 (k0_t3 : Fin k0_t3_loop.trips) (v656 : BitVec 32) : Fin 3 → Nat :=
  let c0_i32_243 : BitVec 32 := 0#32
  let c0_i32_56 : BitVec 32 := 0#32
  let c1_i32_58 : BitVec 32 := 1#32
  let arg12 : BitVec 32 := Scf.iv c0_i32_56 c1_i32_58 k0_t3
  let c16_i32_242 : BitVec 32 := 16#32
  let v662 : BitVec 32 := Scalar.muli arg12 c16_i32_242
  let c11_i32 : BitVec 32 := 11#32
  let v663 : BitVec 32 := Scalar.addi v662 c11_i32
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  let v661 : BitVec 32 := v660
  ![0, v663.toNat, v661.toNat]

def k0_chk87 (k0_t3 : Fin k0_t3_loop.trips) (v656 : BitVec 32) : Prop :=
  (16 ∣ (k0_mult47 v656).toNat) ∧
  (∀ a, (k0_off53 k0_t3 v656) a + S1x1x16.size a ≤ S2x128x320.size a)
theorem k0_mult47_dvd : ∀ (k0_t3 : Fin k0_t3_loop.trips) (v656 : BitVec 32) (k0_hw87 : k0_chk87 k0_t3 v656), 16 ∣ (k0_mult47 v656).toNat := fun k0_t3 v656 k0_hw87 => k0_hw87.1
theorem k0_off53_inb : ∀ (k0_t3 : Fin k0_t3_loop.trips) (v656 : BitVec 32) (k0_hw87 : k0_chk87 k0_t3 v656), ∀ a, (k0_off53 k0_t3 v656) a + S1x1x16.size a ≤ S2x128x320.size a := fun k0_t3 v656 k0_hw87 => k0_hw87.2

def k0_chk88 (v666 : IVec S16 32) : Prop :=
  (∀ a x, ((![v666] : Fin 1 → IVec S16 32) a x).toNat < S16.size a)
theorem k0_idx44_inb : ∀ (v666 : IVec S16 32) (k0_hw88 : k0_chk88 v666), ∀ a x, ((![v666] : Fin 1 → IVec S16 32) a x).toNat < S16.size a := fun v666 k0_hw88 => k0_hw88
def k0_mult48 (v701 : BitVec 32) : BitVec 32 :=
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  v705

def k0_off54 (k0_t3 : Fin k0_t3_loop.trips) (v701 : BitVec 32) : Fin 3 → Nat :=
  let c0_i32_251 : BitVec 32 := 0#32
  let c0_i32_56 : BitVec 32 := 0#32
  let c1_i32_58 : BitVec 32 := 1#32
  let arg12 : BitVec 32 := Scf.iv c0_i32_56 c1_i32_58 k0_t3
  let c16_i32_250 : BitVec 32 := 16#32
  let v707 : BitVec 32 := Scalar.muli arg12 c16_i32_250
  let c12_i32 : BitVec 32 := 12#32
  let v708 : BitVec 32 := Scalar.addi v707 c12_i32
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  let v706 : BitVec 32 := v705
  ![0, v708.toNat, v706.toNat]

def k0_chk89 (k0_t3 : Fin k0_t3_loop.trips) (v701 : BitVec 32) : Prop :=
  (16 ∣ (k0_mult48 v701).toNat) ∧
  (∀ a, (k0_off54 k0_t3 v701) a + S1x1x16.size a ≤ S2x128x320.size a)
theorem k0_mult48_dvd : ∀ (k0_t3 : Fin k0_t3_loop.trips) (v701 : BitVec 32) (k0_hw89 : k0_chk89 k0_t3 v701), 16 ∣ (k0_mult48 v701).toNat := fun k0_t3 v701 k0_hw89 => k0_hw89.1
theorem k0_off54_inb : ∀ (k0_t3 : Fin k0_t3_loop.trips) (v701 : BitVec 32) (k0_hw89 : k0_chk89 k0_t3 v701), ∀ a, (k0_off54 k0_t3 v701) a + S1x1x16.size a ≤ S2x128x320.size a := fun k0_t3 v701 k0_hw89 => k0_hw89.2

def k0_chk90 (v711 : IVec S16 32) : Prop :=
  (∀ a x, ((![v711] : Fin 1 → IVec S16 32) a x).toNat < S16.size a)
theorem k0_idx45_inb : ∀ (v711 : IVec S16 32) (k0_hw90 : k0_chk90 v711), ∀ a x, ((![v711] : Fin 1 → IVec S16 32) a x).toNat < S16.size a := fun v711 k0_hw90 => k0_hw90
def k0_mult49 (v746 : BitVec 32) : BitVec 32 :=
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  v750

def k0_off55 (k0_t3 : Fin k0_t3_loop.trips) (v746 : BitVec 32) : Fin 3 → Nat :=
  let c0_i32_259 : BitVec 32 := 0#32
  let c0_i32_56 : BitVec 32 := 0#32
  let c1_i32_58 : BitVec 32 := 1#32
  let arg12 : BitVec 32 := Scf.iv c0_i32_56 c1_i32_58 k0_t3
  let c16_i32_258 : BitVec 32 := 16#32
  let v752 : BitVec 32 := Scalar.muli arg12 c16_i32_258
  let c13_i32 : BitVec 32 := 13#32
  let v753 : BitVec 32 := Scalar.addi v752 c13_i32
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  let v751 : BitVec 32 := v750
  ![0, v753.toNat, v751.toNat]

def k0_chk91 (k0_t3 : Fin k0_t3_loop.trips) (v746 : BitVec 32) : Prop :=
  (16 ∣ (k0_mult49 v746).toNat) ∧
  (∀ a, (k0_off55 k0_t3 v746) a + S1x1x16.size a ≤ S2x128x320.size a)
theorem k0_mult49_dvd : ∀ (k0_t3 : Fin k0_t3_loop.trips) (v746 : BitVec 32) (k0_hw91 : k0_chk91 k0_t3 v746), 16 ∣ (k0_mult49 v746).toNat := fun k0_t3 v746 k0_hw91 => k0_hw91.1
theorem k0_off55_inb : ∀ (k0_t3 : Fin k0_t3_loop.trips) (v746 : BitVec 32) (k0_hw91 : k0_chk91 k0_t3 v746), ∀ a, (k0_off55 k0_t3 v746) a + S1x1x16.size a ≤ S2x128x320.size a := fun k0_t3 v746 k0_hw91 => k0_hw91.2

def k0_chk92 (v756 : IVec S16 32) : Prop :=
  (∀ a x, ((![v756] : Fin 1 → IVec S16 32) a x).toNat < S16.size a)
theorem k0_idx46_inb : ∀ (v756 : IVec S16 32) (k0_hw92 : k0_chk92 v756), ∀ a x, ((![v756] : Fin 1 → IVec S16 32) a x).toNat < S16.size a := fun v756 k0_hw92 => k0_hw92
def k0_mult50 (v791 : BitVec 32) : BitVec 32 :=
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  v795

def k0_off56 (k0_t3 : Fin k0_t3_loop.trips) (v791 : BitVec 32) : Fin 3 → Nat :=
  let c0_i32_267 : BitVec 32 := 0#32
  let c0_i32_56 : BitVec 32 := 0#32
  let c1_i32_58 : BitVec 32 := 1#32
  let arg12 : BitVec 32 := Scf.iv c0_i32_56 c1_i32_58 k0_t3
  let c16_i32_266 : BitVec 32 := 16#32
  let v797 : BitVec 32 := Scalar.muli arg12 c16_i32_266
  let c14_i32 : BitVec 32 := 14#32
  let v798 : BitVec 32 := Scalar.addi v797 c14_i32
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  let v796 : BitVec 32 := v795
  ![0, v798.toNat, v796.toNat]

def k0_chk93 (k0_t3 : Fin k0_t3_loop.trips) (v791 : BitVec 32) : Prop :=
  (16 ∣ (k0_mult50 v791).toNat) ∧
  (∀ a, (k0_off56 k0_t3 v791) a + S1x1x16.size a ≤ S2x128x320.size a)
theorem k0_mult50_dvd : ∀ (k0_t3 : Fin k0_t3_loop.trips) (v791 : BitVec 32) (k0_hw93 : k0_chk93 k0_t3 v791), 16 ∣ (k0_mult50 v791).toNat := fun k0_t3 v791 k0_hw93 => k0_hw93.1
theorem k0_off56_inb : ∀ (k0_t3 : Fin k0_t3_loop.trips) (v791 : BitVec 32) (k0_hw93 : k0_chk93 k0_t3 v791), ∀ a, (k0_off56 k0_t3 v791) a + S1x1x16.size a ≤ S2x128x320.size a := fun k0_t3 v791 k0_hw93 => k0_hw93.2

def k0_chk94 (v801 : IVec S16 32) : Prop :=
  (∀ a x, ((![v801] : Fin 1 → IVec S16 32) a x).toNat < S16.size a)
theorem k0_idx47_inb : ∀ (v801 : IVec S16 32) (k0_hw94 : k0_chk94 v801), ∀ a x, ((![v801] : Fin 1 → IVec S16 32) a x).toNat < S16.size a := fun v801 k0_hw94 => k0_hw94
def k0_mult51 (v836 : BitVec 32) : BitVec 32 :=
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  v840

def k0_off57 (k0_t3 : Fin k0_t3_loop.trips) (v836 : BitVec 32) : Fin 3 → Nat :=
  let c0_i32_275 : BitVec 32 := 0#32
  let c0_i32_56 : BitVec 32 := 0#32
  let c1_i32_58 : BitVec 32 := 1#32
  let arg12 : BitVec 32 := Scf.iv c0_i32_56 c1_i32_58 k0_t3
  let c16_i32_274 : BitVec 32 := 16#32
  let v842 : BitVec 32 := Scalar.muli arg12 c16_i32_274
  let c15_i32 : BitVec 32 := 15#32
  let v843 : BitVec 32 := Scalar.addi v842 c15_i32
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  let v841 : BitVec 32 := v840
  ![0, v843.toNat, v841.toNat]

def k0_chk95 (k0_t3 : Fin k0_t3_loop.trips) (v836 : BitVec 32) : Prop :=
  (16 ∣ (k0_mult51 v836).toNat) ∧
  (∀ a, (k0_off57 k0_t3 v836) a + S1x1x16.size a ≤ S2x128x320.size a)
theorem k0_mult51_dvd : ∀ (k0_t3 : Fin k0_t3_loop.trips) (v836 : BitVec 32) (k0_hw95 : k0_chk95 k0_t3 v836), 16 ∣ (k0_mult51 v836).toNat := fun k0_t3 v836 k0_hw95 => k0_hw95.1
theorem k0_off57_inb : ∀ (k0_t3 : Fin k0_t3_loop.trips) (v836 : BitVec 32) (k0_hw95 : k0_chk95 k0_t3 v836), ∀ a, (k0_off57 k0_t3 v836) a + S1x1x16.size a ≤ S2x128x320.size a := fun k0_t3 v836 k0_hw95 => k0_hw95.2

def k0_chk96 (v846 : IVec S16 32) : Prop :=
  (∀ a x, ((![v846] : Fin 1 → IVec S16 32) a x).toNat < S16.size a)
theorem k0_idx48_inb : ∀ (v846 : IVec S16 32) (k0_hw96 : k0_chk96 v846), ∀ a x, ((![v846] : Fin 1 → IVec S16 32) a x).toNat < S16.size a := fun v846 k0_hw96 => k0_hw96
@[reducible] def k0_t4_loop : Scf.Loop 32 :=
  let c0_i32_74 : BitVec 32 := 0#32
  let c8_i32_75 : BitVec 32 := 8#32
  let v75 : BitVec 32 := Scalar.addi c0_i32_74 c8_i32_75
  let c1_i32_76 : BitVec 32 := 1#32
  ⟨c0_i32_74, v75, c1_i32_76⟩
def k0_mult52 (k0_t4 : Fin k0_t4_loop.trips) : BitVec 32 :=
  let c384_i32_145 : BitVec 32 := 384#32
  let c0_i32_74 : BitVec 32 := 0#32
  let c1_i32_76 : BitVec 32 := 1#32
  let arg12 : BitVec 32 := Scf.iv c0_i32_74 c1_i32_76 k0_t4
  let c16_i32 : BitVec 32 := 16#32
  let v138 : BitVec 32 := Scalar.muli arg12 c16_i32
  let v139 : BitVec 32 := Scalar.addi c384_i32_145 v138
  v139
def k0_off58 (k0_t4 : Fin k0_t4_loop.trips) : Fin 1 → Nat :=
  let c384_i32_145 : BitVec 32 := 384#32
  let c0_i32_74 : BitVec 32 := 0#32
  let c1_i32_76 : BitVec 32 := 1#32
  let arg12 : BitVec 32 := Scf.iv c0_i32_74 c1_i32_76 k0_t4
  let c16_i32 : BitVec 32 := 16#32
  let v138 : BitVec 32 := Scalar.muli arg12 c16_i32
  let v139 : BitVec 32 := Scalar.addi c384_i32_145 v138
  let v140 : BitVec 32 := v139
  let v141 : Index := Scalar.indexCast v140
  ![v141.toNat]
def k0_off59 (k0_t4 : Fin k0_t4_loop.trips) (c0_i32_146 : BitVec 32) : Fin 1 → Nat :=
  let c384_i32_145 : BitVec 32 := 384#32
  let c0_i32_74 : BitVec 32 := 0#32
  let c1_i32_76 : BitVec 32 := 1#32
  let arg12 : BitVec 32 := Scf.iv c0_i32_74 c1_i32_76 k0_t4
  let c16_i32 : BitVec 32 := 16#32
  let v138 : BitVec 32 := Scalar.muli arg12 c16_i32
  let v139 : BitVec 32 := Scalar.addi c384_i32_145 v138
  let v140 : BitVec 32 := v139
  let v144 : BitVec 32 := Scalar.addi c0_i32_146 v140
  let v145 : Index := Scalar.indexCast v144
  ![v145.toNat]
def k0_mult53 (v161 : BitVec 32) : BitVec 32 :=
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  v165

def k0_off60 (k0_t4 : Fin k0_t4_loop.trips) (v161 : BitVec 32) : Fin 3 → Nat :=
  let c1_i32_151 : BitVec 32 := 1#32
  let c0_i32_74 : BitVec 32 := 0#32
  let c1_i32_76 : BitVec 32 := 1#32
  let arg12 : BitVec 32 := Scf.iv c0_i32_74 c1_i32_76 k0_t4
  let c16_i32_149 : BitVec 32 := 16#32
  let v167 : BitVec 32 := Scalar.muli arg12 c16_i32_149
  let c0_i32_150 : BitVec 32 := 0#32
  let v168 : BitVec 32 := Scalar.addi v167 c0_i32_150
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  let v166 : BitVec 32 := v165
  ![1, v168.toNat, v166.toNat]

def k0_chk97 (k0_t4 : Fin k0_t4_loop.trips) (v161 : BitVec 32) : Prop :=
  (16 ∣ (k0_mult53 v161).toNat) ∧
  (∀ a, (k0_off60 k0_t4 v161) a + S1x1x16.size a ≤ S2x128x320.size a)
theorem k0_mult53_dvd : ∀ (k0_t4 : Fin k0_t4_loop.trips) (v161 : BitVec 32) (k0_hw97 : k0_chk97 k0_t4 v161), 16 ∣ (k0_mult53 v161).toNat := fun k0_t4 v161 k0_hw97 => k0_hw97.1
theorem k0_off60_inb : ∀ (k0_t4 : Fin k0_t4_loop.trips) (v161 : BitVec 32) (k0_hw97 : k0_chk97 k0_t4 v161), ∀ a, (k0_off60 k0_t4 v161) a + S1x1x16.size a ≤ S2x128x320.size a := fun k0_t4 v161 k0_hw97 => k0_hw97.2

def k0_chk98 (v171 : IVec S16 32) : Prop :=
  (∀ a x, ((![v171] : Fin 1 → IVec S16 32) a x).toNat < S16.size a)
theorem k0_idx49_inb : ∀ (v171 : IVec S16 32) (k0_hw98 : k0_chk98 v171), ∀ a x, ((![v171] : Fin 1 → IVec S16 32) a x).toNat < S16.size a := fun v171 k0_hw98 => k0_hw98
def k0_mult54 (v206 : BitVec 32) : BitVec 32 :=
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  v210

def k0_off61 (k0_t4 : Fin k0_t4_loop.trips) (v206 : BitVec 32) : Fin 3 → Nat :=
  let c1_i32_159 : BitVec 32 := 1#32
  let c0_i32_74 : BitVec 32 := 0#32
  let c1_i32_76 : BitVec 32 := 1#32
  let arg12 : BitVec 32 := Scf.iv c0_i32_74 c1_i32_76 k0_t4
  let c16_i32_157 : BitVec 32 := 16#32
  let v212 : BitVec 32 := Scalar.muli arg12 c16_i32_157
  let c1_i32_158 : BitVec 32 := 1#32
  let v213 : BitVec 32 := Scalar.addi v212 c1_i32_158
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  let v211 : BitVec 32 := v210
  ![1, v213.toNat, v211.toNat]

def k0_chk99 (k0_t4 : Fin k0_t4_loop.trips) (v206 : BitVec 32) : Prop :=
  (16 ∣ (k0_mult54 v206).toNat) ∧
  (∀ a, (k0_off61 k0_t4 v206) a + S1x1x16.size a ≤ S2x128x320.size a)
theorem k0_mult54_dvd : ∀ (k0_t4 : Fin k0_t4_loop.trips) (v206 : BitVec 32) (k0_hw99 : k0_chk99 k0_t4 v206), 16 ∣ (k0_mult54 v206).toNat := fun k0_t4 v206 k0_hw99 => k0_hw99.1
theorem k0_off61_inb : ∀ (k0_t4 : Fin k0_t4_loop.trips) (v206 : BitVec 32) (k0_hw99 : k0_chk99 k0_t4 v206), ∀ a, (k0_off61 k0_t4 v206) a + S1x1x16.size a ≤ S2x128x320.size a := fun k0_t4 v206 k0_hw99 => k0_hw99.2

def k0_chk100 (v216 : IVec S16 32) : Prop :=
  (∀ a x, ((![v216] : Fin 1 → IVec S16 32) a x).toNat < S16.size a)
theorem k0_idx50_inb : ∀ (v216 : IVec S16 32) (k0_hw100 : k0_chk100 v216), ∀ a x, ((![v216] : Fin 1 → IVec S16 32) a x).toNat < S16.size a := fun v216 k0_hw100 => k0_hw100
def k0_mult55 (v251 : BitVec 32) : BitVec 32 :=
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  v255

def k0_off62 (k0_t4 : Fin k0_t4_loop.trips) (v251 : BitVec 32) : Fin 3 → Nat :=
  let c1_i32_168 : BitVec 32 := 1#32
  let c0_i32_74 : BitVec 32 := 0#32
  let c1_i32_76 : BitVec 32 := 1#32
  let arg12 : BitVec 32 := Scf.iv c0_i32_74 c1_i32_76 k0_t4
  let c16_i32_166 : BitVec 32 := 16#32
  let v257 : BitVec 32 := Scalar.muli arg12 c16_i32_166
  let c2_i32_167 : BitVec 32 := 2#32
  let v258 : BitVec 32 := Scalar.addi v257 c2_i32_167
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  let v256 : BitVec 32 := v255
  ![1, v258.toNat, v256.toNat]

def k0_chk101 (k0_t4 : Fin k0_t4_loop.trips) (v251 : BitVec 32) : Prop :=
  (16 ∣ (k0_mult55 v251).toNat) ∧
  (∀ a, (k0_off62 k0_t4 v251) a + S1x1x16.size a ≤ S2x128x320.size a)
theorem k0_mult55_dvd : ∀ (k0_t4 : Fin k0_t4_loop.trips) (v251 : BitVec 32) (k0_hw101 : k0_chk101 k0_t4 v251), 16 ∣ (k0_mult55 v251).toNat := fun k0_t4 v251 k0_hw101 => k0_hw101.1
theorem k0_off62_inb : ∀ (k0_t4 : Fin k0_t4_loop.trips) (v251 : BitVec 32) (k0_hw101 : k0_chk101 k0_t4 v251), ∀ a, (k0_off62 k0_t4 v251) a + S1x1x16.size a ≤ S2x128x320.size a := fun k0_t4 v251 k0_hw101 => k0_hw101.2

def k0_chk102 (v261 : IVec S16 32) : Prop :=
  (∀ a x, ((![v261] : Fin 1 → IVec S16 32) a x).toNat < S16.size a)
theorem k0_idx51_inb : ∀ (v261 : IVec S16 32) (k0_hw102 : k0_chk102 v261), ∀ a x, ((![v261] : Fin 1 → IVec S16 32) a x).toNat < S16.size a := fun v261 k0_hw102 => k0_hw102
def k0_mult56 (v296 : BitVec 32) : BitVec 32 :=
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  v300

def k0_off63 (k0_t4 : Fin k0_t4_loop.trips) (v296 : BitVec 32) : Fin 3 → Nat :=
  let c1_i32_177 : BitVec 32 := 1#32
  let c0_i32_74 : BitVec 32 := 0#32
  let c1_i32_76 : BitVec 32 := 1#32
  let arg12 : BitVec 32 := Scf.iv c0_i32_74 c1_i32_76 k0_t4
  let c16_i32_175 : BitVec 32 := 16#32
  let v302 : BitVec 32 := Scalar.muli arg12 c16_i32_175
  let c3_i32_176 : BitVec 32 := 3#32
  let v303 : BitVec 32 := Scalar.addi v302 c3_i32_176
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  let v301 : BitVec 32 := v300
  ![1, v303.toNat, v301.toNat]

def k0_chk103 (k0_t4 : Fin k0_t4_loop.trips) (v296 : BitVec 32) : Prop :=
  (16 ∣ (k0_mult56 v296).toNat) ∧
  (∀ a, (k0_off63 k0_t4 v296) a + S1x1x16.size a ≤ S2x128x320.size a)
theorem k0_mult56_dvd : ∀ (k0_t4 : Fin k0_t4_loop.trips) (v296 : BitVec 32) (k0_hw103 : k0_chk103 k0_t4 v296), 16 ∣ (k0_mult56 v296).toNat := fun k0_t4 v296 k0_hw103 => k0_hw103.1
theorem k0_off63_inb : ∀ (k0_t4 : Fin k0_t4_loop.trips) (v296 : BitVec 32) (k0_hw103 : k0_chk103 k0_t4 v296), ∀ a, (k0_off63 k0_t4 v296) a + S1x1x16.size a ≤ S2x128x320.size a := fun k0_t4 v296 k0_hw103 => k0_hw103.2

def k0_chk104 (v306 : IVec S16 32) : Prop :=
  (∀ a x, ((![v306] : Fin 1 → IVec S16 32) a x).toNat < S16.size a)
theorem k0_idx52_inb : ∀ (v306 : IVec S16 32) (k0_hw104 : k0_chk104 v306), ∀ a x, ((![v306] : Fin 1 → IVec S16 32) a x).toNat < S16.size a := fun v306 k0_hw104 => k0_hw104
def k0_mult57 (v341 : BitVec 32) : BitVec 32 :=
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  v345

def k0_off64 (k0_t4 : Fin k0_t4_loop.trips) (v341 : BitVec 32) : Fin 3 → Nat :=
  let c1_i32_186 : BitVec 32 := 1#32
  let c0_i32_74 : BitVec 32 := 0#32
  let c1_i32_76 : BitVec 32 := 1#32
  let arg12 : BitVec 32 := Scf.iv c0_i32_74 c1_i32_76 k0_t4
  let c16_i32_184 : BitVec 32 := 16#32
  let v347 : BitVec 32 := Scalar.muli arg12 c16_i32_184
  let c4_i32_185 : BitVec 32 := 4#32
  let v348 : BitVec 32 := Scalar.addi v347 c4_i32_185
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  let v346 : BitVec 32 := v345
  ![1, v348.toNat, v346.toNat]

def k0_chk105 (k0_t4 : Fin k0_t4_loop.trips) (v341 : BitVec 32) : Prop :=
  (16 ∣ (k0_mult57 v341).toNat) ∧
  (∀ a, (k0_off64 k0_t4 v341) a + S1x1x16.size a ≤ S2x128x320.size a)
theorem k0_mult57_dvd : ∀ (k0_t4 : Fin k0_t4_loop.trips) (v341 : BitVec 32) (k0_hw105 : k0_chk105 k0_t4 v341), 16 ∣ (k0_mult57 v341).toNat := fun k0_t4 v341 k0_hw105 => k0_hw105.1
theorem k0_off64_inb : ∀ (k0_t4 : Fin k0_t4_loop.trips) (v341 : BitVec 32) (k0_hw105 : k0_chk105 k0_t4 v341), ∀ a, (k0_off64 k0_t4 v341) a + S1x1x16.size a ≤ S2x128x320.size a := fun k0_t4 v341 k0_hw105 => k0_hw105.2

def k0_chk106 (v351 : IVec S16 32) : Prop :=
  (∀ a x, ((![v351] : Fin 1 → IVec S16 32) a x).toNat < S16.size a)
theorem k0_idx53_inb : ∀ (v351 : IVec S16 32) (k0_hw106 : k0_chk106 v351), ∀ a x, ((![v351] : Fin 1 → IVec S16 32) a x).toNat < S16.size a := fun v351 k0_hw106 => k0_hw106
def k0_mult58 (v386 : BitVec 32) : BitVec 32 :=
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  v390

def k0_off65 (k0_t4 : Fin k0_t4_loop.trips) (v386 : BitVec 32) : Fin 3 → Nat :=
  let c1_i32_194 : BitVec 32 := 1#32
  let c0_i32_74 : BitVec 32 := 0#32
  let c1_i32_76 : BitVec 32 := 1#32
  let arg12 : BitVec 32 := Scf.iv c0_i32_74 c1_i32_76 k0_t4
  let c16_i32_193 : BitVec 32 := 16#32
  let v392 : BitVec 32 := Scalar.muli arg12 c16_i32_193
  let c5_i32 : BitVec 32 := 5#32
  let v393 : BitVec 32 := Scalar.addi v392 c5_i32
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  let v391 : BitVec 32 := v390
  ![1, v393.toNat, v391.toNat]

def k0_chk107 (k0_t4 : Fin k0_t4_loop.trips) (v386 : BitVec 32) : Prop :=
  (16 ∣ (k0_mult58 v386).toNat) ∧
  (∀ a, (k0_off65 k0_t4 v386) a + S1x1x16.size a ≤ S2x128x320.size a)
theorem k0_mult58_dvd : ∀ (k0_t4 : Fin k0_t4_loop.trips) (v386 : BitVec 32) (k0_hw107 : k0_chk107 k0_t4 v386), 16 ∣ (k0_mult58 v386).toNat := fun k0_t4 v386 k0_hw107 => k0_hw107.1
theorem k0_off65_inb : ∀ (k0_t4 : Fin k0_t4_loop.trips) (v386 : BitVec 32) (k0_hw107 : k0_chk107 k0_t4 v386), ∀ a, (k0_off65 k0_t4 v386) a + S1x1x16.size a ≤ S2x128x320.size a := fun k0_t4 v386 k0_hw107 => k0_hw107.2

def k0_chk108 (v396 : IVec S16 32) : Prop :=
  (∀ a x, ((![v396] : Fin 1 → IVec S16 32) a x).toNat < S16.size a)
theorem k0_idx54_inb : ∀ (v396 : IVec S16 32) (k0_hw108 : k0_chk108 v396), ∀ a x, ((![v396] : Fin 1 → IVec S16 32) a x).toNat < S16.size a := fun v396 k0_hw108 => k0_hw108
def k0_mult59 (v431 : BitVec 32) : BitVec 32 :=
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  v435

def k0_off66 (k0_t4 : Fin k0_t4_loop.trips) (v431 : BitVec 32) : Fin 3 → Nat :=
  let c1_i32_202 : BitVec 32 := 1#32
  let c0_i32_74 : BitVec 32 := 0#32
  let c1_i32_76 : BitVec 32 := 1#32
  let arg12 : BitVec 32 := Scf.iv c0_i32_74 c1_i32_76 k0_t4
  let c16_i32_201 : BitVec 32 := 16#32
  let v437 : BitVec 32 := Scalar.muli arg12 c16_i32_201
  let c6_i32 : BitVec 32 := 6#32
  let v438 : BitVec 32 := Scalar.addi v437 c6_i32
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  let v436 : BitVec 32 := v435
  ![1, v438.toNat, v436.toNat]

def k0_chk109 (k0_t4 : Fin k0_t4_loop.trips) (v431 : BitVec 32) : Prop :=
  (16 ∣ (k0_mult59 v431).toNat) ∧
  (∀ a, (k0_off66 k0_t4 v431) a + S1x1x16.size a ≤ S2x128x320.size a)
theorem k0_mult59_dvd : ∀ (k0_t4 : Fin k0_t4_loop.trips) (v431 : BitVec 32) (k0_hw109 : k0_chk109 k0_t4 v431), 16 ∣ (k0_mult59 v431).toNat := fun k0_t4 v431 k0_hw109 => k0_hw109.1
theorem k0_off66_inb : ∀ (k0_t4 : Fin k0_t4_loop.trips) (v431 : BitVec 32) (k0_hw109 : k0_chk109 k0_t4 v431), ∀ a, (k0_off66 k0_t4 v431) a + S1x1x16.size a ≤ S2x128x320.size a := fun k0_t4 v431 k0_hw109 => k0_hw109.2

def k0_chk110 (v441 : IVec S16 32) : Prop :=
  (∀ a x, ((![v441] : Fin 1 → IVec S16 32) a x).toNat < S16.size a)
theorem k0_idx55_inb : ∀ (v441 : IVec S16 32) (k0_hw110 : k0_chk110 v441), ∀ a x, ((![v441] : Fin 1 → IVec S16 32) a x).toNat < S16.size a := fun v441 k0_hw110 => k0_hw110
def k0_mult60 (v476 : BitVec 32) : BitVec 32 :=
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  v480

def k0_off67 (k0_t4 : Fin k0_t4_loop.trips) (v476 : BitVec 32) : Fin 3 → Nat :=
  let c1_i32_210 : BitVec 32 := 1#32
  let c0_i32_74 : BitVec 32 := 0#32
  let c1_i32_76 : BitVec 32 := 1#32
  let arg12 : BitVec 32 := Scf.iv c0_i32_74 c1_i32_76 k0_t4
  let c16_i32_209 : BitVec 32 := 16#32
  let v482 : BitVec 32 := Scalar.muli arg12 c16_i32_209
  let c7_i32 : BitVec 32 := 7#32
  let v483 : BitVec 32 := Scalar.addi v482 c7_i32
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  let v481 : BitVec 32 := v480
  ![1, v483.toNat, v481.toNat]

def k0_chk111 (k0_t4 : Fin k0_t4_loop.trips) (v476 : BitVec 32) : Prop :=
  (16 ∣ (k0_mult60 v476).toNat) ∧
  (∀ a, (k0_off67 k0_t4 v476) a + S1x1x16.size a ≤ S2x128x320.size a)
theorem k0_mult60_dvd : ∀ (k0_t4 : Fin k0_t4_loop.trips) (v476 : BitVec 32) (k0_hw111 : k0_chk111 k0_t4 v476), 16 ∣ (k0_mult60 v476).toNat := fun k0_t4 v476 k0_hw111 => k0_hw111.1
theorem k0_off67_inb : ∀ (k0_t4 : Fin k0_t4_loop.trips) (v476 : BitVec 32) (k0_hw111 : k0_chk111 k0_t4 v476), ∀ a, (k0_off67 k0_t4 v476) a + S1x1x16.size a ≤ S2x128x320.size a := fun k0_t4 v476 k0_hw111 => k0_hw111.2

def k0_chk112 (v486 : IVec S16 32) : Prop :=
  (∀ a x, ((![v486] : Fin 1 → IVec S16 32) a x).toNat < S16.size a)
theorem k0_idx56_inb : ∀ (v486 : IVec S16 32) (k0_hw112 : k0_chk112 v486), ∀ a x, ((![v486] : Fin 1 → IVec S16 32) a x).toNat < S16.size a := fun v486 k0_hw112 => k0_hw112
def k0_mult61 (v521 : BitVec 32) : BitVec 32 :=
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  v525

def k0_off68 (k0_t4 : Fin k0_t4_loop.trips) (v521 : BitVec 32) : Fin 3 → Nat :=
  let c1_i32_219 : BitVec 32 := 1#32
  let c0_i32_74 : BitVec 32 := 0#32
  let c1_i32_76 : BitVec 32 := 1#32
  let arg12 : BitVec 32 := Scf.iv c0_i32_74 c1_i32_76 k0_t4
  let c16_i32_217 : BitVec 32 := 16#32
  let v527 : BitVec 32 := Scalar.muli arg12 c16_i32_217
  let c8_i32_218 : BitVec 32 := 8#32
  let v528 : BitVec 32 := Scalar.addi v527 c8_i32_218
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  let v526 : BitVec 32 := v525
  ![1, v528.toNat, v526.toNat]

def k0_chk113 (k0_t4 : Fin k0_t4_loop.trips) (v521 : BitVec 32) : Prop :=
  (16 ∣ (k0_mult61 v521).toNat) ∧
  (∀ a, (k0_off68 k0_t4 v521) a + S1x1x16.size a ≤ S2x128x320.size a)
theorem k0_mult61_dvd : ∀ (k0_t4 : Fin k0_t4_loop.trips) (v521 : BitVec 32) (k0_hw113 : k0_chk113 k0_t4 v521), 16 ∣ (k0_mult61 v521).toNat := fun k0_t4 v521 k0_hw113 => k0_hw113.1
theorem k0_off68_inb : ∀ (k0_t4 : Fin k0_t4_loop.trips) (v521 : BitVec 32) (k0_hw113 : k0_chk113 k0_t4 v521), ∀ a, (k0_off68 k0_t4 v521) a + S1x1x16.size a ≤ S2x128x320.size a := fun k0_t4 v521 k0_hw113 => k0_hw113.2

def k0_chk114 (v531 : IVec S16 32) : Prop :=
  (∀ a x, ((![v531] : Fin 1 → IVec S16 32) a x).toNat < S16.size a)
theorem k0_idx57_inb : ∀ (v531 : IVec S16 32) (k0_hw114 : k0_chk114 v531), ∀ a x, ((![v531] : Fin 1 → IVec S16 32) a x).toNat < S16.size a := fun v531 k0_hw114 => k0_hw114
def k0_mult62 (v566 : BitVec 32) : BitVec 32 :=
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  v570

def k0_off69 (k0_t4 : Fin k0_t4_loop.trips) (v566 : BitVec 32) : Fin 3 → Nat :=
  let c1_i32_227 : BitVec 32 := 1#32
  let c0_i32_74 : BitVec 32 := 0#32
  let c1_i32_76 : BitVec 32 := 1#32
  let arg12 : BitVec 32 := Scf.iv c0_i32_74 c1_i32_76 k0_t4
  let c16_i32_226 : BitVec 32 := 16#32
  let v572 : BitVec 32 := Scalar.muli arg12 c16_i32_226
  let c9_i32 : BitVec 32 := 9#32
  let v573 : BitVec 32 := Scalar.addi v572 c9_i32
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  let v571 : BitVec 32 := v570
  ![1, v573.toNat, v571.toNat]

def k0_chk115 (k0_t4 : Fin k0_t4_loop.trips) (v566 : BitVec 32) : Prop :=
  (16 ∣ (k0_mult62 v566).toNat) ∧
  (∀ a, (k0_off69 k0_t4 v566) a + S1x1x16.size a ≤ S2x128x320.size a)
theorem k0_mult62_dvd : ∀ (k0_t4 : Fin k0_t4_loop.trips) (v566 : BitVec 32) (k0_hw115 : k0_chk115 k0_t4 v566), 16 ∣ (k0_mult62 v566).toNat := fun k0_t4 v566 k0_hw115 => k0_hw115.1
theorem k0_off69_inb : ∀ (k0_t4 : Fin k0_t4_loop.trips) (v566 : BitVec 32) (k0_hw115 : k0_chk115 k0_t4 v566), ∀ a, (k0_off69 k0_t4 v566) a + S1x1x16.size a ≤ S2x128x320.size a := fun k0_t4 v566 k0_hw115 => k0_hw115.2

def k0_chk116 (v576 : IVec S16 32) : Prop :=
  (∀ a x, ((![v576] : Fin 1 → IVec S16 32) a x).toNat < S16.size a)
theorem k0_idx58_inb : ∀ (v576 : IVec S16 32) (k0_hw116 : k0_chk116 v576), ∀ a x, ((![v576] : Fin 1 → IVec S16 32) a x).toNat < S16.size a := fun v576 k0_hw116 => k0_hw116
def k0_mult63 (v611 : BitVec 32) : BitVec 32 :=
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  v615

def k0_off70 (k0_t4 : Fin k0_t4_loop.trips) (v611 : BitVec 32) : Fin 3 → Nat :=
  let c1_i32_235 : BitVec 32 := 1#32
  let c0_i32_74 : BitVec 32 := 0#32
  let c1_i32_76 : BitVec 32 := 1#32
  let arg12 : BitVec 32 := Scf.iv c0_i32_74 c1_i32_76 k0_t4
  let c16_i32_234 : BitVec 32 := 16#32
  let v617 : BitVec 32 := Scalar.muli arg12 c16_i32_234
  let c10_i32 : BitVec 32 := 10#32
  let v618 : BitVec 32 := Scalar.addi v617 c10_i32
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  let v616 : BitVec 32 := v615
  ![1, v618.toNat, v616.toNat]

def k0_chk117 (k0_t4 : Fin k0_t4_loop.trips) (v611 : BitVec 32) : Prop :=
  (16 ∣ (k0_mult63 v611).toNat) ∧
  (∀ a, (k0_off70 k0_t4 v611) a + S1x1x16.size a ≤ S2x128x320.size a)
theorem k0_mult63_dvd : ∀ (k0_t4 : Fin k0_t4_loop.trips) (v611 : BitVec 32) (k0_hw117 : k0_chk117 k0_t4 v611), 16 ∣ (k0_mult63 v611).toNat := fun k0_t4 v611 k0_hw117 => k0_hw117.1
theorem k0_off70_inb : ∀ (k0_t4 : Fin k0_t4_loop.trips) (v611 : BitVec 32) (k0_hw117 : k0_chk117 k0_t4 v611), ∀ a, (k0_off70 k0_t4 v611) a + S1x1x16.size a ≤ S2x128x320.size a := fun k0_t4 v611 k0_hw117 => k0_hw117.2

def k0_chk118 (v621 : IVec S16 32) : Prop :=
  (∀ a x, ((![v621] : Fin 1 → IVec S16 32) a x).toNat < S16.size a)
theorem k0_idx59_inb : ∀ (v621 : IVec S16 32) (k0_hw118 : k0_chk118 v621), ∀ a x, ((![v621] : Fin 1 → IVec S16 32) a x).toNat < S16.size a := fun v621 k0_hw118 => k0_hw118
def k0_mult64 (v656 : BitVec 32) : BitVec 32 :=
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  v660

def k0_off71 (k0_t4 : Fin k0_t4_loop.trips) (v656 : BitVec 32) : Fin 3 → Nat :=
  let c1_i32_243 : BitVec 32 := 1#32
  let c0_i32_74 : BitVec 32 := 0#32
  let c1_i32_76 : BitVec 32 := 1#32
  let arg12 : BitVec 32 := Scf.iv c0_i32_74 c1_i32_76 k0_t4
  let c16_i32_242 : BitVec 32 := 16#32
  let v662 : BitVec 32 := Scalar.muli arg12 c16_i32_242
  let c11_i32 : BitVec 32 := 11#32
  let v663 : BitVec 32 := Scalar.addi v662 c11_i32
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  let v661 : BitVec 32 := v660
  ![1, v663.toNat, v661.toNat]

def k0_chk119 (k0_t4 : Fin k0_t4_loop.trips) (v656 : BitVec 32) : Prop :=
  (16 ∣ (k0_mult64 v656).toNat) ∧
  (∀ a, (k0_off71 k0_t4 v656) a + S1x1x16.size a ≤ S2x128x320.size a)
theorem k0_mult64_dvd : ∀ (k0_t4 : Fin k0_t4_loop.trips) (v656 : BitVec 32) (k0_hw119 : k0_chk119 k0_t4 v656), 16 ∣ (k0_mult64 v656).toNat := fun k0_t4 v656 k0_hw119 => k0_hw119.1
theorem k0_off71_inb : ∀ (k0_t4 : Fin k0_t4_loop.trips) (v656 : BitVec 32) (k0_hw119 : k0_chk119 k0_t4 v656), ∀ a, (k0_off71 k0_t4 v656) a + S1x1x16.size a ≤ S2x128x320.size a := fun k0_t4 v656 k0_hw119 => k0_hw119.2

def k0_chk120 (v666 : IVec S16 32) : Prop :=
  (∀ a x, ((![v666] : Fin 1 → IVec S16 32) a x).toNat < S16.size a)
theorem k0_idx60_inb : ∀ (v666 : IVec S16 32) (k0_hw120 : k0_chk120 v666), ∀ a x, ((![v666] : Fin 1 → IVec S16 32) a x).toNat < S16.size a := fun v666 k0_hw120 => k0_hw120
def k0_mult65 (v701 : BitVec 32) : BitVec 32 :=
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  v705

def k0_off72 (k0_t4 : Fin k0_t4_loop.trips) (v701 : BitVec 32) : Fin 3 → Nat :=
  let c1_i32_251 : BitVec 32 := 1#32
  let c0_i32_74 : BitVec 32 := 0#32
  let c1_i32_76 : BitVec 32 := 1#32
  let arg12 : BitVec 32 := Scf.iv c0_i32_74 c1_i32_76 k0_t4
  let c16_i32_250 : BitVec 32 := 16#32
  let v707 : BitVec 32 := Scalar.muli arg12 c16_i32_250
  let c12_i32 : BitVec 32 := 12#32
  let v708 : BitVec 32 := Scalar.addi v707 c12_i32
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  let v706 : BitVec 32 := v705
  ![1, v708.toNat, v706.toNat]

def k0_chk121 (k0_t4 : Fin k0_t4_loop.trips) (v701 : BitVec 32) : Prop :=
  (16 ∣ (k0_mult65 v701).toNat) ∧
  (∀ a, (k0_off72 k0_t4 v701) a + S1x1x16.size a ≤ S2x128x320.size a)
theorem k0_mult65_dvd : ∀ (k0_t4 : Fin k0_t4_loop.trips) (v701 : BitVec 32) (k0_hw121 : k0_chk121 k0_t4 v701), 16 ∣ (k0_mult65 v701).toNat := fun k0_t4 v701 k0_hw121 => k0_hw121.1
theorem k0_off72_inb : ∀ (k0_t4 : Fin k0_t4_loop.trips) (v701 : BitVec 32) (k0_hw121 : k0_chk121 k0_t4 v701), ∀ a, (k0_off72 k0_t4 v701) a + S1x1x16.size a ≤ S2x128x320.size a := fun k0_t4 v701 k0_hw121 => k0_hw121.2

def k0_chk122 (v711 : IVec S16 32) : Prop :=
  (∀ a x, ((![v711] : Fin 1 → IVec S16 32) a x).toNat < S16.size a)
theorem k0_idx61_inb : ∀ (v711 : IVec S16 32) (k0_hw122 : k0_chk122 v711), ∀ a x, ((![v711] : Fin 1 → IVec S16 32) a x).toNat < S16.size a := fun v711 k0_hw122 => k0_hw122
def k0_mult66 (v746 : BitVec 32) : BitVec 32 :=
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  v750

def k0_off73 (k0_t4 : Fin k0_t4_loop.trips) (v746 : BitVec 32) : Fin 3 → Nat :=
  let c1_i32_259 : BitVec 32 := 1#32
  let c0_i32_74 : BitVec 32 := 0#32
  let c1_i32_76 : BitVec 32 := 1#32
  let arg12 : BitVec 32 := Scf.iv c0_i32_74 c1_i32_76 k0_t4
  let c16_i32_258 : BitVec 32 := 16#32
  let v752 : BitVec 32 := Scalar.muli arg12 c16_i32_258
  let c13_i32 : BitVec 32 := 13#32
  let v753 : BitVec 32 := Scalar.addi v752 c13_i32
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  let v751 : BitVec 32 := v750
  ![1, v753.toNat, v751.toNat]

def k0_chk123 (k0_t4 : Fin k0_t4_loop.trips) (v746 : BitVec 32) : Prop :=
  (16 ∣ (k0_mult66 v746).toNat) ∧
  (∀ a, (k0_off73 k0_t4 v746) a + S1x1x16.size a ≤ S2x128x320.size a)
theorem k0_mult66_dvd : ∀ (k0_t4 : Fin k0_t4_loop.trips) (v746 : BitVec 32) (k0_hw123 : k0_chk123 k0_t4 v746), 16 ∣ (k0_mult66 v746).toNat := fun k0_t4 v746 k0_hw123 => k0_hw123.1
theorem k0_off73_inb : ∀ (k0_t4 : Fin k0_t4_loop.trips) (v746 : BitVec 32) (k0_hw123 : k0_chk123 k0_t4 v746), ∀ a, (k0_off73 k0_t4 v746) a + S1x1x16.size a ≤ S2x128x320.size a := fun k0_t4 v746 k0_hw123 => k0_hw123.2

def k0_chk124 (v756 : IVec S16 32) : Prop :=
  (∀ a x, ((![v756] : Fin 1 → IVec S16 32) a x).toNat < S16.size a)
theorem k0_idx62_inb : ∀ (v756 : IVec S16 32) (k0_hw124 : k0_chk124 v756), ∀ a x, ((![v756] : Fin 1 → IVec S16 32) a x).toNat < S16.size a := fun v756 k0_hw124 => k0_hw124
def k0_mult67 (v791 : BitVec 32) : BitVec 32 :=
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  v795

def k0_off74 (k0_t4 : Fin k0_t4_loop.trips) (v791 : BitVec 32) : Fin 3 → Nat :=
  let c1_i32_267 : BitVec 32 := 1#32
  let c0_i32_74 : BitVec 32 := 0#32
  let c1_i32_76 : BitVec 32 := 1#32
  let arg12 : BitVec 32 := Scf.iv c0_i32_74 c1_i32_76 k0_t4
  let c16_i32_266 : BitVec 32 := 16#32
  let v797 : BitVec 32 := Scalar.muli arg12 c16_i32_266
  let c14_i32 : BitVec 32 := 14#32
  let v798 : BitVec 32 := Scalar.addi v797 c14_i32
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  let v796 : BitVec 32 := v795
  ![1, v798.toNat, v796.toNat]

def k0_chk125 (k0_t4 : Fin k0_t4_loop.trips) (v791 : BitVec 32) : Prop :=
  (16 ∣ (k0_mult67 v791).toNat) ∧
  (∀ a, (k0_off74 k0_t4 v791) a + S1x1x16.size a ≤ S2x128x320.size a)
theorem k0_mult67_dvd : ∀ (k0_t4 : Fin k0_t4_loop.trips) (v791 : BitVec 32) (k0_hw125 : k0_chk125 k0_t4 v791), 16 ∣ (k0_mult67 v791).toNat := fun k0_t4 v791 k0_hw125 => k0_hw125.1
theorem k0_off74_inb : ∀ (k0_t4 : Fin k0_t4_loop.trips) (v791 : BitVec 32) (k0_hw125 : k0_chk125 k0_t4 v791), ∀ a, (k0_off74 k0_t4 v791) a + S1x1x16.size a ≤ S2x128x320.size a := fun k0_t4 v791 k0_hw125 => k0_hw125.2

def k0_chk126 (v801 : IVec S16 32) : Prop :=
  (∀ a x, ((![v801] : Fin 1 → IVec S16 32) a x).toNat < S16.size a)
theorem k0_idx63_inb : ∀ (v801 : IVec S16 32) (k0_hw126 : k0_chk126 v801), ∀ a x, ((![v801] : Fin 1 → IVec S16 32) a x).toNat < S16.size a := fun v801 k0_hw126 => k0_hw126
def k0_mult68 (v836 : BitVec 32) : BitVec 32 :=
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  v840

def k0_off75 (k0_t4 : Fin k0_t4_loop.trips) (v836 : BitVec 32) : Fin 3 → Nat :=
  let c1_i32_275 : BitVec 32 := 1#32
  let c0_i32_74 : BitVec 32 := 0#32
  let c1_i32_76 : BitVec 32 := 1#32
  let arg12 : BitVec 32 := Scf.iv c0_i32_74 c1_i32_76 k0_t4
  let c16_i32_274 : BitVec 32 := 16#32
  let v842 : BitVec 32 := Scalar.muli arg12 c16_i32_274
  let c15_i32 : BitVec 32 := 15#32
  let v843 : BitVec 32 := Scalar.addi v842 c15_i32
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  let v841 : BitVec 32 := v840
  ![1, v843.toNat, v841.toNat]

def k0_chk127 (k0_t4 : Fin k0_t4_loop.trips) (v836 : BitVec 32) : Prop :=
  (16 ∣ (k0_mult68 v836).toNat) ∧
  (∀ a, (k0_off75 k0_t4 v836) a + S1x1x16.size a ≤ S2x128x320.size a)
theorem k0_mult68_dvd : ∀ (k0_t4 : Fin k0_t4_loop.trips) (v836 : BitVec 32) (k0_hw127 : k0_chk127 k0_t4 v836), 16 ∣ (k0_mult68 v836).toNat := fun k0_t4 v836 k0_hw127 => k0_hw127.1
theorem k0_off75_inb : ∀ (k0_t4 : Fin k0_t4_loop.trips) (v836 : BitVec 32) (k0_hw127 : k0_chk127 k0_t4 v836), ∀ a, (k0_off75 k0_t4 v836) a + S1x1x16.size a ≤ S2x128x320.size a := fun k0_t4 v836 k0_hw127 => k0_hw127.2

def k0_chk128 (v846 : IVec S16 32) : Prop :=
  (∀ a x, ((![v846] : Fin 1 → IVec S16 32) a x).toNat < S16.size a)
theorem k0_idx64_inb : ∀ (v846 : IVec S16 32) (k0_hw128 : k0_chk128 v846), ∀ a x, ((![v846] : Fin 1 → IVec S16 32) a x).toNat < S16.size a := fun v846 k0_hw128 => k0_hw128
@[reducible] def k0_t5_loop : Scf.Loop 32 :=
  let c0_i32_92 : BitVec 32 := 0#32
  let c8_i32_93 : BitVec 32 := 8#32
  let v90 : BitVec 32 := Scalar.addi c0_i32_92 c8_i32_93
  let c1_i32_94 : BitVec 32 := 1#32
  ⟨c0_i32_92, v90, c1_i32_94⟩
def k0_mult69 (k0_t5 : Fin k0_t5_loop.trips) : BitVec 32 :=
  let c512_i32_145 : BitVec 32 := 512#32
  let c0_i32_92 : BitVec 32 := 0#32
  let c1_i32_94 : BitVec 32 := 1#32
  let arg12 : BitVec 32 := Scf.iv c0_i32_92 c1_i32_94 k0_t5
  let c16_i32 : BitVec 32 := 16#32
  let v138 : BitVec 32 := Scalar.muli arg12 c16_i32
  let v139 : BitVec 32 := Scalar.addi c512_i32_145 v138
  v139
def k0_off76 (k0_t5 : Fin k0_t5_loop.trips) : Fin 1 → Nat :=
  let c512_i32_145 : BitVec 32 := 512#32
  let c0_i32_92 : BitVec 32 := 0#32
  let c1_i32_94 : BitVec 32 := 1#32
  let arg12 : BitVec 32 := Scf.iv c0_i32_92 c1_i32_94 k0_t5
  let c16_i32 : BitVec 32 := 16#32
  let v138 : BitVec 32 := Scalar.muli arg12 c16_i32
  let v139 : BitVec 32 := Scalar.addi c512_i32_145 v138
  let v140 : BitVec 32 := v139
  let v141 : Index := Scalar.indexCast v140
  ![v141.toNat]
def k0_off77 (k0_t5 : Fin k0_t5_loop.trips) (c0_i32_146 : BitVec 32) : Fin 1 → Nat :=
  let c512_i32_145 : BitVec 32 := 512#32
  let c0_i32_92 : BitVec 32 := 0#32
  let c1_i32_94 : BitVec 32 := 1#32
  let arg12 : BitVec 32 := Scf.iv c0_i32_92 c1_i32_94 k0_t5
  let c16_i32 : BitVec 32 := 16#32
  let v138 : BitVec 32 := Scalar.muli arg12 c16_i32
  let v139 : BitVec 32 := Scalar.addi c512_i32_145 v138
  let v140 : BitVec 32 := v139
  let v144 : BitVec 32 := Scalar.addi c0_i32_146 v140
  let v145 : Index := Scalar.indexCast v144
  ![v145.toNat]
def k0_mult70 (v161 : BitVec 32) : BitVec 32 :=
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  v165

def k0_off78 (k0_t5 : Fin k0_t5_loop.trips) (v161 : BitVec 32) : Fin 3 → Nat :=
  let c0_i32_151 : BitVec 32 := 0#32
  let c0_i32_92 : BitVec 32 := 0#32
  let c1_i32_94 : BitVec 32 := 1#32
  let arg12 : BitVec 32 := Scf.iv c0_i32_92 c1_i32_94 k0_t5
  let c16_i32_149 : BitVec 32 := 16#32
  let v167 : BitVec 32 := Scalar.muli arg12 c16_i32_149
  let c0_i32_150 : BitVec 32 := 0#32
  let v168 : BitVec 32 := Scalar.addi v167 c0_i32_150
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  let v166 : BitVec 32 := v165
  ![0, v168.toNat, v166.toNat]

def k0_chk129 (k0_t5 : Fin k0_t5_loop.trips) (v161 : BitVec 32) : Prop :=
  (16 ∣ (k0_mult70 v161).toNat) ∧
  (∀ a, (k0_off78 k0_t5 v161) a + S1x1x16.size a ≤ S2x128x320.size a)
theorem k0_mult70_dvd : ∀ (k0_t5 : Fin k0_t5_loop.trips) (v161 : BitVec 32) (k0_hw129 : k0_chk129 k0_t5 v161), 16 ∣ (k0_mult70 v161).toNat := fun k0_t5 v161 k0_hw129 => k0_hw129.1
theorem k0_off78_inb : ∀ (k0_t5 : Fin k0_t5_loop.trips) (v161 : BitVec 32) (k0_hw129 : k0_chk129 k0_t5 v161), ∀ a, (k0_off78 k0_t5 v161) a + S1x1x16.size a ≤ S2x128x320.size a := fun k0_t5 v161 k0_hw129 => k0_hw129.2

def k0_chk130 (v171 : IVec S16 32) : Prop :=
  (∀ a x, ((![v171] : Fin 1 → IVec S16 32) a x).toNat < S16.size a)
theorem k0_idx65_inb : ∀ (v171 : IVec S16 32) (k0_hw130 : k0_chk130 v171), ∀ a x, ((![v171] : Fin 1 → IVec S16 32) a x).toNat < S16.size a := fun v171 k0_hw130 => k0_hw130
def k0_mult71 (v206 : BitVec 32) : BitVec 32 :=
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  v210

def k0_off79 (k0_t5 : Fin k0_t5_loop.trips) (v206 : BitVec 32) : Fin 3 → Nat :=
  let c0_i32_159 : BitVec 32 := 0#32
  let c0_i32_92 : BitVec 32 := 0#32
  let c1_i32_94 : BitVec 32 := 1#32
  let arg12 : BitVec 32 := Scf.iv c0_i32_92 c1_i32_94 k0_t5
  let c16_i32_157 : BitVec 32 := 16#32
  let v212 : BitVec 32 := Scalar.muli arg12 c16_i32_157
  let c1_i32_158 : BitVec 32 := 1#32
  let v213 : BitVec 32 := Scalar.addi v212 c1_i32_158
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  let v211 : BitVec 32 := v210
  ![0, v213.toNat, v211.toNat]

def k0_chk131 (k0_t5 : Fin k0_t5_loop.trips) (v206 : BitVec 32) : Prop :=
  (16 ∣ (k0_mult71 v206).toNat) ∧
  (∀ a, (k0_off79 k0_t5 v206) a + S1x1x16.size a ≤ S2x128x320.size a)
theorem k0_mult71_dvd : ∀ (k0_t5 : Fin k0_t5_loop.trips) (v206 : BitVec 32) (k0_hw131 : k0_chk131 k0_t5 v206), 16 ∣ (k0_mult71 v206).toNat := fun k0_t5 v206 k0_hw131 => k0_hw131.1
theorem k0_off79_inb : ∀ (k0_t5 : Fin k0_t5_loop.trips) (v206 : BitVec 32) (k0_hw131 : k0_chk131 k0_t5 v206), ∀ a, (k0_off79 k0_t5 v206) a + S1x1x16.size a ≤ S2x128x320.size a := fun k0_t5 v206 k0_hw131 => k0_hw131.2

def k0_chk132 (v216 : IVec S16 32) : Prop :=
  (∀ a x, ((![v216] : Fin 1 → IVec S16 32) a x).toNat < S16.size a)
theorem k0_idx66_inb : ∀ (v216 : IVec S16 32) (k0_hw132 : k0_chk132 v216), ∀ a x, ((![v216] : Fin 1 → IVec S16 32) a x).toNat < S16.size a := fun v216 k0_hw132 => k0_hw132
def k0_mult72 (v251 : BitVec 32) : BitVec 32 :=
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  v255

def k0_off80 (k0_t5 : Fin k0_t5_loop.trips) (v251 : BitVec 32) : Fin 3 → Nat :=
  let c0_i32_168 : BitVec 32 := 0#32
  let c0_i32_92 : BitVec 32 := 0#32
  let c1_i32_94 : BitVec 32 := 1#32
  let arg12 : BitVec 32 := Scf.iv c0_i32_92 c1_i32_94 k0_t5
  let c16_i32_166 : BitVec 32 := 16#32
  let v257 : BitVec 32 := Scalar.muli arg12 c16_i32_166
  let c2_i32_167 : BitVec 32 := 2#32
  let v258 : BitVec 32 := Scalar.addi v257 c2_i32_167
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  let v256 : BitVec 32 := v255
  ![0, v258.toNat, v256.toNat]

def k0_chk133 (k0_t5 : Fin k0_t5_loop.trips) (v251 : BitVec 32) : Prop :=
  (16 ∣ (k0_mult72 v251).toNat) ∧
  (∀ a, (k0_off80 k0_t5 v251) a + S1x1x16.size a ≤ S2x128x320.size a)
theorem k0_mult72_dvd : ∀ (k0_t5 : Fin k0_t5_loop.trips) (v251 : BitVec 32) (k0_hw133 : k0_chk133 k0_t5 v251), 16 ∣ (k0_mult72 v251).toNat := fun k0_t5 v251 k0_hw133 => k0_hw133.1
theorem k0_off80_inb : ∀ (k0_t5 : Fin k0_t5_loop.trips) (v251 : BitVec 32) (k0_hw133 : k0_chk133 k0_t5 v251), ∀ a, (k0_off80 k0_t5 v251) a + S1x1x16.size a ≤ S2x128x320.size a := fun k0_t5 v251 k0_hw133 => k0_hw133.2

def k0_chk134 (v261 : IVec S16 32) : Prop :=
  (∀ a x, ((![v261] : Fin 1 → IVec S16 32) a x).toNat < S16.size a)
theorem k0_idx67_inb : ∀ (v261 : IVec S16 32) (k0_hw134 : k0_chk134 v261), ∀ a x, ((![v261] : Fin 1 → IVec S16 32) a x).toNat < S16.size a := fun v261 k0_hw134 => k0_hw134
def k0_mult73 (v296 : BitVec 32) : BitVec 32 :=
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  v300

def k0_off81 (k0_t5 : Fin k0_t5_loop.trips) (v296 : BitVec 32) : Fin 3 → Nat :=
  let c0_i32_177 : BitVec 32 := 0#32
  let c0_i32_92 : BitVec 32 := 0#32
  let c1_i32_94 : BitVec 32 := 1#32
  let arg12 : BitVec 32 := Scf.iv c0_i32_92 c1_i32_94 k0_t5
  let c16_i32_175 : BitVec 32 := 16#32
  let v302 : BitVec 32 := Scalar.muli arg12 c16_i32_175
  let c3_i32_176 : BitVec 32 := 3#32
  let v303 : BitVec 32 := Scalar.addi v302 c3_i32_176
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  let v301 : BitVec 32 := v300
  ![0, v303.toNat, v301.toNat]

def k0_chk135 (k0_t5 : Fin k0_t5_loop.trips) (v296 : BitVec 32) : Prop :=
  (16 ∣ (k0_mult73 v296).toNat) ∧
  (∀ a, (k0_off81 k0_t5 v296) a + S1x1x16.size a ≤ S2x128x320.size a)
theorem k0_mult73_dvd : ∀ (k0_t5 : Fin k0_t5_loop.trips) (v296 : BitVec 32) (k0_hw135 : k0_chk135 k0_t5 v296), 16 ∣ (k0_mult73 v296).toNat := fun k0_t5 v296 k0_hw135 => k0_hw135.1
theorem k0_off81_inb : ∀ (k0_t5 : Fin k0_t5_loop.trips) (v296 : BitVec 32) (k0_hw135 : k0_chk135 k0_t5 v296), ∀ a, (k0_off81 k0_t5 v296) a + S1x1x16.size a ≤ S2x128x320.size a := fun k0_t5 v296 k0_hw135 => k0_hw135.2

def k0_chk136 (v306 : IVec S16 32) : Prop :=
  (∀ a x, ((![v306] : Fin 1 → IVec S16 32) a x).toNat < S16.size a)
theorem k0_idx68_inb : ∀ (v306 : IVec S16 32) (k0_hw136 : k0_chk136 v306), ∀ a x, ((![v306] : Fin 1 → IVec S16 32) a x).toNat < S16.size a := fun v306 k0_hw136 => k0_hw136
def k0_mult74 (v341 : BitVec 32) : BitVec 32 :=
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  v345

def k0_off82 (k0_t5 : Fin k0_t5_loop.trips) (v341 : BitVec 32) : Fin 3 → Nat :=
  let c0_i32_186 : BitVec 32 := 0#32
  let c0_i32_92 : BitVec 32 := 0#32
  let c1_i32_94 : BitVec 32 := 1#32
  let arg12 : BitVec 32 := Scf.iv c0_i32_92 c1_i32_94 k0_t5
  let c16_i32_184 : BitVec 32 := 16#32
  let v347 : BitVec 32 := Scalar.muli arg12 c16_i32_184
  let c4_i32_185 : BitVec 32 := 4#32
  let v348 : BitVec 32 := Scalar.addi v347 c4_i32_185
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  let v346 : BitVec 32 := v345
  ![0, v348.toNat, v346.toNat]

def k0_chk137 (k0_t5 : Fin k0_t5_loop.trips) (v341 : BitVec 32) : Prop :=
  (16 ∣ (k0_mult74 v341).toNat) ∧
  (∀ a, (k0_off82 k0_t5 v341) a + S1x1x16.size a ≤ S2x128x320.size a)
theorem k0_mult74_dvd : ∀ (k0_t5 : Fin k0_t5_loop.trips) (v341 : BitVec 32) (k0_hw137 : k0_chk137 k0_t5 v341), 16 ∣ (k0_mult74 v341).toNat := fun k0_t5 v341 k0_hw137 => k0_hw137.1
theorem k0_off82_inb : ∀ (k0_t5 : Fin k0_t5_loop.trips) (v341 : BitVec 32) (k0_hw137 : k0_chk137 k0_t5 v341), ∀ a, (k0_off82 k0_t5 v341) a + S1x1x16.size a ≤ S2x128x320.size a := fun k0_t5 v341 k0_hw137 => k0_hw137.2

def k0_chk138 (v351 : IVec S16 32) : Prop :=
  (∀ a x, ((![v351] : Fin 1 → IVec S16 32) a x).toNat < S16.size a)
theorem k0_idx69_inb : ∀ (v351 : IVec S16 32) (k0_hw138 : k0_chk138 v351), ∀ a x, ((![v351] : Fin 1 → IVec S16 32) a x).toNat < S16.size a := fun v351 k0_hw138 => k0_hw138
def k0_mult75 (v386 : BitVec 32) : BitVec 32 :=
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  v390

def k0_off83 (k0_t5 : Fin k0_t5_loop.trips) (v386 : BitVec 32) : Fin 3 → Nat :=
  let c0_i32_194 : BitVec 32 := 0#32
  let c0_i32_92 : BitVec 32 := 0#32
  let c1_i32_94 : BitVec 32 := 1#32
  let arg12 : BitVec 32 := Scf.iv c0_i32_92 c1_i32_94 k0_t5
  let c16_i32_193 : BitVec 32 := 16#32
  let v392 : BitVec 32 := Scalar.muli arg12 c16_i32_193
  let c5_i32 : BitVec 32 := 5#32
  let v393 : BitVec 32 := Scalar.addi v392 c5_i32
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  let v391 : BitVec 32 := v390
  ![0, v393.toNat, v391.toNat]

def k0_chk139 (k0_t5 : Fin k0_t5_loop.trips) (v386 : BitVec 32) : Prop :=
  (16 ∣ (k0_mult75 v386).toNat) ∧
  (∀ a, (k0_off83 k0_t5 v386) a + S1x1x16.size a ≤ S2x128x320.size a)
theorem k0_mult75_dvd : ∀ (k0_t5 : Fin k0_t5_loop.trips) (v386 : BitVec 32) (k0_hw139 : k0_chk139 k0_t5 v386), 16 ∣ (k0_mult75 v386).toNat := fun k0_t5 v386 k0_hw139 => k0_hw139.1
theorem k0_off83_inb : ∀ (k0_t5 : Fin k0_t5_loop.trips) (v386 : BitVec 32) (k0_hw139 : k0_chk139 k0_t5 v386), ∀ a, (k0_off83 k0_t5 v386) a + S1x1x16.size a ≤ S2x128x320.size a := fun k0_t5 v386 k0_hw139 => k0_hw139.2

def k0_chk140 (v396 : IVec S16 32) : Prop :=
  (∀ a x, ((![v396] : Fin 1 → IVec S16 32) a x).toNat < S16.size a)
theorem k0_idx70_inb : ∀ (v396 : IVec S16 32) (k0_hw140 : k0_chk140 v396), ∀ a x, ((![v396] : Fin 1 → IVec S16 32) a x).toNat < S16.size a := fun v396 k0_hw140 => k0_hw140
def k0_mult76 (v431 : BitVec 32) : BitVec 32 :=
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  v435

def k0_off84 (k0_t5 : Fin k0_t5_loop.trips) (v431 : BitVec 32) : Fin 3 → Nat :=
  let c0_i32_202 : BitVec 32 := 0#32
  let c0_i32_92 : BitVec 32 := 0#32
  let c1_i32_94 : BitVec 32 := 1#32
  let arg12 : BitVec 32 := Scf.iv c0_i32_92 c1_i32_94 k0_t5
  let c16_i32_201 : BitVec 32 := 16#32
  let v437 : BitVec 32 := Scalar.muli arg12 c16_i32_201
  let c6_i32 : BitVec 32 := 6#32
  let v438 : BitVec 32 := Scalar.addi v437 c6_i32
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  let v436 : BitVec 32 := v435
  ![0, v438.toNat, v436.toNat]

def k0_chk141 (k0_t5 : Fin k0_t5_loop.trips) (v431 : BitVec 32) : Prop :=
  (16 ∣ (k0_mult76 v431).toNat) ∧
  (∀ a, (k0_off84 k0_t5 v431) a + S1x1x16.size a ≤ S2x128x320.size a)
theorem k0_mult76_dvd : ∀ (k0_t5 : Fin k0_t5_loop.trips) (v431 : BitVec 32) (k0_hw141 : k0_chk141 k0_t5 v431), 16 ∣ (k0_mult76 v431).toNat := fun k0_t5 v431 k0_hw141 => k0_hw141.1
theorem k0_off84_inb : ∀ (k0_t5 : Fin k0_t5_loop.trips) (v431 : BitVec 32) (k0_hw141 : k0_chk141 k0_t5 v431), ∀ a, (k0_off84 k0_t5 v431) a + S1x1x16.size a ≤ S2x128x320.size a := fun k0_t5 v431 k0_hw141 => k0_hw141.2

def k0_chk142 (v441 : IVec S16 32) : Prop :=
  (∀ a x, ((![v441] : Fin 1 → IVec S16 32) a x).toNat < S16.size a)
theorem k0_idx71_inb : ∀ (v441 : IVec S16 32) (k0_hw142 : k0_chk142 v441), ∀ a x, ((![v441] : Fin 1 → IVec S16 32) a x).toNat < S16.size a := fun v441 k0_hw142 => k0_hw142
def k0_mult77 (v476 : BitVec 32) : BitVec 32 :=
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  v480

def k0_off85 (k0_t5 : Fin k0_t5_loop.trips) (v476 : BitVec 32) : Fin 3 → Nat :=
  let c0_i32_210 : BitVec 32 := 0#32
  let c0_i32_92 : BitVec 32 := 0#32
  let c1_i32_94 : BitVec 32 := 1#32
  let arg12 : BitVec 32 := Scf.iv c0_i32_92 c1_i32_94 k0_t5
  let c16_i32_209 : BitVec 32 := 16#32
  let v482 : BitVec 32 := Scalar.muli arg12 c16_i32_209
  let c7_i32 : BitVec 32 := 7#32
  let v483 : BitVec 32 := Scalar.addi v482 c7_i32
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  let v481 : BitVec 32 := v480
  ![0, v483.toNat, v481.toNat]

def k0_chk143 (k0_t5 : Fin k0_t5_loop.trips) (v476 : BitVec 32) : Prop :=
  (16 ∣ (k0_mult77 v476).toNat) ∧
  (∀ a, (k0_off85 k0_t5 v476) a + S1x1x16.size a ≤ S2x128x320.size a)
theorem k0_mult77_dvd : ∀ (k0_t5 : Fin k0_t5_loop.trips) (v476 : BitVec 32) (k0_hw143 : k0_chk143 k0_t5 v476), 16 ∣ (k0_mult77 v476).toNat := fun k0_t5 v476 k0_hw143 => k0_hw143.1
theorem k0_off85_inb : ∀ (k0_t5 : Fin k0_t5_loop.trips) (v476 : BitVec 32) (k0_hw143 : k0_chk143 k0_t5 v476), ∀ a, (k0_off85 k0_t5 v476) a + S1x1x16.size a ≤ S2x128x320.size a := fun k0_t5 v476 k0_hw143 => k0_hw143.2

def k0_chk144 (v486 : IVec S16 32) : Prop :=
  (∀ a x, ((![v486] : Fin 1 → IVec S16 32) a x).toNat < S16.size a)
theorem k0_idx72_inb : ∀ (v486 : IVec S16 32) (k0_hw144 : k0_chk144 v486), ∀ a x, ((![v486] : Fin 1 → IVec S16 32) a x).toNat < S16.size a := fun v486 k0_hw144 => k0_hw144
def k0_mult78 (v521 : BitVec 32) : BitVec 32 :=
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  v525

def k0_off86 (k0_t5 : Fin k0_t5_loop.trips) (v521 : BitVec 32) : Fin 3 → Nat :=
  let c0_i32_219 : BitVec 32 := 0#32
  let c0_i32_92 : BitVec 32 := 0#32
  let c1_i32_94 : BitVec 32 := 1#32
  let arg12 : BitVec 32 := Scf.iv c0_i32_92 c1_i32_94 k0_t5
  let c16_i32_217 : BitVec 32 := 16#32
  let v527 : BitVec 32 := Scalar.muli arg12 c16_i32_217
  let c8_i32_218 : BitVec 32 := 8#32
  let v528 : BitVec 32 := Scalar.addi v527 c8_i32_218
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  let v526 : BitVec 32 := v525
  ![0, v528.toNat, v526.toNat]

def k0_chk145 (k0_t5 : Fin k0_t5_loop.trips) (v521 : BitVec 32) : Prop :=
  (16 ∣ (k0_mult78 v521).toNat) ∧
  (∀ a, (k0_off86 k0_t5 v521) a + S1x1x16.size a ≤ S2x128x320.size a)
theorem k0_mult78_dvd : ∀ (k0_t5 : Fin k0_t5_loop.trips) (v521 : BitVec 32) (k0_hw145 : k0_chk145 k0_t5 v521), 16 ∣ (k0_mult78 v521).toNat := fun k0_t5 v521 k0_hw145 => k0_hw145.1
theorem k0_off86_inb : ∀ (k0_t5 : Fin k0_t5_loop.trips) (v521 : BitVec 32) (k0_hw145 : k0_chk145 k0_t5 v521), ∀ a, (k0_off86 k0_t5 v521) a + S1x1x16.size a ≤ S2x128x320.size a := fun k0_t5 v521 k0_hw145 => k0_hw145.2

def k0_chk146 (v531 : IVec S16 32) : Prop :=
  (∀ a x, ((![v531] : Fin 1 → IVec S16 32) a x).toNat < S16.size a)
theorem k0_idx73_inb : ∀ (v531 : IVec S16 32) (k0_hw146 : k0_chk146 v531), ∀ a x, ((![v531] : Fin 1 → IVec S16 32) a x).toNat < S16.size a := fun v531 k0_hw146 => k0_hw146
def k0_mult79 (v566 : BitVec 32) : BitVec 32 :=
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  v570

def k0_off87 (k0_t5 : Fin k0_t5_loop.trips) (v566 : BitVec 32) : Fin 3 → Nat :=
  let c0_i32_227 : BitVec 32 := 0#32
  let c0_i32_92 : BitVec 32 := 0#32
  let c1_i32_94 : BitVec 32 := 1#32
  let arg12 : BitVec 32 := Scf.iv c0_i32_92 c1_i32_94 k0_t5
  let c16_i32_226 : BitVec 32 := 16#32
  let v572 : BitVec 32 := Scalar.muli arg12 c16_i32_226
  let c9_i32 : BitVec 32 := 9#32
  let v573 : BitVec 32 := Scalar.addi v572 c9_i32
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  let v571 : BitVec 32 := v570
  ![0, v573.toNat, v571.toNat]

def k0_chk147 (k0_t5 : Fin k0_t5_loop.trips) (v566 : BitVec 32) : Prop :=
  (16 ∣ (k0_mult79 v566).toNat) ∧
  (∀ a, (k0_off87 k0_t5 v566) a + S1x1x16.size a ≤ S2x128x320.size a)
theorem k0_mult79_dvd : ∀ (k0_t5 : Fin k0_t5_loop.trips) (v566 : BitVec 32) (k0_hw147 : k0_chk147 k0_t5 v566), 16 ∣ (k0_mult79 v566).toNat := fun k0_t5 v566 k0_hw147 => k0_hw147.1
theorem k0_off87_inb : ∀ (k0_t5 : Fin k0_t5_loop.trips) (v566 : BitVec 32) (k0_hw147 : k0_chk147 k0_t5 v566), ∀ a, (k0_off87 k0_t5 v566) a + S1x1x16.size a ≤ S2x128x320.size a := fun k0_t5 v566 k0_hw147 => k0_hw147.2

def k0_chk148 (v576 : IVec S16 32) : Prop :=
  (∀ a x, ((![v576] : Fin 1 → IVec S16 32) a x).toNat < S16.size a)
theorem k0_idx74_inb : ∀ (v576 : IVec S16 32) (k0_hw148 : k0_chk148 v576), ∀ a x, ((![v576] : Fin 1 → IVec S16 32) a x).toNat < S16.size a := fun v576 k0_hw148 => k0_hw148
def k0_mult80 (v611 : BitVec 32) : BitVec 32 :=
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  v615

def k0_off88 (k0_t5 : Fin k0_t5_loop.trips) (v611 : BitVec 32) : Fin 3 → Nat :=
  let c0_i32_235 : BitVec 32 := 0#32
  let c0_i32_92 : BitVec 32 := 0#32
  let c1_i32_94 : BitVec 32 := 1#32
  let arg12 : BitVec 32 := Scf.iv c0_i32_92 c1_i32_94 k0_t5
  let c16_i32_234 : BitVec 32 := 16#32
  let v617 : BitVec 32 := Scalar.muli arg12 c16_i32_234
  let c10_i32 : BitVec 32 := 10#32
  let v618 : BitVec 32 := Scalar.addi v617 c10_i32
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  let v616 : BitVec 32 := v615
  ![0, v618.toNat, v616.toNat]

def k0_chk149 (k0_t5 : Fin k0_t5_loop.trips) (v611 : BitVec 32) : Prop :=
  (16 ∣ (k0_mult80 v611).toNat) ∧
  (∀ a, (k0_off88 k0_t5 v611) a + S1x1x16.size a ≤ S2x128x320.size a)
theorem k0_mult80_dvd : ∀ (k0_t5 : Fin k0_t5_loop.trips) (v611 : BitVec 32) (k0_hw149 : k0_chk149 k0_t5 v611), 16 ∣ (k0_mult80 v611).toNat := fun k0_t5 v611 k0_hw149 => k0_hw149.1
theorem k0_off88_inb : ∀ (k0_t5 : Fin k0_t5_loop.trips) (v611 : BitVec 32) (k0_hw149 : k0_chk149 k0_t5 v611), ∀ a, (k0_off88 k0_t5 v611) a + S1x1x16.size a ≤ S2x128x320.size a := fun k0_t5 v611 k0_hw149 => k0_hw149.2

def k0_chk150 (v621 : IVec S16 32) : Prop :=
  (∀ a x, ((![v621] : Fin 1 → IVec S16 32) a x).toNat < S16.size a)
theorem k0_idx75_inb : ∀ (v621 : IVec S16 32) (k0_hw150 : k0_chk150 v621), ∀ a x, ((![v621] : Fin 1 → IVec S16 32) a x).toNat < S16.size a := fun v621 k0_hw150 => k0_hw150
def k0_mult81 (v656 : BitVec 32) : BitVec 32 :=
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  v660

def k0_off89 (k0_t5 : Fin k0_t5_loop.trips) (v656 : BitVec 32) : Fin 3 → Nat :=
  let c0_i32_243 : BitVec 32 := 0#32
  let c0_i32_92 : BitVec 32 := 0#32
  let c1_i32_94 : BitVec 32 := 1#32
  let arg12 : BitVec 32 := Scf.iv c0_i32_92 c1_i32_94 k0_t5
  let c16_i32_242 : BitVec 32 := 16#32
  let v662 : BitVec 32 := Scalar.muli arg12 c16_i32_242
  let c11_i32 : BitVec 32 := 11#32
  let v663 : BitVec 32 := Scalar.addi v662 c11_i32
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  let v661 : BitVec 32 := v660
  ![0, v663.toNat, v661.toNat]

def k0_chk151 (k0_t5 : Fin k0_t5_loop.trips) (v656 : BitVec 32) : Prop :=
  (16 ∣ (k0_mult81 v656).toNat) ∧
  (∀ a, (k0_off89 k0_t5 v656) a + S1x1x16.size a ≤ S2x128x320.size a)
theorem k0_mult81_dvd : ∀ (k0_t5 : Fin k0_t5_loop.trips) (v656 : BitVec 32) (k0_hw151 : k0_chk151 k0_t5 v656), 16 ∣ (k0_mult81 v656).toNat := fun k0_t5 v656 k0_hw151 => k0_hw151.1
theorem k0_off89_inb : ∀ (k0_t5 : Fin k0_t5_loop.trips) (v656 : BitVec 32) (k0_hw151 : k0_chk151 k0_t5 v656), ∀ a, (k0_off89 k0_t5 v656) a + S1x1x16.size a ≤ S2x128x320.size a := fun k0_t5 v656 k0_hw151 => k0_hw151.2

def k0_chk152 (v666 : IVec S16 32) : Prop :=
  (∀ a x, ((![v666] : Fin 1 → IVec S16 32) a x).toNat < S16.size a)
theorem k0_idx76_inb : ∀ (v666 : IVec S16 32) (k0_hw152 : k0_chk152 v666), ∀ a x, ((![v666] : Fin 1 → IVec S16 32) a x).toNat < S16.size a := fun v666 k0_hw152 => k0_hw152
def k0_mult82 (v701 : BitVec 32) : BitVec 32 :=
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  v705

def k0_off90 (k0_t5 : Fin k0_t5_loop.trips) (v701 : BitVec 32) : Fin 3 → Nat :=
  let c0_i32_251 : BitVec 32 := 0#32
  let c0_i32_92 : BitVec 32 := 0#32
  let c1_i32_94 : BitVec 32 := 1#32
  let arg12 : BitVec 32 := Scf.iv c0_i32_92 c1_i32_94 k0_t5
  let c16_i32_250 : BitVec 32 := 16#32
  let v707 : BitVec 32 := Scalar.muli arg12 c16_i32_250
  let c12_i32 : BitVec 32 := 12#32
  let v708 : BitVec 32 := Scalar.addi v707 c12_i32
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  let v706 : BitVec 32 := v705
  ![0, v708.toNat, v706.toNat]

def k0_chk153 (k0_t5 : Fin k0_t5_loop.trips) (v701 : BitVec 32) : Prop :=
  (16 ∣ (k0_mult82 v701).toNat) ∧
  (∀ a, (k0_off90 k0_t5 v701) a + S1x1x16.size a ≤ S2x128x320.size a)
theorem k0_mult82_dvd : ∀ (k0_t5 : Fin k0_t5_loop.trips) (v701 : BitVec 32) (k0_hw153 : k0_chk153 k0_t5 v701), 16 ∣ (k0_mult82 v701).toNat := fun k0_t5 v701 k0_hw153 => k0_hw153.1
theorem k0_off90_inb : ∀ (k0_t5 : Fin k0_t5_loop.trips) (v701 : BitVec 32) (k0_hw153 : k0_chk153 k0_t5 v701), ∀ a, (k0_off90 k0_t5 v701) a + S1x1x16.size a ≤ S2x128x320.size a := fun k0_t5 v701 k0_hw153 => k0_hw153.2

def k0_chk154 (v711 : IVec S16 32) : Prop :=
  (∀ a x, ((![v711] : Fin 1 → IVec S16 32) a x).toNat < S16.size a)
theorem k0_idx77_inb : ∀ (v711 : IVec S16 32) (k0_hw154 : k0_chk154 v711), ∀ a x, ((![v711] : Fin 1 → IVec S16 32) a x).toNat < S16.size a := fun v711 k0_hw154 => k0_hw154
def k0_mult83 (v746 : BitVec 32) : BitVec 32 :=
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  v750

def k0_off91 (k0_t5 : Fin k0_t5_loop.trips) (v746 : BitVec 32) : Fin 3 → Nat :=
  let c0_i32_259 : BitVec 32 := 0#32
  let c0_i32_92 : BitVec 32 := 0#32
  let c1_i32_94 : BitVec 32 := 1#32
  let arg12 : BitVec 32 := Scf.iv c0_i32_92 c1_i32_94 k0_t5
  let c16_i32_258 : BitVec 32 := 16#32
  let v752 : BitVec 32 := Scalar.muli arg12 c16_i32_258
  let c13_i32 : BitVec 32 := 13#32
  let v753 : BitVec 32 := Scalar.addi v752 c13_i32
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  let v751 : BitVec 32 := v750
  ![0, v753.toNat, v751.toNat]

def k0_chk155 (k0_t5 : Fin k0_t5_loop.trips) (v746 : BitVec 32) : Prop :=
  (16 ∣ (k0_mult83 v746).toNat) ∧
  (∀ a, (k0_off91 k0_t5 v746) a + S1x1x16.size a ≤ S2x128x320.size a)
theorem k0_mult83_dvd : ∀ (k0_t5 : Fin k0_t5_loop.trips) (v746 : BitVec 32) (k0_hw155 : k0_chk155 k0_t5 v746), 16 ∣ (k0_mult83 v746).toNat := fun k0_t5 v746 k0_hw155 => k0_hw155.1
theorem k0_off91_inb : ∀ (k0_t5 : Fin k0_t5_loop.trips) (v746 : BitVec 32) (k0_hw155 : k0_chk155 k0_t5 v746), ∀ a, (k0_off91 k0_t5 v746) a + S1x1x16.size a ≤ S2x128x320.size a := fun k0_t5 v746 k0_hw155 => k0_hw155.2

def k0_chk156 (v756 : IVec S16 32) : Prop :=
  (∀ a x, ((![v756] : Fin 1 → IVec S16 32) a x).toNat < S16.size a)
theorem k0_idx78_inb : ∀ (v756 : IVec S16 32) (k0_hw156 : k0_chk156 v756), ∀ a x, ((![v756] : Fin 1 → IVec S16 32) a x).toNat < S16.size a := fun v756 k0_hw156 => k0_hw156
def k0_mult84 (v791 : BitVec 32) : BitVec 32 :=
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  v795

def k0_off92 (k0_t5 : Fin k0_t5_loop.trips) (v791 : BitVec 32) : Fin 3 → Nat :=
  let c0_i32_267 : BitVec 32 := 0#32
  let c0_i32_92 : BitVec 32 := 0#32
  let c1_i32_94 : BitVec 32 := 1#32
  let arg12 : BitVec 32 := Scf.iv c0_i32_92 c1_i32_94 k0_t5
  let c16_i32_266 : BitVec 32 := 16#32
  let v797 : BitVec 32 := Scalar.muli arg12 c16_i32_266
  let c14_i32 : BitVec 32 := 14#32
  let v798 : BitVec 32 := Scalar.addi v797 c14_i32
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  let v796 : BitVec 32 := v795
  ![0, v798.toNat, v796.toNat]

def k0_chk157 (k0_t5 : Fin k0_t5_loop.trips) (v791 : BitVec 32) : Prop :=
  (16 ∣ (k0_mult84 v791).toNat) ∧
  (∀ a, (k0_off92 k0_t5 v791) a + S1x1x16.size a ≤ S2x128x320.size a)
theorem k0_mult84_dvd : ∀ (k0_t5 : Fin k0_t5_loop.trips) (v791 : BitVec 32) (k0_hw157 : k0_chk157 k0_t5 v791), 16 ∣ (k0_mult84 v791).toNat := fun k0_t5 v791 k0_hw157 => k0_hw157.1
theorem k0_off92_inb : ∀ (k0_t5 : Fin k0_t5_loop.trips) (v791 : BitVec 32) (k0_hw157 : k0_chk157 k0_t5 v791), ∀ a, (k0_off92 k0_t5 v791) a + S1x1x16.size a ≤ S2x128x320.size a := fun k0_t5 v791 k0_hw157 => k0_hw157.2

def k0_chk158 (v801 : IVec S16 32) : Prop :=
  (∀ a x, ((![v801] : Fin 1 → IVec S16 32) a x).toNat < S16.size a)
theorem k0_idx79_inb : ∀ (v801 : IVec S16 32) (k0_hw158 : k0_chk158 v801), ∀ a x, ((![v801] : Fin 1 → IVec S16 32) a x).toNat < S16.size a := fun v801 k0_hw158 => k0_hw158
def k0_mult85 (v836 : BitVec 32) : BitVec 32 :=
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  v840

def k0_off93 (k0_t5 : Fin k0_t5_loop.trips) (v836 : BitVec 32) : Fin 3 → Nat :=
  let c0_i32_275 : BitVec 32 := 0#32
  let c0_i32_92 : BitVec 32 := 0#32
  let c1_i32_94 : BitVec 32 := 1#32
  let arg12 : BitVec 32 := Scf.iv c0_i32_92 c1_i32_94 k0_t5
  let c16_i32_274 : BitVec 32 := 16#32
  let v842 : BitVec 32 := Scalar.muli arg12 c16_i32_274
  let c15_i32 : BitVec 32 := 15#32
  let v843 : BitVec 32 := Scalar.addi v842 c15_i32
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  let v841 : BitVec 32 := v840
  ![0, v843.toNat, v841.toNat]

def k0_chk159 (k0_t5 : Fin k0_t5_loop.trips) (v836 : BitVec 32) : Prop :=
  (16 ∣ (k0_mult85 v836).toNat) ∧
  (∀ a, (k0_off93 k0_t5 v836) a + S1x1x16.size a ≤ S2x128x320.size a)
theorem k0_mult85_dvd : ∀ (k0_t5 : Fin k0_t5_loop.trips) (v836 : BitVec 32) (k0_hw159 : k0_chk159 k0_t5 v836), 16 ∣ (k0_mult85 v836).toNat := fun k0_t5 v836 k0_hw159 => k0_hw159.1
theorem k0_off93_inb : ∀ (k0_t5 : Fin k0_t5_loop.trips) (v836 : BitVec 32) (k0_hw159 : k0_chk159 k0_t5 v836), ∀ a, (k0_off93 k0_t5 v836) a + S1x1x16.size a ≤ S2x128x320.size a := fun k0_t5 v836 k0_hw159 => k0_hw159.2

def k0_chk160 (v846 : IVec S16 32) : Prop :=
  (∀ a x, ((![v846] : Fin 1 → IVec S16 32) a x).toNat < S16.size a)
theorem k0_idx80_inb : ∀ (v846 : IVec S16 32) (k0_hw160 : k0_chk160 v846), ∀ a x, ((![v846] : Fin 1 → IVec S16 32) a x).toNat < S16.size a := fun v846 k0_hw160 => k0_hw160
@[reducible] def k0_t6_loop : Scf.Loop 32 :=
  let c0_i32_110 : BitVec 32 := 0#32
  let c8_i32_111 : BitVec 32 := 8#32
  let v105 : BitVec 32 := Scalar.addi c0_i32_110 c8_i32_111
  let c1_i32_112 : BitVec 32 := 1#32
  ⟨c0_i32_110, v105, c1_i32_112⟩
def k0_mult86 (k0_t6 : Fin k0_t6_loop.trips) : BitVec 32 :=
  let c640_i32_145 : BitVec 32 := 640#32
  let c0_i32_110 : BitVec 32 := 0#32
  let c1_i32_112 : BitVec 32 := 1#32
  let arg12 : BitVec 32 := Scf.iv c0_i32_110 c1_i32_112 k0_t6
  let c16_i32 : BitVec 32 := 16#32
  let v138 : BitVec 32 := Scalar.muli arg12 c16_i32
  let v139 : BitVec 32 := Scalar.addi c640_i32_145 v138
  v139
def k0_off94 (k0_t6 : Fin k0_t6_loop.trips) : Fin 1 → Nat :=
  let c640_i32_145 : BitVec 32 := 640#32
  let c0_i32_110 : BitVec 32 := 0#32
  let c1_i32_112 : BitVec 32 := 1#32
  let arg12 : BitVec 32 := Scf.iv c0_i32_110 c1_i32_112 k0_t6
  let c16_i32 : BitVec 32 := 16#32
  let v138 : BitVec 32 := Scalar.muli arg12 c16_i32
  let v139 : BitVec 32 := Scalar.addi c640_i32_145 v138
  let v140 : BitVec 32 := v139
  let v141 : Index := Scalar.indexCast v140
  ![v141.toNat]
def k0_off95 (k0_t6 : Fin k0_t6_loop.trips) (c0_i32_146 : BitVec 32) : Fin 1 → Nat :=
  let c640_i32_145 : BitVec 32 := 640#32
  let c0_i32_110 : BitVec 32 := 0#32
  let c1_i32_112 : BitVec 32 := 1#32
  let arg12 : BitVec 32 := Scf.iv c0_i32_110 c1_i32_112 k0_t6
  let c16_i32 : BitVec 32 := 16#32
  let v138 : BitVec 32 := Scalar.muli arg12 c16_i32
  let v139 : BitVec 32 := Scalar.addi c640_i32_145 v138
  let v140 : BitVec 32 := v139
  let v144 : BitVec 32 := Scalar.addi c0_i32_146 v140
  let v145 : Index := Scalar.indexCast v144
  ![v145.toNat]
def k0_mult87 (v161 : BitVec 32) : BitVec 32 :=
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  v165

def k0_off96 (k0_t6 : Fin k0_t6_loop.trips) (v161 : BitVec 32) : Fin 3 → Nat :=
  let c1_i32_151 : BitVec 32 := 1#32
  let c0_i32_110 : BitVec 32 := 0#32
  let c1_i32_112 : BitVec 32 := 1#32
  let arg12 : BitVec 32 := Scf.iv c0_i32_110 c1_i32_112 k0_t6
  let c16_i32_149 : BitVec 32 := 16#32
  let v167 : BitVec 32 := Scalar.muli arg12 c16_i32_149
  let c0_i32_150 : BitVec 32 := 0#32
  let v168 : BitVec 32 := Scalar.addi v167 c0_i32_150
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  let v166 : BitVec 32 := v165
  ![1, v168.toNat, v166.toNat]

def k0_chk161 (k0_t6 : Fin k0_t6_loop.trips) (v161 : BitVec 32) : Prop :=
  (16 ∣ (k0_mult87 v161).toNat) ∧
  (∀ a, (k0_off96 k0_t6 v161) a + S1x1x16.size a ≤ S2x128x320.size a)
theorem k0_mult87_dvd : ∀ (k0_t6 : Fin k0_t6_loop.trips) (v161 : BitVec 32) (k0_hw161 : k0_chk161 k0_t6 v161), 16 ∣ (k0_mult87 v161).toNat := fun k0_t6 v161 k0_hw161 => k0_hw161.1
theorem k0_off96_inb : ∀ (k0_t6 : Fin k0_t6_loop.trips) (v161 : BitVec 32) (k0_hw161 : k0_chk161 k0_t6 v161), ∀ a, (k0_off96 k0_t6 v161) a + S1x1x16.size a ≤ S2x128x320.size a := fun k0_t6 v161 k0_hw161 => k0_hw161.2

def k0_chk162 (v171 : IVec S16 32) : Prop :=
  (∀ a x, ((![v171] : Fin 1 → IVec S16 32) a x).toNat < S16.size a)
theorem k0_idx81_inb : ∀ (v171 : IVec S16 32) (k0_hw162 : k0_chk162 v171), ∀ a x, ((![v171] : Fin 1 → IVec S16 32) a x).toNat < S16.size a := fun v171 k0_hw162 => k0_hw162
def k0_mult88 (v206 : BitVec 32) : BitVec 32 :=
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  v210

def k0_off97 (k0_t6 : Fin k0_t6_loop.trips) (v206 : BitVec 32) : Fin 3 → Nat :=
  let c1_i32_159 : BitVec 32 := 1#32
  let c0_i32_110 : BitVec 32 := 0#32
  let c1_i32_112 : BitVec 32 := 1#32
  let arg12 : BitVec 32 := Scf.iv c0_i32_110 c1_i32_112 k0_t6
  let c16_i32_157 : BitVec 32 := 16#32
  let v212 : BitVec 32 := Scalar.muli arg12 c16_i32_157
  let c1_i32_158 : BitVec 32 := 1#32
  let v213 : BitVec 32 := Scalar.addi v212 c1_i32_158
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  let v211 : BitVec 32 := v210
  ![1, v213.toNat, v211.toNat]

def k0_chk163 (k0_t6 : Fin k0_t6_loop.trips) (v206 : BitVec 32) : Prop :=
  (16 ∣ (k0_mult88 v206).toNat) ∧
  (∀ a, (k0_off97 k0_t6 v206) a + S1x1x16.size a ≤ S2x128x320.size a)
theorem k0_mult88_dvd : ∀ (k0_t6 : Fin k0_t6_loop.trips) (v206 : BitVec 32) (k0_hw163 : k0_chk163 k0_t6 v206), 16 ∣ (k0_mult88 v206).toNat := fun k0_t6 v206 k0_hw163 => k0_hw163.1
theorem k0_off97_inb : ∀ (k0_t6 : Fin k0_t6_loop.trips) (v206 : BitVec 32) (k0_hw163 : k0_chk163 k0_t6 v206), ∀ a, (k0_off97 k0_t6 v206) a + S1x1x16.size a ≤ S2x128x320.size a := fun k0_t6 v206 k0_hw163 => k0_hw163.2

def k0_chk164 (v216 : IVec S16 32) : Prop :=
  (∀ a x, ((![v216] : Fin 1 → IVec S16 32) a x).toNat < S16.size a)
theorem k0_idx82_inb : ∀ (v216 : IVec S16 32) (k0_hw164 : k0_chk164 v216), ∀ a x, ((![v216] : Fin 1 → IVec S16 32) a x).toNat < S16.size a := fun v216 k0_hw164 => k0_hw164
def k0_mult89 (v251 : BitVec 32) : BitVec 32 :=
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  v255

def k0_off98 (k0_t6 : Fin k0_t6_loop.trips) (v251 : BitVec 32) : Fin 3 → Nat :=
  let c1_i32_168 : BitVec 32 := 1#32
  let c0_i32_110 : BitVec 32 := 0#32
  let c1_i32_112 : BitVec 32 := 1#32
  let arg12 : BitVec 32 := Scf.iv c0_i32_110 c1_i32_112 k0_t6
  let c16_i32_166 : BitVec 32 := 16#32
  let v257 : BitVec 32 := Scalar.muli arg12 c16_i32_166
  let c2_i32_167 : BitVec 32 := 2#32
  let v258 : BitVec 32 := Scalar.addi v257 c2_i32_167
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  let v256 : BitVec 32 := v255
  ![1, v258.toNat, v256.toNat]

def k0_chk165 (k0_t6 : Fin k0_t6_loop.trips) (v251 : BitVec 32) : Prop :=
  (16 ∣ (k0_mult89 v251).toNat) ∧
  (∀ a, (k0_off98 k0_t6 v251) a + S1x1x16.size a ≤ S2x128x320.size a)
theorem k0_mult89_dvd : ∀ (k0_t6 : Fin k0_t6_loop.trips) (v251 : BitVec 32) (k0_hw165 : k0_chk165 k0_t6 v251), 16 ∣ (k0_mult89 v251).toNat := fun k0_t6 v251 k0_hw165 => k0_hw165.1
theorem k0_off98_inb : ∀ (k0_t6 : Fin k0_t6_loop.trips) (v251 : BitVec 32) (k0_hw165 : k0_chk165 k0_t6 v251), ∀ a, (k0_off98 k0_t6 v251) a + S1x1x16.size a ≤ S2x128x320.size a := fun k0_t6 v251 k0_hw165 => k0_hw165.2

def k0_chk166 (v261 : IVec S16 32) : Prop :=
  (∀ a x, ((![v261] : Fin 1 → IVec S16 32) a x).toNat < S16.size a)
theorem k0_idx83_inb : ∀ (v261 : IVec S16 32) (k0_hw166 : k0_chk166 v261), ∀ a x, ((![v261] : Fin 1 → IVec S16 32) a x).toNat < S16.size a := fun v261 k0_hw166 => k0_hw166
def k0_mult90 (v296 : BitVec 32) : BitVec 32 :=
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  v300

def k0_off99 (k0_t6 : Fin k0_t6_loop.trips) (v296 : BitVec 32) : Fin 3 → Nat :=
  let c1_i32_177 : BitVec 32 := 1#32
  let c0_i32_110 : BitVec 32 := 0#32
  let c1_i32_112 : BitVec 32 := 1#32
  let arg12 : BitVec 32 := Scf.iv c0_i32_110 c1_i32_112 k0_t6
  let c16_i32_175 : BitVec 32 := 16#32
  let v302 : BitVec 32 := Scalar.muli arg12 c16_i32_175
  let c3_i32_176 : BitVec 32 := 3#32
  let v303 : BitVec 32 := Scalar.addi v302 c3_i32_176
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  let v301 : BitVec 32 := v300
  ![1, v303.toNat, v301.toNat]

def k0_chk167 (k0_t6 : Fin k0_t6_loop.trips) (v296 : BitVec 32) : Prop :=
  (16 ∣ (k0_mult90 v296).toNat) ∧
  (∀ a, (k0_off99 k0_t6 v296) a + S1x1x16.size a ≤ S2x128x320.size a)
theorem k0_mult90_dvd : ∀ (k0_t6 : Fin k0_t6_loop.trips) (v296 : BitVec 32) (k0_hw167 : k0_chk167 k0_t6 v296), 16 ∣ (k0_mult90 v296).toNat := fun k0_t6 v296 k0_hw167 => k0_hw167.1
theorem k0_off99_inb : ∀ (k0_t6 : Fin k0_t6_loop.trips) (v296 : BitVec 32) (k0_hw167 : k0_chk167 k0_t6 v296), ∀ a, (k0_off99 k0_t6 v296) a + S1x1x16.size a ≤ S2x128x320.size a := fun k0_t6 v296 k0_hw167 => k0_hw167.2

def k0_chk168 (v306 : IVec S16 32) : Prop :=
  (∀ a x, ((![v306] : Fin 1 → IVec S16 32) a x).toNat < S16.size a)
theorem k0_idx84_inb : ∀ (v306 : IVec S16 32) (k0_hw168 : k0_chk168 v306), ∀ a x, ((![v306] : Fin 1 → IVec S16 32) a x).toNat < S16.size a := fun v306 k0_hw168 => k0_hw168
def k0_mult91 (v341 : BitVec 32) : BitVec 32 :=
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  v345

def k0_off100 (k0_t6 : Fin k0_t6_loop.trips) (v341 : BitVec 32) : Fin 3 → Nat :=
  let c1_i32_186 : BitVec 32 := 1#32
  let c0_i32_110 : BitVec 32 := 0#32
  let c1_i32_112 : BitVec 32 := 1#32
  let arg12 : BitVec 32 := Scf.iv c0_i32_110 c1_i32_112 k0_t6
  let c16_i32_184 : BitVec 32 := 16#32
  let v347 : BitVec 32 := Scalar.muli arg12 c16_i32_184
  let c4_i32_185 : BitVec 32 := 4#32
  let v348 : BitVec 32 := Scalar.addi v347 c4_i32_185
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  let v346 : BitVec 32 := v345
  ![1, v348.toNat, v346.toNat]

def k0_chk169 (k0_t6 : Fin k0_t6_loop.trips) (v341 : BitVec 32) : Prop :=
  (16 ∣ (k0_mult91 v341).toNat) ∧
  (∀ a, (k0_off100 k0_t6 v341) a + S1x1x16.size a ≤ S2x128x320.size a)
theorem k0_mult91_dvd : ∀ (k0_t6 : Fin k0_t6_loop.trips) (v341 : BitVec 32) (k0_hw169 : k0_chk169 k0_t6 v341), 16 ∣ (k0_mult91 v341).toNat := fun k0_t6 v341 k0_hw169 => k0_hw169.1
theorem k0_off100_inb : ∀ (k0_t6 : Fin k0_t6_loop.trips) (v341 : BitVec 32) (k0_hw169 : k0_chk169 k0_t6 v341), ∀ a, (k0_off100 k0_t6 v341) a + S1x1x16.size a ≤ S2x128x320.size a := fun k0_t6 v341 k0_hw169 => k0_hw169.2

def k0_chk170 (v351 : IVec S16 32) : Prop :=
  (∀ a x, ((![v351] : Fin 1 → IVec S16 32) a x).toNat < S16.size a)
theorem k0_idx85_inb : ∀ (v351 : IVec S16 32) (k0_hw170 : k0_chk170 v351), ∀ a x, ((![v351] : Fin 1 → IVec S16 32) a x).toNat < S16.size a := fun v351 k0_hw170 => k0_hw170
def k0_mult92 (v386 : BitVec 32) : BitVec 32 :=
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  v390

def k0_off101 (k0_t6 : Fin k0_t6_loop.trips) (v386 : BitVec 32) : Fin 3 → Nat :=
  let c1_i32_194 : BitVec 32 := 1#32
  let c0_i32_110 : BitVec 32 := 0#32
  let c1_i32_112 : BitVec 32 := 1#32
  let arg12 : BitVec 32 := Scf.iv c0_i32_110 c1_i32_112 k0_t6
  let c16_i32_193 : BitVec 32 := 16#32
  let v392 : BitVec 32 := Scalar.muli arg12 c16_i32_193
  let c5_i32 : BitVec 32 := 5#32
  let v393 : BitVec 32 := Scalar.addi v392 c5_i32
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  let v391 : BitVec 32 := v390
  ![1, v393.toNat, v391.toNat]

def k0_chk171 (k0_t6 : Fin k0_t6_loop.trips) (v386 : BitVec 32) : Prop :=
  (16 ∣ (k0_mult92 v386).toNat) ∧
  (∀ a, (k0_off101 k0_t6 v386) a + S1x1x16.size a ≤ S2x128x320.size a)
theorem k0_mult92_dvd : ∀ (k0_t6 : Fin k0_t6_loop.trips) (v386 : BitVec 32) (k0_hw171 : k0_chk171 k0_t6 v386), 16 ∣ (k0_mult92 v386).toNat := fun k0_t6 v386 k0_hw171 => k0_hw171.1
theorem k0_off101_inb : ∀ (k0_t6 : Fin k0_t6_loop.trips) (v386 : BitVec 32) (k0_hw171 : k0_chk171 k0_t6 v386), ∀ a, (k0_off101 k0_t6 v386) a + S1x1x16.size a ≤ S2x128x320.size a := fun k0_t6 v386 k0_hw171 => k0_hw171.2

def k0_chk172 (v396 : IVec S16 32) : Prop :=
  (∀ a x, ((![v396] : Fin 1 → IVec S16 32) a x).toNat < S16.size a)
theorem k0_idx86_inb : ∀ (v396 : IVec S16 32) (k0_hw172 : k0_chk172 v396), ∀ a x, ((![v396] : Fin 1 → IVec S16 32) a x).toNat < S16.size a := fun v396 k0_hw172 => k0_hw172
def k0_mult93 (v431 : BitVec 32) : BitVec 32 :=
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  v435

def k0_off102 (k0_t6 : Fin k0_t6_loop.trips) (v431 : BitVec 32) : Fin 3 → Nat :=
  let c1_i32_202 : BitVec 32 := 1#32
  let c0_i32_110 : BitVec 32 := 0#32
  let c1_i32_112 : BitVec 32 := 1#32
  let arg12 : BitVec 32 := Scf.iv c0_i32_110 c1_i32_112 k0_t6
  let c16_i32_201 : BitVec 32 := 16#32
  let v437 : BitVec 32 := Scalar.muli arg12 c16_i32_201
  let c6_i32 : BitVec 32 := 6#32
  let v438 : BitVec 32 := Scalar.addi v437 c6_i32
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  let v436 : BitVec 32 := v435
  ![1, v438.toNat, v436.toNat]

def k0_chk173 (k0_t6 : Fin k0_t6_loop.trips) (v431 : BitVec 32) : Prop :=
  (16 ∣ (k0_mult93 v431).toNat) ∧
  (∀ a, (k0_off102 k0_t6 v431) a + S1x1x16.size a ≤ S2x128x320.size a)
theorem k0_mult93_dvd : ∀ (k0_t6 : Fin k0_t6_loop.trips) (v431 : BitVec 32) (k0_hw173 : k0_chk173 k0_t6 v431), 16 ∣ (k0_mult93 v431).toNat := fun k0_t6 v431 k0_hw173 => k0_hw173.1
theorem k0_off102_inb : ∀ (k0_t6 : Fin k0_t6_loop.trips) (v431 : BitVec 32) (k0_hw173 : k0_chk173 k0_t6 v431), ∀ a, (k0_off102 k0_t6 v431) a + S1x1x16.size a ≤ S2x128x320.size a := fun k0_t6 v431 k0_hw173 => k0_hw173.2

def k0_chk174 (v441 : IVec S16 32) : Prop :=
  (∀ a x, ((![v441] : Fin 1 → IVec S16 32) a x).toNat < S16.size a)
theorem k0_idx87_inb : ∀ (v441 : IVec S16 32) (k0_hw174 : k0_chk174 v441), ∀ a x, ((![v441] : Fin 1 → IVec S16 32) a x).toNat < S16.size a := fun v441 k0_hw174 => k0_hw174
def k0_mult94 (v476 : BitVec 32) : BitVec 32 :=
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  v480

def k0_off103 (k0_t6 : Fin k0_t6_loop.trips) (v476 : BitVec 32) : Fin 3 → Nat :=
  let c1_i32_210 : BitVec 32 := 1#32
  let c0_i32_110 : BitVec 32 := 0#32
  let c1_i32_112 : BitVec 32 := 1#32
  let arg12 : BitVec 32 := Scf.iv c0_i32_110 c1_i32_112 k0_t6
  let c16_i32_209 : BitVec 32 := 16#32
  let v482 : BitVec 32 := Scalar.muli arg12 c16_i32_209
  let c7_i32 : BitVec 32 := 7#32
  let v483 : BitVec 32 := Scalar.addi v482 c7_i32
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  let v481 : BitVec 32 := v480
  ![1, v483.toNat, v481.toNat]

def k0_chk175 (k0_t6 : Fin k0_t6_loop.trips) (v476 : BitVec 32) : Prop :=
  (16 ∣ (k0_mult94 v476).toNat) ∧
  (∀ a, (k0_off103 k0_t6 v476) a + S1x1x16.size a ≤ S2x128x320.size a)
theorem k0_mult94_dvd : ∀ (k0_t6 : Fin k0_t6_loop.trips) (v476 : BitVec 32) (k0_hw175 : k0_chk175 k0_t6 v476), 16 ∣ (k0_mult94 v476).toNat := fun k0_t6 v476 k0_hw175 => k0_hw175.1
theorem k0_off103_inb : ∀ (k0_t6 : Fin k0_t6_loop.trips) (v476 : BitVec 32) (k0_hw175 : k0_chk175 k0_t6 v476), ∀ a, (k0_off103 k0_t6 v476) a + S1x1x16.size a ≤ S2x128x320.size a := fun k0_t6 v476 k0_hw175 => k0_hw175.2

def k0_chk176 (v486 : IVec S16 32) : Prop :=
  (∀ a x, ((![v486] : Fin 1 → IVec S16 32) a x).toNat < S16.size a)
theorem k0_idx88_inb : ∀ (v486 : IVec S16 32) (k0_hw176 : k0_chk176 v486), ∀ a x, ((![v486] : Fin 1 → IVec S16 32) a x).toNat < S16.size a := fun v486 k0_hw176 => k0_hw176
def k0_mult95 (v521 : BitVec 32) : BitVec 32 :=
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  v525

def k0_off104 (k0_t6 : Fin k0_t6_loop.trips) (v521 : BitVec 32) : Fin 3 → Nat :=
  let c1_i32_219 : BitVec 32 := 1#32
  let c0_i32_110 : BitVec 32 := 0#32
  let c1_i32_112 : BitVec 32 := 1#32
  let arg12 : BitVec 32 := Scf.iv c0_i32_110 c1_i32_112 k0_t6
  let c16_i32_217 : BitVec 32 := 16#32
  let v527 : BitVec 32 := Scalar.muli arg12 c16_i32_217
  let c8_i32_218 : BitVec 32 := 8#32
  let v528 : BitVec 32 := Scalar.addi v527 c8_i32_218
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  let v526 : BitVec 32 := v525
  ![1, v528.toNat, v526.toNat]

def k0_chk177 (k0_t6 : Fin k0_t6_loop.trips) (v521 : BitVec 32) : Prop :=
  (16 ∣ (k0_mult95 v521).toNat) ∧
  (∀ a, (k0_off104 k0_t6 v521) a + S1x1x16.size a ≤ S2x128x320.size a)
theorem k0_mult95_dvd : ∀ (k0_t6 : Fin k0_t6_loop.trips) (v521 : BitVec 32) (k0_hw177 : k0_chk177 k0_t6 v521), 16 ∣ (k0_mult95 v521).toNat := fun k0_t6 v521 k0_hw177 => k0_hw177.1
theorem k0_off104_inb : ∀ (k0_t6 : Fin k0_t6_loop.trips) (v521 : BitVec 32) (k0_hw177 : k0_chk177 k0_t6 v521), ∀ a, (k0_off104 k0_t6 v521) a + S1x1x16.size a ≤ S2x128x320.size a := fun k0_t6 v521 k0_hw177 => k0_hw177.2

def k0_chk178 (v531 : IVec S16 32) : Prop :=
  (∀ a x, ((![v531] : Fin 1 → IVec S16 32) a x).toNat < S16.size a)
theorem k0_idx89_inb : ∀ (v531 : IVec S16 32) (k0_hw178 : k0_chk178 v531), ∀ a x, ((![v531] : Fin 1 → IVec S16 32) a x).toNat < S16.size a := fun v531 k0_hw178 => k0_hw178
def k0_mult96 (v566 : BitVec 32) : BitVec 32 :=
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  v570

def k0_off105 (k0_t6 : Fin k0_t6_loop.trips) (v566 : BitVec 32) : Fin 3 → Nat :=
  let c1_i32_227 : BitVec 32 := 1#32
  let c0_i32_110 : BitVec 32 := 0#32
  let c1_i32_112 : BitVec 32 := 1#32
  let arg12 : BitVec 32 := Scf.iv c0_i32_110 c1_i32_112 k0_t6
  let c16_i32_226 : BitVec 32 := 16#32
  let v572 : BitVec 32 := Scalar.muli arg12 c16_i32_226
  let c9_i32 : BitVec 32 := 9#32
  let v573 : BitVec 32 := Scalar.addi v572 c9_i32
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  let v571 : BitVec 32 := v570
  ![1, v573.toNat, v571.toNat]

def k0_chk179 (k0_t6 : Fin k0_t6_loop.trips) (v566 : BitVec 32) : Prop :=
  (16 ∣ (k0_mult96 v566).toNat) ∧
  (∀ a, (k0_off105 k0_t6 v566) a + S1x1x16.size a ≤ S2x128x320.size a)
theorem k0_mult96_dvd : ∀ (k0_t6 : Fin k0_t6_loop.trips) (v566 : BitVec 32) (k0_hw179 : k0_chk179 k0_t6 v566), 16 ∣ (k0_mult96 v566).toNat := fun k0_t6 v566 k0_hw179 => k0_hw179.1
theorem k0_off105_inb : ∀ (k0_t6 : Fin k0_t6_loop.trips) (v566 : BitVec 32) (k0_hw179 : k0_chk179 k0_t6 v566), ∀ a, (k0_off105 k0_t6 v566) a + S1x1x16.size a ≤ S2x128x320.size a := fun k0_t6 v566 k0_hw179 => k0_hw179.2

def k0_chk180 (v576 : IVec S16 32) : Prop :=
  (∀ a x, ((![v576] : Fin 1 → IVec S16 32) a x).toNat < S16.size a)
theorem k0_idx90_inb : ∀ (v576 : IVec S16 32) (k0_hw180 : k0_chk180 v576), ∀ a x, ((![v576] : Fin 1 → IVec S16 32) a x).toNat < S16.size a := fun v576 k0_hw180 => k0_hw180
def k0_mult97 (v611 : BitVec 32) : BitVec 32 :=
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  v615

def k0_off106 (k0_t6 : Fin k0_t6_loop.trips) (v611 : BitVec 32) : Fin 3 → Nat :=
  let c1_i32_235 : BitVec 32 := 1#32
  let c0_i32_110 : BitVec 32 := 0#32
  let c1_i32_112 : BitVec 32 := 1#32
  let arg12 : BitVec 32 := Scf.iv c0_i32_110 c1_i32_112 k0_t6
  let c16_i32_234 : BitVec 32 := 16#32
  let v617 : BitVec 32 := Scalar.muli arg12 c16_i32_234
  let c10_i32 : BitVec 32 := 10#32
  let v618 : BitVec 32 := Scalar.addi v617 c10_i32
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  let v616 : BitVec 32 := v615
  ![1, v618.toNat, v616.toNat]

def k0_chk181 (k0_t6 : Fin k0_t6_loop.trips) (v611 : BitVec 32) : Prop :=
  (16 ∣ (k0_mult97 v611).toNat) ∧
  (∀ a, (k0_off106 k0_t6 v611) a + S1x1x16.size a ≤ S2x128x320.size a)
theorem k0_mult97_dvd : ∀ (k0_t6 : Fin k0_t6_loop.trips) (v611 : BitVec 32) (k0_hw181 : k0_chk181 k0_t6 v611), 16 ∣ (k0_mult97 v611).toNat := fun k0_t6 v611 k0_hw181 => k0_hw181.1
theorem k0_off106_inb : ∀ (k0_t6 : Fin k0_t6_loop.trips) (v611 : BitVec 32) (k0_hw181 : k0_chk181 k0_t6 v611), ∀ a, (k0_off106 k0_t6 v611) a + S1x1x16.size a ≤ S2x128x320.size a := fun k0_t6 v611 k0_hw181 => k0_hw181.2

def k0_chk182 (v621 : IVec S16 32) : Prop :=
  (∀ a x, ((![v621] : Fin 1 → IVec S16 32) a x).toNat < S16.size a)
theorem k0_idx91_inb : ∀ (v621 : IVec S16 32) (k0_hw182 : k0_chk182 v621), ∀ a x, ((![v621] : Fin 1 → IVec S16 32) a x).toNat < S16.size a := fun v621 k0_hw182 => k0_hw182
def k0_mult98 (v656 : BitVec 32) : BitVec 32 :=
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  v660

def k0_off107 (k0_t6 : Fin k0_t6_loop.trips) (v656 : BitVec 32) : Fin 3 → Nat :=
  let c1_i32_243 : BitVec 32 := 1#32
  let c0_i32_110 : BitVec 32 := 0#32
  let c1_i32_112 : BitVec 32 := 1#32
  let arg12 : BitVec 32 := Scf.iv c0_i32_110 c1_i32_112 k0_t6
  let c16_i32_242 : BitVec 32 := 16#32
  let v662 : BitVec 32 := Scalar.muli arg12 c16_i32_242
  let c11_i32 : BitVec 32 := 11#32
  let v663 : BitVec 32 := Scalar.addi v662 c11_i32
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  let v661 : BitVec 32 := v660
  ![1, v663.toNat, v661.toNat]

def k0_chk183 (k0_t6 : Fin k0_t6_loop.trips) (v656 : BitVec 32) : Prop :=
  (16 ∣ (k0_mult98 v656).toNat) ∧
  (∀ a, (k0_off107 k0_t6 v656) a + S1x1x16.size a ≤ S2x128x320.size a)
theorem k0_mult98_dvd : ∀ (k0_t6 : Fin k0_t6_loop.trips) (v656 : BitVec 32) (k0_hw183 : k0_chk183 k0_t6 v656), 16 ∣ (k0_mult98 v656).toNat := fun k0_t6 v656 k0_hw183 => k0_hw183.1
theorem k0_off107_inb : ∀ (k0_t6 : Fin k0_t6_loop.trips) (v656 : BitVec 32) (k0_hw183 : k0_chk183 k0_t6 v656), ∀ a, (k0_off107 k0_t6 v656) a + S1x1x16.size a ≤ S2x128x320.size a := fun k0_t6 v656 k0_hw183 => k0_hw183.2

def k0_chk184 (v666 : IVec S16 32) : Prop :=
  (∀ a x, ((![v666] : Fin 1 → IVec S16 32) a x).toNat < S16.size a)
theorem k0_idx92_inb : ∀ (v666 : IVec S16 32) (k0_hw184 : k0_chk184 v666), ∀ a x, ((![v666] : Fin 1 → IVec S16 32) a x).toNat < S16.size a := fun v666 k0_hw184 => k0_hw184
def k0_mult99 (v701 : BitVec 32) : BitVec 32 :=
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  v705

def k0_off108 (k0_t6 : Fin k0_t6_loop.trips) (v701 : BitVec 32) : Fin 3 → Nat :=
  let c1_i32_251 : BitVec 32 := 1#32
  let c0_i32_110 : BitVec 32 := 0#32
  let c1_i32_112 : BitVec 32 := 1#32
  let arg12 : BitVec 32 := Scf.iv c0_i32_110 c1_i32_112 k0_t6
  let c16_i32_250 : BitVec 32 := 16#32
  let v707 : BitVec 32 := Scalar.muli arg12 c16_i32_250
  let c12_i32 : BitVec 32 := 12#32
  let v708 : BitVec 32 := Scalar.addi v707 c12_i32
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  let v706 : BitVec 32 := v705
  ![1, v708.toNat, v706.toNat]

def k0_chk185 (k0_t6 : Fin k0_t6_loop.trips) (v701 : BitVec 32) : Prop :=
  (16 ∣ (k0_mult99 v701).toNat) ∧
  (∀ a, (k0_off108 k0_t6 v701) a + S1x1x16.size a ≤ S2x128x320.size a)
theorem k0_mult99_dvd : ∀ (k0_t6 : Fin k0_t6_loop.trips) (v701 : BitVec 32) (k0_hw185 : k0_chk185 k0_t6 v701), 16 ∣ (k0_mult99 v701).toNat := fun k0_t6 v701 k0_hw185 => k0_hw185.1
theorem k0_off108_inb : ∀ (k0_t6 : Fin k0_t6_loop.trips) (v701 : BitVec 32) (k0_hw185 : k0_chk185 k0_t6 v701), ∀ a, (k0_off108 k0_t6 v701) a + S1x1x16.size a ≤ S2x128x320.size a := fun k0_t6 v701 k0_hw185 => k0_hw185.2

def k0_chk186 (v711 : IVec S16 32) : Prop :=
  (∀ a x, ((![v711] : Fin 1 → IVec S16 32) a x).toNat < S16.size a)
theorem k0_idx93_inb : ∀ (v711 : IVec S16 32) (k0_hw186 : k0_chk186 v711), ∀ a x, ((![v711] : Fin 1 → IVec S16 32) a x).toNat < S16.size a := fun v711 k0_hw186 => k0_hw186
def k0_mult100 (v746 : BitVec 32) : BitVec 32 :=
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  v750

def k0_off109 (k0_t6 : Fin k0_t6_loop.trips) (v746 : BitVec 32) : Fin 3 → Nat :=
  let c1_i32_259 : BitVec 32 := 1#32
  let c0_i32_110 : BitVec 32 := 0#32
  let c1_i32_112 : BitVec 32 := 1#32
  let arg12 : BitVec 32 := Scf.iv c0_i32_110 c1_i32_112 k0_t6
  let c16_i32_258 : BitVec 32 := 16#32
  let v752 : BitVec 32 := Scalar.muli arg12 c16_i32_258
  let c13_i32 : BitVec 32 := 13#32
  let v753 : BitVec 32 := Scalar.addi v752 c13_i32
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  let v751 : BitVec 32 := v750
  ![1, v753.toNat, v751.toNat]

def k0_chk187 (k0_t6 : Fin k0_t6_loop.trips) (v746 : BitVec 32) : Prop :=
  (16 ∣ (k0_mult100 v746).toNat) ∧
  (∀ a, (k0_off109 k0_t6 v746) a + S1x1x16.size a ≤ S2x128x320.size a)
theorem k0_mult100_dvd : ∀ (k0_t6 : Fin k0_t6_loop.trips) (v746 : BitVec 32) (k0_hw187 : k0_chk187 k0_t6 v746), 16 ∣ (k0_mult100 v746).toNat := fun k0_t6 v746 k0_hw187 => k0_hw187.1
theorem k0_off109_inb : ∀ (k0_t6 : Fin k0_t6_loop.trips) (v746 : BitVec 32) (k0_hw187 : k0_chk187 k0_t6 v746), ∀ a, (k0_off109 k0_t6 v746) a + S1x1x16.size a ≤ S2x128x320.size a := fun k0_t6 v746 k0_hw187 => k0_hw187.2

def k0_chk188 (v756 : IVec S16 32) : Prop :=
  (∀ a x, ((![v756] : Fin 1 → IVec S16 32) a x).toNat < S16.size a)
theorem k0_idx94_inb : ∀ (v756 : IVec S16 32) (k0_hw188 : k0_chk188 v756), ∀ a x, ((![v756] : Fin 1 → IVec S16 32) a x).toNat < S16.size a := fun v756 k0_hw188 => k0_hw188
def k0_mult101 (v791 : BitVec 32) : BitVec 32 :=
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  v795

def k0_off110 (k0_t6 : Fin k0_t6_loop.trips) (v791 : BitVec 32) : Fin 3 → Nat :=
  let c1_i32_267 : BitVec 32 := 1#32
  let c0_i32_110 : BitVec 32 := 0#32
  let c1_i32_112 : BitVec 32 := 1#32
  let arg12 : BitVec 32 := Scf.iv c0_i32_110 c1_i32_112 k0_t6
  let c16_i32_266 : BitVec 32 := 16#32
  let v797 : BitVec 32 := Scalar.muli arg12 c16_i32_266
  let c14_i32 : BitVec 32 := 14#32
  let v798 : BitVec 32 := Scalar.addi v797 c14_i32
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  let v796 : BitVec 32 := v795
  ![1, v798.toNat, v796.toNat]

def k0_chk189 (k0_t6 : Fin k0_t6_loop.trips) (v791 : BitVec 32) : Prop :=
  (16 ∣ (k0_mult101 v791).toNat) ∧
  (∀ a, (k0_off110 k0_t6 v791) a + S1x1x16.size a ≤ S2x128x320.size a)
theorem k0_mult101_dvd : ∀ (k0_t6 : Fin k0_t6_loop.trips) (v791 : BitVec 32) (k0_hw189 : k0_chk189 k0_t6 v791), 16 ∣ (k0_mult101 v791).toNat := fun k0_t6 v791 k0_hw189 => k0_hw189.1
theorem k0_off110_inb : ∀ (k0_t6 : Fin k0_t6_loop.trips) (v791 : BitVec 32) (k0_hw189 : k0_chk189 k0_t6 v791), ∀ a, (k0_off110 k0_t6 v791) a + S1x1x16.size a ≤ S2x128x320.size a := fun k0_t6 v791 k0_hw189 => k0_hw189.2

def k0_chk190 (v801 : IVec S16 32) : Prop :=
  (∀ a x, ((![v801] : Fin 1 → IVec S16 32) a x).toNat < S16.size a)
theorem k0_idx95_inb : ∀ (v801 : IVec S16 32) (k0_hw190 : k0_chk190 v801), ∀ a x, ((![v801] : Fin 1 → IVec S16 32) a x).toNat < S16.size a := fun v801 k0_hw190 => k0_hw190
def k0_mult102 (v836 : BitVec 32) : BitVec 32 :=
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  v840

def k0_off111 (k0_t6 : Fin k0_t6_loop.trips) (v836 : BitVec 32) : Fin 3 → Nat :=
  let c1_i32_275 : BitVec 32 := 1#32
  let c0_i32_110 : BitVec 32 := 0#32
  let c1_i32_112 : BitVec 32 := 1#32
  let arg12 : BitVec 32 := Scf.iv c0_i32_110 c1_i32_112 k0_t6
  let c16_i32_274 : BitVec 32 := 16#32
  let v842 : BitVec 32 := Scalar.muli arg12 c16_i32_274
  let c15_i32 : BitVec 32 := 15#32
  let v843 : BitVec 32 := Scalar.addi v842 c15_i32
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  let v841 : BitVec 32 := v840
  ![1, v843.toNat, v841.toNat]

def k0_chk191 (k0_t6 : Fin k0_t6_loop.trips) (v836 : BitVec 32) : Prop :=
  (16 ∣ (k0_mult102 v836).toNat) ∧
  (∀ a, (k0_off111 k0_t6 v836) a + S1x1x16.size a ≤ S2x128x320.size a)
theorem k0_mult102_dvd : ∀ (k0_t6 : Fin k0_t6_loop.trips) (v836 : BitVec 32) (k0_hw191 : k0_chk191 k0_t6 v836), 16 ∣ (k0_mult102 v836).toNat := fun k0_t6 v836 k0_hw191 => k0_hw191.1
theorem k0_off111_inb : ∀ (k0_t6 : Fin k0_t6_loop.trips) (v836 : BitVec 32) (k0_hw191 : k0_chk191 k0_t6 v836), ∀ a, (k0_off111 k0_t6 v836) a + S1x1x16.size a ≤ S2x128x320.size a := fun k0_t6 v836 k0_hw191 => k0_hw191.2

def k0_chk192 (v846 : IVec S16 32) : Prop :=
  (∀ a x, ((![v846] : Fin 1 → IVec S16 32) a x).toNat < S16.size a)
theorem k0_idx96_inb : ∀ (v846 : IVec S16 32) (k0_hw192 : k0_chk192 v846), ∀ a x, ((![v846] : Fin 1 → IVec S16 32) a x).toNat < S16.size a := fun v846 k0_hw192 => k0_hw192
@[reducible] def k0_t7_loop : Scf.Loop 32 :=
  let c0_i32_128 : BitVec 32 := 0#32
  let c8_i32_129 : BitVec 32 := 8#32
  let v120 : BitVec 32 := Scalar.addi c0_i32_128 c8_i32_129
  let c1_i32_130 : BitVec 32 := 1#32
  ⟨c0_i32_128, v120, c1_i32_130⟩
def k0_mult103 (k0_t7 : Fin k0_t7_loop.trips) : BitVec 32 :=
  let c768_i32_145 : BitVec 32 := 768#32
  let c0_i32_128 : BitVec 32 := 0#32
  let c1_i32_130 : BitVec 32 := 1#32
  let arg12 : BitVec 32 := Scf.iv c0_i32_128 c1_i32_130 k0_t7
  let c16_i32 : BitVec 32 := 16#32
  let v138 : BitVec 32 := Scalar.muli arg12 c16_i32
  let v139 : BitVec 32 := Scalar.addi c768_i32_145 v138
  v139
def k0_off112 (k0_t7 : Fin k0_t7_loop.trips) : Fin 1 → Nat :=
  let c768_i32_145 : BitVec 32 := 768#32
  let c0_i32_128 : BitVec 32 := 0#32
  let c1_i32_130 : BitVec 32 := 1#32
  let arg12 : BitVec 32 := Scf.iv c0_i32_128 c1_i32_130 k0_t7
  let c16_i32 : BitVec 32 := 16#32
  let v138 : BitVec 32 := Scalar.muli arg12 c16_i32
  let v139 : BitVec 32 := Scalar.addi c768_i32_145 v138
  let v140 : BitVec 32 := v139
  let v141 : Index := Scalar.indexCast v140
  ![v141.toNat]
def k0_off113 (k0_t7 : Fin k0_t7_loop.trips) (c0_i32_146 : BitVec 32) : Fin 1 → Nat :=
  let c768_i32_145 : BitVec 32 := 768#32
  let c0_i32_128 : BitVec 32 := 0#32
  let c1_i32_130 : BitVec 32 := 1#32
  let arg12 : BitVec 32 := Scf.iv c0_i32_128 c1_i32_130 k0_t7
  let c16_i32 : BitVec 32 := 16#32
  let v138 : BitVec 32 := Scalar.muli arg12 c16_i32
  let v139 : BitVec 32 := Scalar.addi c768_i32_145 v138
  let v140 : BitVec 32 := v139
  let v144 : BitVec 32 := Scalar.addi c0_i32_146 v140
  let v145 : Index := Scalar.indexCast v144
  ![v145.toNat]
def k0_mult104 (v161 : BitVec 32) : BitVec 32 :=
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  v165

def k0_off114 (k0_t7 : Fin k0_t7_loop.trips) (v161 : BitVec 32) : Fin 3 → Nat :=
  let c0_i32_151 : BitVec 32 := 0#32
  let c0_i32_128 : BitVec 32 := 0#32
  let c1_i32_130 : BitVec 32 := 1#32
  let arg12 : BitVec 32 := Scf.iv c0_i32_128 c1_i32_130 k0_t7
  let c16_i32_149 : BitVec 32 := 16#32
  let v167 : BitVec 32 := Scalar.muli arg12 c16_i32_149
  let c0_i32_150 : BitVec 32 := 0#32
  let v168 : BitVec 32 := Scalar.addi v167 c0_i32_150
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  let v166 : BitVec 32 := v165
  ![0, v168.toNat, v166.toNat]

def k0_chk193 (k0_t7 : Fin k0_t7_loop.trips) (v161 : BitVec 32) : Prop :=
  (16 ∣ (k0_mult104 v161).toNat) ∧
  (∀ a, (k0_off114 k0_t7 v161) a + S1x1x16.size a ≤ S2x128x320.size a)
theorem k0_mult104_dvd : ∀ (k0_t7 : Fin k0_t7_loop.trips) (v161 : BitVec 32) (k0_hw193 : k0_chk193 k0_t7 v161), 16 ∣ (k0_mult104 v161).toNat := fun k0_t7 v161 k0_hw193 => k0_hw193.1
theorem k0_off114_inb : ∀ (k0_t7 : Fin k0_t7_loop.trips) (v161 : BitVec 32) (k0_hw193 : k0_chk193 k0_t7 v161), ∀ a, (k0_off114 k0_t7 v161) a + S1x1x16.size a ≤ S2x128x320.size a := fun k0_t7 v161 k0_hw193 => k0_hw193.2

def k0_chk194 (v171 : IVec S16 32) : Prop :=
  (∀ a x, ((![v171] : Fin 1 → IVec S16 32) a x).toNat < S16.size a)
theorem k0_idx97_inb : ∀ (v171 : IVec S16 32) (k0_hw194 : k0_chk194 v171), ∀ a x, ((![v171] : Fin 1 → IVec S16 32) a x).toNat < S16.size a := fun v171 k0_hw194 => k0_hw194
def k0_mult105 (v206 : BitVec 32) : BitVec 32 :=
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  v210

def k0_off115 (k0_t7 : Fin k0_t7_loop.trips) (v206 : BitVec 32) : Fin 3 → Nat :=
  let c0_i32_159 : BitVec 32 := 0#32
  let c0_i32_128 : BitVec 32 := 0#32
  let c1_i32_130 : BitVec 32 := 1#32
  let arg12 : BitVec 32 := Scf.iv c0_i32_128 c1_i32_130 k0_t7
  let c16_i32_157 : BitVec 32 := 16#32
  let v212 : BitVec 32 := Scalar.muli arg12 c16_i32_157
  let c1_i32_158 : BitVec 32 := 1#32
  let v213 : BitVec 32 := Scalar.addi v212 c1_i32_158
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  let v211 : BitVec 32 := v210
  ![0, v213.toNat, v211.toNat]

def k0_chk195 (k0_t7 : Fin k0_t7_loop.trips) (v206 : BitVec 32) : Prop :=
  (16 ∣ (k0_mult105 v206).toNat) ∧
  (∀ a, (k0_off115 k0_t7 v206) a + S1x1x16.size a ≤ S2x128x320.size a)
theorem k0_mult105_dvd : ∀ (k0_t7 : Fin k0_t7_loop.trips) (v206 : BitVec 32) (k0_hw195 : k0_chk195 k0_t7 v206), 16 ∣ (k0_mult105 v206).toNat := fun k0_t7 v206 k0_hw195 => k0_hw195.1
theorem k0_off115_inb : ∀ (k0_t7 : Fin k0_t7_loop.trips) (v206 : BitVec 32) (k0_hw195 : k0_chk195 k0_t7 v206), ∀ a, (k0_off115 k0_t7 v206) a + S1x1x16.size a ≤ S2x128x320.size a := fun k0_t7 v206 k0_hw195 => k0_hw195.2

def k0_chk196 (v216 : IVec S16 32) : Prop :=
  (∀ a x, ((![v216] : Fin 1 → IVec S16 32) a x).toNat < S16.size a)
theorem k0_idx98_inb : ∀ (v216 : IVec S16 32) (k0_hw196 : k0_chk196 v216), ∀ a x, ((![v216] : Fin 1 → IVec S16 32) a x).toNat < S16.size a := fun v216 k0_hw196 => k0_hw196
def k0_mult106 (v251 : BitVec 32) : BitVec 32 :=
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  v255

def k0_off116 (k0_t7 : Fin k0_t7_loop.trips) (v251 : BitVec 32) : Fin 3 → Nat :=
  let c0_i32_168 : BitVec 32 := 0#32
  let c0_i32_128 : BitVec 32 := 0#32
  let c1_i32_130 : BitVec 32 := 1#32
  let arg12 : BitVec 32 := Scf.iv c0_i32_128 c1_i32_130 k0_t7
  let c16_i32_166 : BitVec 32 := 16#32
  let v257 : BitVec 32 := Scalar.muli arg12 c16_i32_166
  let c2_i32_167 : BitVec 32 := 2#32
  let v258 : BitVec 32 := Scalar.addi v257 c2_i32_167
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  let v256 : BitVec 32 := v255
  ![0, v258.toNat, v256.toNat]

def k0_chk197 (k0_t7 : Fin k0_t7_loop.trips) (v251 : BitVec 32) : Prop :=
  (16 ∣ (k0_mult106 v251).toNat) ∧
  (∀ a, (k0_off116 k0_t7 v251) a + S1x1x16.size a ≤ S2x128x320.size a)
theorem k0_mult106_dvd : ∀ (k0_t7 : Fin k0_t7_loop.trips) (v251 : BitVec 32) (k0_hw197 : k0_chk197 k0_t7 v251), 16 ∣ (k0_mult106 v251).toNat := fun k0_t7 v251 k0_hw197 => k0_hw197.1
theorem k0_off116_inb : ∀ (k0_t7 : Fin k0_t7_loop.trips) (v251 : BitVec 32) (k0_hw197 : k0_chk197 k0_t7 v251), ∀ a, (k0_off116 k0_t7 v251) a + S1x1x16.size a ≤ S2x128x320.size a := fun k0_t7 v251 k0_hw197 => k0_hw197.2

def k0_chk198 (v261 : IVec S16 32) : Prop :=
  (∀ a x, ((![v261] : Fin 1 → IVec S16 32) a x).toNat < S16.size a)
theorem k0_idx99_inb : ∀ (v261 : IVec S16 32) (k0_hw198 : k0_chk198 v261), ∀ a x, ((![v261] : Fin 1 → IVec S16 32) a x).toNat < S16.size a := fun v261 k0_hw198 => k0_hw198
def k0_mult107 (v296 : BitVec 32) : BitVec 32 :=
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  v300

def k0_off117 (k0_t7 : Fin k0_t7_loop.trips) (v296 : BitVec 32) : Fin 3 → Nat :=
  let c0_i32_177 : BitVec 32 := 0#32
  let c0_i32_128 : BitVec 32 := 0#32
  let c1_i32_130 : BitVec 32 := 1#32
  let arg12 : BitVec 32 := Scf.iv c0_i32_128 c1_i32_130 k0_t7
  let c16_i32_175 : BitVec 32 := 16#32
  let v302 : BitVec 32 := Scalar.muli arg12 c16_i32_175
  let c3_i32_176 : BitVec 32 := 3#32
  let v303 : BitVec 32 := Scalar.addi v302 c3_i32_176
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  let v301 : BitVec 32 := v300
  ![0, v303.toNat, v301.toNat]

def k0_chk199 (k0_t7 : Fin k0_t7_loop.trips) (v296 : BitVec 32) : Prop :=
  (16 ∣ (k0_mult107 v296).toNat) ∧
  (∀ a, (k0_off117 k0_t7 v296) a + S1x1x16.size a ≤ S2x128x320.size a)
theorem k0_mult107_dvd : ∀ (k0_t7 : Fin k0_t7_loop.trips) (v296 : BitVec 32) (k0_hw199 : k0_chk199 k0_t7 v296), 16 ∣ (k0_mult107 v296).toNat := fun k0_t7 v296 k0_hw199 => k0_hw199.1
theorem k0_off117_inb : ∀ (k0_t7 : Fin k0_t7_loop.trips) (v296 : BitVec 32) (k0_hw199 : k0_chk199 k0_t7 v296), ∀ a, (k0_off117 k0_t7 v296) a + S1x1x16.size a ≤ S2x128x320.size a := fun k0_t7 v296 k0_hw199 => k0_hw199.2

def k0_chk200 (v306 : IVec S16 32) : Prop :=
  (∀ a x, ((![v306] : Fin 1 → IVec S16 32) a x).toNat < S16.size a)
theorem k0_idx100_inb : ∀ (v306 : IVec S16 32) (k0_hw200 : k0_chk200 v306), ∀ a x, ((![v306] : Fin 1 → IVec S16 32) a x).toNat < S16.size a := fun v306 k0_hw200 => k0_hw200
def k0_mult108 (v341 : BitVec 32) : BitVec 32 :=
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  v345

def k0_off118 (k0_t7 : Fin k0_t7_loop.trips) (v341 : BitVec 32) : Fin 3 → Nat :=
  let c0_i32_186 : BitVec 32 := 0#32
  let c0_i32_128 : BitVec 32 := 0#32
  let c1_i32_130 : BitVec 32 := 1#32
  let arg12 : BitVec 32 := Scf.iv c0_i32_128 c1_i32_130 k0_t7
  let c16_i32_184 : BitVec 32 := 16#32
  let v347 : BitVec 32 := Scalar.muli arg12 c16_i32_184
  let c4_i32_185 : BitVec 32 := 4#32
  let v348 : BitVec 32 := Scalar.addi v347 c4_i32_185
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  let v346 : BitVec 32 := v345
  ![0, v348.toNat, v346.toNat]

def k0_chk201 (k0_t7 : Fin k0_t7_loop.trips) (v341 : BitVec 32) : Prop :=
  (16 ∣ (k0_mult108 v341).toNat) ∧
  (∀ a, (k0_off118 k0_t7 v341) a + S1x1x16.size a ≤ S2x128x320.size a)
theorem k0_mult108_dvd : ∀ (k0_t7 : Fin k0_t7_loop.trips) (v341 : BitVec 32) (k0_hw201 : k0_chk201 k0_t7 v341), 16 ∣ (k0_mult108 v341).toNat := fun k0_t7 v341 k0_hw201 => k0_hw201.1
theorem k0_off118_inb : ∀ (k0_t7 : Fin k0_t7_loop.trips) (v341 : BitVec 32) (k0_hw201 : k0_chk201 k0_t7 v341), ∀ a, (k0_off118 k0_t7 v341) a + S1x1x16.size a ≤ S2x128x320.size a := fun k0_t7 v341 k0_hw201 => k0_hw201.2

def k0_chk202 (v351 : IVec S16 32) : Prop :=
  (∀ a x, ((![v351] : Fin 1 → IVec S16 32) a x).toNat < S16.size a)
theorem k0_idx101_inb : ∀ (v351 : IVec S16 32) (k0_hw202 : k0_chk202 v351), ∀ a x, ((![v351] : Fin 1 → IVec S16 32) a x).toNat < S16.size a := fun v351 k0_hw202 => k0_hw202
def k0_mult109 (v386 : BitVec 32) : BitVec 32 :=
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  v390

def k0_off119 (k0_t7 : Fin k0_t7_loop.trips) (v386 : BitVec 32) : Fin 3 → Nat :=
  let c0_i32_194 : BitVec 32 := 0#32
  let c0_i32_128 : BitVec 32 := 0#32
  let c1_i32_130 : BitVec 32 := 1#32
  let arg12 : BitVec 32 := Scf.iv c0_i32_128 c1_i32_130 k0_t7
  let c16_i32_193 : BitVec 32 := 16#32
  let v392 : BitVec 32 := Scalar.muli arg12 c16_i32_193
  let c5_i32 : BitVec 32 := 5#32
  let v393 : BitVec 32 := Scalar.addi v392 c5_i32
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  let v391 : BitVec 32 := v390
  ![0, v393.toNat, v391.toNat]

def k0_chk203 (k0_t7 : Fin k0_t7_loop.trips) (v386 : BitVec 32) : Prop :=
  (16 ∣ (k0_mult109 v386).toNat) ∧
  (∀ a, (k0_off119 k0_t7 v386) a + S1x1x16.size a ≤ S2x128x320.size a)
theorem k0_mult109_dvd : ∀ (k0_t7 : Fin k0_t7_loop.trips) (v386 : BitVec 32) (k0_hw203 : k0_chk203 k0_t7 v386), 16 ∣ (k0_mult109 v386).toNat := fun k0_t7 v386 k0_hw203 => k0_hw203.1
theorem k0_off119_inb : ∀ (k0_t7 : Fin k0_t7_loop.trips) (v386 : BitVec 32) (k0_hw203 : k0_chk203 k0_t7 v386), ∀ a, (k0_off119 k0_t7 v386) a + S1x1x16.size a ≤ S2x128x320.size a := fun k0_t7 v386 k0_hw203 => k0_hw203.2

def k0_chk204 (v396 : IVec S16 32) : Prop :=
  (∀ a x, ((![v396] : Fin 1 → IVec S16 32) a x).toNat < S16.size a)
theorem k0_idx102_inb : ∀ (v396 : IVec S16 32) (k0_hw204 : k0_chk204 v396), ∀ a x, ((![v396] : Fin 1 → IVec S16 32) a x).toNat < S16.size a := fun v396 k0_hw204 => k0_hw204
def k0_mult110 (v431 : BitVec 32) : BitVec 32 :=
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  v435

def k0_off120 (k0_t7 : Fin k0_t7_loop.trips) (v431 : BitVec 32) : Fin 3 → Nat :=
  let c0_i32_202 : BitVec 32 := 0#32
  let c0_i32_128 : BitVec 32 := 0#32
  let c1_i32_130 : BitVec 32 := 1#32
  let arg12 : BitVec 32 := Scf.iv c0_i32_128 c1_i32_130 k0_t7
  let c16_i32_201 : BitVec 32 := 16#32
  let v437 : BitVec 32 := Scalar.muli arg12 c16_i32_201
  let c6_i32 : BitVec 32 := 6#32
  let v438 : BitVec 32 := Scalar.addi v437 c6_i32
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  let v436 : BitVec 32 := v435
  ![0, v438.toNat, v436.toNat]

def k0_chk205 (k0_t7 : Fin k0_t7_loop.trips) (v431 : BitVec 32) : Prop :=
  (16 ∣ (k0_mult110 v431).toNat) ∧
  (∀ a, (k0_off120 k0_t7 v431) a + S1x1x16.size a ≤ S2x128x320.size a)
theorem k0_mult110_dvd : ∀ (k0_t7 : Fin k0_t7_loop.trips) (v431 : BitVec 32) (k0_hw205 : k0_chk205 k0_t7 v431), 16 ∣ (k0_mult110 v431).toNat := fun k0_t7 v431 k0_hw205 => k0_hw205.1
theorem k0_off120_inb : ∀ (k0_t7 : Fin k0_t7_loop.trips) (v431 : BitVec 32) (k0_hw205 : k0_chk205 k0_t7 v431), ∀ a, (k0_off120 k0_t7 v431) a + S1x1x16.size a ≤ S2x128x320.size a := fun k0_t7 v431 k0_hw205 => k0_hw205.2

def k0_chk206 (v441 : IVec S16 32) : Prop :=
  (∀ a x, ((![v441] : Fin 1 → IVec S16 32) a x).toNat < S16.size a)
theorem k0_idx103_inb : ∀ (v441 : IVec S16 32) (k0_hw206 : k0_chk206 v441), ∀ a x, ((![v441] : Fin 1 → IVec S16 32) a x).toNat < S16.size a := fun v441 k0_hw206 => k0_hw206
def k0_mult111 (v476 : BitVec 32) : BitVec 32 :=
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  v480

def k0_off121 (k0_t7 : Fin k0_t7_loop.trips) (v476 : BitVec 32) : Fin 3 → Nat :=
  let c0_i32_210 : BitVec 32 := 0#32
  let c0_i32_128 : BitVec 32 := 0#32
  let c1_i32_130 : BitVec 32 := 1#32
  let arg12 : BitVec 32 := Scf.iv c0_i32_128 c1_i32_130 k0_t7
  let c16_i32_209 : BitVec 32 := 16#32
  let v482 : BitVec 32 := Scalar.muli arg12 c16_i32_209
  let c7_i32 : BitVec 32 := 7#32
  let v483 : BitVec 32 := Scalar.addi v482 c7_i32
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  let v481 : BitVec 32 := v480
  ![0, v483.toNat, v481.toNat]

def k0_chk207 (k0_t7 : Fin k0_t7_loop.trips) (v476 : BitVec 32) : Prop :=
  (16 ∣ (k0_mult111 v476).toNat) ∧
  (∀ a, (k0_off121 k0_t7 v476) a + S1x1x16.size a ≤ S2x128x320.size a)
theorem k0_mult111_dvd : ∀ (k0_t7 : Fin k0_t7_loop.trips) (v476 : BitVec 32) (k0_hw207 : k0_chk207 k0_t7 v476), 16 ∣ (k0_mult111 v476).toNat := fun k0_t7 v476 k0_hw207 => k0_hw207.1
theorem k0_off121_inb : ∀ (k0_t7 : Fin k0_t7_loop.trips) (v476 : BitVec 32) (k0_hw207 : k0_chk207 k0_t7 v476), ∀ a, (k0_off121 k0_t7 v476) a + S1x1x16.size a ≤ S2x128x320.size a := fun k0_t7 v476 k0_hw207 => k0_hw207.2

def k0_chk208 (v486 : IVec S16 32) : Prop :=
  (∀ a x, ((![v486] : Fin 1 → IVec S16 32) a x).toNat < S16.size a)
theorem k0_idx104_inb : ∀ (v486 : IVec S16 32) (k0_hw208 : k0_chk208 v486), ∀ a x, ((![v486] : Fin 1 → IVec S16 32) a x).toNat < S16.size a := fun v486 k0_hw208 => k0_hw208
def k0_mult112 (v521 : BitVec 32) : BitVec 32 :=
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  v525

def k0_off122 (k0_t7 : Fin k0_t7_loop.trips) (v521 : BitVec 32) : Fin 3 → Nat :=
  let c0_i32_219 : BitVec 32 := 0#32
  let c0_i32_128 : BitVec 32 := 0#32
  let c1_i32_130 : BitVec 32 := 1#32
  let arg12 : BitVec 32 := Scf.iv c0_i32_128 c1_i32_130 k0_t7
  let c16_i32_217 : BitVec 32 := 16#32
  let v527 : BitVec 32 := Scalar.muli arg12 c16_i32_217
  let c8_i32_218 : BitVec 32 := 8#32
  let v528 : BitVec 32 := Scalar.addi v527 c8_i32_218
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  let v526 : BitVec 32 := v525
  ![0, v528.toNat, v526.toNat]

def k0_chk209 (k0_t7 : Fin k0_t7_loop.trips) (v521 : BitVec 32) : Prop :=
  (16 ∣ (k0_mult112 v521).toNat) ∧
  (∀ a, (k0_off122 k0_t7 v521) a + S1x1x16.size a ≤ S2x128x320.size a)
theorem k0_mult112_dvd : ∀ (k0_t7 : Fin k0_t7_loop.trips) (v521 : BitVec 32) (k0_hw209 : k0_chk209 k0_t7 v521), 16 ∣ (k0_mult112 v521).toNat := fun k0_t7 v521 k0_hw209 => k0_hw209.1
theorem k0_off122_inb : ∀ (k0_t7 : Fin k0_t7_loop.trips) (v521 : BitVec 32) (k0_hw209 : k0_chk209 k0_t7 v521), ∀ a, (k0_off122 k0_t7 v521) a + S1x1x16.size a ≤ S2x128x320.size a := fun k0_t7 v521 k0_hw209 => k0_hw209.2

def k0_chk210 (v531 : IVec S16 32) : Prop :=
  (∀ a x, ((![v531] : Fin 1 → IVec S16 32) a x).toNat < S16.size a)
theorem k0_idx105_inb : ∀ (v531 : IVec S16 32) (k0_hw210 : k0_chk210 v531), ∀ a x, ((![v531] : Fin 1 → IVec S16 32) a x).toNat < S16.size a := fun v531 k0_hw210 => k0_hw210
def k0_mult113 (v566 : BitVec 32) : BitVec 32 :=
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  v570

def k0_off123 (k0_t7 : Fin k0_t7_loop.trips) (v566 : BitVec 32) : Fin 3 → Nat :=
  let c0_i32_227 : BitVec 32 := 0#32
  let c0_i32_128 : BitVec 32 := 0#32
  let c1_i32_130 : BitVec 32 := 1#32
  let arg12 : BitVec 32 := Scf.iv c0_i32_128 c1_i32_130 k0_t7
  let c16_i32_226 : BitVec 32 := 16#32
  let v572 : BitVec 32 := Scalar.muli arg12 c16_i32_226
  let c9_i32 : BitVec 32 := 9#32
  let v573 : BitVec 32 := Scalar.addi v572 c9_i32
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  let v571 : BitVec 32 := v570
  ![0, v573.toNat, v571.toNat]

def k0_chk211 (k0_t7 : Fin k0_t7_loop.trips) (v566 : BitVec 32) : Prop :=
  (16 ∣ (k0_mult113 v566).toNat) ∧
  (∀ a, (k0_off123 k0_t7 v566) a + S1x1x16.size a ≤ S2x128x320.size a)
theorem k0_mult113_dvd : ∀ (k0_t7 : Fin k0_t7_loop.trips) (v566 : BitVec 32) (k0_hw211 : k0_chk211 k0_t7 v566), 16 ∣ (k0_mult113 v566).toNat := fun k0_t7 v566 k0_hw211 => k0_hw211.1
theorem k0_off123_inb : ∀ (k0_t7 : Fin k0_t7_loop.trips) (v566 : BitVec 32) (k0_hw211 : k0_chk211 k0_t7 v566), ∀ a, (k0_off123 k0_t7 v566) a + S1x1x16.size a ≤ S2x128x320.size a := fun k0_t7 v566 k0_hw211 => k0_hw211.2

def k0_chk212 (v576 : IVec S16 32) : Prop :=
  (∀ a x, ((![v576] : Fin 1 → IVec S16 32) a x).toNat < S16.size a)
theorem k0_idx106_inb : ∀ (v576 : IVec S16 32) (k0_hw212 : k0_chk212 v576), ∀ a x, ((![v576] : Fin 1 → IVec S16 32) a x).toNat < S16.size a := fun v576 k0_hw212 => k0_hw212
def k0_mult114 (v611 : BitVec 32) : BitVec 32 :=
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  v615

def k0_off124 (k0_t7 : Fin k0_t7_loop.trips) (v611 : BitVec 32) : Fin 3 → Nat :=
  let c0_i32_235 : BitVec 32 := 0#32
  let c0_i32_128 : BitVec 32 := 0#32
  let c1_i32_130 : BitVec 32 := 1#32
  let arg12 : BitVec 32 := Scf.iv c0_i32_128 c1_i32_130 k0_t7
  let c16_i32_234 : BitVec 32 := 16#32
  let v617 : BitVec 32 := Scalar.muli arg12 c16_i32_234
  let c10_i32 : BitVec 32 := 10#32
  let v618 : BitVec 32 := Scalar.addi v617 c10_i32
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  let v616 : BitVec 32 := v615
  ![0, v618.toNat, v616.toNat]

def k0_chk213 (k0_t7 : Fin k0_t7_loop.trips) (v611 : BitVec 32) : Prop :=
  (16 ∣ (k0_mult114 v611).toNat) ∧
  (∀ a, (k0_off124 k0_t7 v611) a + S1x1x16.size a ≤ S2x128x320.size a)
theorem k0_mult114_dvd : ∀ (k0_t7 : Fin k0_t7_loop.trips) (v611 : BitVec 32) (k0_hw213 : k0_chk213 k0_t7 v611), 16 ∣ (k0_mult114 v611).toNat := fun k0_t7 v611 k0_hw213 => k0_hw213.1
theorem k0_off124_inb : ∀ (k0_t7 : Fin k0_t7_loop.trips) (v611 : BitVec 32) (k0_hw213 : k0_chk213 k0_t7 v611), ∀ a, (k0_off124 k0_t7 v611) a + S1x1x16.size a ≤ S2x128x320.size a := fun k0_t7 v611 k0_hw213 => k0_hw213.2

def k0_chk214 (v621 : IVec S16 32) : Prop :=
  (∀ a x, ((![v621] : Fin 1 → IVec S16 32) a x).toNat < S16.size a)
theorem k0_idx107_inb : ∀ (v621 : IVec S16 32) (k0_hw214 : k0_chk214 v621), ∀ a x, ((![v621] : Fin 1 → IVec S16 32) a x).toNat < S16.size a := fun v621 k0_hw214 => k0_hw214
def k0_mult115 (v656 : BitVec 32) : BitVec 32 :=
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  v660

def k0_off125 (k0_t7 : Fin k0_t7_loop.trips) (v656 : BitVec 32) : Fin 3 → Nat :=
  let c0_i32_243 : BitVec 32 := 0#32
  let c0_i32_128 : BitVec 32 := 0#32
  let c1_i32_130 : BitVec 32 := 1#32
  let arg12 : BitVec 32 := Scf.iv c0_i32_128 c1_i32_130 k0_t7
  let c16_i32_242 : BitVec 32 := 16#32
  let v662 : BitVec 32 := Scalar.muli arg12 c16_i32_242
  let c11_i32 : BitVec 32 := 11#32
  let v663 : BitVec 32 := Scalar.addi v662 c11_i32
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  let v661 : BitVec 32 := v660
  ![0, v663.toNat, v661.toNat]

def k0_chk215 (k0_t7 : Fin k0_t7_loop.trips) (v656 : BitVec 32) : Prop :=
  (16 ∣ (k0_mult115 v656).toNat) ∧
  (∀ a, (k0_off125 k0_t7 v656) a + S1x1x16.size a ≤ S2x128x320.size a)
theorem k0_mult115_dvd : ∀ (k0_t7 : Fin k0_t7_loop.trips) (v656 : BitVec 32) (k0_hw215 : k0_chk215 k0_t7 v656), 16 ∣ (k0_mult115 v656).toNat := fun k0_t7 v656 k0_hw215 => k0_hw215.1
theorem k0_off125_inb : ∀ (k0_t7 : Fin k0_t7_loop.trips) (v656 : BitVec 32) (k0_hw215 : k0_chk215 k0_t7 v656), ∀ a, (k0_off125 k0_t7 v656) a + S1x1x16.size a ≤ S2x128x320.size a := fun k0_t7 v656 k0_hw215 => k0_hw215.2

def k0_chk216 (v666 : IVec S16 32) : Prop :=
  (∀ a x, ((![v666] : Fin 1 → IVec S16 32) a x).toNat < S16.size a)
theorem k0_idx108_inb : ∀ (v666 : IVec S16 32) (k0_hw216 : k0_chk216 v666), ∀ a x, ((![v666] : Fin 1 → IVec S16 32) a x).toNat < S16.size a := fun v666 k0_hw216 => k0_hw216
def k0_mult116 (v701 : BitVec 32) : BitVec 32 :=
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  v705

def k0_off126 (k0_t7 : Fin k0_t7_loop.trips) (v701 : BitVec 32) : Fin 3 → Nat :=
  let c0_i32_251 : BitVec 32 := 0#32
  let c0_i32_128 : BitVec 32 := 0#32
  let c1_i32_130 : BitVec 32 := 1#32
  let arg12 : BitVec 32 := Scf.iv c0_i32_128 c1_i32_130 k0_t7
  let c16_i32_250 : BitVec 32 := 16#32
  let v707 : BitVec 32 := Scalar.muli arg12 c16_i32_250
  let c12_i32 : BitVec 32 := 12#32
  let v708 : BitVec 32 := Scalar.addi v707 c12_i32
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  let v706 : BitVec 32 := v705
  ![0, v708.toNat, v706.toNat]

def k0_chk217 (k0_t7 : Fin k0_t7_loop.trips) (v701 : BitVec 32) : Prop :=
  (16 ∣ (k0_mult116 v701).toNat) ∧
  (∀ a, (k0_off126 k0_t7 v701) a + S1x1x16.size a ≤ S2x128x320.size a)
theorem k0_mult116_dvd : ∀ (k0_t7 : Fin k0_t7_loop.trips) (v701 : BitVec 32) (k0_hw217 : k0_chk217 k0_t7 v701), 16 ∣ (k0_mult116 v701).toNat := fun k0_t7 v701 k0_hw217 => k0_hw217.1
theorem k0_off126_inb : ∀ (k0_t7 : Fin k0_t7_loop.trips) (v701 : BitVec 32) (k0_hw217 : k0_chk217 k0_t7 v701), ∀ a, (k0_off126 k0_t7 v701) a + S1x1x16.size a ≤ S2x128x320.size a := fun k0_t7 v701 k0_hw217 => k0_hw217.2

def k0_chk218 (v711 : IVec S16 32) : Prop :=
  (∀ a x, ((![v711] : Fin 1 → IVec S16 32) a x).toNat < S16.size a)
theorem k0_idx109_inb : ∀ (v711 : IVec S16 32) (k0_hw218 : k0_chk218 v711), ∀ a x, ((![v711] : Fin 1 → IVec S16 32) a x).toNat < S16.size a := fun v711 k0_hw218 => k0_hw218
def k0_mult117 (v746 : BitVec 32) : BitVec 32 :=
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  v750

def k0_off127 (k0_t7 : Fin k0_t7_loop.trips) (v746 : BitVec 32) : Fin 3 → Nat :=
  let c0_i32_259 : BitVec 32 := 0#32
  let c0_i32_128 : BitVec 32 := 0#32
  let c1_i32_130 : BitVec 32 := 1#32
  let arg12 : BitVec 32 := Scf.iv c0_i32_128 c1_i32_130 k0_t7
  let c16_i32_258 : BitVec 32 := 16#32
  let v752 : BitVec 32 := Scalar.muli arg12 c16_i32_258
  let c13_i32 : BitVec 32 := 13#32
  let v753 : BitVec 32 := Scalar.addi v752 c13_i32
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  let v751 : BitVec 32 := v750
  ![0, v753.toNat, v751.toNat]

def k0_chk219 (k0_t7 : Fin k0_t7_loop.trips) (v746 : BitVec 32) : Prop :=
  (16 ∣ (k0_mult117 v746).toNat) ∧
  (∀ a, (k0_off127 k0_t7 v746) a + S1x1x16.size a ≤ S2x128x320.size a)
theorem k0_mult117_dvd : ∀ (k0_t7 : Fin k0_t7_loop.trips) (v746 : BitVec 32) (k0_hw219 : k0_chk219 k0_t7 v746), 16 ∣ (k0_mult117 v746).toNat := fun k0_t7 v746 k0_hw219 => k0_hw219.1
theorem k0_off127_inb : ∀ (k0_t7 : Fin k0_t7_loop.trips) (v746 : BitVec 32) (k0_hw219 : k0_chk219 k0_t7 v746), ∀ a, (k0_off127 k0_t7 v746) a + S1x1x16.size a ≤ S2x128x320.size a := fun k0_t7 v746 k0_hw219 => k0_hw219.2

def k0_chk220 (v756 : IVec S16 32) : Prop :=
  (∀ a x, ((![v756] : Fin 1 → IVec S16 32) a x).toNat < S16.size a)
theorem k0_idx110_inb : ∀ (v756 : IVec S16 32) (k0_hw220 : k0_chk220 v756), ∀ a x, ((![v756] : Fin 1 → IVec S16 32) a x).toNat < S16.size a := fun v756 k0_hw220 => k0_hw220
def k0_mult118 (v791 : BitVec 32) : BitVec 32 :=
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  v795

def k0_off128 (k0_t7 : Fin k0_t7_loop.trips) (v791 : BitVec 32) : Fin 3 → Nat :=
  let c0_i32_267 : BitVec 32 := 0#32
  let c0_i32_128 : BitVec 32 := 0#32
  let c1_i32_130 : BitVec 32 := 1#32
  let arg12 : BitVec 32 := Scf.iv c0_i32_128 c1_i32_130 k0_t7
  let c16_i32_266 : BitVec 32 := 16#32
  let v797 : BitVec 32 := Scalar.muli arg12 c16_i32_266
  let c14_i32 : BitVec 32 := 14#32
  let v798 : BitVec 32 := Scalar.addi v797 c14_i32
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  let v796 : BitVec 32 := v795
  ![0, v798.toNat, v796.toNat]

def k0_chk221 (k0_t7 : Fin k0_t7_loop.trips) (v791 : BitVec 32) : Prop :=
  (16 ∣ (k0_mult118 v791).toNat) ∧
  (∀ a, (k0_off128 k0_t7 v791) a + S1x1x16.size a ≤ S2x128x320.size a)
theorem k0_mult118_dvd : ∀ (k0_t7 : Fin k0_t7_loop.trips) (v791 : BitVec 32) (k0_hw221 : k0_chk221 k0_t7 v791), 16 ∣ (k0_mult118 v791).toNat := fun k0_t7 v791 k0_hw221 => k0_hw221.1
theorem k0_off128_inb : ∀ (k0_t7 : Fin k0_t7_loop.trips) (v791 : BitVec 32) (k0_hw221 : k0_chk221 k0_t7 v791), ∀ a, (k0_off128 k0_t7 v791) a + S1x1x16.size a ≤ S2x128x320.size a := fun k0_t7 v791 k0_hw221 => k0_hw221.2

def k0_chk222 (v801 : IVec S16 32) : Prop :=
  (∀ a x, ((![v801] : Fin 1 → IVec S16 32) a x).toNat < S16.size a)
theorem k0_idx111_inb : ∀ (v801 : IVec S16 32) (k0_hw222 : k0_chk222 v801), ∀ a x, ((![v801] : Fin 1 → IVec S16 32) a x).toNat < S16.size a := fun v801 k0_hw222 => k0_hw222
def k0_mult119 (v836 : BitVec 32) : BitVec 32 :=
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  v840

def k0_off129 (k0_t7 : Fin k0_t7_loop.trips) (v836 : BitVec 32) : Fin 3 → Nat :=
  let c0_i32_275 : BitVec 32 := 0#32
  let c0_i32_128 : BitVec 32 := 0#32
  let c1_i32_130 : BitVec 32 := 1#32
  let arg12 : BitVec 32 := Scf.iv c0_i32_128 c1_i32_130 k0_t7
  let c16_i32_274 : BitVec 32 := 16#32
  let v842 : BitVec 32 := Scalar.muli arg12 c16_i32_274
  let c15_i32 : BitVec 32 := 15#32
  let v843 : BitVec 32 := Scalar.addi v842 c15_i32
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  let v841 : BitVec 32 := v840
  ![0, v843.toNat, v841.toNat]

def k0_chk223 (k0_t7 : Fin k0_t7_loop.trips) (v836 : BitVec 32) : Prop :=
  (16 ∣ (k0_mult119 v836).toNat) ∧
  (∀ a, (k0_off129 k0_t7 v836) a + S1x1x16.size a ≤ S2x128x320.size a)
theorem k0_mult119_dvd : ∀ (k0_t7 : Fin k0_t7_loop.trips) (v836 : BitVec 32) (k0_hw223 : k0_chk223 k0_t7 v836), 16 ∣ (k0_mult119 v836).toNat := fun k0_t7 v836 k0_hw223 => k0_hw223.1
theorem k0_off129_inb : ∀ (k0_t7 : Fin k0_t7_loop.trips) (v836 : BitVec 32) (k0_hw223 : k0_chk223 k0_t7 v836), ∀ a, (k0_off129 k0_t7 v836) a + S1x1x16.size a ≤ S2x128x320.size a := fun k0_t7 v836 k0_hw223 => k0_hw223.2

def k0_chk224 (v846 : IVec S16 32) : Prop :=
  (∀ a x, ((![v846] : Fin 1 → IVec S16 32) a x).toNat < S16.size a)
theorem k0_idx112_inb : ∀ (v846 : IVec S16 32) (k0_hw224 : k0_chk224 v846), ∀ a x, ((![v846] : Fin 1 → IVec S16 32) a x).toNat < S16.size a := fun v846 k0_hw224 => k0_hw224
@[reducible] def k0_t8_loop : Scf.Loop 32 :=
  let c0_i32_139 : BitVec 32 := 0#32
  let c8_i32_140 : BitVec 32 := 8#32
  let v128 : BitVec 32 := Scalar.addi c0_i32_139 c8_i32_140
  let c1_i32_141 : BitVec 32 := 1#32
  ⟨c0_i32_139, v128, c1_i32_141⟩
def k0_mult120 (k0_t8 : Fin k0_t8_loop.trips) : BitVec 32 :=
  let c896_i32_145 : BitVec 32 := 896#32
  let c0_i32_139 : BitVec 32 := 0#32
  let c1_i32_141 : BitVec 32 := 1#32
  let arg12 : BitVec 32 := Scf.iv c0_i32_139 c1_i32_141 k0_t8
  let c16_i32 : BitVec 32 := 16#32
  let v138 : BitVec 32 := Scalar.muli arg12 c16_i32
  let v139 : BitVec 32 := Scalar.addi c896_i32_145 v138
  v139
def k0_off130 (k0_t8 : Fin k0_t8_loop.trips) : Fin 1 → Nat :=
  let c896_i32_145 : BitVec 32 := 896#32
  let c0_i32_139 : BitVec 32 := 0#32
  let c1_i32_141 : BitVec 32 := 1#32
  let arg12 : BitVec 32 := Scf.iv c0_i32_139 c1_i32_141 k0_t8
  let c16_i32 : BitVec 32 := 16#32
  let v138 : BitVec 32 := Scalar.muli arg12 c16_i32
  let v139 : BitVec 32 := Scalar.addi c896_i32_145 v138
  let v140 : BitVec 32 := v139
  let v141 : Index := Scalar.indexCast v140
  ![v141.toNat]
def k0_off131 (k0_t8 : Fin k0_t8_loop.trips) (c0_i32_146 : BitVec 32) : Fin 1 → Nat :=
  let c896_i32_145 : BitVec 32 := 896#32
  let c0_i32_139 : BitVec 32 := 0#32
  let c1_i32_141 : BitVec 32 := 1#32
  let arg12 : BitVec 32 := Scf.iv c0_i32_139 c1_i32_141 k0_t8
  let c16_i32 : BitVec 32 := 16#32
  let v138 : BitVec 32 := Scalar.muli arg12 c16_i32
  let v139 : BitVec 32 := Scalar.addi c896_i32_145 v138
  let v140 : BitVec 32 := v139
  let v144 : BitVec 32 := Scalar.addi c0_i32_146 v140
  let v145 : Index := Scalar.indexCast v144
  ![v145.toNat]
def k0_mult121 (v161 : BitVec 32) : BitVec 32 :=
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  v165

def k0_off132 (k0_t8 : Fin k0_t8_loop.trips) (v161 : BitVec 32) : Fin 3 → Nat :=
  let c1_i32_151 : BitVec 32 := 1#32
  let c0_i32_139 : BitVec 32 := 0#32
  let c1_i32_141 : BitVec 32 := 1#32
  let arg12 : BitVec 32 := Scf.iv c0_i32_139 c1_i32_141 k0_t8
  let c16_i32_149 : BitVec 32 := 16#32
  let v167 : BitVec 32 := Scalar.muli arg12 c16_i32_149
  let c0_i32_150 : BitVec 32 := 0#32
  let v168 : BitVec 32 := Scalar.addi v167 c0_i32_150
  let c0_i32_148 : BitVec 32 := 0#32
  let v162 : BitVec 32 := Scalar.maxsi v161 c0_i32_148
  let c79_i32 : BitVec 32 := 79#32
  let v163 : BitVec 32 := Scalar.minsi v162 c79_i32
  let c4_i32 : BitVec 32 := 4#32
  let v164 : BitVec 32 := Scalar.muli v163 c4_i32
  let c_m16_i32 : BitVec 32 := 4294967280#32
  let v165 : BitVec 32 := Scalar.andi v164 c_m16_i32
  let v166 : BitVec 32 := v165
  ![1, v168.toNat, v166.toNat]

def k0_chk225 (k0_t8 : Fin k0_t8_loop.trips) (v161 : BitVec 32) : Prop :=
  (16 ∣ (k0_mult121 v161).toNat) ∧
  (∀ a, (k0_off132 k0_t8 v161) a + S1x1x16.size a ≤ S2x128x320.size a)
theorem k0_mult121_dvd : ∀ (k0_t8 : Fin k0_t8_loop.trips) (v161 : BitVec 32) (k0_hw225 : k0_chk225 k0_t8 v161), 16 ∣ (k0_mult121 v161).toNat := fun k0_t8 v161 k0_hw225 => k0_hw225.1
theorem k0_off132_inb : ∀ (k0_t8 : Fin k0_t8_loop.trips) (v161 : BitVec 32) (k0_hw225 : k0_chk225 k0_t8 v161), ∀ a, (k0_off132 k0_t8 v161) a + S1x1x16.size a ≤ S2x128x320.size a := fun k0_t8 v161 k0_hw225 => k0_hw225.2

def k0_chk226 (v171 : IVec S16 32) : Prop :=
  (∀ a x, ((![v171] : Fin 1 → IVec S16 32) a x).toNat < S16.size a)
theorem k0_idx113_inb : ∀ (v171 : IVec S16 32) (k0_hw226 : k0_chk226 v171), ∀ a x, ((![v171] : Fin 1 → IVec S16 32) a x).toNat < S16.size a := fun v171 k0_hw226 => k0_hw226
def k0_mult122 (v206 : BitVec 32) : BitVec 32 :=
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  v210

def k0_off133 (k0_t8 : Fin k0_t8_loop.trips) (v206 : BitVec 32) : Fin 3 → Nat :=
  let c1_i32_159 : BitVec 32 := 1#32
  let c0_i32_139 : BitVec 32 := 0#32
  let c1_i32_141 : BitVec 32 := 1#32
  let arg12 : BitVec 32 := Scf.iv c0_i32_139 c1_i32_141 k0_t8
  let c16_i32_157 : BitVec 32 := 16#32
  let v212 : BitVec 32 := Scalar.muli arg12 c16_i32_157
  let c1_i32_158 : BitVec 32 := 1#32
  let v213 : BitVec 32 := Scalar.addi v212 c1_i32_158
  let c0_i32_153 : BitVec 32 := 0#32
  let v207 : BitVec 32 := Scalar.maxsi v206 c0_i32_153
  let c79_i32_154 : BitVec 32 := 79#32
  let v208 : BitVec 32 := Scalar.minsi v207 c79_i32_154
  let c4_i32_155 : BitVec 32 := 4#32
  let v209 : BitVec 32 := Scalar.muli v208 c4_i32_155
  let c_m16_i32_156 : BitVec 32 := 4294967280#32
  let v210 : BitVec 32 := Scalar.andi v209 c_m16_i32_156
  let v211 : BitVec 32 := v210
  ![1, v213.toNat, v211.toNat]

def k0_chk227 (k0_t8 : Fin k0_t8_loop.trips) (v206 : BitVec 32) : Prop :=
  (16 ∣ (k0_mult122 v206).toNat) ∧
  (∀ a, (k0_off133 k0_t8 v206) a + S1x1x16.size a ≤ S2x128x320.size a)
theorem k0_mult122_dvd : ∀ (k0_t8 : Fin k0_t8_loop.trips) (v206 : BitVec 32) (k0_hw227 : k0_chk227 k0_t8 v206), 16 ∣ (k0_mult122 v206).toNat := fun k0_t8 v206 k0_hw227 => k0_hw227.1
theorem k0_off133_inb : ∀ (k0_t8 : Fin k0_t8_loop.trips) (v206 : BitVec 32) (k0_hw227 : k0_chk227 k0_t8 v206), ∀ a, (k0_off133 k0_t8 v206) a + S1x1x16.size a ≤ S2x128x320.size a := fun k0_t8 v206 k0_hw227 => k0_hw227.2

def k0_chk228 (v216 : IVec S16 32) : Prop :=
  (∀ a x, ((![v216] : Fin 1 → IVec S16 32) a x).toNat < S16.size a)
theorem k0_idx114_inb : ∀ (v216 : IVec S16 32) (k0_hw228 : k0_chk228 v216), ∀ a x, ((![v216] : Fin 1 → IVec S16 32) a x).toNat < S16.size a := fun v216 k0_hw228 => k0_hw228
def k0_mult123 (v251 : BitVec 32) : BitVec 32 :=
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  v255

def k0_off134 (k0_t8 : Fin k0_t8_loop.trips) (v251 : BitVec 32) : Fin 3 → Nat :=
  let c1_i32_168 : BitVec 32 := 1#32
  let c0_i32_139 : BitVec 32 := 0#32
  let c1_i32_141 : BitVec 32 := 1#32
  let arg12 : BitVec 32 := Scf.iv c0_i32_139 c1_i32_141 k0_t8
  let c16_i32_166 : BitVec 32 := 16#32
  let v257 : BitVec 32 := Scalar.muli arg12 c16_i32_166
  let c2_i32_167 : BitVec 32 := 2#32
  let v258 : BitVec 32 := Scalar.addi v257 c2_i32_167
  let c0_i32_162 : BitVec 32 := 0#32
  let v252 : BitVec 32 := Scalar.maxsi v251 c0_i32_162
  let c79_i32_163 : BitVec 32 := 79#32
  let v253 : BitVec 32 := Scalar.minsi v252 c79_i32_163
  let c4_i32_164 : BitVec 32 := 4#32
  let v254 : BitVec 32 := Scalar.muli v253 c4_i32_164
  let c_m16_i32_165 : BitVec 32 := 4294967280#32
  let v255 : BitVec 32 := Scalar.andi v254 c_m16_i32_165
  let v256 : BitVec 32 := v255
  ![1, v258.toNat, v256.toNat]

def k0_chk229 (k0_t8 : Fin k0_t8_loop.trips) (v251 : BitVec 32) : Prop :=
  (16 ∣ (k0_mult123 v251).toNat) ∧
  (∀ a, (k0_off134 k0_t8 v251) a + S1x1x16.size a ≤ S2x128x320.size a)
theorem k0_mult123_dvd : ∀ (k0_t8 : Fin k0_t8_loop.trips) (v251 : BitVec 32) (k0_hw229 : k0_chk229 k0_t8 v251), 16 ∣ (k0_mult123 v251).toNat := fun k0_t8 v251 k0_hw229 => k0_hw229.1
theorem k0_off134_inb : ∀ (k0_t8 : Fin k0_t8_loop.trips) (v251 : BitVec 32) (k0_hw229 : k0_chk229 k0_t8 v251), ∀ a, (k0_off134 k0_t8 v251) a + S1x1x16.size a ≤ S2x128x320.size a := fun k0_t8 v251 k0_hw229 => k0_hw229.2

def k0_chk230 (v261 : IVec S16 32) : Prop :=
  (∀ a x, ((![v261] : Fin 1 → IVec S16 32) a x).toNat < S16.size a)
theorem k0_idx115_inb : ∀ (v261 : IVec S16 32) (k0_hw230 : k0_chk230 v261), ∀ a x, ((![v261] : Fin 1 → IVec S16 32) a x).toNat < S16.size a := fun v261 k0_hw230 => k0_hw230
def k0_mult124 (v296 : BitVec 32) : BitVec 32 :=
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  v300

def k0_off135 (k0_t8 : Fin k0_t8_loop.trips) (v296 : BitVec 32) : Fin 3 → Nat :=
  let c1_i32_177 : BitVec 32 := 1#32
  let c0_i32_139 : BitVec 32 := 0#32
  let c1_i32_141 : BitVec 32 := 1#32
  let arg12 : BitVec 32 := Scf.iv c0_i32_139 c1_i32_141 k0_t8
  let c16_i32_175 : BitVec 32 := 16#32
  let v302 : BitVec 32 := Scalar.muli arg12 c16_i32_175
  let c3_i32_176 : BitVec 32 := 3#32
  let v303 : BitVec 32 := Scalar.addi v302 c3_i32_176
  let c0_i32_171 : BitVec 32 := 0#32
  let v297 : BitVec 32 := Scalar.maxsi v296 c0_i32_171
  let c79_i32_172 : BitVec 32 := 79#32
  let v298 : BitVec 32 := Scalar.minsi v297 c79_i32_172
  let c4_i32_173 : BitVec 32 := 4#32
  let v299 : BitVec 32 := Scalar.muli v298 c4_i32_173
  let c_m16_i32_174 : BitVec 32 := 4294967280#32
  let v300 : BitVec 32 := Scalar.andi v299 c_m16_i32_174
  let v301 : BitVec 32 := v300
  ![1, v303.toNat, v301.toNat]

def k0_chk231 (k0_t8 : Fin k0_t8_loop.trips) (v296 : BitVec 32) : Prop :=
  (16 ∣ (k0_mult124 v296).toNat) ∧
  (∀ a, (k0_off135 k0_t8 v296) a + S1x1x16.size a ≤ S2x128x320.size a)
theorem k0_mult124_dvd : ∀ (k0_t8 : Fin k0_t8_loop.trips) (v296 : BitVec 32) (k0_hw231 : k0_chk231 k0_t8 v296), 16 ∣ (k0_mult124 v296).toNat := fun k0_t8 v296 k0_hw231 => k0_hw231.1
theorem k0_off135_inb : ∀ (k0_t8 : Fin k0_t8_loop.trips) (v296 : BitVec 32) (k0_hw231 : k0_chk231 k0_t8 v296), ∀ a, (k0_off135 k0_t8 v296) a + S1x1x16.size a ≤ S2x128x320.size a := fun k0_t8 v296 k0_hw231 => k0_hw231.2

def k0_chk232 (v306 : IVec S16 32) : Prop :=
  (∀ a x, ((![v306] : Fin 1 → IVec S16 32) a x).toNat < S16.size a)
theorem k0_idx116_inb : ∀ (v306 : IVec S16 32) (k0_hw232 : k0_chk232 v306), ∀ a x, ((![v306] : Fin 1 → IVec S16 32) a x).toNat < S16.size a := fun v306 k0_hw232 => k0_hw232
def k0_mult125 (v341 : BitVec 32) : BitVec 32 :=
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  v345

def k0_off136 (k0_t8 : Fin k0_t8_loop.trips) (v341 : BitVec 32) : Fin 3 → Nat :=
  let c1_i32_186 : BitVec 32 := 1#32
  let c0_i32_139 : BitVec 32 := 0#32
  let c1_i32_141 : BitVec 32 := 1#32
  let arg12 : BitVec 32 := Scf.iv c0_i32_139 c1_i32_141 k0_t8
  let c16_i32_184 : BitVec 32 := 16#32
  let v347 : BitVec 32 := Scalar.muli arg12 c16_i32_184
  let c4_i32_185 : BitVec 32 := 4#32
  let v348 : BitVec 32 := Scalar.addi v347 c4_i32_185
  let c0_i32_180 : BitVec 32 := 0#32
  let v342 : BitVec 32 := Scalar.maxsi v341 c0_i32_180
  let c79_i32_181 : BitVec 32 := 79#32
  let v343 : BitVec 32 := Scalar.minsi v342 c79_i32_181
  let c4_i32_182 : BitVec 32 := 4#32
  let v344 : BitVec 32 := Scalar.muli v343 c4_i32_182
  let c_m16_i32_183 : BitVec 32 := 4294967280#32
  let v345 : BitVec 32 := Scalar.andi v344 c_m16_i32_183
  let v346 : BitVec 32 := v345
  ![1, v348.toNat, v346.toNat]

def k0_chk233 (k0_t8 : Fin k0_t8_loop.trips) (v341 : BitVec 32) : Prop :=
  (16 ∣ (k0_mult125 v341).toNat) ∧
  (∀ a, (k0_off136 k0_t8 v341) a + S1x1x16.size a ≤ S2x128x320.size a)
theorem k0_mult125_dvd : ∀ (k0_t8 : Fin k0_t8_loop.trips) (v341 : BitVec 32) (k0_hw233 : k0_chk233 k0_t8 v341), 16 ∣ (k0_mult125 v341).toNat := fun k0_t8 v341 k0_hw233 => k0_hw233.1
theorem k0_off136_inb : ∀ (k0_t8 : Fin k0_t8_loop.trips) (v341 : BitVec 32) (k0_hw233 : k0_chk233 k0_t8 v341), ∀ a, (k0_off136 k0_t8 v341) a + S1x1x16.size a ≤ S2x128x320.size a := fun k0_t8 v341 k0_hw233 => k0_hw233.2

def k0_chk234 (v351 : IVec S16 32) : Prop :=
  (∀ a x, ((![v351] : Fin 1 → IVec S16 32) a x).toNat < S16.size a)
theorem k0_idx117_inb : ∀ (v351 : IVec S16 32) (k0_hw234 : k0_chk234 v351), ∀ a x, ((![v351] : Fin 1 → IVec S16 32) a x).toNat < S16.size a := fun v351 k0_hw234 => k0_hw234
def k0_mult126 (v386 : BitVec 32) : BitVec 32 :=
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  v390

def k0_off137 (k0_t8 : Fin k0_t8_loop.trips) (v386 : BitVec 32) : Fin 3 → Nat :=
  let c1_i32_194 : BitVec 32 := 1#32
  let c0_i32_139 : BitVec 32 := 0#32
  let c1_i32_141 : BitVec 32 := 1#32
  let arg12 : BitVec 32 := Scf.iv c0_i32_139 c1_i32_141 k0_t8
  let c16_i32_193 : BitVec 32 := 16#32
  let v392 : BitVec 32 := Scalar.muli arg12 c16_i32_193
  let c5_i32 : BitVec 32 := 5#32
  let v393 : BitVec 32 := Scalar.addi v392 c5_i32
  let c0_i32_189 : BitVec 32 := 0#32
  let v387 : BitVec 32 := Scalar.maxsi v386 c0_i32_189
  let c79_i32_190 : BitVec 32 := 79#32
  let v388 : BitVec 32 := Scalar.minsi v387 c79_i32_190
  let c4_i32_191 : BitVec 32 := 4#32
  let v389 : BitVec 32 := Scalar.muli v388 c4_i32_191
  let c_m16_i32_192 : BitVec 32 := 4294967280#32
  let v390 : BitVec 32 := Scalar.andi v389 c_m16_i32_192
  let v391 : BitVec 32 := v390
  ![1, v393.toNat, v391.toNat]

def k0_chk235 (k0_t8 : Fin k0_t8_loop.trips) (v386 : BitVec 32) : Prop :=
  (16 ∣ (k0_mult126 v386).toNat) ∧
  (∀ a, (k0_off137 k0_t8 v386) a + S1x1x16.size a ≤ S2x128x320.size a)
theorem k0_mult126_dvd : ∀ (k0_t8 : Fin k0_t8_loop.trips) (v386 : BitVec 32) (k0_hw235 : k0_chk235 k0_t8 v386), 16 ∣ (k0_mult126 v386).toNat := fun k0_t8 v386 k0_hw235 => k0_hw235.1
theorem k0_off137_inb : ∀ (k0_t8 : Fin k0_t8_loop.trips) (v386 : BitVec 32) (k0_hw235 : k0_chk235 k0_t8 v386), ∀ a, (k0_off137 k0_t8 v386) a + S1x1x16.size a ≤ S2x128x320.size a := fun k0_t8 v386 k0_hw235 => k0_hw235.2

def k0_chk236 (v396 : IVec S16 32) : Prop :=
  (∀ a x, ((![v396] : Fin 1 → IVec S16 32) a x).toNat < S16.size a)
theorem k0_idx118_inb : ∀ (v396 : IVec S16 32) (k0_hw236 : k0_chk236 v396), ∀ a x, ((![v396] : Fin 1 → IVec S16 32) a x).toNat < S16.size a := fun v396 k0_hw236 => k0_hw236
def k0_mult127 (v431 : BitVec 32) : BitVec 32 :=
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  v435

def k0_off138 (k0_t8 : Fin k0_t8_loop.trips) (v431 : BitVec 32) : Fin 3 → Nat :=
  let c1_i32_202 : BitVec 32 := 1#32
  let c0_i32_139 : BitVec 32 := 0#32
  let c1_i32_141 : BitVec 32 := 1#32
  let arg12 : BitVec 32 := Scf.iv c0_i32_139 c1_i32_141 k0_t8
  let c16_i32_201 : BitVec 32 := 16#32
  let v437 : BitVec 32 := Scalar.muli arg12 c16_i32_201
  let c6_i32 : BitVec 32 := 6#32
  let v438 : BitVec 32 := Scalar.addi v437 c6_i32
  let c0_i32_197 : BitVec 32 := 0#32
  let v432 : BitVec 32 := Scalar.maxsi v431 c0_i32_197
  let c79_i32_198 : BitVec 32 := 79#32
  let v433 : BitVec 32 := Scalar.minsi v432 c79_i32_198
  let c4_i32_199 : BitVec 32 := 4#32
  let v434 : BitVec 32 := Scalar.muli v433 c4_i32_199
  let c_m16_i32_200 : BitVec 32 := 4294967280#32
  let v435 : BitVec 32 := Scalar.andi v434 c_m16_i32_200
  let v436 : BitVec 32 := v435
  ![1, v438.toNat, v436.toNat]

def k0_chk237 (k0_t8 : Fin k0_t8_loop.trips) (v431 : BitVec 32) : Prop :=
  (16 ∣ (k0_mult127 v431).toNat) ∧
  (∀ a, (k0_off138 k0_t8 v431) a + S1x1x16.size a ≤ S2x128x320.size a)
theorem k0_mult127_dvd : ∀ (k0_t8 : Fin k0_t8_loop.trips) (v431 : BitVec 32) (k0_hw237 : k0_chk237 k0_t8 v431), 16 ∣ (k0_mult127 v431).toNat := fun k0_t8 v431 k0_hw237 => k0_hw237.1
theorem k0_off138_inb : ∀ (k0_t8 : Fin k0_t8_loop.trips) (v431 : BitVec 32) (k0_hw237 : k0_chk237 k0_t8 v431), ∀ a, (k0_off138 k0_t8 v431) a + S1x1x16.size a ≤ S2x128x320.size a := fun k0_t8 v431 k0_hw237 => k0_hw237.2

def k0_chk238 (v441 : IVec S16 32) : Prop :=
  (∀ a x, ((![v441] : Fin 1 → IVec S16 32) a x).toNat < S16.size a)
theorem k0_idx119_inb : ∀ (v441 : IVec S16 32) (k0_hw238 : k0_chk238 v441), ∀ a x, ((![v441] : Fin 1 → IVec S16 32) a x).toNat < S16.size a := fun v441 k0_hw238 => k0_hw238
def k0_mult128 (v476 : BitVec 32) : BitVec 32 :=
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  v480

def k0_off139 (k0_t8 : Fin k0_t8_loop.trips) (v476 : BitVec 32) : Fin 3 → Nat :=
  let c1_i32_210 : BitVec 32 := 1#32
  let c0_i32_139 : BitVec 32 := 0#32
  let c1_i32_141 : BitVec 32 := 1#32
  let arg12 : BitVec 32 := Scf.iv c0_i32_139 c1_i32_141 k0_t8
  let c16_i32_209 : BitVec 32 := 16#32
  let v482 : BitVec 32 := Scalar.muli arg12 c16_i32_209
  let c7_i32 : BitVec 32 := 7#32
  let v483 : BitVec 32 := Scalar.addi v482 c7_i32
  let c0_i32_205 : BitVec 32 := 0#32
  let v477 : BitVec 32 := Scalar.maxsi v476 c0_i32_205
  let c79_i32_206 : BitVec 32 := 79#32
  let v478 : BitVec 32 := Scalar.minsi v477 c79_i32_206
  let c4_i32_207 : BitVec 32 := 4#32
  let v479 : BitVec 32 := Scalar.muli v478 c4_i32_207
  let c_m16_i32_208 : BitVec 32 := 4294967280#32
  let v480 : BitVec 32 := Scalar.andi v479 c_m16_i32_208
  let v481 : BitVec 32 := v480
  ![1, v483.toNat, v481.toNat]

def k0_chk239 (k0_t8 : Fin k0_t8_loop.trips) (v476 : BitVec 32) : Prop :=
  (16 ∣ (k0_mult128 v476).toNat) ∧
  (∀ a, (k0_off139 k0_t8 v476) a + S1x1x16.size a ≤ S2x128x320.size a)
theorem k0_mult128_dvd : ∀ (k0_t8 : Fin k0_t8_loop.trips) (v476 : BitVec 32) (k0_hw239 : k0_chk239 k0_t8 v476), 16 ∣ (k0_mult128 v476).toNat := fun k0_t8 v476 k0_hw239 => k0_hw239.1
theorem k0_off139_inb : ∀ (k0_t8 : Fin k0_t8_loop.trips) (v476 : BitVec 32) (k0_hw239 : k0_chk239 k0_t8 v476), ∀ a, (k0_off139 k0_t8 v476) a + S1x1x16.size a ≤ S2x128x320.size a := fun k0_t8 v476 k0_hw239 => k0_hw239.2

def k0_chk240 (v486 : IVec S16 32) : Prop :=
  (∀ a x, ((![v486] : Fin 1 → IVec S16 32) a x).toNat < S16.size a)
theorem k0_idx120_inb : ∀ (v486 : IVec S16 32) (k0_hw240 : k0_chk240 v486), ∀ a x, ((![v486] : Fin 1 → IVec S16 32) a x).toNat < S16.size a := fun v486 k0_hw240 => k0_hw240
def k0_mult129 (v521 : BitVec 32) : BitVec 32 :=
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  v525

def k0_off140 (k0_t8 : Fin k0_t8_loop.trips) (v521 : BitVec 32) : Fin 3 → Nat :=
  let c1_i32_219 : BitVec 32 := 1#32
  let c0_i32_139 : BitVec 32 := 0#32
  let c1_i32_141 : BitVec 32 := 1#32
  let arg12 : BitVec 32 := Scf.iv c0_i32_139 c1_i32_141 k0_t8
  let c16_i32_217 : BitVec 32 := 16#32
  let v527 : BitVec 32 := Scalar.muli arg12 c16_i32_217
  let c8_i32_218 : BitVec 32 := 8#32
  let v528 : BitVec 32 := Scalar.addi v527 c8_i32_218
  let c0_i32_213 : BitVec 32 := 0#32
  let v522 : BitVec 32 := Scalar.maxsi v521 c0_i32_213
  let c79_i32_214 : BitVec 32 := 79#32
  let v523 : BitVec 32 := Scalar.minsi v522 c79_i32_214
  let c4_i32_215 : BitVec 32 := 4#32
  let v524 : BitVec 32 := Scalar.muli v523 c4_i32_215
  let c_m16_i32_216 : BitVec 32 := 4294967280#32
  let v525 : BitVec 32 := Scalar.andi v524 c_m16_i32_216
  let v526 : BitVec 32 := v525
  ![1, v528.toNat, v526.toNat]

def k0_chk241 (k0_t8 : Fin k0_t8_loop.trips) (v521 : BitVec 32) : Prop :=
  (16 ∣ (k0_mult129 v521).toNat) ∧
  (∀ a, (k0_off140 k0_t8 v521) a + S1x1x16.size a ≤ S2x128x320.size a)
theorem k0_mult129_dvd : ∀ (k0_t8 : Fin k0_t8_loop.trips) (v521 : BitVec 32) (k0_hw241 : k0_chk241 k0_t8 v521), 16 ∣ (k0_mult129 v521).toNat := fun k0_t8 v521 k0_hw241 => k0_hw241.1
theorem k0_off140_inb : ∀ (k0_t8 : Fin k0_t8_loop.trips) (v521 : BitVec 32) (k0_hw241 : k0_chk241 k0_t8 v521), ∀ a, (k0_off140 k0_t8 v521) a + S1x1x16.size a ≤ S2x128x320.size a := fun k0_t8 v521 k0_hw241 => k0_hw241.2

def k0_chk242 (v531 : IVec S16 32) : Prop :=
  (∀ a x, ((![v531] : Fin 1 → IVec S16 32) a x).toNat < S16.size a)
theorem k0_idx121_inb : ∀ (v531 : IVec S16 32) (k0_hw242 : k0_chk242 v531), ∀ a x, ((![v531] : Fin 1 → IVec S16 32) a x).toNat < S16.size a := fun v531 k0_hw242 => k0_hw242
def k0_mult130 (v566 : BitVec 32) : BitVec 32 :=
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  v570

def k0_off141 (k0_t8 : Fin k0_t8_loop.trips) (v566 : BitVec 32) : Fin 3 → Nat :=
  let c1_i32_227 : BitVec 32 := 1#32
  let c0_i32_139 : BitVec 32 := 0#32
  let c1_i32_141 : BitVec 32 := 1#32
  let arg12 : BitVec 32 := Scf.iv c0_i32_139 c1_i32_141 k0_t8
  let c16_i32_226 : BitVec 32 := 16#32
  let v572 : BitVec 32 := Scalar.muli arg12 c16_i32_226
  let c9_i32 : BitVec 32 := 9#32
  let v573 : BitVec 32 := Scalar.addi v572 c9_i32
  let c0_i32_222 : BitVec 32 := 0#32
  let v567 : BitVec 32 := Scalar.maxsi v566 c0_i32_222
  let c79_i32_223 : BitVec 32 := 79#32
  let v568 : BitVec 32 := Scalar.minsi v567 c79_i32_223
  let c4_i32_224 : BitVec 32 := 4#32
  let v569 : BitVec 32 := Scalar.muli v568 c4_i32_224
  let c_m16_i32_225 : BitVec 32 := 4294967280#32
  let v570 : BitVec 32 := Scalar.andi v569 c_m16_i32_225
  let v571 : BitVec 32 := v570
  ![1, v573.toNat, v571.toNat]

def k0_chk243 (k0_t8 : Fin k0_t8_loop.trips) (v566 : BitVec 32) : Prop :=
  (16 ∣ (k0_mult130 v566).toNat) ∧
  (∀ a, (k0_off141 k0_t8 v566) a + S1x1x16.size a ≤ S2x128x320.size a)
theorem k0_mult130_dvd : ∀ (k0_t8 : Fin k0_t8_loop.trips) (v566 : BitVec 32) (k0_hw243 : k0_chk243 k0_t8 v566), 16 ∣ (k0_mult130 v566).toNat := fun k0_t8 v566 k0_hw243 => k0_hw243.1
theorem k0_off141_inb : ∀ (k0_t8 : Fin k0_t8_loop.trips) (v566 : BitVec 32) (k0_hw243 : k0_chk243 k0_t8 v566), ∀ a, (k0_off141 k0_t8 v566) a + S1x1x16.size a ≤ S2x128x320.size a := fun k0_t8 v566 k0_hw243 => k0_hw243.2

def k0_chk244 (v576 : IVec S16 32) : Prop :=
  (∀ a x, ((![v576] : Fin 1 → IVec S16 32) a x).toNat < S16.size a)
theorem k0_idx122_inb : ∀ (v576 : IVec S16 32) (k0_hw244 : k0_chk244 v576), ∀ a x, ((![v576] : Fin 1 → IVec S16 32) a x).toNat < S16.size a := fun v576 k0_hw244 => k0_hw244
def k0_mult131 (v611 : BitVec 32) : BitVec 32 :=
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  v615

def k0_off142 (k0_t8 : Fin k0_t8_loop.trips) (v611 : BitVec 32) : Fin 3 → Nat :=
  let c1_i32_235 : BitVec 32 := 1#32
  let c0_i32_139 : BitVec 32 := 0#32
  let c1_i32_141 : BitVec 32 := 1#32
  let arg12 : BitVec 32 := Scf.iv c0_i32_139 c1_i32_141 k0_t8
  let c16_i32_234 : BitVec 32 := 16#32
  let v617 : BitVec 32 := Scalar.muli arg12 c16_i32_234
  let c10_i32 : BitVec 32 := 10#32
  let v618 : BitVec 32 := Scalar.addi v617 c10_i32
  let c0_i32_230 : BitVec 32 := 0#32
  let v612 : BitVec 32 := Scalar.maxsi v611 c0_i32_230
  let c79_i32_231 : BitVec 32 := 79#32
  let v613 : BitVec 32 := Scalar.minsi v612 c79_i32_231
  let c4_i32_232 : BitVec 32 := 4#32
  let v614 : BitVec 32 := Scalar.muli v613 c4_i32_232
  let c_m16_i32_233 : BitVec 32 := 4294967280#32
  let v615 : BitVec 32 := Scalar.andi v614 c_m16_i32_233
  let v616 : BitVec 32 := v615
  ![1, v618.toNat, v616.toNat]

def k0_chk245 (k0_t8 : Fin k0_t8_loop.trips) (v611 : BitVec 32) : Prop :=
  (16 ∣ (k0_mult131 v611).toNat) ∧
  (∀ a, (k0_off142 k0_t8 v611) a + S1x1x16.size a ≤ S2x128x320.size a)
theorem k0_mult131_dvd : ∀ (k0_t8 : Fin k0_t8_loop.trips) (v611 : BitVec 32) (k0_hw245 : k0_chk245 k0_t8 v611), 16 ∣ (k0_mult131 v611).toNat := fun k0_t8 v611 k0_hw245 => k0_hw245.1
theorem k0_off142_inb : ∀ (k0_t8 : Fin k0_t8_loop.trips) (v611 : BitVec 32) (k0_hw245 : k0_chk245 k0_t8 v611), ∀ a, (k0_off142 k0_t8 v611) a + S1x1x16.size a ≤ S2x128x320.size a := fun k0_t8 v611 k0_hw245 => k0_hw245.2

def k0_chk246 (v621 : IVec S16 32) : Prop :=
  (∀ a x, ((![v621] : Fin 1 → IVec S16 32) a x).toNat < S16.size a)
theorem k0_idx123_inb : ∀ (v621 : IVec S16 32) (k0_hw246 : k0_chk246 v621), ∀ a x, ((![v621] : Fin 1 → IVec S16 32) a x).toNat < S16.size a := fun v621 k0_hw246 => k0_hw246
def k0_mult132 (v656 : BitVec 32) : BitVec 32 :=
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  v660

def k0_off143 (k0_t8 : Fin k0_t8_loop.trips) (v656 : BitVec 32) : Fin 3 → Nat :=
  let c1_i32_243 : BitVec 32 := 1#32
  let c0_i32_139 : BitVec 32 := 0#32
  let c1_i32_141 : BitVec 32 := 1#32
  let arg12 : BitVec 32 := Scf.iv c0_i32_139 c1_i32_141 k0_t8
  let c16_i32_242 : BitVec 32 := 16#32
  let v662 : BitVec 32 := Scalar.muli arg12 c16_i32_242
  let c11_i32 : BitVec 32 := 11#32
  let v663 : BitVec 32 := Scalar.addi v662 c11_i32
  let c0_i32_238 : BitVec 32 := 0#32
  let v657 : BitVec 32 := Scalar.maxsi v656 c0_i32_238
  let c79_i32_239 : BitVec 32 := 79#32
  let v658 : BitVec 32 := Scalar.minsi v657 c79_i32_239
  let c4_i32_240 : BitVec 32 := 4#32
  let v659 : BitVec 32 := Scalar.muli v658 c4_i32_240
  let c_m16_i32_241 : BitVec 32 := 4294967280#32
  let v660 : BitVec 32 := Scalar.andi v659 c_m16_i32_241
  let v661 : BitVec 32 := v660
  ![1, v663.toNat, v661.toNat]

def k0_chk247 (k0_t8 : Fin k0_t8_loop.trips) (v656 : BitVec 32) : Prop :=
  (16 ∣ (k0_mult132 v656).toNat) ∧
  (∀ a, (k0_off143 k0_t8 v656) a + S1x1x16.size a ≤ S2x128x320.size a)
theorem k0_mult132_dvd : ∀ (k0_t8 : Fin k0_t8_loop.trips) (v656 : BitVec 32) (k0_hw247 : k0_chk247 k0_t8 v656), 16 ∣ (k0_mult132 v656).toNat := fun k0_t8 v656 k0_hw247 => k0_hw247.1
theorem k0_off143_inb : ∀ (k0_t8 : Fin k0_t8_loop.trips) (v656 : BitVec 32) (k0_hw247 : k0_chk247 k0_t8 v656), ∀ a, (k0_off143 k0_t8 v656) a + S1x1x16.size a ≤ S2x128x320.size a := fun k0_t8 v656 k0_hw247 => k0_hw247.2

def k0_chk248 (v666 : IVec S16 32) : Prop :=
  (∀ a x, ((![v666] : Fin 1 → IVec S16 32) a x).toNat < S16.size a)
theorem k0_idx124_inb : ∀ (v666 : IVec S16 32) (k0_hw248 : k0_chk248 v666), ∀ a x, ((![v666] : Fin 1 → IVec S16 32) a x).toNat < S16.size a := fun v666 k0_hw248 => k0_hw248
def k0_mult133 (v701 : BitVec 32) : BitVec 32 :=
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  v705

def k0_off144 (k0_t8 : Fin k0_t8_loop.trips) (v701 : BitVec 32) : Fin 3 → Nat :=
  let c1_i32_251 : BitVec 32 := 1#32
  let c0_i32_139 : BitVec 32 := 0#32
  let c1_i32_141 : BitVec 32 := 1#32
  let arg12 : BitVec 32 := Scf.iv c0_i32_139 c1_i32_141 k0_t8
  let c16_i32_250 : BitVec 32 := 16#32
  let v707 : BitVec 32 := Scalar.muli arg12 c16_i32_250
  let c12_i32 : BitVec 32 := 12#32
  let v708 : BitVec 32 := Scalar.addi v707 c12_i32
  let c0_i32_246 : BitVec 32 := 0#32
  let v702 : BitVec 32 := Scalar.maxsi v701 c0_i32_246
  let c79_i32_247 : BitVec 32 := 79#32
  let v703 : BitVec 32 := Scalar.minsi v702 c79_i32_247
  let c4_i32_248 : BitVec 32 := 4#32
  let v704 : BitVec 32 := Scalar.muli v703 c4_i32_248
  let c_m16_i32_249 : BitVec 32 := 4294967280#32
  let v705 : BitVec 32 := Scalar.andi v704 c_m16_i32_249
  let v706 : BitVec 32 := v705
  ![1, v708.toNat, v706.toNat]

def k0_chk249 (k0_t8 : Fin k0_t8_loop.trips) (v701 : BitVec 32) : Prop :=
  (16 ∣ (k0_mult133 v701).toNat) ∧
  (∀ a, (k0_off144 k0_t8 v701) a + S1x1x16.size a ≤ S2x128x320.size a)
theorem k0_mult133_dvd : ∀ (k0_t8 : Fin k0_t8_loop.trips) (v701 : BitVec 32) (k0_hw249 : k0_chk249 k0_t8 v701), 16 ∣ (k0_mult133 v701).toNat := fun k0_t8 v701 k0_hw249 => k0_hw249.1
theorem k0_off144_inb : ∀ (k0_t8 : Fin k0_t8_loop.trips) (v701 : BitVec 32) (k0_hw249 : k0_chk249 k0_t8 v701), ∀ a, (k0_off144 k0_t8 v701) a + S1x1x16.size a ≤ S2x128x320.size a := fun k0_t8 v701 k0_hw249 => k0_hw249.2

def k0_chk250 (v711 : IVec S16 32) : Prop :=
  (∀ a x, ((![v711] : Fin 1 → IVec S16 32) a x).toNat < S16.size a)
theorem k0_idx125_inb : ∀ (v711 : IVec S16 32) (k0_hw250 : k0_chk250 v711), ∀ a x, ((![v711] : Fin 1 → IVec S16 32) a x).toNat < S16.size a := fun v711 k0_hw250 => k0_hw250
def k0_mult134 (v746 : BitVec 32) : BitVec 32 :=
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  v750

def k0_off145 (k0_t8 : Fin k0_t8_loop.trips) (v746 : BitVec 32) : Fin 3 → Nat :=
  let c1_i32_259 : BitVec 32 := 1#32
  let c0_i32_139 : BitVec 32 := 0#32
  let c1_i32_141 : BitVec 32 := 1#32
  let arg12 : BitVec 32 := Scf.iv c0_i32_139 c1_i32_141 k0_t8
  let c16_i32_258 : BitVec 32 := 16#32
  let v752 : BitVec 32 := Scalar.muli arg12 c16_i32_258
  let c13_i32 : BitVec 32 := 13#32
  let v753 : BitVec 32 := Scalar.addi v752 c13_i32
  let c0_i32_254 : BitVec 32 := 0#32
  let v747 : BitVec 32 := Scalar.maxsi v746 c0_i32_254
  let c79_i32_255 : BitVec 32 := 79#32
  let v748 : BitVec 32 := Scalar.minsi v747 c79_i32_255
  let c4_i32_256 : BitVec 32 := 4#32
  let v749 : BitVec 32 := Scalar.muli v748 c4_i32_256
  let c_m16_i32_257 : BitVec 32 := 4294967280#32
  let v750 : BitVec 32 := Scalar.andi v749 c_m16_i32_257
  let v751 : BitVec 32 := v750
  ![1, v753.toNat, v751.toNat]

def k0_chk251 (k0_t8 : Fin k0_t8_loop.trips) (v746 : BitVec 32) : Prop :=
  (16 ∣ (k0_mult134 v746).toNat) ∧
  (∀ a, (k0_off145 k0_t8 v746) a + S1x1x16.size a ≤ S2x128x320.size a)
theorem k0_mult134_dvd : ∀ (k0_t8 : Fin k0_t8_loop.trips) (v746 : BitVec 32) (k0_hw251 : k0_chk251 k0_t8 v746), 16 ∣ (k0_mult134 v746).toNat := fun k0_t8 v746 k0_hw251 => k0_hw251.1
theorem k0_off145_inb : ∀ (k0_t8 : Fin k0_t8_loop.trips) (v746 : BitVec 32) (k0_hw251 : k0_chk251 k0_t8 v746), ∀ a, (k0_off145 k0_t8 v746) a + S1x1x16.size a ≤ S2x128x320.size a := fun k0_t8 v746 k0_hw251 => k0_hw251.2

def k0_chk252 (v756 : IVec S16 32) : Prop :=
  (∀ a x, ((![v756] : Fin 1 → IVec S16 32) a x).toNat < S16.size a)
theorem k0_idx126_inb : ∀ (v756 : IVec S16 32) (k0_hw252 : k0_chk252 v756), ∀ a x, ((![v756] : Fin 1 → IVec S16 32) a x).toNat < S16.size a := fun v756 k0_hw252 => k0_hw252
def k0_mult135 (v791 : BitVec 32) : BitVec 32 :=
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  v795

def k0_off146 (k0_t8 : Fin k0_t8_loop.trips) (v791 : BitVec 32) : Fin 3 → Nat :=
  let c1_i32_267 : BitVec 32 := 1#32
  let c0_i32_139 : BitVec 32 := 0#32
  let c1_i32_141 : BitVec 32 := 1#32
  let arg12 : BitVec 32 := Scf.iv c0_i32_139 c1_i32_141 k0_t8
  let c16_i32_266 : BitVec 32 := 16#32
  let v797 : BitVec 32 := Scalar.muli arg12 c16_i32_266
  let c14_i32 : BitVec 32 := 14#32
  let v798 : BitVec 32 := Scalar.addi v797 c14_i32
  let c0_i32_262 : BitVec 32 := 0#32
  let v792 : BitVec 32 := Scalar.maxsi v791 c0_i32_262
  let c79_i32_263 : BitVec 32 := 79#32
  let v793 : BitVec 32 := Scalar.minsi v792 c79_i32_263
  let c4_i32_264 : BitVec 32 := 4#32
  let v794 : BitVec 32 := Scalar.muli v793 c4_i32_264
  let c_m16_i32_265 : BitVec 32 := 4294967280#32
  let v795 : BitVec 32 := Scalar.andi v794 c_m16_i32_265
  let v796 : BitVec 32 := v795
  ![1, v798.toNat, v796.toNat]

def k0_chk253 (k0_t8 : Fin k0_t8_loop.trips) (v791 : BitVec 32) : Prop :=
  (16 ∣ (k0_mult135 v791).toNat) ∧
  (∀ a, (k0_off146 k0_t8 v791) a + S1x1x16.size a ≤ S2x128x320.size a)
theorem k0_mult135_dvd : ∀ (k0_t8 : Fin k0_t8_loop.trips) (v791 : BitVec 32) (k0_hw253 : k0_chk253 k0_t8 v791), 16 ∣ (k0_mult135 v791).toNat := fun k0_t8 v791 k0_hw253 => k0_hw253.1
theorem k0_off146_inb : ∀ (k0_t8 : Fin k0_t8_loop.trips) (v791 : BitVec 32) (k0_hw253 : k0_chk253 k0_t8 v791), ∀ a, (k0_off146 k0_t8 v791) a + S1x1x16.size a ≤ S2x128x320.size a := fun k0_t8 v791 k0_hw253 => k0_hw253.2

def k0_chk254 (v801 : IVec S16 32) : Prop :=
  (∀ a x, ((![v801] : Fin 1 → IVec S16 32) a x).toNat < S16.size a)
theorem k0_idx127_inb : ∀ (v801 : IVec S16 32) (k0_hw254 : k0_chk254 v801), ∀ a x, ((![v801] : Fin 1 → IVec S16 32) a x).toNat < S16.size a := fun v801 k0_hw254 => k0_hw254
def k0_mult136 (v836 : BitVec 32) : BitVec 32 :=
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  v840

def k0_off147 (k0_t8 : Fin k0_t8_loop.trips) (v836 : BitVec 32) : Fin 3 → Nat :=
  let c1_i32_275 : BitVec 32 := 1#32
  let c0_i32_139 : BitVec 32 := 0#32
  let c1_i32_141 : BitVec 32 := 1#32
  let arg12 : BitVec 32 := Scf.iv c0_i32_139 c1_i32_141 k0_t8
  let c16_i32_274 : BitVec 32 := 16#32
  let v842 : BitVec 32 := Scalar.muli arg12 c16_i32_274
  let c15_i32 : BitVec 32 := 15#32
  let v843 : BitVec 32 := Scalar.addi v842 c15_i32
  let c0_i32_270 : BitVec 32 := 0#32
  let v837 : BitVec 32 := Scalar.maxsi v836 c0_i32_270
  let c79_i32_271 : BitVec 32 := 79#32
  let v838 : BitVec 32 := Scalar.minsi v837 c79_i32_271
  let c4_i32_272 : BitVec 32 := 4#32
  let v839 : BitVec 32 := Scalar.muli v838 c4_i32_272
  let c_m16_i32_273 : BitVec 32 := 4294967280#32
  let v840 : BitVec 32 := Scalar.andi v839 c_m16_i32_273
  let v841 : BitVec 32 := v840
  ![1, v843.toNat, v841.toNat]

def k0_chk255 (k0_t8 : Fin k0_t8_loop.trips) (v836 : BitVec 32) : Prop :=
  (16 ∣ (k0_mult136 v836).toNat) ∧
  (∀ a, (k0_off147 k0_t8 v836) a + S1x1x16.size a ≤ S2x128x320.size a)
theorem k0_mult136_dvd : ∀ (k0_t8 : Fin k0_t8_loop.trips) (v836 : BitVec 32) (k0_hw255 : k0_chk255 k0_t8 v836), 16 ∣ (k0_mult136 v836).toNat := fun k0_t8 v836 k0_hw255 => k0_hw255.1
theorem k0_off147_inb : ∀ (k0_t8 : Fin k0_t8_loop.trips) (v836 : BitVec 32) (k0_hw255 : k0_chk255 k0_t8 v836), ∀ a, (k0_off147 k0_t8 v836) a + S1x1x16.size a ≤ S2x128x320.size a := fun k0_t8 v836 k0_hw255 => k0_hw255.2

def k0_chk256 (v846 : IVec S16 32) : Prop :=
  (∀ a x, ((![v846] : Fin 1 → IVec S16 32) a x).toNat < S16.size a)
theorem k0_idx128_inb : ∀ (v846 : IVec S16 32) (k0_hw256 : k0_chk256 v846), ∀ a x, ((![v846] : Fin 1 → IVec S16 32) a x).toNat < S16.size a := fun v846 k0_hw256 => k0_hw256
def k0_off148 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_145_r5 : BitVec 32 := 0#32
  ![v1.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x81 : Shape := ⟨2, ![32768, 81]⟩
abbrev S32768x320 : Shape := ⟨2, ![32768, 320]⟩
abbrev S32768 : Shape := ⟨1, ![32768]⟩
abbrev S32768x4 : Shape := ⟨2, ![32768, 4]⟩
abbrev S_ : Shape := ⟨0, ![]⟩
abbrev S32768x1 : Shape := ⟨2, ![32768, 1]⟩
abbrev S32768x1x1 : Shape := ⟨3, ![32768, 1, 1]⟩
abbrev S1 : Shape := ⟨1, ![1]⟩
abbrev S1x1x1 : Shape := ⟨3, ![1, 1, 1]⟩
abbrev S32768x80x4 : Shape := ⟨3, ![32768, 80, 4]⟩
abbrev S32768x1x4 : Shape := ⟨3, ![32768, 1, 4]⟩
abbrev S32768x1x4x1 : Shape := ⟨4, ![32768, 1, 4, 1]⟩
abbrev S1x1x1x1 : Shape := ⟨4, ![1, 1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S32768x81, .f32⟩
  | .hbm, ⟨1, _⟩ => ⟨S32768x320, .f32⟩
  | .hbm, ⟨2, _⟩ => ⟨S32768, .i32⟩
  | .hbm, ⟨3, _⟩ => ⟨S32768x4, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x81, .f32⟩
  | .hbm, ⟨11, _⟩ => ⟨S32768x81, .f32⟩
  | .hbm, ⟨12, _⟩ => ⟨S32768x81, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x1, .f32⟩
  | .hbm, ⟨17, _⟩ => ⟨S32768x81, .f32⟩
  | .hbm, ⟨18, _⟩ => ⟨S32768x81, .f32⟩
  | .hbm, ⟨19, _⟩ => ⟨S32768x1, .i32⟩
  | .hbm, ⟨20, _⟩ => ⟨S_, .i32⟩
  | .hbm, ⟨21, _⟩ => ⟨S32768x1, .i32⟩
  | .hbm, ⟨22, _⟩ => ⟨S32768x1, .i1⟩
  | .hbm, ⟨23, _⟩ => ⟨S_, .i32⟩
  | .hbm, ⟨24, _⟩ => ⟨S32768x1, .i32⟩
  | .hbm, ⟨25, _⟩ => ⟨S32768x1, .i32⟩
  | .hbm, ⟨26, _⟩ => ⟨S32768x1, .i32⟩
  | .hbm, ⟨27, _⟩ => ⟨S32768x1x1, .i32⟩
  | .hbm, ⟨28, _⟩ => ⟨S1, .i32⟩
  | .hbm, ⟨29, _⟩ => ⟨S_, .i32⟩
  | .hbm, ⟨30, _⟩ => ⟨S32768x1x1, .i32⟩
  | .hbm, ⟨31, _⟩ => ⟨S32768x1x1, .i1⟩
  | .hbm, ⟨32, _⟩ => ⟨S1x1x1, .i32⟩
  | .hbm, ⟨33, _⟩ => ⟨S32768x1x1, .i32⟩
  | .hbm, ⟨34, _⟩ => ⟨S32768x1x1, .i1⟩
  | .hbm, ⟨35, _⟩ => ⟨S32768x1x1, .i1⟩
  | .hbm, ⟨36, _⟩ => ⟨S_, .i1⟩
  | .hbm, ⟨37, _⟩ => ⟨S32768x1, .i1⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768, .f32⟩
  | .hbm, ⟨43, _⟩ => ⟨S32768, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S32768, .i32⟩
  | .hbm, ⟨50, _⟩ => ⟨S32768, .i1⟩
  | .hbm, ⟨51, _⟩ => ⟨S_, .i32⟩
  | .hbm, ⟨52, _⟩ => ⟨S32768, .i32⟩
  | .hbm, ⟨53, _⟩ => ⟨S32768, .i1⟩
  | .hbm, ⟨54, _⟩ => ⟨S32768, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S_, .i32⟩
  | .hbm, ⟨61, _⟩ => ⟨S32768, .i32⟩
  | .hbm, ⟨62, _⟩ => ⟨S32768, .i32⟩
  | .hbm, ⟨63, _⟩ => ⟨S32768x80x4, .f32⟩
  | .hbm, ⟨64, _⟩ => ⟨S32768x1x1, .i32⟩
  | .hbm, ⟨65, _⟩ => ⟨S32768x1x4, .i32⟩
  | .hbm, ⟨66, _⟩ => ⟨S_, .i32⟩
  | .hbm, ⟨67, _⟩ => ⟨S32768x1x4, .i32⟩
  | .hbm, ⟨68, _⟩ => ⟨S32768x1x4, .i1⟩
  | .hbm, ⟨69, _⟩ => ⟨S_, .i32⟩
  | .hbm, ⟨70, _⟩ => ⟨S32768x1x4, .i32⟩
  | .hbm, ⟨71, _⟩ => ⟨S32768x1x4, .i32⟩
  | .hbm, ⟨72, _⟩ => ⟨S32768x1x4, .i32⟩
  | .hbm, ⟨73, _⟩ => ⟨S32768x1x4x1, .i32⟩
  | .hbm, ⟨74, _⟩ => ⟨S1, .i32⟩
  | .hbm, ⟨75, _⟩ => ⟨S_, .i32⟩
  | .hbm, ⟨76, _⟩ => ⟨S32768x1x4x1, .i32⟩
  | .hbm, ⟨77, _⟩ => ⟨S32768x1x4x1, .i1⟩
  | .hbm, ⟨78, _⟩ => ⟨S1x1x1x1, .i32⟩
  | .hbm, ⟨79, _⟩ => ⟨S32768x1x4x1, .i32⟩
  | .hbm, ⟨80, _⟩ => ⟨S32768x1x4x1, .i1⟩
  | .hbm, ⟨81, _⟩ => ⟨S32768x1x4x1, .i1⟩
  | .hbm, ⟨82, _⟩ => ⟨S_, .i1⟩
  | .hbm, ⟨83, _⟩ => ⟨S32768x1x4, .i1⟩
  | .hbm, ⟨84, _⟩ => ⟨S32768x1x4, .f32⟩
  | .hbm, ⟨85, _⟩ => ⟨S_, .f32⟩
  | .hbm, ⟨86, _⟩ => ⟨S32768x1x4, .f32⟩
  | .hbm, ⟨87, _⟩ => ⟨S32768x1x4, .f32⟩
  | .hbm, ⟨88, _⟩ => ⟨S32768x4, .f32⟩
  | .hbm, ⟨89, _⟩ => ⟨S32768x4, .f32⟩
  | .hbm, ⟨90, _⟩ => ⟨S32768x4, .f32⟩
  | .hbm, ⟨91, _⟩ => ⟨S_, .f32⟩
  | .hbm, ⟨92, _⟩ => ⟨S32768, .f32⟩
  | .hbm, ⟨93, _⟩ => ⟨S32768, .f32⟩
  | .hbm, ⟨94, _⟩ => ⟨S32768, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S32768x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_cst : Ref sig .tc := ⟨.hbm, 44, rfl⟩
abbrev main_v5 : Ref sig .tc := ⟨.hbm, 45, rfl⟩
abbrev main_cst_0 : Ref sig .tc := ⟨.hbm, 46, rfl⟩
abbrev main_v6 : Ref sig .tc := ⟨.hbm, 47, rfl⟩
abbrev main_c : Ref sig .tc := ⟨.hbm, 48, rfl⟩
abbrev main_v7 : Ref sig .tc := ⟨.hbm, 49, rfl⟩
abbrev main_v8 : Ref sig .tc := ⟨.hbm, 50, rfl⟩
abbrev main_c_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_c_2 : Ref sig .tc := ⟨.hbm, 55, rfl⟩
abbrev main_c_3 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_call3_c : Ref sig .tc := ⟨.hbm, 66, rfl⟩
abbrev main_call3_v0 : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_c_1 : Ref sig .tc := ⟨.hbm, 74, rfl⟩
abbrev main_call3_c_2 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_3 : Ref sig .tc := ⟨.hbm, 82, rfl⟩
abbrev main_call3_v12 : Ref sig .tc := ⟨.hbm, 83, rfl⟩
abbrev main_call3_v13 : Ref sig .tc := ⟨.hbm, 84, rfl⟩
abbrev main_call3_cst : Ref sig .tc := ⟨.hbm, 85, rfl⟩
abbrev main_call3_v14 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_cst_4 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_cst_5 : Ref sig .tc := ⟨.hbm, 95, rfl⟩
abbrev main_v23 : Ref sig .tc := ⟨.hbm, 96, rfl⟩
abbrev main_cst_6 : Ref sig .tc := ⟨.hbm, 97, rfl⟩
abbrev main_v24 : Ref sig .tc := ⟨.hbm, 98, rfl⟩

abbrev nD : Nat := 1
abbrev τ : Topo := Topo.v7x

variable {F : FTy → Type} [FloatOps F]
-- ==== Proof.RegSpec.lean ====
/-
  The region kernel's tile program, written once.

  The printed program unrolls eight slabs, each a counted loop whose trip handles sixteen rows, every row the same
  statements at other constants. This module writes ONE row (`rowStep`) and ONE trip (`trip`), over the slab's slot, its
  offset in the tile's rows and the row's number.
-/
module

public import proofs.«01_k».proof.Proof.Gen.KernelIdeal

@[expose] public section

noncomputable section

namespace Cert.Proof.Reg

open Cert.KernelIdeal Cert.KernelIdeal.Facts₀ Cert.KernelIdeal.Facts
open Idealize.ShloMosaic Idealize.SL.Sem

variable {F : FTy → Type} [FloatOps F]

/-! ## The words of a row -/

/-- The first of a class's four columns: four times the label clamped to `[0, 79]`. -/
def colBase (lab : BitVec 32) : BitVec 32 := Scalar.muli (Scalar.minsi (Scalar.maxsi lab 0#32) 79#32) 4#32

/-- The multiple of sixteen at or below it: where the sixteen-column window starts. -/
def colWin (lab : BitVec 32) : BitVec 32 := Scalar.andi (colBase lab) 4294967280#32

/-- Where the window of row `r` of trip `t` lies in the slab buffer. -/
def winOff (slot t : ℕ) (r lab : BitVec 32) : Fin 3 → ℕ :=
  ![slot, (Scalar.addi (Scalar.muli (Scf.iv 0#32 1#32 t) 16#32) r).toNat, (colWin lab).toNat]

/-- What the program checks of a window. -/
def WinOK (slot t : ℕ) (r lab : BitVec 32) : Prop :=
  (16 ∣ (colWin lab).toNat) ∧ (∀ a, winOff slot t r lab a + S1x1x16.size a ≤ S2x128x320.size a)

instance WinOK.dec (slot t : ℕ) (r lab : BitVec 32) : Decidable (WinOK slot t r lab) :=
  decidable_of_iff' _ (Iff.of_eq (WinOK.eq_1 slot t r lab))

/-- The lanes the indexed load reads of the window: the class's columns, over and over. -/
def lanes (v9 : IVec S16 32) (lab : BitVec 32) : IVec S16 32 :=
  addi (broadcast S16 (Scalar.subi (colBase lab) (colWin lab))) v9

/-- What the program checks of the lanes. -/
def LaneOK (v : IVec S16 32) : Prop := ∀ a x, ((![v] : Fin 1 → IVec S16 32) a x).toNat < S16.size a

instance LaneOK.dec (v : IVec S16 32) : Decidable (LaneOK v) := decidable_of_iff' _ (Iff.of_eq (LaneOK.eq_1 v))

/-! ## The row's arithmetic -/

theorem slices16 (r : Fin 16) : S16.Slices ![r.val] S1 := by revert r; decide

/-- Lane `r` of a register. -/
def pick {α : Type} (r : Fin 16) (v : S16.Idx → α) : α := extractAt ![0] (extractStridedSlice S1 ![r.val] v (slices16 r)) (by decide)

/-- One column's absolute difference. -/
def term (g t : FVec F S16 .f32) (c r : Fin 16) : F .f32 := Scalar.absf (Scalar.subf (pick c g) (pick r t))

/-- What a row of label `lab` adds to `acc`: the four absolute differences where the label names a class, zero where it
    is the background. -/
def rowVal (lab : BitVec 32) (g tA tB tC tD : FVec F S16 .f32) (r : Fin 16) (acc : F .f32) : F .f32 :=
  Scalar.addf acc (Scalar.select (Scalar.cmpi .slt lab 80#32)
    (Scalar.addf (Scalar.addf (Scalar.addf (term g tA 0 r) (term g tB 1 r)) (term g tC 2 r)) (term g tD 3 r))
    (Scalar.ofBits .f32 0x00000000#32))

/-! ## The programs -/

variable (i : grid0.Coords)

/-- A tile's programs. -/
abbrev TileProg (α : Type) : Type 1 :=
  Prog (TpuEff nD τ sig (Elt F) Λ₀ (.scVector ((i 0).castLE hcore0) ((i 1).castLE hsub0))) α

theorem pos16 : 0 < S16.numel := by decide
theorem squeezes16 : S1x1x16.Squeezes S16 := by decide
theorem casts16 : S16.ShapeCasts S16 := by decide

/-- One row: the check of its window, the check of its lanes, the indexed load, the sum. -/
def rowStep (arg7 : Memref sig .scVector .vmem S2x128x320 .f32) (v9 : IVec S16 32) (slot t : ℕ)
    (lab16 : IVec S16 32) (tA tB tC tD : FVec F S16 .f32) (r : Fin 16) (acc : F .f32) : TileProg (F := F) i (F .f32) := do
  have h1 : WinOK slot t (BitVec.ofNat 32 r.val) (pick r lab16) :=
    (← Prog.lift (TpuEff.assume (WinOK slot t (BitVec.ofNat 32 r.val) (pick r lab16)) (WinOK.dec ..))).down
  have h2 : LaneOK (lanes v9 (pick r lab16)) :=
    (← Prog.lift (TpuEff.assume (LaneOK (lanes v9 (pick r lab16))) (LaneOK.dec _))).down
  let g : Vec F S16 .f32 ← SparseCore.vectorLoadIdx
    ((arg7.slice (Rect.unit (s := S2x128x320) (winOff slot t (BitVec.ofNat 32 r.val) (pick r lab16)) S1x1x16.size h1.2) (fun _ => rfl)).squeeze S16 squeezes16)
    ![lanes v9 (pick r lab16)] h2 (View.loads_vmem pos16)
  pure (rowVal (pick r lab16) g tA tB tC tD r acc)

/-- Where trip `t` of the slab at row `c` of the tile reads the labels, and (from column block `d` on) the targets. -/
def gOff (c d : BitVec 32) (t : ℕ) : Fin 1 → ℕ :=
  ![(Scalar.indexCast (Scalar.addi d (Scalar.addi c (Scalar.muli (Scf.iv 0#32 1#32 t) 16#32)))).toNat]

def labOff (c : BitVec 32) (t : ℕ) : Fin 1 → ℕ :=
  ![(Scalar.indexCast (Scalar.addi c (Scalar.muli (Scf.iv 0#32 1#32 t) 16#32))).toNat]

/-- Every row from the listed ones, in order. -/
def rows (arg7 : Memref sig .scVector .vmem S2x128x320 .f32) (v9 : IVec S16 32) (slot t : ℕ)
    (lab16 : IVec S16 32) (tA tB tC tD : FVec F S16 .f32) : List (Fin 16) → F .f32 → TileProg (F := F) i (F .f32)
  | [], acc => pure acc
  | r :: rs, acc => rowStep i arg7 v9 slot t lab16 tA tB tC tD r acc >>= rows arg7 v9 slot t lab16 tA tB tC tD rs

/-- One trip: sixteen labels, the sixteen rows' targets by column, then the sixteen rows. -/
def trip (arg6 : Memref sig .scVector .vmem S1024 .i32) (arg7 : Memref sig .scVector .vmem S2x128x320 .f32)
    (arg8 : Memref sig .scVector .vmem S4096 .f32) (v9 : IVec S16 32) (slot : ℕ) (c : BitVec 32) (t : ℕ)
    (hL : ∀ a, labOff c t a + S16.size a ≤ S1024.size a)
    (hT : ∀ (d : Fin 4) a, gOff c (BitVec.ofNat 32 (1024 * d.val)) t a + S16.size a ≤ S4096.size a)
    (acc : F .f32) : TileProg (F := F) i (F .f32) := do
  let lab : Vec F S16 .i32 ← Prog.lift (.load arg6 (Rect.unit (s := S1024) (labOff c t) S16.size hL).toLoadRect (View.loadsAt_vmem pos16))
  let tA : Vec F S16 .f32 ← Prog.lift (.load arg8 (Rect.unit (s := S4096) (gOff c 0#32 t) S16.size (hT 0)).toLoadRect (View.loadsAt_vmem pos16))
  let tB : Vec F S16 .f32 ← Prog.lift (.load arg8 (Rect.unit (s := S4096) (gOff c 1024#32 t) S16.size (hT 1)).toLoadRect (View.loadsAt_vmem pos16))
  let tC : Vec F S16 .f32 ← Prog.lift (.load arg8 (Rect.unit (s := S4096) (gOff c 2048#32 t) S16.size (hT 2)).toLoadRect (View.loadsAt_vmem pos16))
  let tD : Vec F S16 .f32 ← Prog.lift (.load arg8 (Rect.unit (s := S4096) (gOff c 3072#32 t) S16.size (hT 3)).toLoadRect (View.loadsAt_vmem pos16))
  rows i arg7 v9 slot t (shapeCast S16 lab casts16) (shapeCast S16 tA casts16) (shapeCast S16 tB casts16)
    (shapeCast S16 tC casts16) (shapeCast S16 tD casts16) [0, 1, 2, 3, 4, 5, 6, 7, 8, 9, 10, 11, 12, 13, 14, 15] acc

/-! ## The tile's arrays -/

/-- The box predictions, the labels, the targets by column, the tiles' sums: the call's arrays as a tile names them. -/
abbrev pV : Memref sig .scVector .hbm S32768x320 .f32 := Memref.whole main_arg1_scv
abbrev lV : Memref sig .scVector .hbm S32768 .i32 := Memref.whole main_arg2_scv
abbrev tV : Memref sig .scVector .hbm S131072 .f32 := Memref.whole main_v1_scv
abbrev oV : Memref sig .scVector .hbm S32x16 .f32 := Memref.whole main_v2_scv
/-- The tile's labels, its two slabs, its four target columns, its sum. -/
abbrev sL : Memref sig .scVector .vmem S1024 .i32 := Memref.whole cc0_scratch0
abbrev sS : Memref sig .scVector .vmem S2x128x320 .f32 := Memref.whole cc0_scratch1
abbrev sT : Memref sig .scVector .vmem S4096 .f32 := Memref.whole cc0_scratch2
abbrev sA : Memref sig .scVector .vmem S16 .f32 := Memref.whole cc0_scratch3

/-- The tile's labels in the array of all of them. -/
abbrev lRow : Memref sig .scVector .hbm S1024 .i32 := lV.slice (Rect.unit (s := S32768) (k0_off1 i) S1024.size (k0_off1_inb i)) (fun _ => rfl)
/-- Column `c` of the tile's targets in the array of all of them. -/
abbrev tRow (c : Fin 4) : Memref sig .scVector .hbm S1024 .f32 :=
  tV.slice (Rect.unit (s := S131072) (k0_off2 i (BitVec.ofNat 32 (32768 * c.val))) S1024.size (k0_off2_inb i c)) (fun _ => rfl)
theorem tDst_inb (c : Fin 4) : ∀ a, (![1024 * c.val] : Fin 1 → ℕ) a + S1024.size a ≤ S4096.size a := by revert c; decide
/-- Where the tile keeps it. -/
abbrev tDst (c : Fin 4) : Memref sig .scVector .vmem S1024 .f32 := sT.slice (Rect.unit (s := S4096) ![1024 * c.val] S1024.size (tDst_inb c)) (fun _ => rfl)
/-- Slab `sl` of the tile's predictions. -/
abbrev slabSrc (sl : Fin 8) : Memref sig .scVector .hbm S128x320 .f32 :=
  pV.slice (Rect.unit (s := S32768x320) (k0_off3 i (BitVec.ofNat 32 (128 * sl.val))) S128x320.size (k0_off3_inb i sl)) (fun _ => rfl)
theorem slot_inb (b : Fin 2) : ∀ a, (![b.val, 0, 0] : Fin 3 → ℕ) a + S1x128x320.size a ≤ S2x128x320.size a := by revert b; decide
theorem squeezesSlab : S1x128x320.Squeezes S128x320 := by decide
/-- One of the two slab buffers. -/
abbrev slotM (b : Fin 2) : Memref sig .scVector .vmem S128x320 .f32 :=
  (sS.slice (Rect.unit (s := S2x128x320) ![b.val, 0, 0] S1x128x320.size (slot_inb b)) (fun _ => rfl)).squeeze S128x320 squeezesSlab
theorem squeezesOut : S1x16.Squeezes S16 := by decide
/-- The tile's row of the sums. -/
abbrev oRow : Memref sig .scVector .hbm S16 .f32 :=
  (oV.slice (Rect.unit (s := S32x16) (k0_off148 i) S1x16.size (k0_off148_inb i)) (fun _ => rfl)).squeeze S16 squeezesOut

/-! ## The body -/

/-- The labels' copy and its wait. -/
def copyLab : TileProg (F := F) i PUnit := do
  Prog.lift (.enqueueDma (lRow i) (.here sL) (.dma cc0_scoped0.sem) (View.wordExact_bits rfl) (Memref.isWhole_whole _).wordExact ⟨Or.inl rfl, trivial⟩)
  Prog.lift (.waitDma2 cc0_scoped0.sem (lRow i) sL (View.wordExact_bits rfl) (Memref.isWhole_whole _).wordExact)

/-- A target column's copy and its wait. -/
def copyTgt (c : Fin 4) (sem : DmaSem sig) : TileProg (F := F) i PUnit := do
  Prog.lift (.enqueueDma (tRow i c) (.here (tDst c)) (.dma sem) (View.wordExact_bits rfl) (View.wordExact_bits rfl) ⟨Or.inl rfl, trivial⟩)
  Prog.lift (.waitDma2 sem (tRow i c) (tDst c) (View.wordExact_bits rfl) (View.wordExact_bits rfl))

/-- Slab `sl`'s copy started, into the buffer its parity names. -/
def startSlab (sl : Fin 8) (b : Fin 2) (sem : DmaSem sig) : TileProg (F := F) i PUnit :=
  Prog.lift (.enqueueDma (slabSrc i sl) (.here (slotM b)) (.dma sem) (View.wordExact_bits rfl) ((View.wordExact_bits rfl).reshape _ _) ⟨Or.inl rfl, trivial⟩)

/-- Its wait. -/
def waitSlab (sl : Fin 8) (b : Fin 2) (sem : DmaSem sig) : TileProg (F := F) i PUnit :=
  Prog.lift (.waitDma2 sem (slabSrc i sl) (slotM b) (View.wordExact_bits rfl) ((View.wordExact_bits rfl).reshape _ _))

theorem lab_inb (sl : Fin 8) (t : Fin k0_t1_loop.trips) : ∀ a, labOff (BitVec.ofNat 32 (128 * sl.val)) t.val a + S16.size a ≤ S1024.size a := by
  revert sl t; decide
theorem tgt_inb (sl : Fin 8) (t : Fin k0_t1_loop.trips) :
    ∀ (d : Fin 4) a, gOff (BitVec.ofNat 32 (128 * sl.val)) (BitVec.ofNat 32 (1024 * d.val)) t.val a + S16.size a ≤ S4096.size a := by
  revert sl t; decide

/-- The lanes' columns within a class's four. -/
def lane4 : IVec S16 32 := andi (iota .scVector S16 32 [0] iota_S16_d0_w32_scVector) (broadcast S16 3#32)

/-- A slab's eight trips. -/
def slabLoop (sl : Fin 8) (b : Fin 2) (acc : F .f32) : TileProg (F := F) i (F .f32) :=
  Scf.Loop.for k0_t1_loop k0_t1_ok acc fun t acc =>
    trip i sL sS sT lane4 b.val (BitVec.ofNat 32 (128 * sl.val)) t.val (lab_inb sl t) (tgt_inb sl t) acc

/-- The sum put in lane 0 of a register, the rest zero. -/
def sumVec (acc : F .f32) : FVec F S16 .f32 :=
  shapeCast S16 (select (cmpi .slt (iota .scVector S16 32 [0] iota_S16_d0_w32_scVector) (broadcast S16 1#32)) (broadcast S16 acc)
    (broadcast S16 (Scalar.ofBits .f32 0x00000000#32))) casts16

/-- The sum stored and copied out. -/
def finish (acc : F .f32) : TileProg (F := F) i PUnit := do
  let _ ← Prog.lift (.load sA (Rect.unit (s := S16) ![0] S16.size inb_S16_S16_0).toLoadRect (View.loadsAt_vmem pos16))
  Prog.lift (.store sA (Rect.unit (s := S16) ![0] S16.size inb_S16_S16_0) (sumVec acc) Finset.univ (View.stores_vmem_bits_univ pos16 rfl) (.inl rfl))
  Prog.lift (.enqueueDma sA (.here (oRow i)) (.dma cc0_scoped5.sem) (Memref.isWhole_whole _).wordExact ((View.wordExact_bits rfl).reshape _ _) ⟨Or.inl rfl, trivial⟩)
  Prog.lift (.waitDma2 cc0_scoped5.sem sA (oRow i) (Memref.isWhole_whole _).wordExact ((View.wordExact_bits rfl).reshape _ _))
  pure ⟨⟩

/-- The whole of a tile's run. -/
def body : TileProg (F := F) i PUnit := do
  copyLab i
  copyTgt i 0 cc0_scoped1.sem
  copyTgt i 1 cc0_scoped2.sem
  copyTgt i 2 cc0_scoped3.sem
  copyTgt i 3 cc0_scoped4.sem
  startSlab i 0 0 cc0_scratch4.sem
  startSlab i 1 1 cc0_scratch5.sem
  waitSlab i 0 0 cc0_scratch4.sem
  let a1 ← slabLoop i 0 0 (Scalar.ofBits .f32 0x00000000#32)
  startSlab i 2 0 cc0_scratch4.sem
  waitSlab i 1 1 cc0_scratch5.sem
  let a2 ← slabLoop i 1 1 a1
  startSlab i 3 1 cc0_scratch5.sem
  waitSlab i 2 0 cc0_scratch4.sem
  let a3 ← slabLoop i 2 0 a2
  startSlab i 4 0 cc0_scratch4.sem
  waitSlab i 3 1 cc0_scratch5.sem
  let a4 ← slabLoop i 3 1 a3
  startSlab i 5 1 cc0_scratch5.sem
  waitSlab i 4 0 cc0_scratch4.sem
  let a5 ← slabLoop i 4 0 a4
  startSlab i 6 0 cc0_scratch4.sem
  waitSlab i 5 1 cc0_scratch5.sem
  let a6 ← slabLoop i 5 1 a5
  startSlab i 7 1 cc0_scratch5.sem
  waitSlab i 6 0 cc0_scratch4.sem
  let a7 ← slabLoop i 6 0 a6
  waitSlab i 7 1 cc0_scratch5.sem
  let a8 ← slabLoop i 7 1 a7
  finish i a8

end Cert.Proof.Reg

end
-- ==== Proof.RegWords.lean ====
/-
  The words a row computes, and the row's value.

  A label is clamped to `[0, 79]`; four times it is the first of its class's columns. The sixteen-column window around
  that column lies inside the slab's 320 columns, and lane `j < 4` of the indexed load reads column `j` of the class.
-/
module

public import proofs.«01_k».proof.Proof.RegSpec
public import Idealize.ShloMosaic.Lib.Pointwise.Index

@[expose] public section

noncomputable section

namespace Cert.Proof.Reg

open Cert.KernelIdeal Cert.KernelIdeal.Facts₀ Cert.KernelIdeal.Facts
open Idealize.ShloMosaic Idealize.SL.Sem

variable {F : FTy → Type} [FloatOps F]

/-! ## The words -/

/-- The label clamped to the classes. -/
def clampLab (lab : BitVec 32) : BitVec 32 := Scalar.minsi (Scalar.maxsi lab 0#32) 79#32

theorem clampLab_lt (lab : BitVec 32) : (clampLab lab).toNat < 80 := by
  have h : (if (if (0#32).slt lab then lab else 0#32).slt 79#32 then (if (0#32).slt lab then lab else 0#32) else 79#32).toNat < 80 := by
    have h0 : (0#32).toInt = 0 := by decide
    have h79 : (79#32).toInt = 79 := by decide
    have hn : (79#32).toNat = 79 := by decide
    have hz : (0#32).toNat = 0 := by decide
    have hl := BitVec.toInt_eq_toNat_cond lab
    by_cases h1 : (0#32).slt lab <;> simp only [h1, if_true, if_false, Bool.false_eq_true]
    · by_cases h2 : lab.slt 79#32 <;> simp only [h2, if_true, if_false, Bool.false_eq_true]
      · rw [BitVec.slt_iff_toInt_lt] at h1 h2
        split_ifs at hl <;> omega
      · omega
    · split_ifs <;> omega
  exact h

/-- The clamped label as a number. -/
def cls (lab : BitVec 32) : ℕ := (clampLab lab).toNat

theorem cls_lt (lab : BitVec 32) : cls lab < 80 := clampLab_lt lab

theorem clampLab_eq (lab : BitVec 32) : clampLab lab = BitVec.ofNat 32 (cls lab) := by unfold cls; simp

theorem colBase_eq (lab : BitVec 32) : colBase lab = Scalar.muli (BitVec.ofNat 32 (cls lab)) 4#32 := by
  rw [← clampLab_eq]; rfl

/-- What holds of every class's columns: the window starts at a multiple of sixteen inside the slab, and the class's
    four columns lie inside it. -/
theorem class_facts : ∀ k : Fin 80,
    16 ∣ (Scalar.andi (Scalar.muli (BitVec.ofNat 32 k.val) 4#32) 4294967280#32).toNat
    ∧ (Scalar.andi (Scalar.muli (BitVec.ofNat 32 k.val) 4#32) 4294967280#32).toNat + 16 ≤ 320
    ∧ (Scalar.subi (Scalar.muli (BitVec.ofNat 32 k.val) 4#32) (Scalar.andi (Scalar.muli (BitVec.ofNat 32 k.val) 4#32) 4294967280#32)).toNat ≤ 12
    ∧ (Scalar.andi (Scalar.muli (BitVec.ofNat 32 k.val) 4#32) 4294967280#32).toNat
        + (Scalar.subi (Scalar.muli (BitVec.ofNat 32 k.val) 4#32) (Scalar.andi (Scalar.muli (BitVec.ofNat 32 k.val) 4#32) 4294967280#32)).toNat
      = 4 * k.val := by decide +kernel

theorem colWin_facts (lab : BitVec 32) :
    16 ∣ (colWin lab).toNat ∧ (colWin lab).toNat + 16 ≤ 320 ∧ (Scalar.subi (colBase lab) (colWin lab)).toNat ≤ 12
      ∧ (colWin lab).toNat + (Scalar.subi (colBase lab) (colWin lab)).toNat = 4 * cls lab := by
  have := class_facts ⟨cls lab, cls_lt lab⟩
  unfold colWin
  rw [colBase_eq]
  exact this

/-- The row's number in its slab. -/
theorem row_toNat : ∀ (t : Fin 8) (r : Fin 16),
    (Scalar.addi (Scalar.muli (Scf.iv 0#32 1#32 t.val) 16#32) (BitVec.ofNat 32 r.val)).toNat = t.val * 16 + r.val := by decide +kernel

theorem winOK (slot : Fin 2) (t : Fin 8) (r : Fin 16) (lab : BitVec 32) : WinOK slot.val t.val (BitVec.ofNat 32 r.val) lab := by
  obtain ⟨h1, h2, -, -⟩ := colWin_facts lab
  refine ⟨h1, fun a => ?_⟩
  have hr := row_toNat t r
  fin_cases a
  · show slot.val + 1 ≤ 2; omega
  · show (Scalar.addi (Scalar.muli (Scf.iv 0#32 1#32 t.val) 16#32) (BitVec.ofNat 32 r.val)).toNat + 1 ≤ 128
    omega
  · exact h2

theorem lane4_apply : ∀ x : Fin 16, (lane4 (ix1 x)).toNat = x.val % 4 := by decide +kernel

theorem lane_toNat (lab : BitVec 32) (x : Fin 16) :
    (lanes lane4 lab (ix1 x)).toNat = (Scalar.subi (colBase lab) (colWin lab)).toNat + x.val % 4 := by
  obtain ⟨-, -, h3, -⟩ := colWin_facts lab
  have h4 := lane4_apply x
  show ((Scalar.subi (colBase lab) (colWin lab)) + lane4 (ix1 x)).toNat = _
  rw [BitVec.toNat_add, h4, Nat.mod_eq_of_lt]
  have := Nat.mod_lt x.val (show 4 > 0 by decide)
  omega

theorem laneOK (lab : BitVec 32) : LaneOK (lanes lane4 lab) := by
  intro a x
  obtain ⟨-, -, h3, -⟩ := colWin_facts lab
  obtain rfl : a = 0 := Subsingleton.elim _ _
  show (lanes lane4 lab x).toNat < 16
  have e := lane_toNat lab (x 0)
  rw [show ix1 (n0 := 16) (x 0) = x from ix1_eta x] at e
  have := Nat.mod_lt (x 0).val (show 4 > 0 by decide)
  omega

/-- Lane `r` of a register, by its index. -/
theorem pick_eq {α : Type} (r : Fin 16) (v : S16.Idx → α) : pick r v = v (ix1 r) :=
  congrArg v (funext fun a => Fin.ext (by obtain rfl : a = 0 := Subsingleton.elim _ _; rfl))

/-! ## The value of a row, and of the rows up to one -/

/-- A row's value: row `n`'s label names a class: the sum of the four absolute differences of that class's predicted
    columns from the target, added to `acc`; the background: zero added. `L`, `T`, `R` are the tile's labels, target
    columns and predictions by number. -/
def rowG (L : ℕ → BitVec 32) (T : Fin 4 → ℕ → F .f32) (R : ℕ → ℕ → F .f32) (n : ℕ) (acc : F .f32) : F .f32 :=
  Scalar.addf acc (Scalar.select (Scalar.cmpi .slt (L n) 80#32)
    (Scalar.addf (Scalar.addf (Scalar.addf
      (Scalar.absf (Scalar.subf (R n (4 * cls (L n))) (T 0 n)))
      (Scalar.absf (Scalar.subf (R n (4 * cls (L n) + 1)) (T 1 n))))
      (Scalar.absf (Scalar.subf (R n (4 * cls (L n) + 2)) (T 2 n))))
      (Scalar.absf (Scalar.subf (R n (4 * cls (L n) + 3)) (T 3 n))))
    (Scalar.ofBits .f32 0x00000000#32))

/-- The rows below `n`, summed in order. -/
def accAt (L : ℕ → BitVec 32) (T : Fin 4 → ℕ → F .f32) (R : ℕ → ℕ → F .f32) : ℕ → F .f32
  | 0 => Scalar.ofBits .f32 0x00000000#32
  | n + 1 => rowG L T R n (accAt L T R n)

/-- The row's printed arithmetic at lanes that hold the row's label, targets and class columns is the row's value. -/
theorem rowVal_eq {L : ℕ → BitVec 32} {T : Fin 4 → ℕ → F .f32} {R : ℕ → ℕ → F .f32} {n : ℕ} {r : Fin 16}
    {lab16 : IVec S16 32} {tA tB tC tD g : FVec F S16 .f32}
    (hl : lab16 (ix1 r) = L n) (hA : tA (ix1 r) = T 0 n) (hB : tB (ix1 r) = T 1 n) (hC : tC (ix1 r) = T 2 n) (hD : tD (ix1 r) = T 3 n)
    (hg : ∀ x : Fin 16, g (ix1 x) = R n (4 * cls (L n) + x.val % 4)) (acc : F .f32) :
    rowVal (pick r lab16) g tA tB tC tD r acc = rowG L T R n acc := by
  unfold rowVal rowG term
  simp only [pick_eq, hl, hA, hB, hC, hD, hg]
  rfl

end Cert.Proof.Reg

end
-- ==== Proof.RegBase.lean ====
/-
  The program as the launch theorem sees it, and the resource algebra its proof runs over: the handshakes' rounds, the
  rounds of the TensorCore call's staging buffers, and the local transfers' counters.
-/
module

public import proofs.«01_k».proof.Proof.RegWords
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueLayout
public import Idealize.ShloMosaic.Lib.Pipeline.Value
public import Idealize.ShloMosaic.Lib.Pipeline.ValueKit.Geometry
public import Idealize.ShloMosaic.Lib.Pointwise.Reshape
public import Idealize.ShloMosaic.Lib.Tactic

@[expose] public section

noncomputable section

namespace Cert.Proof.Reg

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the program's semaphores and buffers. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The rounds of the TensorCore call's staging buffers. -/
abbrev UP : Type := UR sig nD τ
abbrev UU : Type := UH × (UP × Counters)

/-- The algebra. -/
abbrev 𝕄 (F : FTy → Type) : Type _ := MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := inferInstance

/-! ## A tile -/

abbrev cV (i : grid0.Coords) : Fin τ.nSC := (i 0).castLE hcore0
abbrev jV (i : grid0.Coords) : Fin τ.nSub := (i 1).castLE hsub0
/-- The tile's thread on device `d`. -/
abbrev thr (d : Dev nD) (i : grid0.Coords) : Thread nD τ := V d (cV i) (jV i)

/-- A tile's program run to a postcondition. -/
abbrev wpT [FloatOps F] (d : Dev nD) (i : grid0.Coords) {α : Type} (p : TileProg (F := F) i α) (Q : α → sProp (𝕄 F)) : sProp (𝕄 F) :=
  wp frame (wpE (defs₀ (F := F)) 𝒱₀ (thr d i) none) Set.univ p Q

end Cert.Proof.Reg

end
-- ==== Proof.RegRow.lean ====
/-
  A row of a slab, run: its window's check and its lanes' pass whatever the label, the indexed load reads the class's
  four columns of the row, and the sum grows by the row's value. Then the sixteen rows of a trip, and the eight trips of
  a slab.
-/
module

public import proofs.«01_k».proof.Proof.RegBase

@[expose] public section

noncomputable section

namespace Cert.Proof.Reg

open Cert.KernelIdeal Cert.KernelIdeal.Facts₀ Cert.KernelIdeal.Facts
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The window -/

/-- A sixteen-column window of the slab buffer at an offset. -/
abbrev winM (off : Fin 3 → ℕ) (h : ∀ a, off a + S1x1x16.size a ≤ S2x128x320.size a) : Memref sig .scVector .vmem S16 .f32 :=
  ((sS.slice (Rect.unit (s := S2x128x320) off S1x1x16.size h) (fun _ => rfl)).squeeze S16 squeezes16)

theorem reshape_16 (h : S16.numel = S1x1x16.numel) (x : Fin 16) : Shape.reshapeEquiv h (ix1 x) = (ix3 (0 : Fin 1) (0 : Fin 1) x : S1x1x16.Idx) :=
  Shape.reshapeEquiv_eq_of_rowMajor h (by
    rw [Shape.rowMajor_val_three, Shape.rowMajor_val_one]
    show ((0 * 1 + 0) * 16 + x.val) = x.val
    omega)

/-- Where lane `x` of the window lies in the buffer. -/
theorem winM_emb (off : Fin 3 → ℕ) (h : ∀ a, off a + S1x1x16.size a ≤ S2x128x320.size a) (x : Fin 16) (a : Fin 3) :
    (((winM off h).access (Rect.whole S16)).emb (ix1 x) a : ℕ) = off a + (![0, 0, x.val] : Fin 3 → ℕ) a := by
  have e : ((winM off h).access (Rect.whole S16)).emb (ix1 x)
      = (Rect.unit (s := S2x128x320) off S1x1x16.size h).emb (ix3 (0 : Fin 1) (0 : Fin 1) x : S1x1x16.Idx) := by
    show (Rect.unit (s := S2x128x320) off S1x1x16.size h).emb (Shape.reshapeEquiv squeezes16.numel_eq ((Rect.whole S16).emb (ix1 x))) = _
    rw [Rect.emb_whole_apply]
    exact congrArg _ (reshape_16 _ x)
  rw [e]
  refine (ValueKit.rect_emb_unit_val (s := S2x128x320) _ _ _ _ a).trans ?_
  fin_cases a <;> rfl

theorem mem_slot (b : Fin 2) (j : S2x128x320.Idx) : j ∈ (slotM b).view.set ↔ (j 0).val = b.val := by
  show j ∈ (((View.whole (cc0_scratch1 : Ref sig .scVector)).slice (Rect.unit (s := S2x128x320) ![b.val, 0, 0] S1x128x320.size (slot_inb b))).reshape S128x320 squeezesSlab.numel_eq).set ↔ _
  rw [View.set_reshape, View.set_slice_whole, Rect.mem_set_unit]
  constructor
  · intro h
    have := h 0
    change b.val ≤ (j 0).val ∧ (j 0).val < b.val + 1 at this
    omega
  · intro h a
    fin_cases a
    · change b.val ≤ (j 0).val ∧ (j 0).val < b.val + 1; omega
    · exact ⟨Nat.zero_le _, by change (j 1).val < 0 + 128; have : (j 1).val < 128 := (j 1).isLt; omega⟩
    · exact ⟨Nat.zero_le _, by change (j 2).val < 0 + 320; have : (j 2).val < 320 := (j 2).isLt; omega⟩

variable [FloatOps F]

/-- The window lies in the slot its first offset names. -/
theorem winM_subset (b : Fin 2) (off : Fin 3 → ℕ) (h : ∀ a, off a + S1x1x16.size a ≤ S2x128x320.size a) (hb : off 0 = b.val) :
    ((winM off h).access (Rect.whole S16)).set ⊆ (slotM b).view.set := by
  intro j hj
  obtain ⟨x, -, rfl⟩ := Finset.mem_map.mp hj
  refine (mem_slot b _).mpr ?_
  have e := winM_emb off h (x 0) 0
  rw [show ix1 (n0 := 16) (x 0) = x from ix1_eta x] at e
  refine e.trans ?_
  rw [hb]; rfl

/-- What a row's indexed load reads: lane `x` reads column `x mod 4` of the row's class. -/
theorem winM_read {R : ℕ → ℕ → F .f32} {b : Fin 2} {base : ℕ} {fS : S2x128x320.Idx → F .f32}
    (hS : ∀ (r : Fin 128) (k : Fin 320), fS (ix3 b r k) = R (base + r.val) k.val)
    (t : Fin 8) (r : Fin 16) (lab : BitVec 32) (h1 : WinOK b.val t.val (BitVec.ofNat 32 r.val) lab) (h2 : LaneOK (lanes lane4 lab)) (x : Fin 16) :
    loadIdx (F := F) (e := .f32) (((winM (winOff b.val t.val (BitVec.ofNat 32 r.val) lab) h1.2).access (Rect.whole S16)).read (Elt F) fS)
      ![lanes lane4 lab] h2 (ix1 x) = R (base + (t.val * 16 + r.val)) (4 * cls lab + x.val % 4) := by
  obtain ⟨-, -, h3, h4⟩ := colWin_facts lab
  have hx := Nat.mod_lt x.val (show 4 > 0 by decide)
  have hl := lane_toNat lab x
  have hc := cls_lt lab
  let y : Fin 16 := ⟨(lanes lane4 lab (ix1 x)).toNat, by omega⟩
  have ey : loadIdx (F := F) (e := .f32) (((winM (winOff b.val t.val (BitVec.ofNat 32 r.val) lab) h1.2).access (Rect.whole S16)).read (Elt F) fS)
      ![lanes lane4 lab] h2 (ix1 x) = fS (((winM (winOff b.val t.val (BitVec.ofNat 32 r.val) lab) h1.2).access (Rect.whole S16)).emb (ix1 y)) := by
    show fS (((winM (winOff b.val t.val (BitVec.ofNat 32 r.val) lab) h1.2).access (Rect.whole S16)).emb _) = _
    refine congrArg fS (congrArg _ ?_)
    exact funext fun a => Fin.ext (by obtain rfl : a = 0 := Subsingleton.elim _ _; rfl)
  rw [ey]
  have ej : ((winM (winOff b.val t.val (BitVec.ofNat 32 r.val) lab) h1.2).access (Rect.whole S16)).emb (ix1 y)
      = (ix3 b (⟨t.val * 16 + r.val, by omega⟩ : Fin 128) (⟨4 * cls lab + x.val % 4, by omega⟩ : Fin 320) : S2x128x320.Idx) := by
    funext a
    refine Fin.ext ((winM_emb _ _ y a).trans ?_)
    fin_cases a
    · rfl
    · exact (Nat.add_zero _).trans (row_toNat t r)
    · show (colWin lab).toNat + (lanes lane4 lab (ix1 x)).toNat = 4 * cls lab + x.val % 4
      omega
  rw [ej]; exact hS _ _

/-! ## A row -/

variable (d : Dev nD) (i : grid0.Coords)

/-- The slot of the slab buffer at some contents. -/
abbrev slotPts (b : Fin 2) (f : Buf (Elt F) ((thr d i).loc cc0_scratch1)) : sProp (𝕄 F) :=
  (thr d i).loc cc0_scratch1 ↦[(slotM b).view.set]{fullShare} f

theorem wp_rowStep {L : ℕ → BitVec 32} {T : Fin 4 → ℕ → F .f32} {R : ℕ → ℕ → F .f32} {b : Fin 2} {base : ℕ}
    {fS : Buf (Elt F) ((thr d i).loc cc0_scratch1)}
    (hS : ∀ (r : Fin 128) (k : Fin 320), fS (ix3 b r k) = R (base + r.val) k.val)
    (t : Fin 8) (r : Fin 16) {lab16 : IVec S16 32} {tA tB tC tD : FVec F S16 .f32}
    (hl : lab16 (ix1 r) = L (base + (t.val * 16 + r.val))) (hA : tA (ix1 r) = T 0 (base + (t.val * 16 + r.val)))
    (hB : tB (ix1 r) = T 1 (base + (t.val * 16 + r.val))) (hC : tC (ix1 r) = T 2 (base + (t.val * 16 + r.val)))
    (hD : tD (ix1 r) = T 3 (base + (t.val * 16 + r.val))) (acc : F .f32) (Q : F .f32 → sProp (𝕄 F)) :
    slotPts d i b fS ⊢ iprop((slotPts d i b fS -∗ Q (rowG L T R (base + (t.val * 16 + r.val)) acc))
      -∗ wpT d i (rowStep i sS lane4 b.val t.val lab16 tA tB tC tD r acc) Q) := by
  unfold rowStep
  have h1 : WinOK b.val t.val (BitVec.ofNat 32 r.val) (pick r lab16) := winOK b t r _
  have h2 : LaneOK (lanes lane4 (pick r lab16)) := laneOK _
  iintro HS HQ
  iapply (wp_assume 𝒱₀ (thr d i) none Set.univ h1)
  iapply (wp_assume 𝒱₀ (thr d i) none Set.univ h2)
  iapply (SparseCore.wp_vectorLoadIdx (defs := defs₀ (F := F)) 𝒱₀ (thr d i) none Set.univ (base := winM _ h1.2) (h := h2) (hl := View.loads_vmem pos16) (S := (slotM b).view.set) (winM_subset b _ h1.2 rfl)) $$ HS
  iintro HS
  rw [wp_pure]
  imodintro
  rw [rowVal_eq (L := L) (T := T) (R := R) (n := base + (t.val * 16 + r.val)) hl hA hB hC hD]
  · iapply HQ; iexact HS
  · intro x
    exact (winM_read hS t r (pick r lab16) h1 h2 x).trans (by rw [pick_eq, hl])

/-! ## The rows of a trip -/

/-- The rows from `k` on, from the sum up to row `k`, leave the sum up to the trip's end. -/
theorem wp_rows {L : ℕ → BitVec 32} {T : Fin 4 → ℕ → F .f32} {R : ℕ → ℕ → F .f32} {b : Fin 2} {base : ℕ}
    {fS : Buf (Elt F) ((thr d i).loc cc0_scratch1)}
    (hS : ∀ (r : Fin 128) (k : Fin 320), fS (ix3 b r k) = R (base + r.val) k.val)
    (t : Fin 8) {lab16 : IVec S16 32} {tA tB tC tD : FVec F S16 .f32}
    (hl : ∀ r : Fin 16, lab16 (ix1 r) = L (base + (t.val * 16 + r.val))) (hA : ∀ r : Fin 16, tA (ix1 r) = T 0 (base + (t.val * 16 + r.val)))
    (hB : ∀ r : Fin 16, tB (ix1 r) = T 1 (base + (t.val * 16 + r.val))) (hC : ∀ r : Fin 16, tC (ix1 r) = T 2 (base + (t.val * 16 + r.val)))
    (hD : ∀ r : Fin 16, tD (ix1 r) = T 3 (base + (t.val * 16 + r.val))) (Q : F .f32 → sProp (𝕄 F)) (n k : ℕ) (hk : k + n = 16) :
    slotPts d i b fS ⊢ iprop((slotPts d i b fS -∗ Q (accAt L T R (base + (t.val * 16 + 16))))
      -∗ wpT d i (rows i sS lane4 b.val t.val lab16 tA tB tC tD ((List.finRange 16).drop k) (accAt L T R (base + (t.val * 16 + k)))) Q) := by
  induction n generalizing k with
  | zero =>
    obtain rfl : k = 16 := by omega
    rw [List.drop_of_length_le (by simp)]
    unfold rows wpT
    rw [wp_pure]
    iintro HS HQ
    imodintro
    iapply HQ; iexact HS
  | succ n ih =>
    have hlt : k < 16 := by omega
    rw [List.drop_eq_getElem_cons (by simpa using hlt), List.getElem_finRange, Fin.cast_mk]
    unfold rows wpT
    rw [wp_bind]
    iintro HS HQ
    iapply (wp_rowStep d i hS t ⟨k, hlt⟩ (hl _) (hA _) (hB _) (hC _) (hD _) (accAt L T R (base + (t.val * 16 + k))) _) $$ HS
    iintro HS
    iapply (ih (k + 1) (by omega)) $$ HS
    iexact HQ

/-! ## A trip -/

/-- Where a trip reads the labels and the target columns. -/
theorem labOff_eq : ∀ (sl t : Fin 8), labOff (BitVec.ofNat 32 (128 * sl.val)) t.val 0 = 128 * sl.val + t.val * 16 := by decide +kernel
theorem gOff_eq : ∀ (c : Fin 4) (sl t : Fin 8), gOff (BitVec.ofNat 32 (128 * sl.val)) (BitVec.ofNat 32 (1024 * c.val)) t.val 0
    = 1024 * c.val + (128 * sl.val + t.val * 16) := by decide +kernel

/-- The tile's labels and target columns at some contents. -/
abbrev labPts (f : Buf (Elt F) ((thr d i).loc cc0_scratch0)) : sProp (𝕄 F) := (thr d i).loc cc0_scratch0 ↦{fullShare} f
abbrev tgtPts (f : Buf (Elt F) ((thr d i).loc cc0_scratch2)) : sProp (𝕄 F) := (thr d i).loc cc0_scratch2 ↦{fullShare} f

/-- A register of sixteen read from the labels, and from the target columns. -/
theorem lab_read (fL : S1024.Idx → BitVec 32) (off : Fin 1 → ℕ) (h : ∀ a, off a + S16.size a ≤ S1024.size a) (r : Fin 16) (m : Fin 1024)
    (hm : off 0 + r.val = m.val) :
    shapeCast S16 ((sL.access (Rect.unit (s := S1024) off S16.size h)).read (Elt F) fL) casts16 (ix1 r) = fL (ix1 m) := by
  refine (congrFun (shapeCast_id (s := S16) _ casts16) (ix1 r)).trans ?_
  show fL ((Rect.unit (s := S1024) off S16.size h).emb (ix1 r)) = _
  refine congrArg fL (funext fun a => Fin.ext ?_)
  obtain rfl : a = 0 := Subsingleton.elim _ _
  exact (ValueKit.rect_emb_unit_val (s := S1024) _ _ _ _ 0).trans hm
theorem tgt_read (fT : S4096.Idx → F .f32) (off : Fin 1 → ℕ) (h : ∀ a, off a + S16.size a ≤ S4096.size a) (r : Fin 16) (m : Fin 4096)
    (hm : off 0 + r.val = m.val) :
    shapeCast S16 ((sT.access (Rect.unit (s := S4096) off S16.size h)).read (Elt F) fT) casts16 (ix1 r) = fT (ix1 m) := by
  refine (congrFun (shapeCast_id (s := S16) _ casts16) (ix1 r)).trans ?_
  show fT ((Rect.unit (s := S4096) off S16.size h).emb (ix1 r)) = _
  refine congrArg fT (funext fun a => Fin.ext ?_)
  obtain rfl : a = 0 := Subsingleton.elim _ _
  exact (ValueKit.rect_emb_unit_val (s := S4096) _ _ _ _ 0).trans hm

variable {L : ℕ → BitVec 32} {T : Fin 4 → ℕ → F .f32} {R : ℕ → ℕ → F .f32}

theorem wp_trip {b : Fin 2} (sl : Fin 8) {fS : Buf (Elt F) ((thr d i).loc cc0_scratch1)}
    {fL : Buf (Elt F) ((thr d i).loc cc0_scratch0)} {fT : Buf (Elt F) ((thr d i).loc cc0_scratch2)}
    (hL : ∀ n : Fin 1024, fL (ix1 n) = L n.val)
    (hT : ∀ (c : Fin 4) (n : Fin 1024), fT (ix1 (⟨1024 * c.val + n.val, by omega⟩ : Fin 4096)) = T c n.val)
    (hS : ∀ (r : Fin 128) (k : Fin 320), fS (ix3 b r k) = R (128 * sl.val + r.val) k.val)
    (t : Fin 8) (h1 h2) (Q : F .f32 → sProp (𝕄 F)) :
    iprop(labPts d i fL ∗ tgtPts d i fT ∗ slotPts d i b fS)
      ⊢ iprop((labPts d i fL ∗ tgtPts d i fT ∗ slotPts d i b fS -∗ Q (accAt L T R (128 * sl.val + (t.val + 1) * 16)))
        -∗ wpT d i (trip i sL sS sT lane4 b.val (BitVec.ofNat 32 (128 * sl.val)) t.val h1 h2 (accAt L T R (128 * sl.val + t.val * 16))) Q) := by
  unfold trip
  iintro ⟨HL, HT, HS⟩ HQ
  iapply (wp_load_rect 𝒱₀ (thr d i) none Set.univ (m := sL) (r := Rect.unit (s := S1024) (labOff (BitVec.ofNat 32 (128 * sl.val)) t.val) S16.size h1)
    (hl := View.loadsAt_vmem pos16) (S := Finset.univ) (Finset.subset_univ _)) $$ HL
  iintro HL
  iapply (wp_load_rect 𝒱₀ (thr d i) none Set.univ (m := sT) (r := Rect.unit (s := S4096) (gOff (BitVec.ofNat 32 (128 * sl.val)) 0#32 t.val) S16.size (h2 0))
    (hl := View.loadsAt_vmem pos16) (S := Finset.univ) (Finset.subset_univ _)) $$ HT
  iintro HT
  iapply (wp_load_rect 𝒱₀ (thr d i) none Set.univ (m := sT) (r := Rect.unit (s := S4096) (gOff (BitVec.ofNat 32 (128 * sl.val)) 1024#32 t.val) S16.size (h2 1))
    (hl := View.loadsAt_vmem pos16) (S := Finset.univ) (Finset.subset_univ _)) $$ HT
  iintro HT
  iapply (wp_load_rect 𝒱₀ (thr d i) none Set.univ (m := sT) (r := Rect.unit (s := S4096) (gOff (BitVec.ofNat 32 (128 * sl.val)) 2048#32 t.val) S16.size (h2 2))
    (hl := View.loadsAt_vmem pos16) (S := Finset.univ) (Finset.subset_univ _)) $$ HT
  iintro HT
  iapply (wp_load_rect 𝒱₀ (thr d i) none Set.univ (m := sT) (r := Rect.unit (s := S4096) (gOff (BitVec.ofNat 32 (128 * sl.val)) 3072#32 t.val) S16.size (h2 3))
    (hl := View.loadsAt_vmem pos16) (S := Finset.univ) (Finset.subset_univ _)) $$ HT
  iintro HT
  have hcol : ∀ (c : Fin 4) (r : Fin 16),
      shapeCast S16 ((sT.access (Rect.unit (s := S4096) (gOff (BitVec.ofNat 32 (128 * sl.val)) (BitVec.ofNat 32 (1024 * c.val)) t.val) S16.size (h2 c))).read (Elt F) fT) casts16 (ix1 r)
        = T c (128 * sl.val + (t.val * 16 + r.val)) := fun c r =>
    (tgt_read fT _ (h2 c) r ⟨1024 * c.val + (128 * sl.val + (t.val * 16 + r.val)), by omega⟩
      (by rw [gOff_eq]; show _ = 1024 * c.val + (128 * sl.val + (t.val * 16 + r.val)); omega)).trans
      (hT c ⟨128 * sl.val + (t.val * 16 + r.val), by omega⟩)
  have H := wp_rows d i (L := L) (T := T) hS t (fun r => (lab_read (F := F) fL _ h1 r ⟨128 * sl.val + (t.val * 16 + r.val), by omega⟩
      (by rw [labOff_eq]; show _ = 128 * sl.val + (t.val * 16 + r.val); omega)).trans (hL _))
    (hcol 0) (hcol 1) (hcol 2) (hcol 3) Q 16 0 rfl
  iapply H $$ HS
  iintro HS
  rw [show (t.val + 1) * 16 = t.val * 16 + 16 by omega]
  iapply HQ
  isplitl [HL]; · iexact HL
  isplitl [HT]; · iexact HT
  iexact HS

/-! ## A slab -/

theorem wp_slabLoop {b : Fin 2} (sl : Fin 8) {fS : Buf (Elt F) ((thr d i).loc cc0_scratch1)}
    {fL : Buf (Elt F) ((thr d i).loc cc0_scratch0)} {fT : Buf (Elt F) ((thr d i).loc cc0_scratch2)}
    (hL : ∀ n : Fin 1024, fL (ix1 n) = L n.val)
    (hT : ∀ (c : Fin 4) (n : Fin 1024), fT (ix1 (⟨1024 * c.val + n.val, by omega⟩ : Fin 4096)) = T c n.val)
    (hS : ∀ (r : Fin 128) (k : Fin 320), fS (ix3 b r k) = R (128 * sl.val + r.val) k.val)
    (Q : F .f32 → sProp (𝕄 F)) :
    iprop(labPts d i fL ∗ tgtPts d i fT ∗ slotPts d i b fS)
      ⊢ iprop((labPts d i fL ∗ tgtPts d i fT ∗ slotPts d i b fS -∗ Q (accAt L T R (128 * sl.val + 128)))
        -∗ wpT d i (slabLoop i sl b (accAt L T R (128 * sl.val))) Q) := by
  let I : ℕ → F .f32 → sProp (𝕄 F) := fun t acc =>
    iprop(⌜acc = accAt L T R (128 * sl.val + t * 16)⌝ ∗ labPts d i fL ∗ tgtPts d i fT ∗ slotPts d i b fS)
  have key := Scf.wp_for frame (wpE (defs₀ (F := F)) 𝒱₀ (thr d i) none) Set.univ k0_t1_loop.lb k0_t1_loop.ub k0_t1_loop.st k0_t1_ok
    (accAt L T R (128 * sl.val))
    (fun t acc => trip i sL sS sT lane4 b.val (BitVec.ofNat 32 (128 * sl.val)) t.val (lab_inb sl t) (tgt_inb sl t) acc) I
    (by
      intro t acc
      iintro ⟨%e, H⟩
      subst e
      iapply (wp_trip d i sl hL hT hS t (lab_inb sl t) (tgt_inb sl t) _) $$ H
      iintro H
      isplitr; · ipureintro; rfl
      iexact H) (Q := Q)
  iintro H HK
  iapply key
  isplitl [H]
  · isplitr; · ipureintro; rfl
    iexact H
  iintro %acc ⟨%e, H⟩
  rw [show 128 * sl.val + Scf.trips k0_t1_loop.lb k0_t1_loop.ub k0_t1_loop.st * 16 = 128 * sl.val + 128 from
    congrArg (fun t => 128 * sl.val + t * 16) (show Scf.trips k0_t1_loop.lb k0_t1_loop.ub k0_t1_loop.st = 8 by decide)] at e
  subst e
  iapply HK; iexact H

end Cert.Proof.Reg

end
-- ==== Proof.RegVals.lean ====
/-
  What a tile reads: its rows of the labels, of the target columns and of the predictions, by number; what its sums row
  holds when it is done.
-/
module

public import proofs.«01_k».proof.Proof.RegRow

@[expose] public section

noncomputable section

namespace Cert.Proof.Reg

open Cert.KernelIdeal Cert.KernelIdeal.Facts₀ Cert.KernelIdeal.Facts
open Idealize.ShloMosaic

variable {F : FTy → Type}

/-- A tile's number: twice its subcore and its core. -/
def wid (i : grid0.Coords) : ℕ := 2 * (i 1).val + (i 0).val

theorem wid_lt (i : grid0.Coords) : wid i < 32 := by
  have h1 : (i 1).val < 16 := (i 1).isLt
  have h0 : (i 0).val < 2 := (i 0).isLt
  unfold wid; omega

/-- Worker `w`'s labels, target columns and predictions, by number. -/
def labAt (lab : S32768.Idx → BitVec 32) (w n : ℕ) : BitVec 32 := lab (ix1 (Fin.ofNat 32768 (1024 * w + n)))
def tgtAt (tg : S131072.Idx → F .f32) (w : ℕ) (c : Fin 4) (n : ℕ) : F .f32 := tg (ix1 (Fin.ofNat 131072 (32768 * c.val + (1024 * w + n))))
def prdAt (pr : S32768x320.Idx → F .f32) (w n k : ℕ) : F .f32 := pr (ix2 (Fin.ofNat 32768 (1024 * w + n)) (Fin.ofNat 320 k))

variable [FloatOps F]

/-- Worker `w`'s sum. -/
def sumAt (lab : S32768.Idx → BitVec 32) (tg : S131072.Idx → F .f32) (pr : S32768x320.Idx → F .f32) (w : ℕ) : F .f32 :=
  accAt (labAt lab w) (tgtAt tg w) (prdAt pr w) 1024

/-- What the array of sums holds when every tile is done: row `w` is worker `w`'s sum in lane 0, zeros elsewhere. -/
def sumsOf (lab : S32768.Idx → BitVec 32) (tg : S131072.Idx → F .f32) (pr : S32768x320.Idx → F .f32) : S32x16.Idx → F .f32 :=
  fun j => sumVec (sumAt lab tg pr (j 0).val) (ix1 (j 1))

variable (i : grid0.Coords)

/-- The copied labels are the worker's. -/
theorem lRow_read (lab : S32768.Idx → BitVec 32) (n : Fin 1024) : (lRow i).view.read (Elt F) lab (ix1 n) = labAt lab (wid i) n.val := by
  show lab ((Rect.unit (s := S32768) (k0_off1 i) S1024.size (k0_off1_inb i)).emb (ix1 n)) = _
  refine congrArg lab (funext fun a => Fin.ext ?_)
  obtain rfl : a = 0 := Subsingleton.elim _ _
  refine (ValueKit.rect_emb_unit_val (s := S32768) _ _ _ _ 0).trans ?_
  refine (congrArg (· + n.val) (congrFun (Gen.k0_off1_eq i) 0)).trans ?_
  have := wid_lt i
  have hn := n.isLt
  show 2048 * (i 1).val + 1024 * (i 0).val + n.val = (1024 * wid i + n.val) % 32768
  rw [Nat.mod_eq_of_lt (by omega)]
  unfold wid; omega

/-- A copied target column is the worker's. -/
theorem tRow_read (tg : S131072.Idx → F .f32) (c : Fin 4) (n : Fin 1024) : (tRow i c).view.read (Elt F) tg (ix1 n) = tgtAt tg (wid i) c n.val := by
  show tg ((Rect.unit (s := S131072) (k0_off2 i (BitVec.ofNat 32 (32768 * c.val))) S1024.size (k0_off2_inb i c)).emb (ix1 n)) = _
  refine congrArg tg (funext fun a => Fin.ext ?_)
  obtain rfl : a = 0 := Subsingleton.elim _ _
  refine (ValueKit.rect_emb_unit_val (s := S131072) _ _ _ _ 0).trans ?_
  refine (congrArg (· + n.val) (congrFun (Gen.k0_off2_eq i c) 0)).trans ?_
  have := wid_lt i
  have hn := n.isLt
  show 32768 * c.val + 2048 * (i 1).val + 1024 * (i 0).val + n.val = (32768 * c.val + (1024 * wid i + n.val)) % 131072
  rw [Nat.mod_eq_of_lt (by omega)]
  unfold wid; omega

/-- A copied slab is the worker's. -/
theorem slab_read (pr : S32768x320.Idx → F .f32) (sl : Fin 8) (r : Fin 128) (k : Fin 320) :
    (slabSrc i sl).view.read (Elt F) pr (ix2 r k) = prdAt pr (wid i) (128 * sl.val + r.val) k.val := by
  show pr ((Rect.unit (s := S32768x320) (k0_off3 i (BitVec.ofNat 32 (128 * sl.val))) S128x320.size (k0_off3_inb i sl)).emb (ix2 r k)) = _
  refine congrArg pr (funext fun a => Fin.ext ?_)
  refine (ValueKit.rect_emb_unit_val (s := S32768x320) _ _ _ _ a).trans ?_
  refine (congrArg (· + ((ix2 r k : S128x320.Idx) a).val) (congrFun (Gen.k0_off3_eq i sl) a)).trans ?_
  have := wid_lt i
  have hr := r.isLt
  have hk := k.isLt
  fin_cases a
  · show 2048 * (i 1).val + 1024 * (i 0).val + 128 * sl.val + r.val = (1024 * wid i + (128 * sl.val + r.val)) % 32768
    rw [Nat.mod_eq_of_lt (by omega)]
    unfold wid; omega
  · show 0 + k.val = k.val % 320
    rw [Nat.mod_eq_of_lt hk, Nat.zero_add]

/-- Where row `r`, column `k` of a slab lands in the slab buffer. -/
theorem slotM_emb (b : Fin 2) (r : Fin 128) (k : Fin 320) : (slotM b).view.emb (ix2 r k) = (ix3 b r k : S2x128x320.Idx) := by
  have e : Shape.reshapeEquiv squeezesSlab.numel_eq (ix2 r k) = (ix3 (0 : Fin 1) r k : S1x128x320.Idx) :=
    Shape.reshapeEquiv_eq_of_rowMajor _ (by
      rw [Shape.rowMajor_val_three, Shape.rowMajor_val_two]
      show (0 * 128 + r.val) * 320 + k.val = r.val * 320 + k.val
      omega)
  show (Rect.unit (s := S2x128x320) ![b.val, 0, 0] S1x128x320.size (slot_inb b)).emb (Shape.reshapeEquiv squeezesSlab.numel_eq (ix2 r k)) = _
  rw [e]
  refine funext fun a => Fin.ext ((ValueKit.rect_emb_unit_val (s := S2x128x320) _ _ _ _ a).trans ?_)
  fin_cases a
  · exact Nat.add_zero _
  · exact Nat.zero_add _
  · exact Nat.zero_add _

/-- Where target `n` of column `c` lands in the target buffer. -/
theorem tDst_emb (c : Fin 4) (n : Fin 1024) : (tDst c).view.emb (ix1 n) = (ix1 (⟨1024 * c.val + n.val, by omega⟩ : Fin 4096) : S4096.Idx) := by
  show (Rect.unit (s := S4096) ![1024 * c.val] S1024.size (tDst_inb c)).emb (ix1 n) = _
  refine funext fun a => Fin.ext ((ValueKit.rect_emb_unit_val (s := S4096) _ _ _ _ a).trans ?_)
  obtain rfl : a = 0 := Subsingleton.elim _ _
  rfl

theorem mem_tDst (c : Fin 4) (j : S4096.Idx) : j ∈ (tDst c).view.set ↔ 1024 * c.val ≤ (j 0).val ∧ (j 0).val < 1024 * c.val + 1024 := by
  show j ∈ ((View.whole (cc0_scratch2 : Ref sig .scVector)).slice (Rect.unit (s := S4096) ![1024 * c.val] S1024.size (tDst_inb c))).set ↔ _
  rw [View.set_slice_whole, Rect.mem_set_unit]
  constructor
  · intro h; exact h 0
  · intro h a; obtain rfl : a = (0 : Fin 1) := Subsingleton.elim (α := Fin 1) _ _; exact h

/-- The lane of the array of sums lane `x` of the tile's sum goes to. -/
theorem oRow_emb (x : Fin 16) : (oRow i).view.emb (ix1 x) = (ix2 (⟨wid i, wid_lt i⟩ : Fin 32) x : S32x16.Idx) := by
  have e : Shape.reshapeEquiv squeezesOut.numel_eq (ix1 x) = (ix2 (0 : Fin 1) x : S1x16.Idx) :=
    Shape.reshapeEquiv_eq_of_rowMajor _ (by
      rw [Shape.rowMajor_val_two, Shape.rowMajor_val_one]
      show 0 * 16 + x.val = x.val
      omega)
  show (Rect.unit (s := S32x16) (k0_off148 i) S1x16.size (k0_off148_inb i)).emb (Shape.reshapeEquiv squeezesOut.numel_eq (ix1 x)) = _
  rw [e]
  refine funext fun a => Fin.ext ((ValueKit.rect_emb_unit_val (s := S32x16) _ _ _ _ a).trans ?_)
  refine (congrArg (· + ((ix2 (0 : Fin 1) x : S1x16.Idx) a).val) (congrFun (Gen.k0_off148_eq i) a)).trans ?_
  fin_cases a
  · exact Nat.add_zero _
  · exact Nat.zero_add _

theorem mem_oRow (j : S32x16.Idx) : j ∈ (oRow i).view.set ↔ (j 0).val = wid i := by
  show j ∈ (((View.whole (main_v2_scv : Ref sig .scVector)).slice (Rect.unit (s := S32x16) (k0_off148 i) S1x16.size (k0_off148_inb i))).reshape S16 squeezesOut.numel_eq).set ↔ _
  rw [View.set_reshape, View.set_slice_whole, Rect.mem_set_unit, Gen.k0_off148_eq]
  unfold wid
  constructor
  · intro h
    have := h 0
    change 2 * (i 1).val + (i 0).val ≤ (j 0).val ∧ (j 0).val < 2 * (i 1).val + (i 0).val + 1 at this
    omega
  · intro h a
    fin_cases a
    · change 2 * (i 1).val + (i 0).val ≤ (j 0).val ∧ (j 0).val < 2 * (i 1).val + (i 0).val + 1; omega
    · exact ⟨Nat.zero_le _, by change (j 1).val < 0 + 16; have : (j 1).val < 16 := (j 1).isLt; omega⟩

end Cert.Proof.Reg

end
-- ==== Proof.RegCopies.lean ====
/-
  A tile's copies and their waits: the labels, the target columns, the slabs (two of them outstanding at once, each on
  its own half of the tile's share of the predictions and into its own slot) and the sum's row out.
-/
module

public import proofs.«01_k».proof.Proof.RegVals

@[expose] public section

noncomputable section

namespace Cert.Proof.Reg

open Cert.KernelIdeal Cert.KernelIdeal.Facts₀ Cert.KernelIdeal.Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

variable (d : Dev nD) (i : grid0.Coords)

/-- What the tile owes, its waits so far at the program's own index. -/
def owesT (O : CellTallies nD τ sig (HIx 1)) (W : Waits sig (HIx 1)) : sProp (𝕄 F) :=
  iprop(∃ W', ⌜∀ p ∈ W', p ∈ W ∨ p.2 = none⌝ ∗ owes (thr d i) O W')

/-- The evidence its waits go by. -/
abbrev mayT (O : CellTallies nD τ sig (HIx 1)) : sProp (𝕄 F) := Transfers.MayWaits (thr d i) (default : HIx 1) O

/-- A cell of the tile at zero. -/
abbrev cell0 (sem : DmaSem sig) : sProp (𝕄 F) := semVal (thr d i, .dma sem) 0

/-- A copy of the tile's outstanding on a cell, delivering `D` at its wait. -/
abbrev flyT (sem : DmaSem sig) (N : ℕ) (Dl : sProp (𝕄 F)) : sProp (𝕄 F) :=
  Transfers.Flight (countersEmb (U := UU)) (thr d i) (.dma sem) (default : HIx 1) N Dl

variable [FloatOps F] {O : CellTallies nD τ sig (HIx 1)} {W : Waits sig (HIx 1)}

/-- A wait: what the copy delivers, and the cell at zero. -/
theorem wp_waitT {sp sp' : Space} {s s' : Shape} {e e' : EltTy} {κ : Kind} {sem : DmaSem sig} {srcw : Memref sig .scVector sp' s' e'} {dstw : Memref sig κ sp s e}
    {hsrc : srcw.view.WordExact} {hdst : dstw.view.WordExact} (N : ℕ) (hN : dstw.view.dmaCredit = N) (Dl : sProp (𝕄 F)) (Q : PUnit → sProp (𝕄 F)) :
    iprop(mayT d i O ∗ flyT d i sem N Dl ∗ owesT d i O W)
      ⊢ iprop((Dl ∗ cell0 d i sem ∗ owesT d i O W -∗ Q ⟨⟩)
        -∗ wpT (F := F) d i (Prog.lift (.waitDma2 sem srcw dstw hsrc hdst)) Q) := by
  unfold owesT
  iintro ⟨#Hmw, Hfl, %W', %hW, HO⟩ HQ
  iapply (Transfers.wp_waitLocalO (countersEmb (U := UU)) 𝒱₀ (thr d i) none (default : HIx 1) hN) $$ [Hfl HO]
  · isplitl [Hfl]; · iexact Hfl
    isplitl [HO]; · iexact HO
    iapply (Transfers.MayWaits.elim (SemLoc.dma sem)) $$ Hmw
  iintro ⟨HD, Hs, HO⟩
  rw [wp_ret]
  imodintro
  iapply HQ
  isplitl [HD]; · iexact HD
  isplitl [Hs]; · iexact Hs
  iexists _; isplitr
  swap; · iexact HO
  ipureintro; intro p hp
  rcases Finset.mem_insert.mp hp with hp | hp; · exact .inr (hp ▸ rfl)
  exact hW p hp

/-! ## The labels and the targets -/

/-- The tile's share of the labels, of the target columns. -/
abbrev lvPts (q : PosShare TreeShare) (lab : S32768.Idx → BitVec 32) : sProp (𝕄 F) := (lV.view.loc (thr d i)) ↦{q} (lab : Buf (Elt F) (lV.view.loc (thr d i)))
abbrev tvPts (q : PosShare TreeShare) (tg : S131072.Idx → F .f32) : sProp (𝕄 F) := (tV.view.loc (thr d i)) ↦{q} (tg : Buf (Elt F) (tV.view.loc (thr d i)))
abbrev pvPts (q : PosShare TreeShare) (pr : S32768x320.Idx → F .f32) : sProp (𝕄 F) := (pV.view.loc (thr d i)) ↦{q} (pr : Buf (Elt F) (pV.view.loc (thr d i)))

theorem lV_split (q : PosShare TreeShare) (lab : S32768.Idx → BitVec 32) : (lvPts d i q lab : sProp (𝕄 F))
    ⊣⊢ iprop((lV.view.loc (thr d i) ↦[(lRow i).view.set]{q} (lab : Buf (Elt F) (lV.view.loc (thr d i))))
      ∗ (lV.view.loc (thr d i) ↦[Finset.univ \ (lRow i).view.set]{q} (lab : Buf (Elt F) (lV.view.loc (thr d i))))) :=
  pointsTo_split_subset (ℓ := lV.view.loc (thr d i)) (Finset.subset_univ _)
theorem tV_split (c : Fin 4) (q : PosShare TreeShare) (tg : S131072.Idx → F .f32) : (tvPts d i q tg : sProp (𝕄 F))
    ⊣⊢ iprop((tV.view.loc (thr d i) ↦[(tRow i c).view.set]{q} (tg : Buf (Elt F) (tV.view.loc (thr d i))))
      ∗ (tV.view.loc (thr d i) ↦[Finset.univ \ (tRow i c).view.set]{q} (tg : Buf (Elt F) (tV.view.loc (thr d i))))) :=
  pointsTo_split_subset (ℓ := tV.view.loc (thr d i)) (Finset.subset_univ _)
theorem pV_split (sl : Fin 8) (q : PosShare TreeShare) (pr : S32768x320.Idx → F .f32) : (pvPts d i q pr : sProp (𝕄 F))
    ⊣⊢ iprop((pV.view.loc (thr d i) ↦[(slabSrc i sl).view.set]{q} (pr : Buf (Elt F) (pV.view.loc (thr d i))))
      ∗ (pV.view.loc (thr d i) ↦[Finset.univ \ (slabSrc i sl).view.set]{q} (pr : Buf (Elt F) (pV.view.loc (thr d i))))) :=
  pointsTo_split_subset (ℓ := pV.view.loc (thr d i)) (Finset.subset_univ _)

theorem wp_copyLab {q : PosShare TreeShare} {lab : S32768.Idx → BitVec 32} {f : Buf (Elt F) ((thr d i).loc cc0_scratch0)} (Q : PUnit → sProp (𝕄 F)) :
    iprop(mayT d i O ∗ lvPts d i q lab ∗ labPts d i f ∗ cell0 d i cc0_scoped0.sem ∗ owesT d i O W)
      ⊢ iprop((∀ f', ⌜∀ n : Fin 1024, f' (ix1 n) = labAt lab (wid i) n.val⌝ ∗ lvPts d i q lab ∗ labPts d i f' ∗ cell0 d i cc0_scoped0.sem ∗ owesT d i O W -∗ Q ⟨⟩)
        -∗ wpT (F := F) d i (copyLab i) Q) := by
  unfold copyLab
  iintro ⟨#Hmw, Hl, Hf, Hc, HO⟩ HQ
  ihave Hl' := (lV_split d i q lab).1 $$ Hl
  icases Hl' with ⟨Hl, Hlr⟩
  iapply (Transfers.wp_dmaLocal (countersEmb (U := UU)) 𝒱₀ (thr d i) none (src := lRow i) (dst := sL) (sm := .dma cc0_scoped0.sem) (Sd := Finset.univ) (default : HIx 1)
    sL.view.dmaCredit rfl (by decide) (Finset.subset_univ _)) $$ [Hl Hf Hc]
  · isplitl [Hl]; · iexact Hl
    isplitl [Hf]; · iexact Hf
    iexact Hc
  iintro Hfl
  iapply (wp_waitT d i sL.view.dmaCredit rfl _ Q) $$ [Hfl HO]
  · isplitr; · iexact Hmw
    isplitl [Hfl]; · iexact Hfl
    iexact HO
  iintro ⟨⟨Hf, Hl⟩, Hc, HO⟩
  ihave Hl' := (lV_split d i q lab).2 $$ [Hl Hlr]
  · isplitl [Hl] <;> iassumption
  iapply HQ
  isplitr
  rotate_left
  · isplitl [Hl']; · iexact Hl'
    isplitl [Hf]; · iexact Hf
    isplitl [Hc]; · iexact Hc
    iexact HO
  · ipureintro
    intro n
    rw [View.write_whole_univ]
    exact lRow_read i lab n

theorem wp_copyTgt (c : Fin 4) (sem : DmaSem sig) {q : PosShare TreeShare} {tg : S131072.Idx → F .f32} {f : Buf (Elt F) ((thr d i).loc cc0_scratch2)} (Q : PUnit → sProp (𝕄 F)) :
    iprop(mayT d i O ∗ tvPts d i q tg ∗ tgtPts d i f ∗ cell0 d i sem ∗ owesT d i O W)
      ⊢ iprop((∀ f', ⌜(∀ n : Fin 1024, f' (ix1 (⟨1024 * c.val + n.val, by omega⟩ : Fin 4096)) = tgtAt tg (wid i) c n.val)
            ∧ ∀ (c' : Fin 4) (n : Fin 1024), c' ≠ c → f' (ix1 (⟨1024 * c'.val + n.val, by omega⟩ : Fin 4096)) = f (ix1 (⟨1024 * c'.val + n.val, by omega⟩ : Fin 4096))⌝
          ∗ tvPts d i q tg ∗ tgtPts d i f' ∗ cell0 d i sem ∗ owesT d i O W -∗ Q ⟨⟩)
        -∗ wpT (F := F) d i (copyTgt i c sem) Q) := by
  unfold copyTgt
  iintro ⟨#Hmw, Hl, Hf, Hc, HO⟩ HQ
  ihave Hl' := (tV_split d i c q tg).1 $$ Hl
  icases Hl' with ⟨Hl, Hlr⟩
  iapply (Transfers.wp_dmaLocal (countersEmb (U := UU)) 𝒱₀ (thr d i) none (src := tRow i c) (dst := tDst c) (sm := .dma sem) (Sd := Finset.univ) (default : HIx 1)
    (tDst c).view.dmaCredit rfl (View.dmaCredit_pos _ (by decide)) (Finset.subset_univ _)) $$ [Hl Hf Hc]
  · isplitl [Hl]; · iexact Hl
    isplitl [Hf]; · iexact Hf
    iexact Hc
  iintro Hfl
  iapply (wp_waitT d i (tDst c).view.dmaCredit rfl _ Q) $$ [Hfl HO]
  · isplitr; · iexact Hmw
    isplitl [Hfl]; · iexact Hfl
    iexact HO
  iintro ⟨⟨Hf, Hl⟩, Hc, HO⟩
  ihave Hl' := (tV_split d i c q tg).2 $$ [Hl Hlr]
  · isplitl [Hl] <;> iassumption
  iapply HQ
  isplitr
  rotate_left
  · isplitl [Hl']; · iexact Hl'
    isplitl [Hf]; · iexact Hf
    isplitl [Hc]; · iexact Hc
    iexact HO
  · ipureintro
    refine ⟨fun n => ?_, fun c' n hc => ?_⟩
    · rw [← tDst_emb c n]
      refine (View.write_emb_of_mem (v := (tDst c).view) _ _ (Finset.mem_univ _)).trans ?_
      exact tRow_read i tg c n
    · refine View.write_of_not_mem (v := (tDst c).view) _ _ _ ?_
      rw [View.setOn_univ]
      intro h
      have h := (mem_tDst c _).mp h
      change 1024 * c.val ≤ 1024 * c'.val + n.val ∧ 1024 * c'.val + n.val < 1024 * c.val + 1024 at h
      exact hc (Fin.ext (by omega))

/-! ## The slabs -/

/-- A slab's copy outstanding: its flight, and the rest of the share of the predictions it reads. -/
def slabFly (sl : Fin 8) (b : Fin 2) (sem : DmaSem sig) (q : PosShare TreeShare) (pr : S32768x320.Idx → F .f32) : sProp (𝕄 F) :=
  iprop((∃ f : Buf (Elt F) ((thr d i).loc cc0_scratch1), flyT d i sem (slotM b).view.dmaCredit
      iprop(slotPts d i b ((slotM b).view.write (Elt F) f ((slabSrc i sl).view.read (Elt F) pr) Finset.univ)
        ∗ (pV.view.loc (thr d i) ↦[(slabSrc i sl).view.set]{q} (pr : Buf (Elt F) (pV.view.loc (thr d i))))))
    ∗ (pV.view.loc (thr d i) ↦[Finset.univ \ (slabSrc i sl).view.set]{q} (pr : Buf (Elt F) (pV.view.loc (thr d i)))))

theorem wp_startSlab (sl : Fin 8) (b : Fin 2) (sem : DmaSem sig) {q : PosShare TreeShare} {pr : S32768x320.Idx → F .f32}
    {f : Buf (Elt F) ((thr d i).loc cc0_scratch1)} (Q : PUnit → sProp (𝕄 F)) :
    iprop(pvPts d i q pr ∗ slotPts d i b f ∗ cell0 d i sem)
      ⊢ iprop((slabFly d i sl b sem q pr -∗ Q ⟨⟩) -∗ wpT (F := F) d i (startSlab i sl b sem) Q) := by
  unfold startSlab slabFly
  iintro ⟨Hp, Hf, Hc⟩ HQ
  ihave Hp' := (pV_split d i sl q pr).1 $$ Hp
  icases Hp' with ⟨Hp, Hpr⟩
  iapply (Transfers.wp_dmaLocal (countersEmb (U := UU)) 𝒱₀ (thr d i) none (src := slabSrc i sl) (dst := slotM b) (sm := .dma sem) (Sd := (slotM b).view.set) (default : HIx 1)
    (slotM b).view.dmaCredit rfl (View.dmaCredit_pos _ (by decide)) subset_rfl) $$ [Hp Hf Hc]
  · isplitl [Hp]; · iexact Hp
    isplitl [Hf]; · iexact Hf
    iexact Hc
  iintro Hfl
  rw [wp_ret]
  imodintro
  iapply HQ
  isplitl [Hfl]
  · iexists f; iexact Hfl
  iexact Hpr

theorem wp_waitSlab (sl : Fin 8) (b : Fin 2) (sem : DmaSem sig) {q : PosShare TreeShare} {pr : S32768x320.Idx → F .f32} (Q : PUnit → sProp (𝕄 F)) :
    iprop(mayT d i O ∗ slabFly d i sl b sem q pr ∗ owesT d i O W)
      ⊢ iprop((∀ f : Buf (Elt F) ((thr d i).loc cc0_scratch1), ⌜∀ (r : Fin 128) (k : Fin 320), f (ix3 b r k) = prdAt pr (wid i) (128 * sl.val + r.val) k.val⌝
          ∗ pvPts d i q pr ∗ slotPts d i b f ∗ cell0 d i sem ∗ owesT d i O W -∗ Q ⟨⟩)
        -∗ wpT (F := F) d i (waitSlab i sl b sem) Q) := by
  unfold waitSlab slabFly
  iintro ⟨#Hmw, ⟨⟨%f, Hfl⟩, Hpr⟩, HO⟩ HQ
  iapply (wp_waitT d i (slotM b).view.dmaCredit rfl _ Q) $$ [Hfl HO]
  · isplitr; · iexact Hmw
    isplitl [Hfl]; · iexact Hfl
    iexact HO
  iintro ⟨⟨Hf, Hp⟩, Hc, HO⟩
  ihave Hp' := (pV_split d i sl q pr).2 $$ [Hp Hpr]
  · isplitl [Hp] <;> iassumption
  iapply HQ
  isplitr
  rotate_left
  · isplitl [Hp']; · iexact Hp'
    isplitl [Hf]; · iexact Hf
    isplitl [Hc]; · iexact Hc
    iexact HO
  · ipureintro
    intro r k
    rw [← slotM_emb b r k]
    refine (View.write_emb_of_mem (v := (slotM b).view) _ _ (Finset.mem_univ _)).trans ?_
    exact slab_read i pr sl r k

/-! ## The sum out -/

/-- The tile's row of the sums at some contents of the array. -/
abbrev outPts (f : S32x16.Idx → F .f32) : sProp (𝕄 F) := oV.view.loc (thr d i) ↦[(oRow i).view.set]{fullShare} (f : Buf (Elt F) (oV.view.loc (thr d i)))

/-- The sum's register stored over the tile's whole row leaves the row at it. -/
theorem sA_write (f v : S16.Idx → F .f32) :
    (sA.access (Rect.unit (s := S16) ![0] S16.size inb_S16_S16_0)).write (Elt F) f v Finset.univ = v := by
  funext j
  have e : (sA.access (Rect.unit (s := S16) ![0] S16.size inb_S16_S16_0)).emb j = j := by
    refine funext fun a => Fin.ext ((ValueKit.rect_emb_unit_val (s := S16) _ _ _ _ a).trans ?_)
    obtain rfl : a = (0 : Fin 1) := Subsingleton.elim (α := Fin 1) _ _
    exact Nat.zero_add _
  have h := View.write_emb_of_mem (v := (sA.access (Rect.unit (s := S16) ![0] S16.size inb_S16_S16_0))) (Val := Elt F) f v (Finset.mem_univ j)
  rw [e] at h
  exact h

/-- The copied row. -/
theorem oRow_write {acc : F .f32} {fo g : S32x16.Idx → F .f32}
    (hg : ∀ x : Fin 16, g (ix2 (⟨wid i, wid_lt i⟩ : Fin 32) x) = sumVec acc (ix1 x)) (j : S32x16.Idx) (hj : j ∈ (oRow i).view.set) :
    (oRow i).view.write (Elt F) fo (sumVec acc) Finset.univ j = g j := by
  obtain ⟨x, -, rfl⟩ := Finset.mem_map.mp hj
  have hx := oRow_emb i (x 0)
  rw [show ix1 (n0 := 16) (x 0) = x from ix1_eta x] at hx
  refine (View.write_emb_of_mem (v := (oRow i).view) (Val := Elt F) fo (sumVec acc) (Finset.mem_univ x)).trans ?_
  refine Eq.trans ?_ (congrArg g hx.symm)
  exact (congrArg (sumVec acc) (ix1_eta x).symm).trans (hg (x 0)).symm

/-- The tile's row at some contents. -/
abbrev accPts (f : S16.Idx → F .f32) : sProp (𝕄 F) := sA.view.loc (thr d i) ↦{fullShare} (f : Buf (Elt F) (sA.view.loc (thr d i)))

theorem sA_pts (f : S16.Idx → F .f32) : (accPts d i f : sProp (𝕄 F)) = sA.view.loc (thr d i) ↦[sA.view.set]{fullShare} (f : Buf (Elt F) (sA.view.loc (thr d i))) := by
  rw [show sA.view.set = Finset.univ from View.set_whole _]

/-- The store of the tile's row. -/
theorem wp_storeAcc (v : FVec F S16 .f32) {fA : S16.Idx → F .f32} {α : Type} (kk : PUnit → TileProg (F := F) i α) (Q : α → sProp (𝕄 F)) :
    accPts d i fA ⊢ iprop((accPts d i v -∗ wpT d i (kk ⟨⟩) Q)
      -∗ wpT (F := F) d i (.op (.store sA (Rect.unit (s := S16) ![0] S16.size inb_S16_S16_0) v Finset.univ (View.stores_vmem_bits_univ pos16 rfl) (.inl rfl)) kk) Q) := by
  have h := wp_store (defs := defs₀ (F := F)) 𝒱₀ (thr d i) none (Γ := .empty) Set.univ (Q := Q) (m := sA) (r := Rect.unit (s := S16) ![0] S16.size inb_S16_S16_0) (w := v) (Mk := Finset.univ)
    (hx := View.stores_vmem_bits_univ pos16 rfl) (hm := .inl rfl) (k := kk) (S := Finset.univ) (f := fA) (Finset.subset_univ _)
  rw [sA_write fA v] at h
  exact h

theorem wp_finish (acc : F .f32) {fA : S16.Idx → F .f32} {fo g : S32x16.Idx → F .f32}
    (hg : ∀ x : Fin 16, g (ix2 (⟨wid i, wid_lt i⟩ : Fin 32) x) = sumVec acc (ix1 x)) (Q : PUnit → sProp (𝕄 F)) :
    iprop(mayT d i O ∗ accPts d i fA ∗ outPts d i fo ∗ cell0 d i cc0_scoped5.sem ∗ owesT d i O W)
      ⊢ iprop(((∃ f, accPts d i f) ∗ outPts d i g ∗ cell0 d i cc0_scoped5.sem ∗ owesT d i O W -∗ Q ⟨⟩)
        -∗ wpT (F := F) d i (finish i acc) Q) := by
  unfold finish
  iintro ⟨#Hmw, HA, Ho, Hc, HO⟩ HQ
  iapply (wp_load_rect 𝒱₀ (thr d i) none Set.univ (m := sA) (r := Rect.unit (s := S16) ![0] S16.size inb_S16_S16_0)
    (hl := View.loadsAt_vmem pos16) (S := Finset.univ) (Finset.subset_univ _)) $$ HA
  iintro HA
  iapply (wp_storeAcc d i (sumVec acc) (fA := fA)) $$ HA
  iintro HA
  ihave HA' := (Entails.of_eq (sA_pts d i (sumVec acc))) $$ HA
  iapply (Transfers.wp_dmaLocal (countersEmb (U := UU)) 𝒱₀ (thr d i) none (src := sA) (dst := oRow i) (sm := .dma cc0_scoped5.sem) (Sd := (oRow i).view.set) (q := fullShare)
    (fs := sumVec acc) (fd := fo) (default : HIx 1)
    (oRow i).view.dmaCredit rfl (View.dmaCredit_pos _ (by decide)) subset_rfl) $$ [HA' Ho Hc]
  · isplitl [HA']; · iexact HA'
    isplitl [Ho]; · iexact Ho
    iexact Hc
  iintro Hfl
  rw [show (View.read (Elt F) sA.view (sumVec acc)) = sumVec acc from rfl]
  iapply (wp_waitT d i (oRow i).view.dmaCredit rfl _ Q) $$ [Hfl HO]
  · isplitr; · iexact Hmw
    isplitl [Hfl]; · iexact Hfl
    iexact HO
  iintro ⟨⟨Ho, HA⟩, Hc, HO⟩
  ihave Ho' := (Entails.of_eq (pointsTo_congr (ℓ := oV.view.loc (thr d i)) (I := (oRow i).view.set) (q := fullShare)
    (f := (oRow i).view.write (Elt F) fo (sumVec acc) Finset.univ) (g := g) (oRow_write i hg))) $$ Ho
  ihave HA' := (Entails.of_eq (sA_pts d i (sumVec acc)).symm) $$ HA
  iapply HQ
  isplitl [HA']
  · iexists _; iexact HA'
  isplitl [Ho']; · iexact Ho'
  isplitl [Hc]; · iexact Hc
  iexact HO

end Cert.Proof.Reg

end
-- ==== Proof.RegBody.lean ====
/-
  A tile's whole run: the labels and the targets copied in, the eight slabs two at a time, the sum out — the tile's row of
  the sums left at the worker's value.
-/
module

public import proofs.«01_k».proof.Proof.RegCopies

@[expose] public section

noncomputable section

namespace Cert.Proof.Reg

open Cert.KernelIdeal Cert.KernelIdeal.Facts₀ Cert.KernelIdeal.Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

variable (d : Dev nD) (i : grid0.Coords)

/-! ## The two slots -/

/-- The slab buffer whole. -/
abbrev slabPts (f : Buf (Elt F) ((thr d i).loc cc0_scratch1)) : sProp (𝕄 F) := (thr d i).loc cc0_scratch1 ↦{fullShare} f

theorem slot_compl : Finset.univ \ (slotM 0).view.set = (slotM 1).view.set := by
  ext j
  rw [Finset.mem_sdiff, mem_slot 1 j]
  have h := mem_slot 0 j
  have hj : (j 0).val < 2 := (j 0).isLt
  have e0 : ((0 : Fin 2) : ℕ) = 0 := rfl
  have e1 : ((1 : Fin 2) : ℕ) = 1 := rfl
  rw [h, e0, e1]
  constructor
  · rintro ⟨-, h⟩; omega
  · intro h; exact ⟨Finset.mem_univ _, by omega⟩

theorem slab_split (f : Buf (Elt F) ((thr d i).loc cc0_scratch1)) : (slabPts d i f : sProp (𝕄 F)) ⊣⊢ iprop(slotPts d i 0 f ∗ slotPts d i 1 f) := by
  have h := pointsTo_split_subset (ℓ := (thr d i).loc cc0_scratch1) (q := fullShare) (f := f) (Ix := HIx 1) (Name := ℕ) (U := UU) (Lvl := ℕ)
    (Finset.subset_univ (slotM 0).view.set)
  rw [show (Finset.univ \ (slotM 0).view.set : Finset (Idx ((thr d i).loc cc0_scratch1))) = (slotM 1).view.set from slot_compl] at h
  exact h

/-- The slots at contents of their own are the buffer at some contents. -/
theorem slab_join (f g : Buf (Elt F) ((thr d i).loc cc0_scratch1)) : iprop(slotPts d i 0 f ∗ slotPts d i 1 g) ⊢ (iprop(∃ h, slabPts d i h) : sProp (𝕄 F)) := by
  let h : Buf (Elt F) ((thr d i).loc cc0_scratch1) := fun j => if j ∈ (slotM 0).view.set then f j else g j
  have ef : (slotPts d i 0 f : sProp (𝕄 F)) = slotPts d i 0 h := pointsTo_congr fun j hj => (if_pos hj).symm
  have eg : (slotPts d i 1 g : sProp (𝕄 F)) = slotPts d i 1 h := pointsTo_congr fun j hj => (if_neg (by
    rw [← slot_compl] at hj; exact (Finset.mem_sdiff.mp hj).2)).symm
  rw [ef, eg]
  iintro H
  iexists h
  iapply (slab_split d i h).2; iexact H

variable [FloatOps F] {O : CellTallies nD τ sig (HIx 1)} {W : Waits sig (HIx 1)}

/-! ## A stage: a slab awaited, summed, and the next but one started into its slot -/

section Stage

variable {lab : S32768.Idx → BitVec 32} {tg : S131072.Idx → F .f32} {pr : S32768x320.Idx → F .f32}
variable {fL : Buf (Elt F) ((thr d i).loc cc0_scratch0)} {fT : Buf (Elt F) ((thr d i).loc cc0_scratch2)}

/-- The worker's sum up to row `n`. -/
abbrev accW (lab : S32768.Idx → BitVec 32) (tg : S131072.Idx → F .f32) (pr : S32768x320.Idx → F .f32) (n : ℕ) : F .f32 :=
  accAt (labAt lab (wid i)) (tgtAt tg (wid i)) (prdAt pr (wid i)) n

theorem wp_sum (hL : ∀ n : Fin 1024, fL (ix1 n) = labAt lab (wid i) n.val)
    (hT : ∀ (c : Fin 4) (n : Fin 1024), fT (ix1 (⟨1024 * c.val + n.val, by omega⟩ : Fin 4096)) = tgtAt tg (wid i) c n.val)
    (sl : Fin 8) (b : Fin 2) (sem : DmaSem sig) {q : PosShare TreeShare} (n m : ℕ) (hn : n = 128 * sl.val) (hm : m = 128 * sl.val + 128)
    {α : Type} (kk : F .f32 → TileProg (F := F) i α) (Q : α → sProp (𝕄 F)) :
    iprop(mayT d i O ∗ labPts d i fL ∗ tgtPts d i fT ∗ slabFly d i sl b sem q pr ∗ owesT d i O W)
      ⊢ iprop((labPts d i fL ∗ tgtPts d i fT ∗ (pvPts d i q pr ∗ (∃ f, slotPts d i b f) ∗ cell0 d i sem) ∗ owesT d i O W -∗ wpT d i (kk (accW i lab tg pr m)) Q)
        -∗ wpT d i (waitSlab i sl b sem >>= fun _ => slabLoop i sl b (accW i lab tg pr n) >>= kk) Q) := by
  subst hn hm
  unfold wpT
  rw [wp_bind]
  iintro ⟨#Hmw, HL, HT, Hfly, HO⟩ HQ
  iapply (wp_waitSlab d i sl b sem _) $$ [Hfly HO]
  · isplitr; · iexact Hmw
    isplitl [Hfly]; · iexact Hfly
    iexact HO
  iintro %f ⟨%hf, Hp, Hs, Hc, HO⟩
  rw [wp_bind]
  iapply (wp_slabLoop d i (L := labAt lab (wid i)) (T := tgtAt tg (wid i)) (R := prdAt pr (wid i)) sl hL hT hf _) $$ [HL HT Hs]
  · isplitl [HL]; · iexact HL
    isplitl [HT]; · iexact HT
    iexact Hs
  iintro ⟨HL, HT, Hs⟩
  iapply HQ
  isplitl [HL]; · iexact HL
  isplitl [HT]; · iexact HT
  isplitl [Hp Hs Hc]
  · isplitl [Hp]; · iexact Hp
    isplitl [Hs]; · iexists f; iexact Hs
    iexact Hc
  iexact HO

theorem wp_stage (hL : ∀ n : Fin 1024, fL (ix1 n) = labAt lab (wid i) n.val)
    (hT : ∀ (c : Fin 4) (n : Fin 1024), fT (ix1 (⟨1024 * c.val + n.val, by omega⟩ : Fin 4096)) = tgtAt tg (wid i) c n.val)
    (sl sl' : Fin 8) (b : Fin 2) (sem : DmaSem sig) {q : PosShare TreeShare} (n m : ℕ) (hn : n = 128 * sl.val) (hm : m = 128 * sl.val + 128)
    {α : Type} (kk : F .f32 → TileProg (F := F) i α) (Q : α → sProp (𝕄 F)) :
    iprop(mayT d i O ∗ labPts d i fL ∗ tgtPts d i fT ∗ slabFly d i sl b sem q pr ∗ owesT d i O W)
      ⊢ iprop((labPts d i fL ∗ tgtPts d i fT ∗ slabFly d i sl' b sem q pr ∗ owesT d i O W -∗ wpT d i (kk (accW i lab tg pr m)) Q)
        -∗ wpT d i (waitSlab i sl b sem >>= fun _ => slabLoop i sl b (accW i lab tg pr n) >>= fun a => startSlab i sl' b sem >>= fun _ => kk a) Q) := by
  iintro H HQ
  iapply (wp_sum d i hL hT sl b sem n m hn hm (fun a => startSlab i sl' b sem >>= fun _ => kk a) Q) $$ H
  iintro ⟨HL, HT, ⟨Hp, ⟨%f, Hs⟩, Hc⟩, HO⟩
  unfold wpT
  rw [wp_bind]
  iapply (wp_startSlab d i sl' b sem _) $$ [Hp Hs Hc]
  · isplitl [Hp]; · iexact Hp
    isplitl [Hs]; · iexact Hs
    iexact Hc
  iintro Hfly
  iapply HQ
  isplitl [HL]; · iexact HL
  isplitl [HT]; · iexact HT
  isplitl [Hfly]; · iexact Hfly
  iexact HO

end Stage

/-! ## The body -/

/-- The four target columns copied in. -/
theorem wp_targets {q : PosShare TreeShare} {tg : S131072.Idx → F .f32} {f : Buf (Elt F) ((thr d i).loc cc0_scratch2)}
    {α : Type} (kk : TileProg (F := F) i α) (Q : α → sProp (𝕄 F)) :
    iprop(mayT d i O ∗ tvPts d i q tg ∗ tgtPts d i f
        ∗ (cell0 d i cc0_scoped1.sem ∗ cell0 d i cc0_scoped2.sem ∗ cell0 d i cc0_scoped3.sem ∗ cell0 d i cc0_scoped4.sem) ∗ owesT d i O W)
      ⊢ iprop((∀ f', ⌜∀ (c : Fin 4) (n : Fin 1024), f' (ix1 (⟨1024 * c.val + n.val, by omega⟩ : Fin 4096)) = tgtAt tg (wid i) c n.val⌝
          ∗ tvPts d i q tg ∗ tgtPts d i f'
          ∗ (cell0 d i cc0_scoped1.sem ∗ cell0 d i cc0_scoped2.sem ∗ cell0 d i cc0_scoped3.sem ∗ cell0 d i cc0_scoped4.sem) ∗ owesT d i O W -∗ wpT d i kk Q)
        -∗ wpT (F := F) d i (copyTgt i 0 cc0_scoped1.sem >>= fun _ => copyTgt i 1 cc0_scoped2.sem >>= fun _ => copyTgt i 2 cc0_scoped3.sem >>= fun _ =>
            copyTgt i 3 cc0_scoped4.sem >>= fun _ => kk) Q) := by
  unfold wpT
  simp only [wp_bind]
  iintro ⟨#Hmw, Ht, Hf, ⟨Hc1, Hc2, Hc3, Hc4⟩, HO⟩ HQ
  iapply (wp_copyTgt d i 0 cc0_scoped1.sem _) $$ [Ht Hf Hc1 HO]
  · isplitr; · iexact Hmw
    isplitl [Ht]; · iexact Ht
    isplitl [Hf]; · iexact Hf
    isplitl [Hc1]; · iexact Hc1
    iexact HO
  iintro %f1 ⟨%h1, Ht, Hf, Hc1, HO⟩
  iapply (wp_copyTgt d i 1 cc0_scoped2.sem _) $$ [Ht Hf Hc2 HO]
  · isplitr; · iexact Hmw
    isplitl [Ht]; · iexact Ht
    isplitl [Hf]; · iexact Hf
    isplitl [Hc2]; · iexact Hc2
    iexact HO
  iintro %f2 ⟨%h2, Ht, Hf, Hc2, HO⟩
  iapply (wp_copyTgt d i 2 cc0_scoped3.sem _) $$ [Ht Hf Hc3 HO]
  · isplitr; · iexact Hmw
    isplitl [Ht]; · iexact Ht
    isplitl [Hf]; · iexact Hf
    isplitl [Hc3]; · iexact Hc3
    iexact HO
  iintro %f3 ⟨%h3, Ht, Hf, Hc3, HO⟩
  iapply (wp_copyTgt d i 3 cc0_scoped4.sem _) $$ [Ht Hf Hc4 HO]
  · isplitr; · iexact Hmw
    isplitl [Ht]; · iexact Ht
    isplitl [Hf]; · iexact Hf
    isplitl [Hc4]; · iexact Hc4
    iexact HO
  iintro %f4 ⟨%h4, Ht, Hf, Hc4, HO⟩
  iapply HQ
  isplitr
  rotate_left
  · isplitl [Ht]; · iexact Ht
    isplitl [Hf]; · iexact Hf
    isplitr [HO]
    · isplitl [Hc1]; · iexact Hc1
      isplitl [Hc2]; · iexact Hc2
      isplitl [Hc3]; · iexact Hc3
      iexact Hc4
    iexact HO
  · ipureintro
    intro c n
    by_cases e3 : c = 3; · subst e3; exact h4.1 n
    refine (h4.2 c n e3).trans ?_
    by_cases e2 : c = 2; · subst e2; exact h3.1 n
    refine (h3.2 c n e2).trans ?_
    by_cases e1 : c = 1; · subst e1; exact h2.1 n
    refine (h2.2 c n e1).trans ?_
    obtain rfl : c = 0 := by omega
    exact h1.1 n

/-- The tile's cells at zero. -/
abbrev cellsT : sProp (𝕄 F) :=
  iprop(cell0 d i cc0_scoped0.sem ∗ (cell0 d i cc0_scoped1.sem ∗ cell0 d i cc0_scoped2.sem ∗ cell0 d i cc0_scoped3.sem ∗ cell0 d i cc0_scoped4.sem)
    ∗ cell0 d i cc0_scoped5.sem ∗ cell0 d i cc0_scratch4.sem ∗ cell0 d i cc0_scratch5.sem)

/-- The tile's buffers, each at some contents. -/
abbrev bufsT : sProp (𝕄 F) :=
  iprop((∃ f, labPts d i f) ∗ (∃ f, slabPts d i f) ∗ (∃ f, tgtPts d i f) ∗ (∃ f, accPts d i f))

theorem pv_halves (q : PosShare TreeShare) (pr : S32768x320.Idx → F .f32) : (pvPts d i q pr : sProp (𝕄 F)) ⊣⊢ iprop(pvPts d i q.left pr ∗ pvPts d i q.right pr) :=
  pointsTo_share (PosShare.mem_left_op_right q)

theorem wp_body {qL qT qP : PosShare TreeShare} (lab : S32768.Idx → BitVec 32) (tg : S131072.Idx → F .f32) (pr : S32768x320.Idx → F .f32) (fo : S32x16.Idx → F .f32) :
    iprop(mayT d i O ∗ (lvPts d i qL lab ∗ tvPts d i qT tg ∗ pvPts d i qP pr ∗ outPts d i fo) ∗ bufsT d i ∗ cellsT d i ∗ owesT d i O W)
      ⊢ wpT (F := F) d i (body i) (fun _ => iprop((lvPts d i qL lab ∗ tvPts d i qT tg ∗ pvPts d i qP pr ∗ outPts d i (sumsOf lab tg pr))
          ∗ bufsT d i ∗ cellsT d i ∗ owesT d i O W)) := by
  unfold body wpT
  iintro ⟨#Hmw, ⟨Hl, Ht, Hp, Ho⟩, ⟨⟨%fl, HL⟩, ⟨%fs, HS⟩, ⟨%ft, HT⟩, ⟨%fa, HA⟩⟩, ⟨Hc0, Hct, Hc5, Hd0, Hd1⟩, HO⟩
  rw [wp_bind]
  iapply (wp_copyLab d i _) $$ [Hl HL Hc0 HO]
  · isplitr; · iexact Hmw
    isplitl [Hl]; · iexact Hl
    isplitl [HL]; · iexact HL
    isplitl [Hc0]; · iexact Hc0
    iexact HO
  iintro %fL ⟨%hL, Hl, HL, Hc0, HO⟩
  iapply (wp_targets d i _ _) $$ [Ht HT Hct HO]
  · isplitr; · iexact Hmw
    isplitl [Ht]; · iexact Ht
    isplitl [HT]; · iexact HT
    isplitl [Hct]; · iexact Hct
    iexact HO
  iintro %fT ⟨%hT, Ht, HT, Hct, HO⟩
  ihave Hp' := (pv_halves d i qP pr).1 $$ Hp
  icases Hp' with ⟨Hp0, Hp1⟩
  ihave HS' := (slab_split d i fs).1 $$ HS
  icases HS' with ⟨HS0, HS1⟩
  unfold wpT
  rw [wp_bind]
  iapply (wp_startSlab d i 0 0 cc0_scratch4.sem _) $$ [Hp0 HS0 Hd0]
  · isplitl [Hp0]; · iexact Hp0
    isplitl [HS0]; · iexact HS0
    iexact Hd0
  iintro Hf0
  rw [wp_bind]
  iapply (wp_startSlab d i 1 1 cc0_scratch5.sem _) $$ [Hp1 HS1 Hd1]
  · isplitl [Hp1]; · iexact Hp1
    isplitl [HS1]; · iexact HS1
    iexact Hd1
  iintro Hf1
  iapply (wp_stage d i hL hT 0 2 0 cc0_scratch4.sem 0 128 rfl rfl _ _) $$ [HL HT Hf0 HO]
  · isplitr; · iexact Hmw
    isplitl [HL]; · iexact HL
    isplitl [HT]; · iexact HT
    isplitl [Hf0]; · iexact Hf0
    iexact HO
  iintro ⟨HL, HT, Hf0, HO⟩
  iapply (wp_stage d i hL hT 1 3 1 cc0_scratch5.sem 128 256 rfl rfl _ _) $$ [HL HT Hf1 HO]
  · isplitr; · iexact Hmw
    isplitl [HL]; · iexact HL
    isplitl [HT]; · iexact HT
    isplitl [Hf1]; · iexact Hf1
    iexact HO
  iintro ⟨HL, HT, Hf1, HO⟩
  iapply (wp_stage d i hL hT 2 4 0 cc0_scratch4.sem 256 384 rfl rfl _ _) $$ [HL HT Hf0 HO]
  · isplitr; · iexact Hmw
    isplitl [HL]; · iexact HL
    isplitl [HT]; · iexact HT
    isplitl [Hf0]; · iexact Hf0
    iexact HO
  iintro ⟨HL, HT, Hf0, HO⟩
  iapply (wp_stage d i hL hT 3 5 1 cc0_scratch5.sem 384 512 rfl rfl _ _) $$ [HL HT Hf1 HO]
  · isplitr; · iexact Hmw
    isplitl [HL]; · iexact HL
    isplitl [HT]; · iexact HT
    isplitl [Hf1]; · iexact Hf1
    iexact HO
  iintro ⟨HL, HT, Hf1, HO⟩
  iapply (wp_stage d i hL hT 4 6 0 cc0_scratch4.sem 512 640 rfl rfl _ _) $$ [HL HT Hf0 HO]
  · isplitr; · iexact Hmw
    isplitl [HL]; · iexact HL
    isplitl [HT]; · iexact HT
    isplitl [Hf0]; · iexact Hf0
    iexact HO
  iintro ⟨HL, HT, Hf0, HO⟩
  iapply (wp_stage d i hL hT 5 7 1 cc0_scratch5.sem 640 768 rfl rfl _ _) $$ [HL HT Hf1 HO]
  · isplitr; · iexact Hmw
    isplitl [HL]; · iexact HL
    isplitl [HT]; · iexact HT
    isplitl [Hf1]; · iexact Hf1
    iexact HO
  iintro ⟨HL, HT, Hf1, HO⟩
  iapply (wp_sum d i hL hT 6 0 cc0_scratch4.sem 768 896 rfl rfl _ _) $$ [HL HT Hf0 HO]
  · isplitr; · iexact Hmw
    isplitl [HL]; · iexact HL
    isplitl [HT]; · iexact HT
    isplitl [Hf0]; · iexact Hf0
    iexact HO
  iintro ⟨HL, HT, ⟨Hp0, ⟨%f0, HS0⟩, Hd0⟩, HO⟩
  iapply (wp_sum d i hL hT 7 1 cc0_scratch5.sem 896 1024 rfl rfl _ _) $$ [HL HT Hf1 HO]
  · isplitr; · iexact Hmw
    isplitl [HL]; · iexact HL
    isplitl [HT]; · iexact HT
    isplitl [Hf1]; · iexact Hf1
    iexact HO
  iintro ⟨HL, HT, ⟨Hp1, ⟨%f1, HS1⟩, Hd1⟩, HO⟩
  iapply (wp_finish d i (accW i lab tg pr 1024) (g := sumsOf lab tg pr) (fun x => rfl) _) $$ [HA Ho Hc5 HO]
  · isplitr; · iexact Hmw
    isplitl [HA]; · iexact HA
    isplitl [Ho]; · iexact Ho
    isplitl [Hc5]; · iexact Hc5
    iexact HO
  iintro ⟨HA, Ho, Hc5, HO⟩
  ihave Hp := (pv_halves d i qP pr).2 $$ [Hp0 Hp1]
  · isplitl [Hp0] <;> iassumption
  ihave HS := (slab_join d i f0 f1) $$ [HS0 HS1]
  · isplitl [HS0] <;> iassumption
  isplitl [Hl Ht Hp Ho]
  · isplitl [Hl]; · iexact Hl
    isplitl [Ht]; · iexact Ht
    isplitl [Hp]; · iexact Hp
    iexact Ho
  isplitl [HL HS HT HA]
  · isplitl [HL]; · iexists _; iexact HL
    isplitl [HS]; · iexact HS
    isplitl [HT]; · iexists _; iexact HT
    iexact HA
  isplitr [HO]
  · isplitl [Hc0]; · iexact Hc0
    isplitl [Hct]; · iexact Hct
    isplitl [Hc5]; · iexact Hc5
    isplitl [Hd0]; · iexact Hd0
    iexact Hd1
  iexact HO

end Cert.Proof.Reg

end
-- ==== Proof.RegSame.lean ====
/-
  The printed tile program IS the one of RegSpec: its loops one by one, then its windows, then the whole.
-/
module

public import proofs.«01_k».proof.Proof.RegSpec
public import proofs.«01_k».proof.Proof.Gen.KernelIdeal.Skeleton

@[expose] public section

set_option maxHeartbeats 40000000
set_option maxRecDepth 100000

noncomputable section

namespace Cert.Proof.Reg

open Cert.KernelIdeal Cert.KernelIdeal.Gen Idealize.ShloMosaic Idealize.SL.Sem

variable {F : FTy → Type} [FloatOps F] (i : grid0.Coords)

/-! ## The loops -/

theorem loop1 (v2 : BitVec 32) (acc : F .f32) :
    Scf.Loop.for k0_t1_loop k0_t1_ok acc (k0_t1_body (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4)
      = slabLoop i 0 0 acc := rfl

theorem loop2 (v2 : BitVec 32) (acc : F .f32) :
    Scf.Loop.for k0_t2_loop k0_t2_ok acc (k0_t2_body (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4)
      = slabLoop i 1 1 acc := rfl

theorem loop3 (v2 : BitVec 32) (v46 : F .f32) (acc : F .f32) :
    Scf.Loop.for k0_t3_loop k0_t3_ok acc (k0_t3_body (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4 v46)
      = slabLoop i 2 0 acc := rfl

theorem loop4 (v2 : BitVec 32) (v61 : F .f32) (acc : F .f32) :
    Scf.Loop.for k0_t4_loop k0_t4_ok acc (k0_t4_body (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4 v61 0#32 1#32)
      = slabLoop i 3 1 acc := rfl

theorem loop5 (v2 : BitVec 32) (v61 : F .f32) (acc : F .f32) :
    Scf.Loop.for k0_t5_loop k0_t5_ok acc (k0_t5_body (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4 v61 0#32 1#32)
      = slabLoop i 4 0 acc := rfl

theorem loop6 (v2 : BitVec 32) (v91 : F .f32) (acc : F .f32) :
    Scf.Loop.for k0_t6_loop k0_t6_ok acc (k0_t6_body (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4 v91)
      = slabLoop i 5 1 acc := rfl

theorem loop7 (v2 : BitVec 32) (v91 : F .f32) (acc : F .f32) :
    Scf.Loop.for k0_t7_loop k0_t7_ok acc (k0_t7_body (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4 v91)
      = slabLoop i 6 0 acc := rfl

theorem loop8 (acc : F .f32) :
    Scf.Loop.for k0_t8_loop k0_t8_ok acc (k0_t8_body (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 lane4)
      = slabLoop i 7 1 acc := rfl

/-! ## The windows -/

theorem window121 :
    k0_part121 (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5
      = (do
          copyLab i
          copyTgt i 0 cc0_scoped1.sem
          copyTgt i 1 cc0_scoped2.sem
          Prog.lift (.enqueueDma (tRow i 2) (.here (tDst 2)) (.dma cc0_scoped3.sem) (View.wordExact_bits rfl) (View.wordExact_bits rfl) ⟨Or.inl rfl, trivial⟩)
          pure (Scalar.muli (Scalar.addi (Scalar.muli (BitVec.ofNat 32 (i 1).val) 2#32) (BitVec.ofNat 32 (i 0).val)) 1024#32)) := rfl

theorem window122 (v2 : BitVec 32) :
    k0_part122 (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2
      = (do
          Prog.lift (.waitDma2 cc0_scoped3.sem (tRow i 2) (tDst 2) (View.wordExact_bits rfl) (View.wordExact_bits rfl))
          copyTgt i 3 cc0_scoped4.sem
          startSlab i 0 0 cc0_scratch4.sem
          startSlab i 1 1 cc0_scratch5.sem
          pure ⟨iota .scVector S16 32 [0] Facts₀.iota_S16_d0_w32_scVector, lane4⟩) := rfl

theorem window123 (v2 : BitVec 32) :
    k0_part123 (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4
      = (do
          waitSlab i 0 0 cc0_scratch4.sem
          let a1 ← slabLoop i 0 0 (Scalar.ofBits .f32 0x00000000#32)
          startSlab i 2 0 cc0_scratch4.sem
          waitSlab i 1 1 cc0_scratch5.sem
          let a2 ← slabLoop i 1 1 a1
          pure a2) := by
  rw [k0_part123_eq_skeleton]; unfold k0_part123_skel
  simp only [loop1, loop2, bind_pure]
  rfl

theorem window124 (v2 : BitVec 32) (v46 : F .f32) :
    k0_part124 (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4 v46
      = (do
          startSlab i 3 1 cc0_scratch5.sem
          waitSlab i 2 0 cc0_scratch4.sem
          let a3 ← slabLoop i 2 0 v46
          startSlab i 4 0 cc0_scratch4.sem
          waitSlab i 3 1 cc0_scratch5.sem
          pure ⟨a3, 0#32, 1#32⟩) := by
  rw [k0_part124_eq_skeleton]; unfold k0_part124_skel
  simp only [loop3, bind_pure]
  rfl

theorem window125 (v2 : BitVec 32) (v61 : F .f32) :
    k0_part125 (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4 v61 0#32 1#32
      = (do
          let a4 ← slabLoop i 3 1 v61
          startSlab i 5 1 cc0_scratch5.sem
          waitSlab i 4 0 cc0_scratch4.sem
          let a5 ← slabLoop i 4 0 a4
          startSlab i 6 0 cc0_scratch4.sem
          pure a5) := by
  rw [k0_part125_eq_skeleton]; unfold k0_part125_skel
  simp only [loop4, loop5, bind_pure]
  rfl

theorem window126 (v2 : BitVec 32) (v91 : F .f32) :
    k0_part126 (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5 v2 lane4 v91
      = (do
          waitSlab i 5 1 cc0_scratch5.sem
          let a6 ← slabLoop i 5 1 v91
          startSlab i 7 1 cc0_scratch5.sem
          waitSlab i 6 0 cc0_scratch4.sem
          let a7 ← slabLoop i 6 0 a6
          pure a7) := by
  rw [k0_part126_eq_skeleton]; unfold k0_part126_skel
  simp only [loop6, loop7, bind_pure]
  rfl

/-- The printed program on the call's arrays is `body`. -/
theorem body_same :
    cc0__reg_body (F := F) i pV (Memref.isWhole_whole _) lV (Memref.isWhole_whole _) tV (Memref.isWhole_whole _) oV (Memref.isWhole_whole _)
      sL (Memref.isWhole_whole _) sS (Memref.isWhole_whole _) sT (Memref.isWhole_whole _) sA (Memref.isWhole_whole _)
      cc0_scratch4 cc0_scratch5 cc0_scoped0 cc0_scoped1 cc0_scoped2 cc0_scoped3 cc0_scoped4 cc0_scoped5
      = body i := by
  rw [cc0__reg_body_eq_skeleton]; unfold cc0__reg_body_skel
  rw [window121]
  simp only [bind_assoc, pure_bind, window122, window123, window124, window125, window126, loop8]
  rfl

end Cert.Proof.Reg

end
-- ==== Proof.RegTile.lean ====
/-
  What the one SparseCore call carries, and its obligation: each core takes half of every read array by share and its rows
  of the sums; each of its tiles a sixteenth of that and one row; each brings its row back at the worker's sums.
-/
module

public import proofs.«01_k».proof.Proof.RegBody
public import proofs.«01_k».proof.Proof.RegSame
public import Idealize.ShloMosaic.Lib.ShareLeaves

@[expose] public section

noncomputable section

namespace Cert.Proof.Reg

open Cert.KernelIdeal Cert.KernelIdeal.Facts₀ Cert.KernelIdeal.Facts
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

/-! ## The arrays of the call, as the host holds them -/

abbrev labLoc (d : Dev nD) : Loc nD τ sig := (SparseCore.T d).loc main_arg2
abbrev tgtLoc (d : Dev nD) : Loc nD τ sig := (SparseCore.T d).loc main_v1
abbrev prdLoc (d : Dev nD) : Loc nD τ sig := (SparseCore.T d).loc main_arg1
abbrev sumLoc (d : Dev nD) : Loc nD τ sig := (SparseCore.T d).loc main_v2

/-- The rows of the sums a core's tiles write: those of its parity. -/
def coreSet (c : Fin 2) : Finset S32x16.Idx := Finset.univ.filter fun j => (j 0).val % 2 = c.val
/-- The one row a tile writes. -/
def tileSet (c : Fin 2) (s : Fin 16) : Finset S32x16.Idx := Finset.univ.filter fun j => (j 0).val = 2 * s.val + c.val

theorem mem_coreSet {c : Fin 2} {j : S32x16.Idx} : j ∈ coreSet c ↔ (j 0).val % 2 = c.val := by simp [coreSet]
theorem mem_tileSet {c : Fin 2} {s : Fin 16} {j : S32x16.Idx} : j ∈ tileSet c s ↔ (j 0).val = 2 * s.val + c.val := by simp [tileSet]

/-- The share of a read array a core takes, and of that the one a tile takes. -/
abbrev coreShare (c : Fin 2) : PosShare TreeShare := leaf 1 fullShare c
abbrev tileShare (c : Fin 2) (s : Fin 16) : PosShare TreeShare := leaf 4 (coreShare c) s

section Payload

variable (lab : Dev nD → S32768.Idx → BitVec 32) (tg : Dev nD → S131072.Idx → F .f32) (pr : Dev nD → S32768x320.Idx → F .f32)

/-- The three read arrays at one share. -/
abbrev readPts (d : Dev nD) (q : PosShare TreeShare) : sProp (𝕄 F) :=
  iprop((labLoc d ↦{q} (lab d : Buf (Elt F) (labLoc d))) ∗ (tgtLoc d ↦{q} (tg d : Buf (Elt F) (tgtLoc d))) ∗ prdLoc d ↦{q} (pr d : Buf (Elt F) (prdLoc d)))

/-- Rows of the sums. -/
abbrev rowsPts (d : Dev nD) (I : Finset S32x16.Idx) (f : S32x16.Idx → F .f32) : sProp (𝕄 F) := sumLoc d ↦[I]{fullShare} (f : Buf (Elt F) (sumLoc d))

variable [FloatOps F] (o₀ : Dev nD → S32x16.Idx → F .f32)

/-- What the sums hold after the call. -/
abbrev sumsD (d : Dev nD) : S32x16.Idx → F .f32 := sumsOf (lab d) (tg d) (pr d)

abbrev castC (c : Fin ((K (F := F)).nCore 0)) : Fin 2 := Fin.cast nCore_zero c
abbrev castS (s : Fin ((K (F := F)).nSub 0)) : Fin 16 := Fin.cast nSub_zero s

def P : (K (F := F)).Pay (nD := nD) (Val := Elt F) (Name := ℕ) (U := UU) where
  st := fun q d c => match q with | 0 => iprop(readPts lab tg pr d (coreShare (castC c)) ∗ rowsPts d (coreSet (castC c)) (o₀ d))
  dn := fun q d c => match q with | 0 => iprop(readPts lab tg pr d (coreShare (castC c)) ∗ rowsPts d (coreSet (castC c)) (sumsD lab tg pr d))
  go := fun q d c i => match q with
    | 0 => iprop(readPts lab tg pr d (tileShare (castC c) (castS i)) ∗ rowsPts d (tileSet (castC c) (castS i)) (o₀ d))
  td := fun q d c i => match q with
    | 0 => iprop(readPts lab tg pr d (tileShare (castC c) (castS i)) ∗ rowsPts d (tileSet (castC c) (castS i)) (sumsD lab tg pr d))
  x := fun _ _ => iprop(emp)

instance P_storable : (P lab tg pr o₀).IsStorable where
  st q d c := match q with
    | 0 => (inferInstance : BI.Storable (upEmb : UEmb _ (𝕄 F)) iprop(readPts lab tg pr d (coreShare (castC c)) ∗ rowsPts d (coreSet (castC c)) (o₀ d)))
  dn q d c := match q with
    | 0 => (inferInstance : BI.Storable (upEmb : UEmb _ (𝕄 F)) iprop(readPts lab tg pr d (coreShare (castC c)) ∗ rowsPts d (coreSet (castC c)) (sumsD lab tg pr d)))
  go q d c i := match q with
    | 0 => (inferInstance : BI.Storable (upEmb : UEmb _ (𝕄 F))
      iprop(readPts lab tg pr d (tileShare (castC c) (castS i)) ∗ rowsPts d (tileSet (castC c) (castS i)) (o₀ d)))
  td q d c i := match q with
    | 0 => (inferInstance : BI.Storable (upEmb : UEmb _ (𝕄 F))
      iprop(readPts lab tg pr d (tileShare (castC c) (castS i)) ∗ rowsPts d (tileSet (castC c) (castS i)) (sumsD lab tg pr d)))

end Payload

/-! ## A tile's own cells and buffers -/

section Tile

variable (d : Dev nD) (i : grid0.Coords)

/-- The semaphores the tile uses. -/
def semSet : Finset (DmaSem sig) :=
  {cc0_scoped0.sem, cc0_scoped1.sem, cc0_scoped2.sem, cc0_scoped3.sem, cc0_scoped4.sem, cc0_scoped5.sem, cc0_scratch4.sem, cc0_scratch5.sem}

theorem semSet_scoped : ∀ s ∈ semSet, (SemLoc.dma s : SemLoc sig).isScoped .scVector = true := by decide

/-- A semaphore as a cell of the tile. -/
def cellOf : DmaSem sig ↪ GSem nD τ sig := ⟨fun s => (thr d i, .dma s), fun a b h => by injection h with _ h; injection h⟩

theorem eight_assoc (A0 A1 A2 A3 A4 A5 A6 A7 : sProp (𝕄 F)) :
    (iprop(A0 ∗ A1 ∗ A2 ∗ A3 ∗ A4 ∗ A5 ∗ A6 ∗ A7) : sProp (𝕄 F)) = iprop(A0 ∗ (A1 ∗ A2 ∗ A3 ∗ A4) ∗ A5 ∗ A6 ∗ A7) := by
  have h : iprop(A0 ∗ A1 ∗ A2 ∗ A3 ∗ A4 ∗ A5 ∗ A6 ∗ A7) ⊢ iprop(A0 ∗ (A1 ∗ A2 ∗ A3 ∗ A4) ∗ A5 ∗ A6 ∗ A7) := by
    iintro ⟨H0, H1, H2, H3, H4, H5, H6, H7⟩
    isplitl [H0]; · iexact H0
    isplitl [H1 H2 H3 H4]
    · isplitl [H1]; · iexact H1
      isplitl [H2]; · iexact H2
      isplitl [H3]; · iexact H3
      iexact H4
    isplitl [H5]; · iexact H5
    isplitl [H6]; · iexact H6
    iexact H7
  have h' : iprop(A0 ∗ (A1 ∗ A2 ∗ A3 ∗ A4) ∗ A5 ∗ A6 ∗ A7) ⊢ iprop(A0 ∗ A1 ∗ A2 ∗ A3 ∗ A4 ∗ A5 ∗ A6 ∗ A7) := by
    iintro ⟨H0, ⟨H1, H2, H3, H4⟩, H5, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  exact BI.Entails.antisymm h h'

theorem cells_split :
    (ownSems0 (thr d i) : sProp (𝕄 F)) = iprop(cellsT d i ∗ bigSep (ownCells (thr d i) \ semSet.map (cellOf d i)) fun g => semVal g 0) := by
  unfold SparseCore.Cfg.ownSems0
  have hsub : semSet.map (cellOf d i) ⊆ ownCells (thr d i) := by
    intro g hg
    obtain ⟨s, hs, rfl⟩ := Finset.mem_map.mp hg
    exact mem_ownCells.mpr ⟨rfl, semSet_scoped s hs⟩
  rw [SparseCore.bigSep_sdiff_split' hsub, Idealize.SL.BI.bigSep_map]
  congr 1
  rw [semSet, SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  exact eight_assoc _ _ _ _ _ _ _ _

/-- The buffers the tile uses. -/
def bufSet : Finset (Ref sig .scVector) := {cc0_scratch0, cc0_scratch1, cc0_scratch2, cc0_scratch3}

def refOf : Ref sig .scVector ↪ DevRef τ sig := ⟨fun b => (Proc.scVector (cV i) (jV i)).devRef b, Proc.devRef_injective (Proc.scVector (cV i) (jV i))⟩

theorem bufs_split :
    (ownBufs (thr d i) : sProp (𝕄 F)) = iprop(bufsT d i ∗ bigSep (ownRefs (τ := τ) (.scVector (cV i) (jV i)) \ bufSet.map (refOf i))
      fun b => iprop(∃ f, ((d, b) : Loc nD τ sig) ↦{fullShare} f)) := by
  unfold SparseCore.Cfg.ownBufs
  have hsub : bufSet.map (refOf i) ⊆ ownRefs (τ := τ) (.scVector (cV i) (jV i)) := by
    intro g hg
    obtain ⟨b, hb, rfl⟩ := Finset.mem_map.mp hg
    simp only [bufSet, Finset.mem_insert, Finset.mem_singleton] at hb
    rcases hb with rfl | rfl | rfl | rfl <;>
      exact SparseCore.Cfg.mem_ownRefs_of_owner (p := Proc.scVector (cV i) (jV i)) rfl
  refine (SparseCore.bigSep_sdiff_split' hsub).trans ?_
  rw [Idealize.SL.BI.bigSep_map]
  congr 1
  rw [bufSet, SparseCore.bigSep_insert' (by decide), SparseCore.bigSep_insert' (by decide), SparseCore.bigSep_insert' (by decide), bigSep_singleton]
  rfl

/-! ## The tile's body from what the call hands it -/

/-- The core and the tile of a coordinate. -/
abbrev cI (i : grid0.Coords) : Fin 2 := Fin.cast (show grid0.bound 0 = 2 from rfl) (i 0)
abbrev sI (i : grid0.Coords) : Fin 16 := Fin.cast (show grid0.bound 1 = 16 from rfl) (i 1)

theorem set_oRow : (oRow i).view.set = tileSet (cI i) (sI i) := by
  ext j
  exact (mem_oRow i j).trans mem_tileSet.symm

variable [FloatOps F]
variable (lab : Dev nD → S32768.Idx → BitVec 32) (tg : Dev nD → S131072.Idx → F .f32) (pr : Dev nD → S32768x320.Idx → F .f32)
variable (o₀ : Dev nD → S32x16.Idx → F .f32)

theorem rows_out (f : S32x16.Idx → F .f32) : (rowsPts d (tileSet (cI i) (sI i)) f : sProp (𝕄 F)) = outPts d i f := by
  unfold outPts; rw [set_oRow]

theorem tile_body (O : CellTallies nD τ sig (HIx 1)) (W : Waits sig (HIx 1)) (hO : ∀ g, O g none = 0) :
    iprop(levAts (K (F := F)).L (K (F := F)).lev ∗ emp
        ∗ (readPts lab tg pr d (tileShare (cI i) (sI i)) ∗ rowsPts d (tileSet (cI i) (sI i)) (o₀ d))
        ∗ scopedBufs (thr d i) ∗ scopedSems0 (thr d i) ∗ owes (thr d i) O W)
      ⊢ wp frame (wpE (defs₀ (F := F)) 𝒱₀ (thr d i) none) Set.univ
          (cc0__reg_body (F := F) i pV (Memref.isWhole_whole _) lV (Memref.isWhole_whole _) tV (Memref.isWhole_whole _) oV (Memref.isWhole_whole _)
            sL (Memref.isWhole_whole _) sS (Memref.isWhole_whole _) sT (Memref.isWhole_whole _) sA (Memref.isWhole_whole _)
            cc0_scratch4 cc0_scratch5 cc0_scoped0 cc0_scoped1 cc0_scoped2 cc0_scoped3 cc0_scoped4 cc0_scoped5)
          fun _ => iprop((readPts lab tg pr d (tileShare (cI i) (sI i)) ∗ rowsPts d (tileSet (cI i) (sI i)) (sumsD lab tg pr d))
            ∗ scopedBufs (thr d i) ∗ scopedSems0 (thr d i)
            ∗ ∃ W', ⌜∀ p ∈ W', p ∈ W ∨ p.2 = none⌝ ∗ owes (thr d i) O W') := by
  rw [body_same, (K (F := F)).scopedBufs_V facts d (cV i) (jV i), SparseCore.Cfg.scopedSems0_V (Val := Elt F) d (cV i) (jV i), cells_split, bufs_split,
    rows_out, rows_out]
  iintro ⟨#Hlv, -, ⟨⟨Hl, Ht, Hp⟩, Ho⟩, ⟨Hb, Hbr⟩, ⟨Hc, Hcr⟩, HO⟩
  ihave Hmw := (show levAts (K (F := F)).L (K (F := F)).lev ⊢ (mayT d i O : sProp (𝕄 F)) from (K (F := F)).mayWaits_none (thr := thr d i) hO) $$ Hlv
  iapply wp_wand_r
  isplitl [Hmw Hl Ht Hp Ho Hb Hc HO]
  · iapply (wp_body d i (O := O) (W := W) (lab d) (tg d) (pr d) (o₀ d))
    isplitl [Hmw]; · iexact Hmw
    isplitl [Hl Ht Hp Ho]
    · isplitl [Hl]; · iexact Hl
      isplitl [Ht]; · iexact Ht
      isplitl [Hp]; · iexact Hp
      iexact Ho
    isplitl [Hb]; · iexact Hb
    isplitl [Hc]; · iexact Hc
    unfold owesT
    iexists W; isplitr
    · ipureintro; exact fun p hp => .inl hp
    iexact HO
  unfold owesT
  iintro %a ⟨⟨Hl, Ht, Hp, Ho⟩, Hb, Hc, HO⟩
  isplitl [Hl Ht Hp Ho]
  · isplitr [Ho]
    · isplitl [Hl]; · iexact Hl
      isplitl [Ht]; · iexact Ht
      iexact Hp
    iexact Ho
  isplitl [Hb Hbr]; · isplitl [Hb] <;> iassumption
  isplitl [Hc Hcr]; · isplitl [Hc] <;> iassumption
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

omit d i in
theorem defs₀_vector (c : Fin τ.nSC) (s : Fin τ.nSub) :
    defs₀ (F := F) (.scVector c s) 0 ()
      = SparseCore.onTile hcore0 hsub0 (fun c s => cc0__reg_body (F := F) (coordsV c s)
          pV (Memref.isWhole_whole _) lV (Memref.isWhole_whole _) tV (Memref.isWhole_whole _) oV (Memref.isWhole_whole _)
          sL (Memref.isWhole_whole _) sS (Memref.isWhole_whole _) sT (Memref.isWhole_whole _) sA (Memref.isWhole_whole _)
          cc0_scratch4 cc0_scratch5 cc0_scoped0 cc0_scoped1 cc0_scoped2 cc0_scoped3 cc0_scoped4 cc0_scoped5) ⟨⟩ c s := rfl

omit d i [FloatOps F] in
theorem obl_post {t : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit d i in
set_option maxRecDepth 16384 in
theorem tileObl : (K (F := F)).TileObl (D (F := F)) 𝒱 (P lab tg pr o₀) v₀ 0 := by
  intro d c i O W hO _ _
  simp only [show (P lab tg pr o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) lab tg pr o₀ O W hO).trans (wp_mono frame _ _ fun _ => obl_post)

/-! ## The call's operands dealt to a core's tiles -/

omit d i [FloatOps F] in
theorem tiles_disjoint (c : Fin 2) : ∀ s ∈ (Finset.univ : Finset (Fin 16)), ∀ s' ∈ (Finset.univ : Finset (Fin 16)), s ≠ s' → Disjoint (tileSet c s) (tileSet c s') := by
  intro s _ s' _ h
  refine Finset.disjoint_left.mpr fun j hj hj' => h (Fin.ext ?_)
  have h1 := mem_tileSet.mp hj
  have h2 := mem_tileSet.mp hj'
  omega

omit d i [FloatOps F] in
theorem tiles_cover (c : Fin 2) : (Finset.univ : Finset (Fin 16)).biUnion (tileSet c) = coreSet c := by
  ext j
  have hj : (j 0).val < 32 := (j 0).isLt
  have hc : c.val < 2 := c.isLt
  simp only [Finset.mem_biUnion, Finset.mem_univ, true_and, mem_tileSet, mem_coreSet]
  constructor
  · rintro ⟨s, h⟩; omega
  · intro h; exact ⟨⟨(j 0).val / 2, by omega⟩, by show (j 0).val = 2 * ((j 0).val / 2) + c.val; omega⟩

omit i [FloatOps F] in
theorem rows_tiles (c : Fin 2) (f : S32x16.Idx → F .f32) :
    (rowsPts d (coreSet c) f : sProp (𝕄 F)) = bigSep Finset.univ fun s : Fin 16 => rowsPts d (tileSet c s) f := by
  unfold rowsPts
  rw [← pointsTo_biUnion Finset.univ (ℓ := sumLoc d) (tileSet c) (tiles_disjoint c), tiles_cover]

omit i [FloatOps F] in
/-- The read arrays at a share are those at its leaves. -/
theorem read_leaves (n : ℕ) (q : PosShare TreeShare) :
    (readPts lab tg pr d q : sProp (𝕄 F)) = bigSep Finset.univ fun s : Fin (2 ^ n) => readPts lab tg pr d (leaf n q s) := by
  unfold readPts
  rw [pointsTo_leaves Finset.univ _ n q, pointsTo_leaves Finset.univ _ n q, pointsTo_leaves Finset.univ _ n q, bigSep_sep', bigSep_sep']

omit d i in
theorem vecSplit : (K (F := F)).VecSplit' (P lab tg pr o₀) 0 := by
  intro d c
  have key (f : S32x16.Idx → F .f32) : (bigSep Finset.univ fun i : Fin ((K (F := F)).nSub 0) =>
        iprop(readPts lab tg pr d (tileShare (castC c) (castS i)) ∗ rowsPts d (tileSet (castC c) (castS i)) f))
      = (iprop(readPts lab tg pr d (coreShare (castC c)) ∗ rowsPts d (coreSet (castC c)) f) : sProp (𝕄 F)) := by
    rw [rows_tiles, read_leaves d lab tg pr 4, ← bigSep_sep']
    exact bigSep_congr fun _ _ => rfl
  show iprop(readPts lab tg pr d (coreShare (castC c)) ∗ rowsPts d (coreSet (castC c)) (o₀ d)) ⊢ |={Set.univ}=> iprop(
      (bigSep Finset.univ fun i : Fin ((K (F := F)).nSub 0) =>
        iprop(readPts lab tg pr d (tileShare (castC c) (castS i)) ∗ rowsPts d (tileSet (castC c) (castS i)) (o₀ d)))
      ∗ ((bigSep Finset.univ fun i : Fin ((K (F := F)).nSub 0) =>
          iprop(readPts lab tg pr d (tileShare (castC c) (castS i)) ∗ rowsPts d (tileSet (castC c) (castS i)) (sumsD lab tg pr d)))
          -∗ iprop(readPts lab tg pr d (coreShare (castC c)) ∗ rowsPts d (coreSet (castC c)) (sumsD lab tg pr d))))
  rw [key, key]
  iintro H; imodintro
  isplitl [H]; · iexact H
  iintro H; iexact H

/-! ## The whole arrays dealt to the two cores -/

omit d i [FloatOps F] in
theorem cores_cover : (Finset.univ : Finset (Fin 2)).biUnion coreSet = Finset.univ := by
  ext j
  simp only [Finset.mem_biUnion, Finset.mem_univ, true_and, mem_coreSet, iff_true]
  exact ⟨⟨(j 0).val % 2, Nat.mod_lt _ (by decide)⟩, rfl⟩

omit d i [FloatOps F] in
theorem cores_disjoint : ∀ s ∈ (Finset.univ : Finset (Fin 2)), ∀ s' ∈ (Finset.univ : Finset (Fin 2)), s ≠ s' → Disjoint (coreSet s) (coreSet s') := by
  intro s _ s' _ h
  refine Finset.disjoint_left.mpr fun j hj hj' => h (Fin.ext ?_)
  exact (mem_coreSet.mp hj).symm.trans (mem_coreSet.mp hj')

omit i in
/-- The arrays whole are what the two cores take. -/
theorem cores_split (f : S32x16.Idx → F .f32) :
    (bigSep Finset.univ fun c : Fin ((K (F := F)).nCore 0) => iprop(readPts lab tg pr d (coreShare (castC c)) ∗ rowsPts d (coreSet (castC c)) f))
      = (iprop(readPts lab tg pr d fullShare ∗ rowsPts d Finset.univ f) : sProp (𝕄 F)) := by
  rw [← cores_cover]
  unfold rowsPts
  rw [pointsTo_biUnion Finset.univ (ℓ := sumLoc d) coreSet cores_disjoint, read_leaves d lab tg pr 1 fullShare, ← bigSep_sep']
  exact bigSep_congr fun _ _ => rfl

omit i in
theorem st0_eq : (bigSep Finset.univ fun c : Fin ((K (F := F)).nCore 0) => (P lab tg pr o₀).st 0 d c)
    = iprop(readPts lab tg pr d fullShare ∗ rowsPts d Finset.univ (o₀ d)) := cores_split d lab tg pr (o₀ d)
omit i in
theorem dn0_eq : (bigSep Finset.univ fun c : Fin ((K (F := F)).nCore 0) => (P lab tg pr o₀).dn 0 d c)
    = iprop(readPts lab tg pr d fullShare ∗ rowsPts d Finset.univ (sumsD lab tg pr d)) := cores_split d lab tg pr (sumsD lab tg pr d)

end Tile

end Cert.Proof.Reg

end
-- ==== Proof.CeBody.lean ====
/-
  What the TensorCore kernel does with one block of 2048 rows: it adds the block's cross entropy to the one cell it
  accumulates in, which it clears at the first block.
-/
module

public import proofs.«01_k».proof.Proof.RegBase
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Regions

@[expose] public section

noncomputable section

namespace Cert.Proof.Ce

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Proof.Reg (𝕄 𝒱₀ UU)

variable {F : FTy → Type} [FloatOps F]

/-! ## The block's value -/

/-- Each row's largest class score. -/
def rowMax (x : FVec F S2048x81 .f32) : FVec F S2048x1 .f32 :=
  shapeCast S2048x1 (multiReduction .maximumf [1] S2048 x 0xFF800000#32 reduces_S2048x81_S2048 (.inl rfl) rfl) shapeCasts_S2048_S2048x1

/-- Each row's sum of the exponentials of its scores less their largest. -/
def rowExp (x : FVec F S2048x81 .f32) : FVec F S2048x1 .f32 :=
  shapeCast S2048x1 (multiReduction .add [1] S2048 (exp (subf x (broadcastTo S2048x81 (rowMax x) broadcasts_S2048x1_S2048x81)))
    0x00000000#32 reduces_S2048x81_S2048 (.inl rfl) rfl) shapeCasts_S2048_S2048x1

/-- Each row's score at its label, zero elsewhere. -/
def rowSel (x : FVec F S2048x81 .f32) (l : IVec S2048x1 32) : FVec F S2048x81 .f32 :=
  select (cmpi .eq (iota .tc S2048x81 32 [1] iota_S2048x81_d1_w32)
    (broadcastTo S2048x81 (shapeCast S2048x1 l shapeCasts_S2048x1_S2048x1) broadcasts_S2048x1_S2048x81)) x
    (broadcast S2048x81 (Scalar.ofBits .f32 0x00000000#32))

/-- The sum of a column of 2048. -/
def sumCol (v : FVec F S2048x1 .f32) : F .f32 :=
  extractAt ![0, 0, 0] (shapeCast S1x1x1 (multiReduction .add [1, 2] S1 (shapeCast S1x2048x1 v shapeCasts_S2048x1_S1x2048x1) 0x00000000#32
    reduces_S1x2048x1_S1 (.inl rfl) rfl) shapeCasts_S1_S1x1x1) inpos_S1x1x1_p0_0_0

/-- The sum of a block. -/
def sumBlk (v : FVec F S2048x81 .f32) : F .f32 :=
  extractAt ![0, 0, 0] (shapeCast S1x1x1 (multiReduction .add [1, 2] S1 (shapeCast S1x2048x81 v shapeCasts_S2048x81_S1x2048x81) 0x00000000#32
    reduces_S1x2048x81_S1 (.inl rfl) rfl) shapeCasts_S1_S1x1x1) inpos_S1x1x1_p0_0_0

/-- The block's cross entropy as the kernel sums it. -/
def blockLoss (x : FVec F S2048x81 .f32) (l : IVec S2048x1 32) : F .f32 :=
  Scalar.subf (Scalar.addf (sumCol (rowMax x)) (sumCol (log (rowExp x)))) (sumBlk (rowSel x l))

/-- The cell after a block is added to it. -/
def addBlock (x : FVec F S2048x81 .f32) (l : IVec S2048x1 32) (o : FVec F S1x1 .f32) : FVec F S1x1 .f32 :=
  addf o (broadcast S1x1 (blockLoss x l))

/-- The cleared cell. -/
def zeroCell : FVec F S1x1 .f32 := broadcast S1x1 (Scalar.ofBits .f32 0x00000000#32)

theorem pay1_eq : Gen.k1_pay1 (F := F) = zeroCell := rfl

theorem pay2_eq (x : FVec F S2048x81 .f32) (l : IVec S2048x1 32) (o : FVec F S1x1 .f32) : Gen.k1_pay2 x l o = addBlock x l o := by
  unfold Gen.k1_pay2
  simp only [shapeCast_self o]
  rfl

/-! ## Whole buffers read and written -/

section Whole

variable [∀ e, Nonempty (Elt F e)] (c : Thread nD τ) {s : Shape} {e : EltTy} (M : Memref sig c.2.kind .vmem s e)
  {off : Fin s.rank → Nat} (hoff : off = fun _ => 0) (inb : ∀ a, off a + s.size a ≤ s.size a) {α : Type}
  (Q : α → sProp (𝕄 F))

include hoff in
/-- A load of all of a buffer reads what it holds. -/
theorem wp_readAll (X : s.Idx → Elt F e) {hl : M.view.LoadsAt (Rect.unit off s.size inb).toLoadRect}
    {k : (s.Idx → Elt F e) → Prog (TpuEff nD τ sig (Elt F) Λ₀ c.2) α} :
    (owns c M fullShare X : sProp (𝕄 F)) ⊢ iprop((owns c M fullShare X -∗ wp frame (wpE (defs₀ (F := F)) 𝒱₀ c none) Set.univ (k X) Q)
      -∗ wp frame (wpE (defs₀ (F := F)) 𝒱₀ c none) Set.univ (.op (.load M (Rect.unit off s.size inb).toLoadRect hl) k) Q) := by
  iintro H Hk
  unfold owns
  icases H with ⟨%f, %hf, H⟩
  iapply (wp_load_rect 𝒱₀ c none Set.univ (m := M) (r := Rect.unit off s.size inb) (hl := hl) (S := M.view.set)
    (View.set_slice_subset _ _)) $$ H
  iintro H
  have h : View.read (Elt F) (M.access (Rect.unit off s.size inb)) f = X :=
    (show M.view.readAt (Elt F) (Rect.unit off s.size inb).toLoadRect f = X by rw [View.readAt_eq_ld, View.ld_unit_zero hoff inb, hf])
  rw [h]
  iapply Hk
  iexists f
  isplitr; · ipureintro; exact hf
  iexact H

include hoff in
/-- A store of all of a buffer leaves what is stored. -/
theorem wp_writeAll (X w : s.Idx → Elt F e) {hx : (M.access (Rect.unit off s.size inb)).Stores Finset.univ}
    {hm : Finset.univ = Finset.univ ∨ ∀ a, (Rect.unit off s.size inb).stride a = 1}
    {k : PUnit → Prog (TpuEff nD τ sig (Elt F) Λ₀ c.2) α} :
    (owns c M fullShare X : sProp (𝕄 F)) ⊢ iprop((owns c M fullShare w -∗ wp frame (wpE (defs₀ (F := F)) 𝒱₀ c none) Set.univ (k ⟨⟩) Q)
      -∗ wp frame (wpE (defs₀ (F := F)) 𝒱₀ c none) Set.univ (.op (.store M (Rect.unit off s.size inb) w Finset.univ hx hm) k) Q) := by
  iintro H Hk
  unfold owns
  icases H with ⟨%f, %hf, H⟩
  iapply (wp_store_writes₀ (defs := defs₀ (F := F)) 𝒱₀ c none Set.univ (Q := Q) (m := M) (r := Rect.unit off s.size inb) (w := w) (hx := hx) (hm := hm) (k := k)
    (S := M.view.set) (f := f) (View.set_slice_subset _ _)) $$ H
  iintro H
  iapply Hk
  iexists _
  isplitr
  swap
  · iexact H
  ipureintro
  have hcov : ∀ y : s.Idx, y ∈ (Rect.unit off s.size inb).set := fun y => by
    rw [Rect.mem_set_unit]
    intro a
    rw [hoff]
    exact ⟨Nat.zero_le _, lt_of_lt_of_eq (y a).isLt (Nat.zero_add _).symm⟩
  rw [View.read_writes_eq_canon _ _ _ (fun y => ⟨_, List.mem_singleton.mpr rfl, hcov y⟩), View.canon_unit_zero hoff]

end Whole

/-! ## The body -/

section Body

variable [∀ e, Nonempty (Elt F e)] (c : Dev nD) (i : grid1.Coords)
  (a1 : Memref sig .tc .vmem S2048x81 .f32) (h1 : a1.IsWhole) (a2 : Memref sig .tc .vmem S2048x1 .i32) (h2 : a2.IsWhole)
  (a3 : Memref sig .tc .vmem S1x1 .f32) (h3 : a3.IsWhole)

/-- Whether the body clears its cell: at the grid's first point. -/
abbrev clears : Prop :=
  Scalar.cmpi .ne (Scalar.extui (Scalar.cmpi .eq (BitVec.ofNat 32 (i 0).val) 0#32) : BitVec 32) 0#32 = 1#1

theorem hz : (![0, 0] : Fin 2 → Nat) = fun _ => 0 := funext fun a => by fin_cases a <;> rfl

/-- The body over a block and its labels: they stay, and the cell ends at the block added to what it held, or to zero
    where it is cleared. -/
theorem body_wp (x : FVec F S2048x81 .f32) (l : IVec S2048x1 32) (o : FVec F S1x1 .f32) (Q : PUnit → sProp (𝕄 F)) :
    iprop(owns (c : Thread nD τ) a1 fullShare x ∗ owns (c : Thread nD τ) a2 fullShare l ∗ owns (c : Thread nD τ) a3 fullShare o
        ∗ (owns (c : Thread nD τ) a1 fullShare x ∗ owns (c : Thread nD τ) a2 fullShare l
            ∗ owns (c : Thread nD τ) a3 fullShare (addBlock x l (if clears i then zeroCell else o)) -∗ Q ⟨⟩))
      ⊢ wp frame (wpE (defs₀ (F := F)) 𝒱₀ (c : Thread nD τ) none) Set.univ (cc1__ce_body i a1 h1 a2 h2 a3 h3) Q := by
  rw [Gen.cc1__ce_body_eq_skeleton]
  unfold Gen.cc1__ce_body_skel
  by_cases hc : clears i
  · simp only [dif_pos hc, if_pos hc]
    iintro ⟨H1, H2, H3, Hk⟩
    iapply (wp_readAll (c : Thread nD τ) a1 hz inb_S2048x81_S2048x81_0_0 Q x) $$ H1
    iintro H1
    iapply (wp_readAll (c : Thread nD τ) a2 hz inb_S2048x1_S2048x1_0_0 Q l) $$ H2
    iintro H2
    iapply (wp_readAll (c : Thread nD τ) a3 hz inb_S1x1_S1x1_0_0 Q o) $$ H3
    iintro H3
    iapply (wp_writeAll (c : Thread nD τ) a3 hz inb_S1x1_S1x1_0_0 Q o (Gen.k1_pay1 (F := F))) $$ H3
    iintro H3
    iapply (wp_readAll (c : Thread nD τ) a3 hz inb_S1x1_S1x1_0_0 Q (Gen.k1_pay1 (F := F))) $$ H3
    iintro H3
    iapply (wp_readAll (c : Thread nD τ) a3 hz inb_S1x1_S1x1_0_0 Q (Gen.k1_pay1 (F := F))) $$ H3
    iintro H3
    iapply (wp_writeAll (c : Thread nD τ) a3 hz inb_S1x1_S1x1_0_0 Q (Gen.k1_pay1 (F := F)) (Gen.k1_pay2 x l Gen.k1_pay1)) $$ H3
    iintro H3
    rw [pay2_eq, pay1_eq]
    iapply (le_wp_ret _ _ _ _ _)
    iapply Hk
    isplitl [H1]; · iexact H1
    isplitl [H2]; · iexact H2
    iexact H3
  · simp only [dif_neg hc, if_neg hc]
    iintro ⟨H1, H2, H3, Hk⟩
    iapply (wp_readAll (c : Thread nD τ) a1 hz inb_S2048x81_S2048x81_0_0 Q x) $$ H1
    iintro H1
    iapply (wp_readAll (c : Thread nD τ) a2 hz inb_S2048x1_S2048x1_0_0 Q l) $$ H2
    iintro H2
    iapply (wp_readAll (c : Thread nD τ) a3 hz inb_S1x1_S1x1_0_0 Q o) $$ H3
    iintro H3
    iapply (wp_readAll (c : Thread nD τ) a3 hz inb_S1x1_S1x1_0_0 Q o) $$ H3
    iintro H3
    iapply (wp_writeAll (c : Thread nD τ) a3 hz inb_S1x1_S1x1_0_0 Q o (Gen.k1_pay2 x l o)) $$ H3
    iintro H3
    rw [pay2_eq]
    iapply (le_wp_ret _ _ _ _ _)
    iapply Hk
    isplitl [H1]; · iexact H1
    isplitl [H2]; · iexact H2
    iexact H3

end Body

end Cert.Proof.Ce

end
-- ==== Proof.CeCall.lean ====
/-
  The TensorCore call over its sixteen blocks: the cell it accumulates in after each block, its proof data, the body's
  obligation at every block, and what the result array ends holding.
-/
module

public import proofs.«01_k».proof.Proof.CeBody
public import Idealize.ShloMosaic.Lib.Pipeline.Value
public import Idealize.ShloMosaic.Lib.SparseCore.Threads

@[expose] public section

noncomputable section

namespace Cert.Proof.Ce

open Cert.KernelIdeal Cert.KernelIdeal.Facts₀ Cert.KernelIdeal.Facts
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Proof.Reg (𝕄 𝒱₀ UU K EP)

variable {F : FTy → Type} [FloatOps F]
variable (V : (c : Dev nD) → (b : Ref sig .tc) → Buf (Elt F) ((c : Thread nD τ).loc b))

/-! ## The blocks, and the cell after each -/

/-- Block `t` of the class scores. -/
abbrev xBlk (c : Dev nD) (t : Fin cfg1.N) : FVec F S2048x81 .f32 := ((cfg1.win 0).blk t).view.read (Elt F) (V c main_arg0)
/-- Block `t` of the labels. -/
abbrev lBlk (c : Dev nD) (t : Fin cfg1.N) : IVec S2048x1 32 := ((cfg1.win 1).blk t).view.read (Elt F) (V c main_v3)

/-- The cell after block `n`: every block so far added to zero, first to last. -/
def cell (c : Dev nD) : (n : ℕ) → n < cfg1.N → FVec F S1x1 .f32
  | 0, h => addBlock (xBlk V c ⟨0, h⟩) (lBlk V c ⟨0, h⟩) zeroCell
  | n + 1, h => addBlock (xBlk V c ⟨n + 1, h⟩) (lBlk V c ⟨n + 1, h⟩) (cell c n (Nat.lt_of_succ_lt h))

/-- The pairs the core may have recorded: those the handshakes of the SparseCore call leave. -/
def recs (c : Dev nD) : Set (SemLoc sig × HIx 1) := {p | (K (F := F)).lev (SparseCore.T c, p.1) p.2 ≤ 8}

/-- The call's proof data on device `c`. -/
def dat (c : Dev nD) : Dat τ (Elt F) (HIx 1) ℕ UU ℕ cfg1 c where
  A w := V c (Pipeline.arrRef spec1 w)
  after w t := match w with
    | ⟨0, _⟩ => xBlk V c t
    | ⟨1, _⟩ => lBlk V c t
    | ⟨2, _⟩ => cell V c t.val t.isLt
  Φ _ := BI.emp
  q _ := fullShare
  owed _ := 0
  recorded _ := recs (F := F) c

theorem before_x (c : Dev nD) (t : Fin cfg1.N) (d : (cfg1.win 0).block.Idx → Elt F (cfg1.win 0).elt) : (dat V c).before 0 t d = xBlk V c t :=
  (dat V c).before_fetched 0 t (Gen.fetch1_0 t) d

theorem before_l (c : Dev nD) (t : Fin cfg1.N) (d : (cfg1.win 1).block.Idx → Elt F (cfg1.win 1).elt) : (dat V c).before 1 t d = lBlk V c t :=
  (dat V c).before_fetched 1 t (Gen.fetch1_1 t) d

theorem clears_iff : ∀ t : Fin grid1.N, clears (grid1.coords t) ↔ t.val = 0 := by decide

/-- The block added to what the body finds in its cell is the cell after it. -/
theorem cell_step (c : Dev nD) (t : Fin cfg1.N) (d : (cfg1.win 2).block.Idx → Elt F (cfg1.win 2).elt) :
    addBlock (xBlk V c t) (lBlk V c t) (if clears (grid1.coords t) then zeroCell else (dat V c).before 2 t d) = cell V c t.val t.isLt := by
  obtain ⟨n, hn⟩ := t
  cases n with
  | zero => rw [if_pos ((clears_iff _).mpr rfl)]; rfl
  | succ n =>
    have hN : cfg1.N = 16 := Gen.N_1
    rw [if_neg (fun h => absurd ((clears_iff _).mp h) (Nat.succ_ne_zero n)),
      (dat V c).before_out_kept 2 rfl ⟨n + 1, hn⟩ (Nat.succ_ne_zero n)
        (by rw [Bool.eq_false_iff]; intro h; have := (Gen.flush1_2 _).mp h; dsimp only at this; omega) (fun _ => rfl) (fun _ _ => rfl) d]
    rfl

/-- The body's obligation at every block. -/
theorem body_obligation [∀ e, Nonempty (Elt F e)] (c : Dev nD) : BodyObligation (dat V c) (defs₀ (F := F)) 𝒱₀ none Set.univ := fun t => by
  rw [Gen.bigSep_W1, Gen.bigSep_W1]
  iintro ⟨-, Howes, ⟨%d0, H0⟩, ⟨%d1, H1⟩, ⟨%d2, H2⟩⟩
  rw [before_x, before_l]
  iapply (body_wp c (grid1.coords t) _ (hstage1_0 ((cfg1.slots t 0).cast nbuf1_0)) _ (hstage1_1 ((cfg1.slots t 1).cast nbuf1_1)) _
    (hstage1_2 ((cfg1.slots t 2).cast nbuf1_2)) (xBlk V c t) (lBlk V c t) ((dat V c).before 2 t d2))
  isplitl [H0]; · iexact H0
  isplitl [H1]; · iexact H1
  isplitl [H2]; · iexact H2
  rw [cell_step]
  iintro ⟨H0, H1, H2⟩
  isplitr; · iempintro
  isplitl [Howes]; · iexact Howes
  isplitl [H0]; · iexact H0
  isplitl [H1]; · iexact H1
  iexact H2

/-! ## The result array -/

/-- The cell after the last block. -/
def result (c : Dev nD) : Buf (Elt F) ((c : Thread nD τ).loc main_v4) := cell V c 15 (by rw [show cfg1.N = 16 from Gen.N_1]; decide)

theorem flushed_eq (c : Dev nD) (t : Fin cfg1.N) (hf : (cfg1.win 2).flush t = true) :
    (dat V c).flushed 2 t = ((cfg1.win 2).blk t).view.read (Elt F) (result V c) := by
  have hN : cfg1.N = 16 := Gen.N_1
  obtain rfl : t = Gen.t1_15 := Fin.ext (by have := (Gen.flush1_2 t).mp hf; have := t.isLt; show t.val = 15; omega)
  have hz' : (fun a => win1_2.index Gen.t1_15 a * main_v4.ty.shape.size a) = fun _ => 0 := funext fun a => by fin_cases a <;> decide
  exact (Memref.read_access_unit_zero (Elt F) main_v4 hz' (fun a => by rw [congrFun hz' a]; simp) (result V c)).symm

theorem final (c : Dev nD) : (dat V c).arrAt 2 cfg1.N = result V c :=
  (dat V c).arrAt_eq_of_cover 2 (result V c) (flushed_eq V c) fun i =>
    ⟨Gen.t1_15, (Gen.flush1_2 Gen.t1_15).mpr rfl, by
      show i ∈ ((View.whole main_v4).slice (win1_2.rect Gen.t1_15)).set
      rw [View.set_slice_whole, Rect.mem_set_unit]
      intro a
      have h0 : (i 0 : Nat) < 1 := (i 0).isLt
      have h1 : (i 1 : Nat) < 1 := (i 1).isLt
      match a with
      | ⟨0, _⟩ => show win1_2.index Gen.t1_15 0 * win1_2.size 0 ≤ (i 0 : Nat) ∧ (i 0 : Nat) < win1_2.index Gen.t1_15 0 * win1_2.size 0 + win1_2.xsize (grid1.coords Gen.t1_15) 0
                  rw [show win1_2.index Gen.t1_15 0 * win1_2.size 0 = 0 from by decide +kernel, show win1_2.xsize (grid1.coords Gen.t1_15) 0 = 1 from by decide +kernel]; omega
      | ⟨1, _⟩ => show win1_2.index Gen.t1_15 1 * win1_2.size 1 ≤ (i 1 : Nat) ∧ (i 1 : Nat) < win1_2.index Gen.t1_15 1 * win1_2.size 1 + win1_2.xsize (grid1.coords Gen.t1_15) 1
                  rw [show win1_2.index Gen.t1_15 1 * win1_2.size 1 = 0 from by decide +kernel, show win1_2.xsize (grid1.coords Gen.t1_15) 1 = 1 from by decide +kernel]; omega⟩

end Cert.Proof.Ce

end
-- ==== Proof.CeRegion.lean ====
/-
  The TensorCore call as @main makes it after the SparseCore call: from the launch's unscoped buffers to the same with the
  result array at the sum over the blocks.
-/
module

public import proofs.«01_k».proof.Proof.CeCall
public import Idealize.ShloMosaic.Lib.Pipeline.RegionsLoop

@[expose] public section

noncomputable section

namespace Cert.Proof.Ce

open Cert.KernelIdeal Cert.KernelIdeal.Facts₀ Cert.KernelIdeal.Facts
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Proof.Reg (𝕄 𝒱₀ 𝒱 UU ΛP K D EP)

variable {F : FTy → Type} [FloatOps F]
variable (V : (c : Dev nD) → (b : Ref sig .tc) → Buf (Elt F) ((c : Thread nD τ).loc b))

abbrev adm : (p : Fin 1) → (pcfgs (F := F) p).Adm := fun p => (cfgs p).toPCfg_adm

/-- The program's one pipeline's proof data. -/
def pdats : (p : Fin 1) → (c : Dev nD) → Dat τ (Elt F) (HIx 1) ℕ UU ℕ (Pipeline.pin (pcfgs (F := F)) adm p) c :=
  fun _ c => dat V c

/-- The buffers after the call. -/
def left (c : Dev nD) : (b : Ref sig .tc) → Buf (Elt F) ((c : Thread nD τ).loc b) := Function.update (V c) main_v4 (result V c)

/-- The staging buffers' ghost state and tokens the launch deals device `c`. -/
def ghost (c : Dev nD) : sProp (𝕄 F) :=
  iprop(Pipeline.cellsGhost (Pipeline.pin (pcfgs (F := F)) adm) EP 0 c ∗ Pipeline.toksInit (Pipeline.pin (pcfgs (F := F)) adm) EP 0 c)

/-- The core owing nothing, what it recorded within what the handshakes leave. -/
abbrev idle (c : Dev nD) : sProp (𝕄 F) := Pipeline.owesWithin c (0 : CellTallies nD τ sig (HIx 1)) (recs (F := F) c)

/-- What the core has recorded when the call ends: the staging cells' waits are at the lowest level. -/
theorem bound_last (c : Dev nD) : (pdats V 0 c).bound none (Fin.last _) ⊆ recs (F := F) c := by
  refine Set.union_subset le_rfl ?_
  rintro p ⟨w, s, rfl⟩
  show (K (F := F)).lev _ none ≤ 8
  rw [SparseCore.Cfg.lev_none]; exact Nat.zero_le _

set_option backward.isDefEq.respectTransparency.types false in
/-- The call as a region of @main. -/
def reg [∀ e, Nonempty (Elt F e)] : Pipeline.RegionSeg (pcfgs (F := F)) adm (pdats V) none defs₀ 𝒱₀ (K (F := F)).L (K (F := F)).lev 0 where
  win := Gen.winFacts1.to₀
  block_pos := Gen.block_pos1
  stage_whole := Gen.stage_whole1
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ idle (F := F) c)
  post c := iprop(unscopedBufs c (left V c) ∗ idle (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) Gen.winFacts1 Gen.arr_whole1 c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (0 : CellTallies nD τ sig (HIx 1)) (B := recs (F := F) c) Set.subset_union_left)
      iexact HO
    isplitr; · iempintro
    iexact Hrest
  hin c := by
    rw [show (pdats V 0 c).Φ 0 = BI.emp from rfl]
    iintro -
    iempintro
  hout c := by
    rw [Pipeline.ownSems0_none, show (pdats V 0 c).Φ (Fin.last _) = BI.emp from rfl]
    iintro -
    isplitr; · iempintro
    isplitr; · iempintro
    iapply (Entails.of_eq (Gen.scopedRest1_eq (Ix := HIx 1) (Val := Elt F) (Name := ℕ) (U := UU) (Lvl := ℕ) c).symm)
    iempintro
  hexit c := by
    have hjoin := Pipeline.unscopedBufs_of_arrays (p := 0) (pcfgs (F := F)) adm (Ix := HIx 1) (Name := ℕ) (U := UU) (Lvl := ℕ) Gen.winFacts1 Gen.arr_whole1 c
      (pdats V) ((pdats V 0 c).share_full fun _ => rfl) (V c) (left V c) ((pdats V 0 c).arrAt · cfg1.N)
      (fun w => by
        fin_cases w
        · exact ((pdats V 0 c).arrAt_in 0 rfl _).trans (Function.update_of_ne (show main_arg0 ≠ main_v4 by decide) _ _).symm
        · exact ((pdats V 0 c).arrAt_in 1 rfl _).trans (Function.update_of_ne (show main_v3 ≠ main_v4 by decide) _ _).symm
        · exact (final V c).trans (Function.update_self main_v4 (result V c) (V c)).symm)
      (fun b hb => Function.update_of_ne (show b ≠ main_v4 from fun h => hb (by rw [h]; exact Finset.mem_image.mpr ⟨2, Finset.mem_univ _, rfl⟩)) _ _)
    iintro ⟨Ha, HO, -, Hrest⟩
    imodintro
    isplitl [Ha Hrest]
    · iapply hjoin; isplitl [Ha] <;> iassumption
    iapply (Pipeline.owesWithin_mono c (0 : CellTallies nD τ sig (HIx 1)) (bound_last V c))
    iexact HO

theorem reg_pre [∀ e, Nonempty (Elt F e)] (c : Dev nD) : (reg V).pre c = iprop(unscopedBufs c (V c) ∗ idle (F := F) c) := rfl

theorem reg_post [∀ e, Nonempty (Elt F e)] (c : Dev nD) : (reg V).post c = iprop(unscopedBufs c (left V c) ∗ idle (F := F) c) := rfl

/-- The call as @main makes it is the pipeline's own entry, lifted. -/
theorem entry_lifted : (Prog.lift (.customCall (SparseCore.inner (Pipeline.entry 0)) ())
      : Prog (TpuEff nD τ sig (Elt F) (SparseCore.Sig (ΛP (F := F)) 1) .tc) PUnit.{1})
    = SparseCore.liftProg (Prog.op (.customCall (Pipeline.entry 0) ()) fun _ => Prog.ret ⟨⟩) := rfl

/-- The call run under the certificate's own body table: the result array ends at the sum over the blocks, the rest as it
    was. -/
theorem entry_wp [∀ e, Nonempty (Elt F e)] (c : Dev nD) (Φ : PUnit.{1} → sProp (𝕄 F)) :
    iprop(boundary (c.tc : Thread nD τ) ∗ unscopedBufs c (V c) ∗ idle (F := F) c ∗ levAts (K (F := F)).L (K (F := F)).lev ∗ ghost (F := F) c
        ∗ (boundary (c.tc : Thread nD τ) ∗ unscopedBufs c (left V c) ∗ idle (F := F) c -∗ Φ ⟨⟩))
      ⊢ wp frame (wpE (D (F := F)) 𝒱 (c.tc : Thread nD τ) none) Set.univ
          (Prog.op (.customCall (Pipeline.entry 0) ()) fun _ => (Prog.ret ⟨⟩ : Prog (TpuEff nD τ sig (Elt F) (ΛP (F := F)) .tc) PUnit.{1})) Φ := by
  have h := Pipeline.RegionSeg.wp (pcfgs (F := F)) adm (pdats V) none Gen.cellOf_inj EP defs₀ 𝒱₀ (K (F := F)).L (K (F := F)).lev (reg V) c none
    (fun u hu => absurd hu (Option.not_mem_none u)) (fun _ => (Prog.ret ⟨⟩ : Prog (TpuEff nD τ sig (Elt F) (ΛP (F := F)) .tc) PUnit.{1})) Φ
  rw [reg_pre, reg_post] at h
  refine BIBase.Entails.trans (show _ ⊢ iprop((iprop(boundary (c.tc : Thread nD τ) ∗ unscopedBufs c (left V c) ∗ idle (F := F) c)
        -∗ wp frame (wpE (D (F := F)) 𝒱 (c.tc : Thread nD τ) none) Set.univ (Prog.ret ⟨⟩ : Prog (TpuEff nD τ sig (Elt F) (ΛP (F := F)) .tc) PUnit.{1}) Φ)
      ∗ boundary (c.tc : Thread nD τ) ∗ (unscopedBufs c (V c) ∗ idle (F := F) c) ∗ levAts (K (F := F)).L (K (F := F)).lev ∗ ghost (F := F) c) from ?_) h
  iintro ⟨Hb, Hu, HO, Hl, Hg, Hk⟩
  isplitl [Hk]
  · iintro ⟨Hb, Hu, HO⟩
    iapply (le_wp_ret _ _ _ _ _)
    iapply Hk
    isplitl [Hb]; · iexact Hb
    isplitl [Hu] <;> iassumption
  isplitl [Hb]; · iexact Hb
  isplitl [Hu HO]
  · isplitl [Hu] <;> iassumption
  isplitl [Hl]; · iexact Hl
  iexact Hg

/-- The call run as @main makes it. -/
theorem call_wp [∀ e, Nonempty (Elt F e)] (c : Dev nD) (Φ : PUnit.{1} → sProp (𝕄 F)) :
    iprop(boundary (SparseCore.T c) ∗ unscopedBufs c (V c) ∗ idle (F := F) c ∗ levAts (K (F := F)).L (K (F := F)).lev ∗ ghost (F := F) c
        ∗ (boundary (SparseCore.T c) ∗ unscopedBufs c (left V c) ∗ idle (F := F) c -∗ Φ ⟨⟩))
      ⊢ wp frame (wpE ((K (F := F)).defs (D (F := F))) 𝒱 (SparseCore.T c) none) Set.univ
          (Prog.lift (.customCall (SparseCore.inner (Pipeline.entry 0)) ())
            : Prog (TpuEff nD τ sig (Elt F) (SparseCore.Sig (ΛP (F := F)) 1) .tc) PUnit.{1}) Φ := by
  have h := (K (F := F)).wp_liftProg (D (F := F)) 𝒱 (SparseCore.T c) Set.univ none (Prog.op (.customCall (Pipeline.entry 0) ()) fun _ => Prog.ret ⟨⟩) Φ
  exact (entry_wp V c Φ).trans h

end Cert.Proof.Ce

end
-- ==== Proof.Host.lean ====
/-
  The host program's arrays from launch to end: before the SparseCore call, after it, after the TensorCore call and after
  the last operations; and the ownership of them all, opened at the arrays each call takes.
-/
module

public import proofs.«01_k».proof.Proof.RegTile
public import proofs.«01_k».proof.Proof.CeRegion

@[expose] public section

noncomputable section

namespace Cert.Proof.Host

open Cert.KernelIdeal Cert.KernelIdeal.Facts₀ Cert.KernelIdeal.Facts
open Idealize.ShloMosaic Idealize.ShloMosaic.TcCoe
open Idealize.ShloMosaic.SparseCore.Cfg (HIx)
open Idealize.ShloMosaic.StableHlo (held held_sub_split held_congr)
open Idealize.SL Idealize.SL.RA Idealize.SL.BI
open scoped Idealize.SL.BI
open Idealize.SL.BI.BIBase Idealize.SL.BI.Laws Idealize.SL.ProofMode Idealize.SL.Sem
open Cert.Proof.Reg (𝕄 𝒱₀ 𝒱 UU ΛP K D EH EP labLoc tgtLoc prdLoc sumLoc readPts rowsPts sumsOf sumsD)

variable {F : FTy → Type} [FloatOps F]

/-! ## The operations of the host program -/

abbrev opT : HloOp τ sig (Elt F) := StableHlo.unary main_arg3 main_v0 ((transpose S4x32768 [1, 0] · transposes_S32768x4_S4x32768_1_0) : (⟨S32768x4, .f32⟩ : BufTy).Contents (Elt F) → (⟨S4x32768, .f32⟩ : BufTy).Contents (Elt F))
abbrev opV : HloOp τ sig (Elt F) := StableHlo.reshape main_v0 main_v1 (rfl : (.f32 : EltTy) = .f32) shapeCasts_S4x32768_S131072
abbrev opL : HloOp τ sig (Elt F) := StableHlo.reshape main_arg2 main_v3 (rfl : (.i32 : EltTy) = .i32) shapeCasts_S32768_S32768x1
abbrev opC : HloOp τ sig (Elt F) := StableHlo.reshape main_v4 main_v5 (rfl : (.f32 : EltTy) = .f32) shapeCasts_S1x1_S_
abbrev opN : HloOp τ sig (Elt F) := StableHlo.nullary main_cst (constant S_ .f32 0x47000000#32)
abbrev opD : HloOp τ sig (Elt F) := StableHlo.binary main_v5 main_cst main_v6 (Host.divf : (⟨S_, .f32⟩ : BufTy).Contents (Elt F) → (⟨S_, .f32⟩ : BufTy).Contents (Elt F) → (⟨S_, .f32⟩ : BufTy).Contents (Elt F))
abbrev opZ : HloOp τ sig (Elt F) := StableHlo.nullary main_cst_0 (constant S_ .f32 0x00000000#32)
abbrev opS : HloOp τ sig (Elt F) := StableHlo.binary main_v2 main_cst_0 main_v7 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opN' : HloOp τ sig (Elt F) := StableHlo.nullary main_cst_1 (constant S_ .f32 0x47000000#32)
abbrev opD' : HloOp τ sig (Elt F) := StableHlo.binary main_v7 main_cst_1 main_v8 (Host.divf : (⟨S_, .f32⟩ : BufTy).Contents (Elt F) → (⟨S_, .f32⟩ : BufTy).Contents (Elt F) → (⟨S_, .f32⟩ : BufTy).Contents (Elt F))

/-! ## The arrays' contents along the run -/

variable (m : (ℓ : Loc nD τ sig) → Buf (Elt F) ℓ)

/-- At the launch. -/
def V0 (d : Dev nD) : Valuation τ sig (Elt F) := fun b => m (d, b)
/-- When the SparseCore call starts: the box targets a column after another. -/
abbrev V1 (d : Dev nD) : Valuation τ sig (Elt F) := (opV (F := F)).result ((opT (F := F)).result (V0 m d))

abbrev labels (d : Dev nD) : S32768.Idx → BitVec 32 := V0 m d (Proc.devRef .tc (main_arg2 : Ref sig .tc))
abbrev targets (d : Dev nD) : S131072.Idx → F .f32 := V1 m d (Proc.devRef .tc (main_v1 : Ref sig .tc))
abbrev preds (d : Dev nD) : S32768x320.Idx → F .f32 := V0 m d (Proc.devRef .tc (main_arg1 : Ref sig .tc))
abbrev sums₀ (d : Dev nD) : S32x16.Idx → F .f32 := V0 m d (Proc.devRef .tc (main_v2 : Ref sig .tc))
/-- The SparseCore call's sums. -/
abbrev sums (d : Dev nD) : S32x16.Idx → F .f32 := sumsD (labels m) (targets m) (preds m) d

/-- After the SparseCore call. -/
def V2 (d : Dev nD) : Valuation τ sig (Elt F) := Function.update (V1 m d) (Proc.devRef .tc (main_v2 : Ref sig .tc)) (sums m d)
/-- When the TensorCore call starts. -/
abbrev V3 (d : Dev nD) : Valuation τ sig (Elt F) := (opL (F := F)).result (V2 m d)
/-- The same, by the TensorCore's references. -/
abbrev V3' (d : Dev nD) (b : Ref sig .tc) : Buf (Elt F) ((d : Thread nD τ).loc b) := V3 m d (Proc.devRef .tc b)
/-- After the TensorCore call. -/
def V4 (d : Dev nD) : Valuation τ sig (Elt F) := Function.update (V3 m d) (Proc.devRef .tc (main_v4 : Ref sig .tc)) (Ce.result (V3' m) d)
/-- At the end. -/
abbrev V5 (d : Dev nD) : Valuation τ sig (Elt F) :=
  (opD' (F := F)).result ((opN' (F := F)).result ((opS (F := F)).result ((opZ (F := F)).result ((opD (F := F)).result ((opN (F := F)).result
    ((opC (F := F)).result (V4 m d)))))))

/-! ## The host's arrays held -/

/-- The arrays the host holds throughout. -/
def own : Finset (DevRef τ sig) := (StableHlo.tcRefs τ sig).filter fun b => ¬ b.isScoped

omit [FloatOps F] in
theorem unscopedBufs_held (d : Dev nD) (W : Valuation τ sig (Elt F)) :
    (unscopedBufs d (fun b => W (Proc.devRef .tc b)) : sProp (𝕄 F)) = held (SparseCore.T d) own W := by
  unfold unscopedBufs held own StableHlo.tcRefs
  rw [Finset.filter_map, bigSep_map]
  rfl

omit [FloatOps F] in
theorem sub_own (op : HloOp τ sig (Elt F)) (h : op.bufs ⊆ StableHlo.tcRefs τ sig) : op.bufs ⊆ own := fun b hb =>
  Finset.mem_filter.mpr ⟨h hb, fun h' => Bool.false_ne_true ((op.no_scoped b hb).symm.trans h')⟩

abbrev rLab : DevRef τ sig := Proc.devRef .tc (main_arg2 : Ref sig .tc)
abbrev rTgt : DevRef τ sig := Proc.devRef .tc (main_v1 : Ref sig .tc)
abbrev rPrd : DevRef τ sig := Proc.devRef .tc (main_arg1 : Ref sig .tc)
abbrev rSum : DevRef τ sig := Proc.devRef .tc (main_v2 : Ref sig .tc)
/-- The arrays the SparseCore call takes. -/
abbrev four : Finset (DevRef τ sig) := {rLab, rTgt, rPrd, rSum}

theorem four_sub : four ⊆ own := by decide

theorem held_four (d : Dev nD) (W : Valuation τ sig (Elt F)) :
    (held (SparseCore.T d) four W : sProp (𝕄 F))
      = iprop((labLoc d ↦{fullShare} W rLab) ∗ (tgtLoc d ↦{fullShare} W rTgt) ∗ (prdLoc d ↦{fullShare} W rPrd) ∗ sumLoc d ↦{fullShare} W rSum) := by
  unfold held four
  rw [SparseCore.bigSep_insert' (by decide), SparseCore.bigSep_insert' (by decide), SparseCore.bigSep_insert' (by decide), bigSep_singleton]

/-- The first operations touch none of the arrays the program is given. -/
theorem V1_of (d : Dev nD) (b : DevRef τ sig) (h0 : b ≠ Proc.devRef .tc (main_v0 : Ref sig .tc)) (h1 : b ≠ rTgt) : V1 m d b = V0 m d b := by
  unfold V1
  rw [(opV (F := F)).result_of_not_mem _ (b := b) (fun h => h1 (Finset.mem_singleton.mp h)),
    (opT (F := F)).result_of_not_mem _ (b := b) (fun h => h0 (Finset.mem_singleton.mp h))]

/-- The call's operands out of what the host holds. -/
theorem held_call (d : Dev nD) :
    (held (SparseCore.T d) own (V1 m d) : sProp (𝕄 F))
      ⊢ iprop((readPts (labels m) (targets m) (preds m) d fullShare ∗ rowsPts d Finset.univ (sums₀ m d)) ∗ held (SparseCore.T d) (own \ four) (V1 m d)) := by
  rw [held_sub_split (SparseCore.T d) four_sub, held_four, V1_of m d rLab (by decide) (by decide), V1_of m d rPrd (by decide) (by decide),
    V1_of m d rSum (by decide) (by decide)]
  iintro ⟨⟨Hl, Ht, Hp, Hs⟩, Hr⟩
  isplitl [Hl Ht Hp Hs]
  · isplitl [Hl Ht Hp]
    · isplitl [Hl]; · iexact Hl
      isplitl [Ht]; · iexact Ht
      iexact Hp
    iexact Hs
  iexact Hr

/-- And back, the sums at the call's. -/
theorem held_back (d : Dev nD) :
    iprop((readPts (labels m) (targets m) (preds m) d fullShare ∗ rowsPts d Finset.univ (sums m d)) ∗ held (SparseCore.T d) (own \ four) (V1 m d))
      ⊢ (held (SparseCore.T d) own (V2 m d) : sProp (𝕄 F)) := by
  have e (b : DevRef τ sig) (h : b ≠ rSum) : V2 m d b = V1 m d b := Function.update_of_ne h _ _
  rw [held_sub_split (SparseCore.T d) four_sub (V2 m d), held_four, e rLab (by decide), e rTgt (by decide), e rPrd (by decide),
    show V2 m d rSum = sums m d from Function.update_self _ _ _, V1_of m d rLab (by decide) (by decide), V1_of m d rPrd (by decide) (by decide),
    held_congr (SparseCore.T d) (S := own \ four) (V := V2 m d) (V' := V1 m d) fun b hb => e b fun h => (Finset.mem_sdiff.mp hb).2 (by rw [h]; decide)]
  iintro ⟨⟨⟨Hl, Ht, Hp⟩, Hs⟩, Hr⟩
  isplitl [Hl Ht Hp Hs]
  · isplitl [Hl]; · iexact Hl
    isplitl [Ht]; · iexact Ht
    isplitl [Hp]; · iexact Hp
    iexact Hs
  iexact Hr

/-- What the TensorCore call leaves, as the host's valuation. -/
theorem left_eq (d : Dev nD) : Ce.left (V3' m) d = fun b => V4 m d (Proc.devRef .tc b) := by
  funext b
  unfold Ce.left V4
  by_cases h : b = main_v4
  · subst h; rw [Function.update_self, Function.update_self]
  · rw [Function.update_of_ne h, Function.update_of_ne fun e => h (Proc.devRef_injective _ e)]

/-- One host operation over all the host holds. -/
theorem op_wp (d : Dev nD) (op : HloOp τ sig (Elt F)) (hop : op.bufs ⊆ StableHlo.tcRefs τ sig) (hf : op.fresh = ∅) (W : Valuation τ sig (Elt F))
    {hp : (SparseCore.T d : Thread nD τ).2.kind.runsHlo = true} (Q : PUnit.{1} → sProp (𝕄 F)) :
    iprop(boundary (SparseCore.T d) ∗ held (SparseCore.T d) own W ∗ (boundary (SparseCore.T d) ∗ held (SparseCore.T d) own (op.result W) -∗ Q ⟨⟩))
      ⊢ wp frame (wpE ((K (F := F)).defs (D (F := F))) 𝒱 (SparseCore.T d) none) Set.univ (hlo hp op fun _ => .ret ⟨⟩) Q := by
  iintro ⟨Hb, Hh, Hk⟩
  iapply (StableHlo.wp_hlo_within 𝒱 (SparseCore.T d) none Set.univ (op := op) (S := own) (sub_own op hop) (V := W) hf) $$ [Hb Hh]
  · isplitl [Hb] <;> iassumption
  iintro H
  iapply (le_wp_ret _ _ _ _ _)
  iapply Hk; iexact H

end Cert.Proof.Host

end
-- ==== Proof.Launch.lean ====
/-
  The program's run from any launch memory: the host's arrays end at the last valuation (`Host.V5`), every semaphore at
  zero. The launch deals the handshakes' rounds and the rounds of the TensorCore call's staging buffers; the host runs its
  operations, the SparseCore call and the TensorCore call in order.
-/
module

public import proofs.«01_k».proof.Proof.Host

@[expose] public section

noncomputable section

namespace Cert.Proof.Launch

open Cert.KernelIdeal Cert.KernelIdeal.Facts₀ Cert.KernelIdeal.Facts
open Idealize.ShloMosaic Idealize.ShloMosaic.TcCoe
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Reg (𝕄 𝒱₀ 𝒱 v₀ facts UU UP ΛP K D EH EP)
open Cert.Proof.Host

variable {F : FTy → Type} [FloatOps F]
variable (m : (ℓ : Loc nD τ sig) → Buf (Elt F) ℓ) (ρ : Dev nD → PrngReg)

/-- What the SparseCore call carries in this run. -/
abbrev P : (K (F := F)).Pay (N := 1) (nD := nD) (Val := Elt F) (Name := ℕ) (U := UU) := Reg.P (labels m) (targets m) (preds m) (sums₀ m)

/-! ## What the launch deals -/

/-- The handshakes' rounds, the staging buffers' rounds, no transfer counted yet. -/
def u₀ : UU :=
  (initOf (K (F := F)).hsCells (K (F := F)).hsToks,
    (initOf (Pipeline.cells (Pipeline.pin (pcfgs (F := F)) Ce.adm) Gen.cellOf_inj) (Pipeline.launchToks (Pipeline.pin (pcfgs (F := F)) Ce.adm) Gen.cellOf_inj), 1))

/-- The staging buffers' rounds, device by device. -/
theorem deal_ghost :
    (BI.own (EP (F := F) (initOf (Pipeline.cells (Pipeline.pin (pcfgs (F := F)) Ce.adm) Gen.cellOf_inj) (Pipeline.launchToks (Pipeline.pin (pcfgs (F := F)) Ce.adm) Gen.cellOf_inj))) : sProp (𝕄 F))
      ⊢ iprop(|==> bigSep Finset.univ fun d : Dev nD => Ce.ghost (F := F) d) := by
  iintro H
  imod (Pipeline.fund_ghost (Pipeline.pin (pcfgs (F := F)) Ce.adm) EP Gen.cellOf_inj) $$ H with ⟨Hc, Ht⟩
  imodintro
  unfold Ce.ghost
  rw [bigSep_sep']
  isplitl [Hc]
  · iapply (Entails.of_eq (show (bigSep Finset.univ fun d : Dev nD => bigSep Finset.univ fun p : Fin 1 => (Pipeline.cellsGhost (Pipeline.pin (pcfgs (F := F)) Ce.adm) EP p d : sProp (𝕄 F)))
        = bigSep Finset.univ fun d : Dev nD => Pipeline.cellsGhost (Pipeline.pin (pcfgs (F := F)) Ce.adm) EP 0 d from bigSep_congr fun _ _ => bigSep_univ_of_subsingleton (0 : Fin 1)))
    iexact Hc
  · iapply (Entails.of_eq (show (bigSep Finset.univ fun d : Dev nD => bigSep Finset.univ fun p : Fin 1 => (Pipeline.toksInit (Pipeline.pin (pcfgs (F := F)) Ce.adm) EP p d : sProp (𝕄 F)))
        = bigSep Finset.univ fun d : Dev nD => Pipeline.toksInit (Pipeline.pin (pcfgs (F := F)) Ce.adm) EP 0 d from bigSep_congr fun _ _ => bigSep_univ_of_subsingleton (0 : Fin 1)))
    iexact Ht

theorem hu₀ : (ownU (u₀ (F := F)) : sProp (𝕄 F))
    ⊢ |={Set.univ}=> iprop(BI.own (EH (initOf (K (F := F)).hsCells (K (F := F)).hsToks)) ∗ (bigSep Finset.univ fun d : Dev nD => Ce.ghost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  imod (deal_ghost (F := F)) $$ HP with HG
  imodintro
  isplitl [HH]; · iexact HH
  isplitl [HG]; · iexact HG
  rw [show (bigSep Finset.univ fun thr : Thread nD τ => bigSep Finset.univ fun q : Fin 1 => ((P m).x q thr : sProp (𝕄 F))) = iprop(emp) from
    (bigSep_congr fun _ _ => bigSep_emp_const _).trans (bigSep_emp_const _)]
  iempintro

/-! ## The host program -/

/-- The host's debt after the SparseCore call is none, its records within what the handshakes leave; and that is what it
    ends with. -/
theorem done_idle (d : Dev nD) :
    ((K (F := F)).tcSt EH d 1 : sProp (𝕄 F)) ⊢ iprop(Ce.idle (F := F) d ∗ (Ce.idle (F := F) d -∗ (K (F := F)).tcSt EH d 1)) := by
  unfold SparseCore.Cfg.tcSt
  rw [(K (F := F)).Otc_end d le_rfl]
  iintro ⟨⟨%W, %hW, HO⟩, Hrest⟩
  isplitl [HO]
  · iexists W; isplitr
    · ipureintro; exact fun p hp => hW p hp
    · iexact HO
  iintro ⟨%W', %hW', HO⟩
  isplitl [HO]
  · iexists W'; isplitr
    · ipureintro; exact fun p hp => hW' hp
    · iexact HO
  iexact Hrest

/-- What the host leaves: every array at the last valuation. -/
abbrev FIN (d : Dev nD) : sProp (𝕄 F) := held (SparseCore.T d) own (V5 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Ce.ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (𝕄 F)) = held (SparseCore.T d) own (V0 m d) from unscopedBufs_held d (V0 m d)]
  simp only [main, wp_bind, wp_pure]
  iintro ⟨#Hctx, Hst, ⟨Hb, Hh, Hts, -⟩, Hg⟩
  -- the targets a column after another
  iapply (op_wp d opT (StableHlo.unary_bufs_sub ..) rfl _ _)
  isplitl [Hb]; · iexact Hb
  isplitl [Hh]; · iexact Hh
  iintro ⟨Hb, Hh⟩
  iapply (op_wp d opV (StableHlo.reshape_bufs_sub ..) rfl _ _)
  isplitl [Hb]; · iexact Hb
  isplitl [Hh]; · iexact Hh
  iintro ⟨Hb, Hh⟩
  -- the SparseCore call
  ihave Hh := (held_call m d) $$ Hh
  icases Hh with ⟨Hops, Hrest⟩
  iapply ((K (F := F)).wp_run (D (F := F)) 𝒱 (EH := EH) (P := P m) κ d 0) $$ [Hst Hops Hrest Hb Hts Hg]
  isplitr; · iexact Hctx
  isplitl [Hst]; · iexact Hst
  isplitl [Hops]
  · rw [Reg.st0_eq]; iexact Hops
  iintro ⟨Hst, Hdn⟩
  ihave Hdn := (Entails.of_eq (Reg.dn0_eq d (labels m) (targets m) (preds m) (sums₀ m))) $$ Hdn
  ihave Hh := (held_back m d) $$ [Hdn Hrest]
  · isplitl [Hdn] <;> iassumption
  -- the labels as a column
  iapply (op_wp d opL (StableHlo.reshape_bufs_sub ..) rfl _ _)
  isplitl [Hb]; · iexact Hb
  isplitl [Hh]; · iexact Hh
  iintro ⟨Hb, Hh⟩
  -- the TensorCore call
  ihave Hst := (show (K (F := F)).tcSt EH d ((0 : Fin 1).val + 1) ⊢ _ from done_idle (F := F) d) $$ Hst
  icases Hst with ⟨HO, Hst⟩
  ihave Hla := ((K (F := F)).ctx_levAts κ) $$ Hctx
  ihave Hu := (Entails.of_eq (unscopedBufs_held d (V3 m d)).symm) $$ Hh
  iapply (Ce.call_wp (V3' m) d _)
  isplitl [Hb]; · iexact Hb
  isplitl [Hu]; · iexact Hu
  isplitl [HO]; · iexact HO
  isplitl [Hla]; · iexact Hla
  isplitl [Hg]; · iexact Hg
  iintro ⟨Hb, Hu, HO⟩
  ihave Hst := Hst $$ HO
  ihave Hh := (Entails.of_eq ((congrArg (unscopedBufs d) (left_eq m d)).trans (unscopedBufs_held d (V4 m d)))) $$ Hu
  -- the two means
  iapply (op_wp d opC (StableHlo.reshape_bufs_sub ..) rfl _ _)
  isplitl [Hb]; · iexact Hb
  isplitl [Hh]; · iexact Hh
  iintro ⟨Hb, Hh⟩
  iapply (op_wp d opN (StableHlo.nullary_bufs_sub ..) rfl _ _)
  isplitl [Hb]; · iexact Hb
  isplitl [Hh]; · iexact Hh
  iintro ⟨Hb, Hh⟩
  iapply (op_wp d opD (StableHlo.binary_bufs_sub ..) rfl _ _)
  isplitl [Hb]; · iexact Hb
  isplitl [Hh]; · iexact Hh
  iintro ⟨Hb, Hh⟩
  iapply (op_wp d opZ (StableHlo.nullary_bufs_sub ..) rfl _ _)
  isplitl [Hb]; · iexact Hb
  isplitl [Hh]; · iexact Hh
  iintro ⟨Hb, Hh⟩
  iapply (op_wp d opS (StableHlo.binary_bufs_sub ..) rfl _ _)
  isplitl [Hb]; · iexact Hb
  isplitl [Hh]; · iexact Hh
  iintro ⟨Hb, Hh⟩
  iapply (op_wp d opN' (StableHlo.nullary_bufs_sub ..) rfl _ _)
  isplitl [Hb]; · iexact Hb
  isplitl [Hh]; · iexact Hh
  iintro ⟨Hb, Hh⟩
  iapply (op_wp d opD' (StableHlo.binary_bufs_sub ..) rfl _ _)
  isplitl [Hb]; · iexact Hb
  isplitl [Hh]; · iexact Hh
  iintro ⟨Hb, Hh⟩
  imodintro
  isplitl [Hst]; · iexact Hst
  isplitl [Hh]; · iexact Hh
  isplitl [Hb] <;> iassumption

/-! ## What the memory holds at the end -/

def fq (d : Dev nD) (s' : Phys nD τ sig (Elt F)) : Prop := ∀ b ∈ own, s'.mem.mem (d, b) = V5 m d b

theorem hfin (d : Dev nD) (s' : Phys nD τ sig (Elt F)) : iprop(FIN m d ∗ SI s') ⊢ (⌜fq m d s'⌝ : sProp (𝕄 F)) := by
  have one (b : DevRef τ sig) (hb : b ∈ own) : iprop(FIN m d ∗ SI s') ⊢ (⌜s'.mem.mem (d, b) = V5 m d b⌝ : sProp (𝕄 F)) := by
    iintro ⟨Hh, HSI⟩
    ihave Hx := (show FIN m d ⊢ (((d, b) : Loc nD τ sig) ↦{fullShare} V5 m d b : sProp (𝕄 F)) from bigSep_elim hb) $$ Hh
    ihave H := (SI_pointsTo_agree (st := s') (ℓ := ((d, b) : Loc nD τ sig)) (I := Finset.univ) (q := fullShare) (f := V5 m d b)) $$ [HSI Hx]
    · isplitl [HSI] <;> iassumption
    icases H with %hx
    ipureintro; exact funext fun i => hx i (Finset.mem_univ i)
  unfold fq
  exact (forall_intro fun b => (forall_intro fun hb => one b hb).trans pure_forall.2).trans pure_forall.2

def QC : PUnit × MemSt nD τ sig (Elt F) → Prop := fun r => (∀ (d : Dev nD), ∀ b ∈ own, r.2.mem (d, b) = V5 m d b) ∧ r.2.sem = fun _ => 0

/-- The program's run. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => Reg.tileObl (labels m) (targets m) (preds m) (sums₀ m))
    (fun q _ => match q with | 0 => SparseCore.Cfg.VecSplit.of_plain (Reg.vecSplit (labels m) (targets m) (preds m) (sums₀ m)))
    m ρ main (fun d => Ce.ghost (F := F) d) (FIN m) (u₀ (F := F)) (sep_elim_left.trans (hu₀ m)) (hmain m ρ) (fq m) (hfin m) (QC m) (fun _ h hz => ⟨h, hz⟩)

end Cert.Proof.Launch

end
-- ==== Proof.Results.lean ====
/-
  The arrays at the end of the run: the arguments as given, the first result the TensorCore call's cell over the number of
  rows, the second the sum of the SparseCore call's sums over the number of rows.
-/
module

public import proofs.«01_k».proof.Proof.Launch

@[expose] public section

noncomputable section

namespace Cert.Proof.Host

open Cert.KernelIdeal Cert.KernelIdeal.Facts₀ Cert.KernelIdeal.Facts
open Idealize.ShloMosaic Idealize.ShloMosaic.TcCoe Idealize.SL.Sem

variable {F : FTy → Type} [FloatOps F]
variable (m : (ℓ : Loc nD τ sig) → Buf (Elt F) ℓ) (d : Dev nD)

/-- The arrays the program writes. -/
abbrev written : Finset (DevRef τ sig) :=
  {Proc.devRef .tc (main_v0 : Ref sig .tc), Proc.devRef .tc (main_v1 : Ref sig .tc), Proc.devRef .tc (main_v2 : Ref sig .tc),
    Proc.devRef .tc (main_v3 : Ref sig .tc), Proc.devRef .tc (main_v4 : Ref sig .tc), Proc.devRef .tc (main_v5 : Ref sig .tc),
    Proc.devRef .tc (main_cst : Ref sig .tc), Proc.devRef .tc (main_v6 : Ref sig .tc), Proc.devRef .tc (main_cst_0 : Ref sig .tc),
    Proc.devRef .tc (main_v7 : Ref sig .tc), Proc.devRef .tc (main_cst_1 : Ref sig .tc), Proc.devRef .tc (main_v8 : Ref sig .tc)}

/-- An operation leaves the arrays it does not write. -/
theorem result_off (op : HloOp τ sig (Elt F)) (y : DevRef τ sig) (hop : op.writes = {y}) (W : Valuation τ sig (Elt F)) {b : DevRef τ sig} (h : b ≠ y) :
    op.result W b = W b := op.result_of_not_mem W fun hb => h (by rw [hop] at hb; exact Finset.mem_singleton.mp hb)

/-- What is not written stays. -/
theorem V5_off (b : DevRef τ sig) (h : b ∉ written) : V5 m d b = m (d, b) := by
  have ne (y : DevRef τ sig) (hy : y ∈ written) : b ≠ y := fun e => h (e ▸ hy)
  unfold V5
  rw [result_off opD' _ rfl _ (ne _ (by decide)), result_off opN' _ rfl _ (ne _ (by decide)), result_off opS _ rfl _ (ne _ (by decide)),
    result_off opZ _ rfl _ (ne _ (by decide)), result_off opD _ rfl _ (ne _ (by decide)), result_off opN _ rfl _ (ne _ (by decide)),
    result_off opC _ rfl _ (ne _ (by decide))]
  unfold V4
  rw [Function.update_of_ne (ne _ (by decide))]
  unfold V3
  rw [result_off opL _ rfl _ (ne _ (by decide))]
  unfold V2
  rw [Function.update_of_ne (ne _ (by decide)), V1_of m d _ (ne _ (by decide)) (ne _ (by decide))]
  rfl

/-- The TensorCore call's cell as a scalar over the number of rows. -/
theorem V5_cls : V5 m d (Proc.devRef .tc (main_v6 : Ref sig .tc))
    = Host.divf (shapeCast S_ (Ce.result (V3' m) d : FVec F S1x1 .f32) shapeCasts_S1x1_S_) (constant S_ .f32 0x47000000#32) := by
  unfold V5
  rw [result_off opD' _ rfl _ (by decide), result_off opN' _ rfl _ (by decide), result_off opS _ rfl _ (by decide), result_off opZ _ rfl _ (by decide)]
  rfl

/-- The SparseCore call's sums added up, over the number of rows. -/
theorem V5_reg : V5 m d (Proc.devRef .tc (main_v8 : Ref sig .tc))
    = Host.divf (Host.reduceAdd (sums m d) (constant S_ .f32 0x00000000#32) reducesTo_S32x16_S_d0_1 h_S_) (constant S_ .f32 0x47000000#32) := by
  rfl

/-- The class scores and the labels as the TensorCore call finds them. -/
theorem V3_scores : V3' m d main_arg0 = m ((d : Thread nD τ).loc main_arg0) := by
  show V3 m d (Proc.devRef .tc (main_arg0 : Ref sig .tc)) = _
  unfold V3
  rw [result_off opL _ rfl _ (by decide)]
  unfold V2
  rw [Function.update_of_ne (by decide), V1_of m d _ (by decide) (by decide)]
  rfl

theorem V3_labels : V3' m d main_v3 = shapeCast S32768x1 (m ((d : Thread nD τ).loc main_arg2) : IVec S32768 32) shapeCasts_S32768_S32768x1 := by
  show V3 m d (Proc.devRef .tc (main_v3 : Ref sig .tc)) = _
  unfold V3
  rfl

/-- The box targets as the SparseCore call finds them. -/
theorem targets_eq : targets m d = shapeCast S131072 (transpose S4x32768 [1, 0] (m ((d : Thread nD τ).loc main_arg3) : FVec F S32768x4 .f32) transposes_S32768x4_S4x32768_1_0) shapeCasts_S4x32768_S131072 := by
  rfl

end Cert.Proof.Host

namespace Cert.Proof.Launch

open Cert.KernelIdeal Cert.KernelIdeal.Facts₀ Cert.KernelIdeal.Facts
open Idealize.ShloMosaic Idealize.ShloMosaic.TcCoe Idealize.SL.Sem
open Cert.Proof.Host

variable {F : FTy → Type} [FloatOps F]

/-- The first result. -/
abbrev clsOut (m : (ℓ : Loc nD τ sig) → Buf (Elt F) ℓ) (d : Dev nD) : FVec F S_ .f32 :=
  Host.divf (shapeCast S_ (Ce.result (V3' m) d : FVec F S1x1 .f32) shapeCasts_S1x1_S_) (constant S_ .f32 0x47000000#32)
/-- The second result. -/
abbrev regOut (m : (ℓ : Loc nD τ sig) → Buf (Elt F) ℓ) (d : Dev nD) : FVec F S_ .f32 :=
  Host.divf (Host.reduceAdd (sums m d) (constant S_ .f32 0x00000000#32) reducesTo_S32x16_S_d0_1 h_S_) (constant S_ .f32 0x47000000#32)

/-- The run read at the results and the arguments. -/
theorem run_values [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ fun r =>
      (∀ c : Dev nD, r.2.mem ((c.tc : Thread nD τ).loc main_v6) = clsOut m c ∧ r.2.mem ((c.tc : Thread nD τ).loc main_v8) = regOut m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0 :=
  (θ_run _ _ _).mono (fun r h => ⟨fun c =>
    ⟨(h.1 c (Proc.devRef .tc (main_v6 : Ref sig .tc)) (by decide)).trans (V5_cls m c),
      (h.1 c (Proc.devRef .tc (main_v8 : Ref sig .tc)) (by decide)).trans (V5_reg m c),
      (h.1 c (Proc.devRef .tc (main_arg0 : Ref sig .tc)) (by decide)).trans (V5_off m c _ (by decide)),
      (h.1 c (Proc.devRef .tc (main_arg1 : Ref sig .tc)) (by decide)).trans (V5_off m c _ (by decide)),
      (h.1 c (Proc.devRef .tc (main_arg2 : Ref sig .tc)) (by decide)).trans (V5_off m c _ (by decide)),
      (h.1 c (Proc.devRef .tc (main_arg3 : Ref sig .tc)) (by decide)).trans (V5_off m c _ (by decide))⟩, h.2⟩) (run_main m ρ)

end Cert.Proof.Launch

end
-- ==== Proof.Inputs.lean ====
/-
  What the precondition gives at the extended reals: every label is one of the classes 0 to 80, every class score is a real
  number.
-/
module

public import proofs.«01_k».proof.Pre_inputs_ok
public import Idealize.ShloMosaic.Lib.Pointwise
public import Idealize.ShloMosaic.Lib.Pointwise.Tactic
public import Idealize.ShloMosaic.Lib.ReduceAll

@[expose] public section

noncomputable section

namespace Cert.Proof.Inputs

open Cert.Pre_inputs_ok Cert.Pre_inputs_ok.Facts Idealize.ShloMosaic

theorem facts : Cert.Pre_inputs_ok.Facts := ⟨by decide, by decide, by decide, by decide, by decide⟩

instance : Subsingleton S_.Idx := ⟨fun _ _ => funext fun a => a.elim0⟩

/-- A word from 0 to 80. -/
theorem label_word (v : BitVec 32) (h0 : IntOp.cmpi .sge v 0#32 = 1#1) (h1 : IntOp.cmpi .sle v 80#32 = 1#1) : ∃ k : Fin 81, v = BitVec.ofNat 32 k.val := by
  have ofBool_eq_one (p : Bool) : (BitVec.ofBool p = 1#1) ↔ p = true := by cases p <;> decide
  have hv : v.toNat < 81 := by
    simp only [IntOp.cmpi, ofBool_eq_one, BitVec.sle_eq_decide, decide_eq_true_eq, BitVec.toInt_eq_toNat_cond, BitVec.toNat_ofNat, Nat.reducePow,
      Nat.reduceMod] at h0 h1
    have := v.isLt
    omega
  exact ⟨⟨v.toNat, hv⟩, by simp⟩

/-- A number whose absolute value is below infinity. -/
theorem real_of_abs (a : EReal) (h : max a (-a) < ⊤) : ∃ r : ℝ, a = r := by
  induction a with
  | bot => simp at h
  | top => simp at h
  | coe r => exact ⟨r, rfl⟩

theorem ofBits_inf : Ideal.ofBits .f32 0x7F800000#32 = ⊤ := by simp [Ideal.ofBits, Ideal.ieee]

variable (x : FVec Ideal S32768x81 .f32) (p : FVec Ideal S32768x320 .f32) (l : IVec S32768 32) (t : FVec Ideal S32768x4 .f32)

theorem of_fn [Cert.Pre_inputs_ok.Facts] (h : Cert.Pre_inputs_ok.fn (F := Ideal) x p l t = fun _ => 1#1) :
    (∀ n, ∃ k : Fin 81, l (ix1 n) = BitVec.ofNat 32 k.val) ∧ ∀ n c, ∃ r : ℝ, x (ix2 n c) = (r : EReal) := by
  have e := congrFun h ix0
  unfold Cert.Pre_inputs_ok.fn at e
  obtain ⟨e1, e3⟩ := IntOp.andi_eq_one.mp e
  obtain ⟨e1, e2⟩ := IntOp.andi_eq_one.mp e1
  refine ⟨fun n => label_word _ (Host.reduce_andi_all _ _ _ _ _ e1 (ix1 n)) (Host.reduce_andi_all _ _ _ _ _ e2 (ix1 n)), fun n c => real_of_abs _ ?_⟩
  have e4 := Host.reduce_andi_all _ _ _ _ _ e3 (ix2 n c)
  have ofBool_eq_one (p : Bool) : (BitVec.ofBool p = 1#1) ↔ p = true := by cases p <;> decide
  rw [← ofBits_inf]
  exact of_decide_eq_true ((ofBool_eq_one _).mp e4)

end Cert.Proof.Inputs

end
-- ==== Proof.Loss.lean ====
/-
  The losses of a row, in plain arithmetic: what both programs add up. Nothing here mentions a program.
-/
module

public import Idealize.ShloMosaic.Lib.Pointwise
public import Idealize.ShloMosaic.Lib.Pointwise.Tactic
public import Idealize.ShloMosaic.Lib.IdealHost

@[expose] public section

noncomputable section

namespace Cert.Proof.Loss

open Idealize.ShloMosaic

/-- What a row counts for in the box loss: the absolute differences of its class's four columns from its targets, nothing
    where the label names no class. -/
def boxRow (k : Fin 81) (P : Fin 320 → EReal) (T : Fin 4 → EReal) : EReal :=
  if k.val < 80 then ∑ c : Fin 4, FloatOps.absf (F := Ideal) (φ := .f32) (P ⟨4 * min k.val 79 + c.val, by omega⟩ - T c) else 0

/-- The largest of a row's scores. -/
def top (x : Fin 81 → EReal) : EReal := Finset.univ.fold max ⊥ x

/-- The logarithm of the sum of the exponentials of a row's scores less their largest. -/
def spread (x : Fin 81 → EReal) : EReal := Ideal.log (∑ c, Ideal.exp (x c - top x))

/-- What a row counts for in the cross entropy: the log softmax at its class, negated. -/
def ceRow (k : Fin 81) (x : Fin 81 → EReal) : EReal := -(x k - top x - spread x)

end Cert.Proof.Loss

end
-- ==== Proof.BoxSum.lean ====
/-
  The SparseCore call's sums at the extended reals: a worker's sum is its rows' box losses, lane 0 of its row holds it, and
  the array's total is the sum over all the rows.
-/
module

public import proofs.«01_k».proof.Proof.Loss
public import proofs.«01_k».proof.Proof.RegVals

@[expose] public section

noncomputable section

namespace Cert.Proof.BoxSum

open Cert.KernelIdeal Cert.KernelIdeal.Facts₀ Cert.KernelIdeal.Facts Cert.Proof.Reg Cert.Proof.Loss
open Idealize.ShloMosaic Idealize.SL.Sem

theorem cls_word : ∀ k : Fin 81, cls (BitVec.ofNat 32 k.val) = min k.val 79 := by decide

theorem in_word : ∀ k : Fin 81, Scalar.cmpi .slt (BitVec.ofNat 32 k.val) 80#32 = if k.val < 80 then 1#1 else 0#1 := by decide

/-- A row adds its box loss. -/
theorem rowG_eq (L : ℕ → BitVec 32) (T : Fin 4 → ℕ → Ideal .f32) (R : ℕ → ℕ → Ideal .f32) (n : ℕ) (acc : Ideal .f32) (k : Fin 81)
    (hk : L n = BitVec.ofNat 32 k.val) : rowG L T R n acc = (acc + boxRow k (fun j => R n j.val) (fun c => T c n) : EReal) := by
  unfold rowG boxRow
  rw [hk, in_word k, cls_word k, Fin.sum_univ_four]
  split
  · rfl
  · exact congrArg (acc + ·) Ideal.ofBits_zero_f32

/-- The rows below `N`. -/
theorem accAt_eq (L : ℕ → BitVec 32) (T : Fin 4 → ℕ → Ideal .f32) (R : ℕ → ℕ → Ideal .f32) (K : ℕ → Fin 81)
    (hK : ∀ n, L n = BitVec.ofNat 32 (K n).val) (N : ℕ) :
    accAt L T R N = (∑ n ∈ Finset.range N, boxRow (K n) (fun j => R n j.val) (fun c => T c n) : EReal) := by
  induction N with
  | zero => exact Ideal.ofBits_zero_f32
  | succ N ih => rw [Finset.sum_range_succ, ← ih]; exact rowG_eq L T R N _ (K N) (hK N)

variable (lab : S32768.Idx → BitVec 32) (tg : S131072.Idx → Ideal .f32) (pr : S32768x320.Idx → Ideal .f32)

/-- A row's lanes: the sum in lane 0. -/
theorem sumVec_eq (a : Ideal .f32) (x : Fin 16) : sumVec a (ix1 x) = (if x = 0 then a else 0 : EReal) := by
  have hw : ∀ x : Fin 16, IntOp.cmpi .slt (BitVec.ofNat 32 x.val) 1#32 = if x = 0 then 1#1 else 0#1 := by decide
  unfold sumVec
  pointwise
  rw [hw x]
  split <;> rfl

variable (t : S32768x4.Idx → Ideal .f32) (K : Fin 32768 → Fin 81) (hK : ∀ n, lab (ix1 n) = BitVec.ofNat 32 (K n).val)
  (ht : tg = shapeCast S131072 (transpose S4x32768 [1, 0] t transposes_S32768x4_S4x32768_1_0) shapeCasts_S4x32768_S131072)

/-- The targets' array, a column after the other. -/
theorem column_apply (n : Fin 32768) (c : Fin 4) :
    shapeCast S131072 (transpose S4x32768 [1, 0] t transposes_S32768x4_S4x32768_1_0) shapeCasts_S4x32768_S131072
      (ix1 (⟨32768 * c.val + n.val, by omega⟩ : Fin 131072)) = t (ix2 n c) := by
  pointwise

include hK ht in
/-- A worker's sum. -/
theorem sumAt_eq (w : Fin 32) : sumAt lab tg pr w.val = (∑ n : Fin 1024,
    (fun r : Fin 32768 => boxRow (K r) (fun j => pr (ix2 r j)) (fun c => t (ix2 r c))) ⟨w.val * 1024 + n.val, by omega⟩ : EReal) := by
  unfold sumAt
  rw [accAt_eq (labAt lab w.val) _ _ (fun n => K (Fin.ofNat 32768 (1024 * w.val + n))) (fun n => hK _), Finset.sum_range]
  refine Finset.sum_congr rfl fun n _ => ?_
  have e : Fin.ofNat 32768 (1024 * w.val + n.val) = (⟨w.val * 1024 + n.val, by omega⟩ : Fin 32768) := by
    apply Fin.ext; show (1024 * w.val + n.val) % 32768 = w.val * 1024 + n.val; omega
  simp only [prdAt, tgtAt, e]
  congr 1
  · funext j
    refine congrArg (fun j => pr (ix2 _ j)) (Fin.ext ?_)
    show j.val % 320 = _
    omega
  · funext c
    rw [← column_apply t _ c, ht]
    refine congrArg (fun j => shapeCast S131072 _ _ (ix1 j)) (Fin.ext ?_)
    show (32768 * c.val + (1024 * w.val + n.val)) % 131072 = 32768 * c.val + (w.val * 1024 + n.val)
    omega

include hK ht in
/-- The array's total. -/
theorem total_eq (j : S_.Idx) : Host.reduceAdd (F := Ideal) (φ := .f32) (sumsOf lab tg pr) (constant S_ .f32 0x00000000#32) reducesTo_S32x16_S_d0_1 h_S_ j
    = (∑ n : Fin 32768, boxRow (K n) (fun j => pr (ix2 n j)) (fun c => t (ix2 n c)) : EReal) := by
  have h : ∀ w : Fin 32, (∑ x : Fin 16, (sumsOf lab tg pr (ix2 w x) : EReal)) = sumAt lab tg pr w.val := fun w => by
    show ∑ x : Fin 16, (sumVec (sumAt lab tg pr w.val) (ix1 x) : EReal) = _
    simp only [sumVec_eq, Finset.sum_ite_eq', Finset.mem_univ, if_true]
  generalize sumsOf lab tg pr = v at h ⊢
  rw [← ix0_eta j]
  pointwise
  simp only [h]
  exact (Finset.sum_congr rfl fun w _ => sumAt_eq lab tg pr t K hK ht w).trans
    (Fin.sum_univ_tiles 32 1024 (N := 32768) (by norm_num) (fun r : Fin 32768 => boxRow (K r) (fun j => pr (ix2 r j)) (fun c => t (ix2 r c)))).symm

end Cert.Proof.BoxSum

end
-- ==== Proof.LossReal.lean ====
/-
  A row of finite scores: its largest score and the logarithm of its sum of exponentials are real numbers, so the sums of the
  cross entropy may be taken in any order.
-/
module

public import proofs.«01_k».proof.Proof.Loss

@[expose] public section

noncomputable section

namespace Cert.Proof.Loss

open Idealize.ShloMosaic

/-- A sum of reals is a real. -/
theorem coe_sum {R : ℕ} (f : Fin R → ℝ) : ((∑ r, f r : ℝ) : EReal) = ∑ r, (f r : EReal) :=
  map_sum (⟨⟨fun a : ℝ => (a : EReal), EReal.coe_zero⟩, EReal.coe_add⟩ : ℝ →+ EReal) f Finset.univ

variable (x : Fin 81 → EReal) (hx : ∀ c, ∃ r : ℝ, x c = r)

include hx in
theorem top_real : ∃ M : ℝ, top x = M := by
  obtain ⟨c, -, h⟩ := Finset.exists_mem_eq_sup Finset.univ Finset.univ_nonempty x
  obtain ⟨r, hr⟩ := hx c
  exact ⟨r, h.trans hr⟩

include hx in
theorem spread_real : ∃ S : ℝ, spread x = S := by
  obtain ⟨M, hM⟩ := top_real x hx
  choose r hr using hx
  have hs : ∑ c, Ideal.exp (x c - top x) = ((∑ c, Real.exp (r c - M) : ℝ) : EReal) := by
    rw [coe_sum]
    refine Finset.sum_congr rfl fun c _ => ?_
    rw [hr c, hM, ← EReal.coe_sub, Ideal.exp_coe]
  have hp : 0 < ∑ c, Real.exp (r c - M) := Finset.sum_pos (fun c _ => Real.exp_pos _) Finset.univ_nonempty
  refine ⟨Real.log (∑ c, Real.exp (r c - M)), ?_⟩
  unfold spread
  rw [hs, Ideal.log_coe, if_neg (not_le.mpr hp)]

/-- A group of rows summed part by part — the largest scores, the logarithms, the scores at the classes — is the group's
    cross entropies summed row by row; and that sum is real. -/
theorem group_eq {R : ℕ} (X : Fin R → Fin 81 → EReal) (k : Fin R → Fin 81) (hX : ∀ r c, ∃ a : ℝ, X r c = a) :
    (∑ r, top (X r) + ∑ r, spread (X r)) - ∑ r, X r (k r) = ∑ r, ceRow (k r) (X r) := by
  choose M hM using fun r => top_real (X r) (hX r)
  choose S hS using fun r => spread_real (X r) (hX r)
  choose Y hY using fun r => hX r (k r)
  have h : ∀ r, ceRow (k r) (X r) = ((M r + S r - Y r : ℝ) : EReal) := fun r => by
    unfold ceRow
    rw [hM, hS, hY, ← EReal.coe_sub, ← EReal.coe_sub, ← EReal.coe_neg]
    congr 1; ring
  simp only [h, hM, hS, hY, ← coe_sum, ← EReal.coe_add, ← EReal.coe_sub]
  rw [Finset.sum_sub_distrib, Finset.sum_add_distrib]

end Cert.Proof.Loss

end
-- ==== Proof.CeBlock.lean ====
/-
  A block of the TensorCore call at the extended reals: what it adds to the cell is its rows' cross entropies, summed.
-/
module

public import proofs.«01_k».proof.Proof.LossReal
public import proofs.«01_k».proof.Proof.CeCall

@[expose] public section

noncomputable section

namespace Cert.Proof.Ce

open Cert.KernelIdeal Cert.KernelIdeal.Facts₀ Cert.KernelIdeal.Facts Cert.Proof.Loss
open Idealize.ShloMosaic Idealize.ShloMosaic.TcCoe Idealize.SL.Sem

variable (x : FVec Ideal S2048x81 .f32) (l : IVec S2048x1 32)

theorem ofBits_bot : Ideal.ofBits .f32 0xFF800000#32 = ⊥ := by simp [Ideal.ofBits, Ideal.ieee]

/-- Two classes' words are equal where the classes are. -/
theorem eq_word (c k : Fin 81) : IntOp.cmpi .eq (BitVec.ofNat 32 c.val) (BitVec.ofNat 32 k.val) = if c = k then 1#1 else 0#1 := by
  by_cases h : c = k
  · subst h; simp [IntOp.cmpi]
  · have h' : BitVec.ofNat 32 c.val ≠ BitVec.ofNat 32 k.val := fun e => h (Fin.ext (by
      have := congrArg BitVec.toNat e
      simp only [BitVec.toNat_ofNat] at this
      omega))
    rw [if_neg h]
    show BitVec.ofBool (BitVec.ofNat 32 c.val == BitVec.ofNat 32 k.val) = 0#1
    rw [beq_false_of_ne h']
    rfl

theorem rowMax_apply (r : Fin 2048) : rowMax x (ix2 r 0) = top (fun c => x (ix2 r c)) := by
  unfold rowMax
  pointwise
  rw [ofBits_bot]
  rfl

theorem rowExp_apply (r : Fin 2048) : (Idealize.ShloMosaic.log (rowExp x) : FVec Ideal S2048x1 .f32) (ix2 r 0) = spread (fun c => x (ix2 r c)) := by
  unfold rowExp
  pointwise
  simp only [rowMax_apply]
  rfl

theorem rowSel_apply (r : Fin 2048) (c k : Fin 81) (hk : l (ix2 r 0) = BitVec.ofNat 32 k.val) :
    rowSel x l (ix2 r c) = (if c = k then x (ix2 r c) else 0 : EReal) := by
  unfold rowSel
  pointwise
  rw [hk, eq_word c k]
  split <;> rfl

theorem sumCol_eq (v : FVec Ideal S2048x1 .f32) : sumCol v = (∑ r : Fin 2048, v (ix2 r 0) : EReal) := by
  unfold sumCol extractAt
  pointwise
  simp only [Fin.sum_univ_one]

theorem sumBlk_eq (v : FVec Ideal S2048x81 .f32) : sumBlk v = (∑ r : Fin 2048, ∑ c : Fin 81, v (ix2 r c) : EReal) := by
  unfold sumBlk extractAt
  pointwise

/-- A block's loss is the sum of its rows' cross entropies. -/
theorem blockLoss_eq (k : Fin 2048 → Fin 81) (hk : ∀ r, l (ix2 r 0) = BitVec.ofNat 32 (k r).val)
    (hx : ∀ r c, ∃ a : ℝ, x (ix2 r c) = (a : EReal)) :
    blockLoss x l = (∑ r : Fin 2048, ceRow (k r) (fun c => x (ix2 r c)) : EReal) := by
  refine Eq.trans ?_ (group_eq (fun r c => x (ix2 r c)) k hx)
  show (sumCol (rowMax x) + sumCol (Idealize.ShloMosaic.log (rowExp x)) - sumBlk (rowSel x l) : EReal) = _
  rw [sumCol_eq, sumCol_eq, sumBlk_eq]
  have h : ∀ r, ∑ c : Fin 81, (rowSel x l (ix2 r c) : EReal) = x (ix2 r (k r)) := fun r => by
    simp only [rowSel_apply x l r _ (k r) (hk r), Finset.sum_ite_eq', Finset.mem_univ, if_true]
  simp only [rowMax_apply, rowExp_apply, h]

end Cert.Proof.Ce

end
-- ==== Proof.CeSum.lean ====
/-
  The TensorCore call's cell at the extended reals: a block adds its rows' cross entropies, and after the last block the
  cell holds the sum over all the rows.
-/
module

public import proofs.«01_k».proof.Proof.CeBlock
public import proofs.«01_k».proof.Proof.CeCall

@[expose] public section

noncomputable section

namespace Cert.Proof.Ce

open Cert.KernelIdeal Cert.KernelIdeal.Facts₀ Cert.KernelIdeal.Facts Cert.Proof.Loss
open Idealize.ShloMosaic Idealize.ShloMosaic.TcCoe Idealize.SL.Sem

/-! ## The blocks of the arrays -/

variable (V : (c : Dev nD) → (b : Ref sig .tc) → Buf (Elt Ideal) ((c : Thread nD τ).loc b)) (d : Dev nD)

theorem index_0 : ∀ t : Fin 16, cc1_transform_0 (grid1.coords (t.cast Gen.N_1.symm)) = ![t.val, 0] := by decide
theorem index_1 : ∀ t : Fin 16, cc1_transform_1 (grid1.coords (t.cast Gen.N_1.symm)) = ![t.val, 0] := by decide

theorem xBlk_apply (t : Fin 16) (r : Fin 2048) (k : Fin 81) :
    xBlk V d (t.cast Gen.N_1.symm) (ix2 r k) = (V d main_arg0 : S32768x81.Idx → EReal) (ix2 ⟨t.val * 2048 + r.val, by omega⟩ k) := by
  show (V d main_arg0 : S32768x81.Idx → EReal) ((win1_0.rect (t.cast Gen.N_1.symm)).emb (ix2 r k)) = _
  refine congrArg (V d main_arg0 : S32768x81.Idx → EReal) (funext fun a => Fin.ext ?_)
  have h := index_0 t
  fin_cases a
  · refine (ValueKit.rect_emb_unit_val (s := S32768x81) _ _ _ _ 0).trans ?_
    show cc1_transform_0 (grid1.coords (t.cast Gen.N_1.symm)) 0 * 2048 + r.val = t.val * 2048 + r.val
    rw [h]; rfl
  · refine (ValueKit.rect_emb_unit_val (s := S32768x81) _ _ _ _ 1).trans ?_
    show cc1_transform_0 (grid1.coords (t.cast Gen.N_1.symm)) 1 * 81 + k.val = k.val
    rw [h]; show 0 * 81 + k.val = k.val; omega

theorem lBlk_apply (t : Fin 16) (r : Fin 2048) :
    lBlk V d (t.cast Gen.N_1.symm) (ix2 r 0) = (V d main_v3 : S32768x1.Idx → BitVec 32) (ix2 ⟨t.val * 2048 + r.val, by omega⟩ 0) := by
  show (V d main_v3 : S32768x1.Idx → BitVec 32) ((win1_1.rect (t.cast Gen.N_1.symm)).emb (ix2 r 0)) = _
  refine congrArg (V d main_v3 : S32768x1.Idx → BitVec 32) (funext fun a => Fin.ext ?_)
  have h := index_1 t
  fin_cases a
  · refine (ValueKit.rect_emb_unit_val (s := S32768x1) _ _ _ _ 0).trans ?_
    show cc1_transform_1 (grid1.coords (t.cast Gen.N_1.symm)) 0 * 2048 + r.val = t.val * 2048 + r.val
    rw [h]; rfl
  · refine (ValueKit.rect_emb_unit_val (s := S32768x1) _ _ _ _ 1).trans ?_
    show cc1_transform_1 (grid1.coords (t.cast Gen.N_1.symm)) 1 * 1 + 0 = 0
    rw [h]; rfl

/-! ## The cell after each block -/

variable (X : S32768x81.Idx → EReal) (L : S32768.Idx → BitVec 32) (hX : V d main_arg0 = X)
  (hL : V d main_v3 = shapeCast S32768x1 L shapeCasts_S32768_S32768x1)
  (K : Fin 32768 → Fin 81) (hK : ∀ n, L (ix1 n) = BitVec.ofNat 32 (K n).val) (hR : ∀ n c, ∃ a : ℝ, X (ix2 n c) = (a : EReal))

/-- Row `n`'s cross entropy, and the sum of block `t`'s. -/
def rowAt (n : Fin 32768) : EReal := ceRow (K n) (fun c => X (ix2 n c))
def blockAt (t : ℕ) : EReal := ∑ r : Fin 2048, rowAt X K (Fin.ofNat 32768 (t * 2048 + r.val))

include hX hL hK hR in
theorem block_eq (t : ℕ) (ht : t < cfg1.N) : blockLoss (xBlk V d ⟨t, ht⟩) (lBlk V d ⟨t, ht⟩) = (blockAt X K t : EReal) := by
  have h16 : t < 16 := Gen.N_1 ▸ ht
  have e : ∀ r : Fin 2048, Fin.ofNat 32768 (t * 2048 + r.val) = (⟨t * 2048 + r.val, by omega⟩ : Fin 32768) := fun r =>
    Fin.ext (by show (t * 2048 + r.val) % 32768 = t * 2048 + r.val; omega)
  have hx : ∀ r c, xBlk V d ⟨t, ht⟩ (ix2 r c) = X (ix2 (Fin.ofNat 32768 (t * 2048 + r.val)) c) := fun r c => by
    rw [e r, ← hX]; exact xBlk_apply V d ⟨t, h16⟩ r c
  have hl : ∀ r, lBlk V d ⟨t, ht⟩ (ix2 r 0) = L (ix1 (Fin.ofNat 32768 (t * 2048 + r.val))) := fun r => by
    rw [e r]
    refine (lBlk_apply V d ⟨t, h16⟩ r).trans ?_
    rw [hL]
    pointwise
  refine (blockLoss_eq _ _ (fun r => K (Fin.ofNat 32768 (t * 2048 + r.val))) (fun r => (hl r).trans (hK _)) (fun r c => ?_)).trans ?_
  · rw [hx]; exact hR _ _
  · unfold blockAt rowAt
    simp only [hx]

include hX hL hK hR in
theorem cell_eq (n : ℕ) (h : n < cfg1.N) : cell V d n h (ix2 0 0) = (∑ t ∈ Finset.range (n + 1), blockAt X K t : EReal) := by
  induction n with
  | zero =>
    rw [Finset.sum_range_one, ← block_eq V d X L hX hL K hK hR 0 h]
    show (Ideal.ofBits .f32 0x00000000#32 + _ : EReal) = _
    rw [Ideal.ofBits_zero_f32, zero_add]
    rfl
  | succ n ih =>
    rw [Finset.sum_range_succ, ← ih (Nat.lt_of_succ_lt h), ← block_eq V d X L hX hL K hK hR (n + 1) h]
    rfl

include hX hL hK hR in
/-- The call's result: the rows' cross entropies, summed. -/
theorem result_eq : result V d (ix2 0 0) = (∑ n : Fin 32768, ceRow (K n) (fun c => X (ix2 n c)) : EReal) := by
  refine (cell_eq V d X L hX hL K hK hR 15 _).trans ?_
  rw [Finset.sum_range]
  refine Eq.trans ?_ (Fin.sum_univ_tiles 16 2048 (N := 32768) (by norm_num) (rowAt X K)).symm
  refine Finset.sum_congr rfl fun t _ => Finset.sum_congr rfl fun r _ => congrArg (rowAt X K) (Fin.ext ?_)
  show (t.val * 2048 + r.val) % 32768 = t.val * 2048 + r.val
  have := t.isLt
  omega

end Cert.Proof.Ce

end
-- ==== Proof.RefReg.lean ====
/-
  What the reference computes as its second result: at every row the absolute differences of the label's class's four
  predicted columns from the row's targets, summed and counted where the label names a class; the rows' sum over their
  number.
-/
module

public import proofs.«01_k».proof.Proof.Gen.ReferenceIdeal.Run
public import proofs.«01_k».proof.Proof.Loss
public import Idealize.ShloMosaic.Lib.Pointwise
public import Idealize.ShloMosaic.Lib.Pointwise.Tactic
public import Idealize.ShloMosaic.Lib.ReduceAll

@[expose] public section

noncomputable section

namespace Cert.Proof.RefReg

open Cert.ReferenceIdeal Cert.ReferenceIdeal.Facts₀ Cert.ReferenceIdeal.Facts
open Cert.Proof.Loss Idealize.ShloMosaic Idealize.ShloMosaic.TcCoe Idealize.SL.Sem

/-! ## The steps -/

/-- The labels clipped to the classes, one for each of a row's four columns. -/
def wide (l : IVec S32768 32) : IVec S32768x1x4 32 :=
  broadcastInDim S32768x1x4 ![0, 1, 2] bcast_S32768x1x1_S32768x1x4_0_1_2 (broadcastInDim S32768x1x1 ![0] bcast_S32768_S32768x1x1_0
    (minsi (broadcastInDim S32768 ![] bcast_S_S32768 (id (constantI S_ 32 79#32)))
      (maxsi (broadcastInDim S32768 ![] bcast_S_S32768 (id (constantI S_ 32 0#32))) l)))

/-- The class each element is taken from, a negative one counted from the end. -/
def start (l : IVec S32768 32) : IVec S32768x1x4x1 32 :=
  shapeCast _ (select (cmpi .slt (wide l) (broadcastInDim S32768x1x4 ![] bcast_S_S32768x1x4 (constantI S_ 32 0#32)))
    (addi (wide l) (broadcastInDim S32768x1x4 ![] bcast_S_S32768x1x4 (constantI S_ 32 80#32))) (wide l)) shapeCasts_S32768x1x4_S32768x1x4x1

/-- Whether that class is one of the 80. -/
def inside (l : IVec S32768 32) : IVec S32768x1x4 1 :=
  Host.reduce IntOp.andi (andi (cmpi .sge (start l) (broadcastInDim S32768x1x4x1 ![] bcast_S_S32768x1x4x1 (constantI S_ 32 0#32)))
    (cmpi .sle (start l) (broadcastInDim S32768x1x4x1 ![0, 1, 2, 3] bcast_S1x1x1x1_S32768x1x4x1_0_1_2_3
      (broadcastInDim S1x1x1x1 ![3] bcast_S1_S1x1x1x1_3 (constantI S1 32 79#32))))) (constantI S_ 1 1#1) reducesTo_S32768x1x4x1_S32768x1x4_d3 h_S_

/-- Each row's four predicted columns at its label. -/
def picked (p : FVec Ideal S32768x320 .f32) (l : IVec S32768 32) : FVec Ideal S32768x4 .f32 :=
  shapeCast _ (select (inside l) (Host.gather gather_S32768x80x4_S32768x1x4x1_S32768x1x4_n_1_02_02_1_3_111
    (shapeCast _ p shapeCasts_S32768x320_S32768x80x4) (start l)) (broadcastInDim S32768x1x4 ![] bcast_S_S32768x1x4 (constant S_ .f32 0x7FC00000#32)))
    shapeCasts_S32768x1x4_S32768x4

/-- Each row's distance. -/
def dist (p : FVec Ideal S32768x320 .f32) (l : IVec S32768 32) (t : FVec Ideal S32768x4 .f32) : FVec Ideal S32768 .f32 :=
  Host.reduceAdd (Host.absf (subf (picked p l) t)) (constant S_ .f32 0x00000000#32) reducesTo_S32768x4_S32768_d1 h_S_

/-- One where the label names a class. -/
def mask (l : IVec S32768 32) : FVec Ideal S32768 .f32 :=
  uitofp .f32 (andi (cmpi .sge l (broadcastInDim S32768 ![] bcast_S_S32768 (constantI S_ 32 0#32)))
    (cmpi .slt l (broadcastInDim S32768 ![] bcast_S_S32768 (constantI S_ 32 80#32))))

/-- The second result as these steps. -/
theorem value_eq (m : (ℓ : Loc nD τ sig) → Buf (Elt Ideal) ℓ) (c : Dev nD) : Value.res_main_v24 m c
    = Host.divf (Host.reduceAdd (mulf (dist (m ((c.tc : Thread nD τ).loc main_arg1)) (m ((c.tc : Thread nD τ).loc main_arg2)) (m ((c.tc : Thread nD τ).loc main_arg3)))
        (mask (m ((c.tc : Thread nD τ).loc main_arg2)))) (constant S_ .f32 0x00000000#32) reducesTo_S32768_S_d0 h_S_)
      (constant S_ .f32 0x47000000#32) := rfl

/-! ## Index by index -/

/-- The element the class gather reads. -/
theorem gather_apply (x : FVec Ideal S32768x80x4 .f32) (i : IVec S32768x1x4x1 32) (n : Fin 32768) (c : Fin 4) (k : Fin 80)
    (h : (i (ix4 n 0 c 0)).toInt.toNat = k.val) :
    Host.gather gather_S32768x80x4_S32768x1x4x1_S32768x1x4_n_1_02_02_1_3_111 x i (ix3 n 0 c) = x (ix3 n k c) := by
  refine congrArg x (funext fun a => Fin.ext ?_)
  fin_cases a
  · show 0 + n.val + 0 = n.val
    omega
  · show min (i _).toInt.toNat 79 + 0 + 0 = k.val
    refine (congrArg (fun j => min (i j).toInt.toNat 79 + 0 + 0) (?_ : _ = ix4 n 0 c 0)).trans ?_
    · funext a
      fin_cases a <;> rfl
    · show min (i (ix4 n 0 c 0)).toInt.toNat 79 + 0 + 0 = k.val
      rw [h]; omega
  · show 0 + c.val + 0 = c.val
    omega

variable (l : IVec S32768 32) (n : Fin 32768) (k : Fin 81) (hl : l (ix1 n) = BitVec.ofNat 32 k.val)

/-- The clipped label. -/
theorem clip_word : ∀ k : Fin 81, IntOp.minsi 79#32 (IntOp.maxsi 0#32 (BitVec.ofNat 32 k.val)) = BitVec.ofNat 32 (min k.val 79) := by decide

include hl in
theorem wide_apply (c : Fin 4) : wide l (ix3 n 0 c) = BitVec.ofNat 32 (min k.val 79) := by
  unfold wide
  pointwise
  rw [hl]
  exact clip_word k

/-- A word of a class is not negative, and counts itself. -/
theorem start_word : ∀ k : Fin 80, Scalar.select (IntOp.cmpi .slt (BitVec.ofNat 32 k.val) 0#32) (IntOp.addi (BitVec.ofNat 32 k.val) 80#32) (BitVec.ofNat 32 k.val)
    = BitVec.ofNat 32 k.val := by decide

include hl in
theorem start_apply (c : Fin 4) : start l (ix4 n 0 c 0) = BitVec.ofNat 32 (min k.val 79) := by
  unfold start
  pointwise
  rw [wide_apply l n k hl c]
  exact start_word ⟨min k.val 79, by omega⟩

theorem inside_word : ∀ k : Fin 80, IntOp.andi (IntOp.andi (IntOp.cmpi .sge (BitVec.ofNat 32 k.val) 0#32) (IntOp.cmpi .sle (BitVec.ofNat 32 k.val) 79#32)) 1#1
    = 1#1 := by decide

include hl in
theorem inside_apply (c : Fin 4) : inside l (ix3 n 0 c) = 1#1 := by
  unfold inside
  pointwise
  rw [show (Finset.univ : Finset (Fin 1)) = {0} from rfl, Finset.fold_singleton, start_apply l n k hl c]
  exact inside_word ⟨min k.val 79, by omega⟩

theorem mask_word : ∀ k : Fin 81, IntOp.andi (IntOp.cmpi .sge (BitVec.ofNat 32 k.val) 0#32) (IntOp.cmpi .slt (BitVec.ofNat 32 k.val) 80#32)
    = if k.val < 80 then 1#1 else 0#1 := by decide

include hl in
theorem mask_apply : mask l (ix1 n) = if k.val < 80 then (1 : EReal) else 0 := by
  unfold mask
  pointwise
  rw [hl, mask_word k]
  split
  · show (((1#1).toNat : ℝ) : EReal) = 1
    simp
  · show (((0#1).toNat : ℝ) : EReal) = 0
    simp

theorem toNat_word : ∀ k : Fin 80, (BitVec.ofNat 32 k.val).toInt.toNat = k.val := by decide

include hl in
theorem picked_apply (p : FVec Ideal S32768x320 .f32) (c : Fin 4) :
    picked p l (ix2 n c) = p (ix2 n (⟨4 * min k.val 79 + c.val, by omega⟩ : Fin 320)) := by
  unfold picked
  pointwise
  rw [inside_apply l n k hl c, gather_apply _ _ n c ⟨min k.val 79, by omega⟩ (by
    rw [start_apply l n k hl c]; exact toNat_word ⟨min k.val 79, by omega⟩)]
  pointwise
  refine congrArg (fun j => p (ix2 n j)) (Fin.ext ?_)
  show min k.val 79 * 4 + c.val = 4 * min k.val 79 + c.val
  omega

include hl in
theorem row_apply (p : FVec Ideal S32768x320 .f32) (t : FVec Ideal S32768x4 .f32) :
    mulf (dist p l t) (mask l) (ix1 n) = boxRow k (fun j => p (ix2 n j)) (fun c => t (ix2 n c)) := by
  unfold dist
  pointwise
  simp only [picked_apply l n k hl p, mask_apply l n k hl, boxRow]
  split
  · exact mul_one _
  · exact mul_zero _

/-- The rows' sum. -/
theorem sum_eq (p : FVec Ideal S32768x320 .f32) (l : IVec S32768 32) (t : FVec Ideal S32768x4 .f32) (K : Fin 32768 → Fin 81)
    (hK : ∀ n, l (ix1 n) = BitVec.ofNat 32 (K n).val) (j : S_.Idx) :
    Host.reduceAdd (mulf (dist p l t) (mask l)) (constant S_ .f32 0x00000000#32) reducesTo_S32768_S_d0 h_S_ j
      = ∑ n : Fin 32768, boxRow (K n) (fun j => p (ix2 n j)) (fun c => t (ix2 n c)) := by
  have h : ∀ n, mulf (dist p l t) (mask l) (ix1 n) = boxRow (K n) (fun j => p (ix2 n j)) (fun c => t (ix2 n c)) :=
    fun n => row_apply l n (K n) (hK n) p t
  generalize mulf (dist p l t) (mask l) = v at h ⊢
  rw [← ix0_eta j]
  pointwise
  exact Finset.sum_congr rfl fun n _ => h n

end Cert.Proof.RefReg

end
-- ==== Proof.RefCe.lean ====
/-
  What the reference computes as its first result: at every row the log softmax of the row's scores at the row's label,
  negated; the rows' sum over their number.
-/
module

public import proofs.«01_k».proof.Proof.Gen.ReferenceIdeal.Run
public import proofs.«01_k».proof.Proof.Loss
public import Idealize.ShloMosaic.Lib.Pointwise
public import Idealize.ShloMosaic.Lib.Pointwise.Tactic
public import Idealize.ShloMosaic.Lib.ReduceAll

@[expose] public section

noncomputable section

namespace Cert.Proof.RefCe

open Cert.ReferenceIdeal Cert.ReferenceIdeal.Facts₀ Cert.ReferenceIdeal.Facts
open Cert.Proof.Loss Idealize.ShloMosaic Idealize.ShloMosaic.TcCoe Idealize.SL.Sem

/-! ## The steps -/

/-- Each row's largest score. -/
def top (x : FVec Ideal S32768x81 .f32) : FVec Ideal S32768 .f32 :=
  maximumf (broadcastInDim S32768 ![] bcast_S_S32768 (constant S_ .f32 0xFF800000#32))
    (Host.reduce FloatOps.maximumf x (constant S_ .f32 0xFF800000#32) reducesTo_S32768x81_S32768_d1 h_S_)

/-- The scores less their row's largest. -/
def shifted (x : FVec Ideal S32768x81 .f32) : FVec Ideal S32768x81 .f32 :=
  subf x (broadcastInDim S32768x81 ![0, 1] bcast_S32768x1_S32768x81_0_1 (broadcastInDim S32768x1 ![0] bcast_S32768_S32768x1_0 (top x)))

/-- The log softmax. -/
def logp (x : FVec Ideal S32768x81 .f32) : FVec Ideal S32768x81 .f32 :=
  subf (shifted x) (broadcastInDim S32768x81 ![0, 1] bcast_S32768x1_S32768x81_0_1 (Host.log (broadcastInDim S32768x1 ![0] bcast_S32768_S32768x1_0
    (Host.reduceAdd (Host.exp (shifted x)) (constant S_ .f32 0x00000000#32) reducesTo_S32768x81_S32768_d1 h_S_))))

/-- The labels, a column. -/
def col (l : IVec S32768 32) : IVec S32768x1 32 := broadcastInDim S32768x1 ![0] bcast_S32768_S32768x1_0 l

/-- The class each element is taken from, a negative one counted from the end. -/
def start (l : IVec S32768 32) : IVec S32768x1x1 32 :=
  shapeCast _ (select (cmpi .slt (col l) (broadcastInDim S32768x1 ![] bcast_S_S32768x1 (constantI S_ 32 0#32)))
    (addi (col l) (broadcastInDim S32768x1 ![] bcast_S_S32768x1 (constantI S_ 32 81#32))) (col l)) shapeCasts_S32768x1_S32768x1x1

/-- Whether that class is one of the 81. -/
def inside (l : IVec S32768 32) : IVec S32768x1 1 :=
  Host.reduce IntOp.andi (andi (cmpi .sge (start l) (broadcastInDim S32768x1x1 ![] bcast_S_S32768x1x1 (constantI S_ 32 0#32)))
    (cmpi .sle (start l) (broadcastInDim S32768x1x1 ![0, 1, 2] bcast_S1x1x1_S32768x1x1_0_1_2
      (broadcastInDim S1x1x1 ![2] bcast_S1_S1x1x1_2 (constantI S1 32 80#32))))) (constantI S_ 1 1#1) reducesTo_S32768x1x1_S32768x1_d2 h_S_

/-- Each row's log softmax at its label. -/
def picked (x : FVec Ideal S32768x81 .f32) (l : IVec S32768 32) : FVec Ideal S32768 .f32 :=
  shapeCast _ (select (inside l) (Host.gather gather_S32768x81_S32768x1x1_S32768x1_n_1_0_0_1_2_11 (logp x) (start l))
    (broadcastInDim S32768x1 ![] bcast_S_S32768x1 (constant S_ .f32 0x7FC00000#32))) shapeCasts_S32768x1_S32768

/-- The first result of these steps. -/
def value (x : FVec Ideal S32768x81 .f32) (l : IVec S32768 32) : FVec Ideal S_ .f32 :=
  Host.divf (Host.reduceAdd (Host.negf (picked x l)) (constant S_ .f32 0x00000000#32) reducesTo_S32768_S_d0 h_S_) (constant S_ .f32 0x47000000#32)

/-! ## Index by index -/

/-- The element the class gather reads. -/
theorem gather_apply (x : FVec Ideal S32768x81 .f32) (i : IVec S32768x1x1 32) (n : Fin 32768) (k : Fin 81)
    (h : (i (ix3 n 0 0)).toInt.toNat = k.val) :
    Host.gather gather_S32768x81_S32768x1x1_S32768x1_n_1_0_0_1_2_11 x i (ix2 n 0) = x (ix2 n k) := by
  refine congrArg x (funext fun a => Fin.ext ?_)
  fin_cases a
  · show 0 + n.val + 0 = n.val
    omega
  · show min (i _).toInt.toNat 80 + 0 + 0 = k.val
    refine (congrArg (fun j => min (i j).toInt.toNat 80 + 0 + 0) (?_ : _ = ix3 n 0 0)).trans ?_
    · funext a
      fin_cases a <;> rfl
    · show min (i (ix3 n 0 0)).toInt.toNat 80 + 0 + 0 = k.val
      rw [h]; omega

variable (l : IVec S32768 32) (n : Fin 32768) (k : Fin 81) (hl : l (ix1 n) = BitVec.ofNat 32 k.val)

/-- A word of a class is not negative, and counts itself. -/
theorem start_word : ∀ k : Fin 81, Scalar.select (IntOp.cmpi .slt (BitVec.ofNat 32 k.val) 0#32) (IntOp.addi (BitVec.ofNat 32 k.val) 81#32) (BitVec.ofNat 32 k.val)
    = BitVec.ofNat 32 k.val := by decide

include hl in
theorem start_apply : start l (ix3 n 0 0) = BitVec.ofNat 32 k.val := by
  unfold start col
  pointwise
  rw [hl]
  exact start_word k

theorem inside_word : ∀ k : Fin 81, IntOp.andi (IntOp.andi (IntOp.cmpi .sge (BitVec.ofNat 32 k.val) 0#32) (IntOp.cmpi .sle (BitVec.ofNat 32 k.val) 80#32)) 1#1
    = 1#1 := by decide

include hl in
theorem inside_apply : inside l (ix2 n 0) = 1#1 := by
  unfold inside
  pointwise
  rw [show (Finset.univ : Finset (Fin 1)) = {0} from rfl, Finset.fold_singleton, start_apply l n k hl]
  exact inside_word k

theorem toNat_word : ∀ k : Fin 81, (BitVec.ofNat 32 k.val).toInt.toNat = k.val := by decide

include hl in
theorem picked_apply (x : FVec Ideal S32768x81 .f32) : picked x l (ix1 n) = logp x (ix2 n k) := by
  unfold picked
  pointwise
  rw [inside_apply l n k hl, gather_apply _ _ n k (by rw [start_apply l n k hl]; exact toNat_word k)]
  exact if_pos rfl

theorem ofBits_bot : Ideal.ofBits .f32 0xFF800000#32 = ⊥ := by simp [Ideal.ofBits, Ideal.ieee]

theorem top_apply (x : FVec Ideal S32768x81 .f32) : top x (ix1 n) = Loss.top (fun c => x (ix2 n c)) := by
  unfold top
  pointwise
  rw [ofBits_bot, max_eq_right bot_le]
  rfl

theorem shifted_apply (x : FVec Ideal S32768x81 .f32) (c : Fin 81) : shifted x (ix2 n c) = (x (ix2 n c) - Loss.top (fun c => x (ix2 n c)) : EReal) := by
  unfold shifted
  pointwise
  rw [top_apply]

theorem logp_apply (x : FVec Ideal S32768x81 .f32) (c : Fin 81) :
    logp x (ix2 n c) = (x (ix2 n c) - Loss.top (fun c => x (ix2 n c)) - Loss.spread (fun c => x (ix2 n c)) : EReal) := by
  unfold logp
  pointwise
  simp only [shifted_apply]
  rfl

/-- The rows' sum. -/
theorem sum_eq (x : FVec Ideal S32768x81 .f32) (l : IVec S32768 32) (K : Fin 32768 → Fin 81)
    (hK : ∀ n, l (ix1 n) = BitVec.ofNat 32 (K n).val) (j : S_.Idx) :
    Host.reduceAdd (Host.negf (picked x l)) (constant S_ .f32 0x00000000#32) reducesTo_S32768_S_d0 h_S_ j
      = (∑ n : Fin 32768, ceRow (K n) (fun c => x (ix2 n c)) : EReal) := by
  have h : ∀ n, Host.negf (picked x l) (ix1 n) = ceRow (K n) (fun c => x (ix2 n c)) := fun n => by
    pointwise
    rw [picked_apply l n (K n) (hK n) x, logp_apply]
    rfl
  generalize Host.negf (picked x l) = v at h ⊢
  rw [← ix0_eta j]
  pointwise
  exact Finset.sum_congr rfl fun n _ => h n

end Cert.Proof.RefCe

end
-- ==== Proof.RefCeRun.lean ====
/-
  The reference's run with its first result as the steps of RefCe.
-/
module

public import proofs.«01_k».proof.Proof.Gen.ReferenceIdeal.Run
public import proofs.«01_k».proof.Proof.RefCe
public import Idealize.ShloMosaic.Lib.Pointwise
public import Idealize.ShloMosaic.Lib.Pointwise.Tactic
public import Idealize.ShloMosaic.Lib.ReduceAll

@[expose] public section

noncomputable section

namespace Cert.Proof.RefCe

open Cert.ReferenceIdeal Cert.ReferenceIdeal.Facts₀ Cert.ReferenceIdeal.Facts
open Cert.Proof.Loss Idealize.ShloMosaic Idealize.ShloMosaic.TcCoe Idealize.SL.Sem

/-- The reference's run, its first result as these steps. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = value (m ((c.tc : Thread nD τ).loc main_arg0)) (m ((c.tc : Thread nD τ).loc main_arg2))
      ∧ r.2.mem ((c.tc : Thread nD τ).loc main_v24) = Value.res_main_v24 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := Value.run (F := Ideal) m ρ

end Cert.Proof.RefCe

end
-- ==== Proof.Equal.lean ====
/-
  The equation: on labels that are classes and scores that are real numbers, each of the kernel's results is the reference's.
-/
module

public import proofs.«01_k».proof.Proof.Results
public import proofs.«01_k».proof.Proof.BoxSum
public import proofs.«01_k».proof.Proof.CeSum
public import proofs.«01_k».proof.Proof.RefReg
public import proofs.«01_k».proof.Proof.RefCeRun

@[expose] public section

noncomputable section

namespace Cert.Proof.Equal

open Cert.KernelIdeal Cert.KernelIdeal.Facts₀ Cert.KernelIdeal.Facts
open Idealize.ShloMosaic Idealize.ShloMosaic.TcCoe Idealize.SL.Sem

variable (m : (ℓ : Loc nD τ sig) → Buf (Elt Ideal) ℓ) (d : Dev nD)

/-- The kernel's four arguments. -/
abbrev scores : FVec Ideal S32768x81 .f32 := m ((d : Thread nD τ).loc main_arg0)
abbrev boxes : FVec Ideal S32768x320 .f32 := m ((d : Thread nD τ).loc main_arg1)
abbrev labels : IVec S32768 32 := m ((d : Thread nD τ).loc main_arg2)
abbrev boxTargets : FVec Ideal S32768x4 .f32 := m ((d : Thread nD τ).loc main_arg3)

variable (K : Fin 32768 → Fin 81) (hK : ∀ n, labels m d (ix1 n) = BitVec.ofNat 32 (K n).val)

include hK in
/-- The cross entropy. -/
theorem cls_eq (hR : ∀ n c, ∃ a : ℝ, scores m d (ix2 n c) = (a : EReal)) :
    RefCe.value (scores m d) (labels m d) = Launch.clsOut m d := by
  refine congrArg (fun a : FVec Ideal S_ .f32 => Host.divf a (constant S_ .f32 0x47000000#32)) (funext fun j => ?_)
  refine (RefCe.sum_eq (scores m d) (labels m d) K hK j).trans ?_
  refine (Ce.result_eq (Host.V3' m) d (scores m d) (labels m d) (Host.V3_scores m d) (Host.V3_labels m d) K hK hR).symm.trans ?_
  generalize (Ce.result (Host.V3' m) d : FVec Ideal S1x1 .f32) = v
  rw [← ix0_eta j]
  pointwise

include hK in
/-- The box loss. -/
theorem reg_eq (m' : (ℓ : Loc Cert.ReferenceIdeal.nD Cert.ReferenceIdeal.τ Cert.ReferenceIdeal.sig) → Buf (Elt Ideal) ℓ)
    (h₁ : m' ((d : Thread Cert.ReferenceIdeal.nD Cert.ReferenceIdeal.τ).loc Cert.ReferenceIdeal.main_arg1) = boxes m d)
    (h₂ : m' ((d : Thread Cert.ReferenceIdeal.nD Cert.ReferenceIdeal.τ).loc Cert.ReferenceIdeal.main_arg2) = labels m d)
    (h₃ : m' ((d : Thread Cert.ReferenceIdeal.nD Cert.ReferenceIdeal.τ).loc Cert.ReferenceIdeal.main_arg3) = boxTargets m d) :
    Cert.ReferenceIdeal.Value.res_main_v24 m' d = Launch.regOut m d := by
  refine (RefReg.value_eq m' d).trans ?_
  rw [h₁, h₂, h₃]
  refine congrArg (fun a : FVec Ideal S_ .f32 => Host.divf a (constant S_ .f32 0x47000000#32)) (funext fun j => ?_)
  exact (RefReg.sum_eq (boxes m d) (labels m d) (boxTargets m d) K hK j).trans
    (BoxSum.total_eq (labels m d) (Host.targets m d) (boxes m d) (boxTargets m d) K hK (Host.targets_eq m d) j).symm

end Cert.Proof.Equal

end
-- ==== Proof.KernelSame.lean ====
/-
  The first program and the idealized one, with nothing rewritten between them, are one program: the body tables agree,
  so what is proved of every run of the one is proved of every run of the other.
-/
module

public import proofs.«01_k».proof.Proof.Gen.Kernel
public import proofs.«01_k».proof.Proof.RegTile
public import proofs.«01_k».proof.Proof.RegSameK

@[expose] public section

set_option maxHeartbeats 4000000
set_option maxRecDepth 100000

noncomputable section

namespace Cert.Proof.Same

open Idealize.ShloMosaic Idealize.SL.Sem

variable {F : FTy → Type} [FloatOps F]

theorem pcfgs_same : Cert.Kernel.pcfgs (F := F) = Cert.KernelIdeal.pcfgs (F := F) := rfl
theorem sc_same : Cert.Kernel.sc (F := F) = Cert.KernelIdeal.sc (F := F) := rfl
theorem ce_same : @Cert.Kernel.cc1__ce_body F _ _ = @Cert.KernelIdeal.cc1__ce_body F _ _ := rfl
theorem threads_same : Cert.Kernel.threads (F := F) = Cert.KernelIdeal.threads (F := F) := rfl

/-- A label's body on a vector subcore: two bodies that agree wherever the grid holds it are one there. -/
theorem onTile_congr {n m : Nat} (hn : n ≤ Cert.KernelIdeal.τ.nSC) (hm : m ≤ Cert.KernelIdeal.τ.nSub)
    (b b' : (c : Fin n) → (s : Fin m) → Prog (TpuEff Cert.KernelIdeal.nD Cert.KernelIdeal.τ Cert.KernelIdeal.sig (Elt F) Cert.KernelIdeal.Λ₀
      (.scVector (c.castLE hn) (s.castLE hm))) PUnit.{1}) (h : ∀ c s, b c s = b' c s) (d : PUnit) (c : _) (s : _) :
    SparseCore.onTile hn hm b d c s = SparseCore.onTile hn hm b' d c s := by
  rw [show b = b' from funext fun c => funext fun s => h c s]

theorem defs₀_tile (c : Fin Cert.Kernel.τ.nSC) (s : Fin Cert.Kernel.τ.nSub) :
    Cert.Kernel.defs₀ (F := F) (.scVector c s) 0 ()
      = SparseCore.onTile Cert.Kernel.Facts₀.hcore0 Cert.Kernel.Facts₀.hsub0 (fun c s => Cert.Kernel.cc0__reg_body (F := F) (Reg.coordsV c s)
          Reg.pV (Memref.isWhole_whole _) Reg.lV (Memref.isWhole_whole _) Reg.tV (Memref.isWhole_whole _) Reg.oV (Memref.isWhole_whole _)
          Reg.sL (Memref.isWhole_whole _) Reg.sS (Memref.isWhole_whole _) Reg.sT (Memref.isWhole_whole _) Reg.sA (Memref.isWhole_whole _)
          Cert.Kernel.cc0_scratch4 Cert.Kernel.cc0_scratch5 Cert.Kernel.cc0_scoped0 Cert.Kernel.cc0_scoped1 Cert.Kernel.cc0_scoped2
          Cert.Kernel.cc0_scoped3 Cert.Kernel.cc0_scoped4 Cert.Kernel.cc0_scoped5) ⟨⟩ c s := rfl

theorem onTile_same (c : Fin Cert.KernelIdeal.τ.nSC) (s : Fin Cert.KernelIdeal.τ.nSub) :
    Cert.Kernel.defs₀ (F := F) (.scVector c s) 0 () = Cert.KernelIdeal.defs₀ (F := F) (.scVector c s) 0 () :=
  (defs₀_tile c s).trans ((onTile_congr Cert.KernelIdeal.Facts₀.hcore0 Cert.KernelIdeal.Facts₀.hsub0 _ _
    (fun c s => (RegK.body_same (F := F) (Reg.coordsV c s)).trans (Reg.body_same (F := F) (Reg.coordsV c s)).symm) _ c s).trans
      (Reg.defs₀_vector c s).symm)

theorem defs₀_same : Cert.Kernel.defs₀ (F := F) = Cert.KernelIdeal.defs₀ (F := F) := by
  funext p ℓ a
  cases p with
  | tc => fin_cases ℓ <;> rfl
  | scScalar c => fin_cases ℓ <;> rfl
  | scVector c s =>
    fin_cases ℓ
    · exact onTile_same c s
    · rfl

/-- The body tables. -/
theorem defs_same : Cert.Kernel.defs (F := F) = Cert.KernelIdeal.defs (F := F) :=
  congrArg (fun d => (Cert.KernelIdeal.sc (F := F)).defs (Pipeline.defs (Cert.KernelIdeal.pcfgs (F := F)) d)) defs₀_same

end Cert.Proof.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Results
public import proofs.«01_k».proof.Proof.Inputs
public import proofs.«01_k».proof.Proof.Equal
public import proofs.«01_k».proof.Proof.KernelSame
public import Idealize.ShloMosaic.Adequacy
public import Idealize.ShloMosaic.Init

@[expose] public section

noncomputable section

namespace Cert.Proof

open Idealize.ShloMosaic Idealize.SL.Sem

/-- The kernel as given: its arguments end unchanged and every counter at zero. -/
theorem frame_kernel : Cert.quiescent_Kernel := fun m ρ _ => by
  rw [Same.defs_same]
  exact (θ_run Cert.KernelIdeal.defs _ _).mono (fun _ h => ⟨fun c => (h.1 c).2.2, h.2⟩) (Launch.run_values (F := Bits) m ρ)

/-- The kernel at the extended reals: the same. -/
theorem frame_ideal : Cert.quiescent_KernelIdeal := fun m ρ _ =>
  (θ_run Cert.KernelIdeal.defs _ _).mono (fun _ h => ⟨fun c => (h.1 c).2.2, h.2⟩) (Launch.run_values (F := Ideal) m ρ)

/-- The reference: the same. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- On the same arguments both end with the same two results, the kernel's. -/
theorem algebraic : Cert.algebraic_KernelIdeal_ReferenceIdeal_pre_inputs_ok (hPre_inputs_ok := Inputs.facts) := fun m g m' g' hp ha => by
  refine ⟨fun c => Launch.clsOut m c, fun c => Launch.regOut m c,
    (θ_run Cert.KernelIdeal.defs _ _).mono (fun _ h => h.1) (Launch.run_values (F := Ideal) m g),
    (θ_run Cert.ReferenceIdeal.defs _ _).mono (fun r h c => ?_) (RefCe.run m' g')⟩
  have := Inputs.facts
  obtain ⟨hl, hx⟩ := Inputs.of_fn _ _ _ _ (hp c)
  choose K hK using hl
  obtain ⟨h₀, h₁, h₂, h₃⟩ := ha c
  obtain ⟨e₀, e₁, e₂⟩ := h c
  refine ⟨e₀.trans ?_, e₁.trans (Equal.reg_eq m c K hK m' h₁ h₂ h₃), e₂⟩
  rw [h₀, h₂]
  exact Equal.cls_eq m c K hK hx

theorem claim : Cert.Claim := ⟨Cert.Kernel.Gen.facts, Cert.KernelIdeal.Gen.facts, Cert.ReferenceIdeal.Gen.facts, Inputs.facts,
  frame_kernel, frame_ideal, fun m ρ _ => frame_ideal m ρ trivial, frame_reference, fun m ρ _ => frame_reference m ρ trivial, trivial,
  algebraic⟩

end Cert.Proof

end
